-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4)
      ∧ r.2.mem ((c.tc : Thread Cert.Kernel25.nD Cert.Kernel25.τ).loc Cert.Kernel25.main_arg5) = m ((c.tc : Thread Cert.Kernel25.nD Cert.Kernel25.τ).loc Cert.Kernel25.main_arg5))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
      ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4)
      ∧ r.2.mem ((c.tc : Thread Cert.Reference25Ideal.nD Cert.Reference25Ideal.τ).loc Cert.Reference25Ideal.main_arg5) = m ((c.tc : Thread Cert.Reference25Ideal.nD Cert.Reference25Ideal.τ).loc Cert.Reference25Ideal.main_arg5))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3)
      ∧ r.2.mem ((c.tc : Thread Cert.Kernel27.nD Cert.Kernel27.τ).loc Cert.Kernel27.main_arg4) = m ((c.tc : Thread Cert.Kernel27.nD Cert.Kernel27.τ).loc Cert.Kernel27.main_arg4)
      ∧ r.2.mem ((c.tc : Thread Cert.Kernel27.nD Cert.Kernel27.τ).loc Cert.Kernel27.main_arg5) = m ((c.tc : Thread Cert.Kernel27.nD Cert.Kernel27.τ).loc Cert.Kernel27.main_arg5))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
      ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4)
      ∧ r.2.mem ((c.tc : Thread Cert.Reference27Ideal.nD Cert.Reference27Ideal.τ).loc Cert.Reference27Ideal.main_arg5) = m ((c.tc : Thread Cert.Reference27Ideal.nD Cert.Reference27Ideal.τ).loc Cert.Reference27Ideal.main_arg5))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3)
      ∧ r.2.mem ((c.tc : Thread Cert.Kernel28.nD Cert.Kernel28.τ).loc Cert.Kernel28.main_arg4) = m ((c.tc : Thread Cert.Kernel28.nD Cert.Kernel28.τ).loc Cert.Kernel28.main_arg4)
      ∧ r.2.mem ((c.tc : Thread Cert.Kernel28.nD Cert.Kernel28.τ).loc Cert.Kernel28.main_arg5) = m ((c.tc : Thread Cert.Kernel28.nD Cert.Kernel28.τ).loc Cert.Kernel28.main_arg5)
      ∧ r.2.mem ((c.tc : Thread Cert.Kernel28.nD Cert.Kernel28.τ).loc Cert.Kernel28.main_arg6) = m ((c.tc : Thread Cert.Kernel28.nD Cert.Kernel28.τ).loc Cert.Kernel28.main_arg6)
      ∧ r.2.mem ((c.tc : Thread Cert.Kernel28.nD Cert.Kernel28.τ).loc Cert.Kernel28.main_arg7) = m ((c.tc : Thread Cert.Kernel28.nD Cert.Kernel28.τ).loc Cert.Kernel28.main_arg7))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
      ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
      ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5)
      ∧ r.2.mem ((c.tc : Thread Cert.Kernel28Ideal.nD Cert.Kernel28Ideal.τ).loc Cert.Kernel28Ideal.main_arg6) = m ((c.tc : Thread Cert.Kernel28Ideal.nD Cert.Kernel28Ideal.τ).loc Cert.Kernel28Ideal.main_arg6)
      ∧ r.2.mem ((c.tc : Thread Cert.Kernel28Ideal.nD Cert.Kernel28Ideal.τ).loc Cert.Kernel28Ideal.main_arg7) = m ((c.tc : Thread Cert.Kernel28Ideal.nD Cert.Kernel28Ideal.τ).loc Cert.Kernel28Ideal.main_arg7))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3)
      ∧ r.2.mem ((c.tc : Thread Cert.Reference28Ideal.nD Cert.Reference28Ideal.τ).loc Cert.Reference28Ideal.main_arg4) = m ((c.tc : Thread Cert.Reference28Ideal.nD Cert.Reference28Ideal.τ).loc Cert.Reference28Ideal.main_arg4)
      ∧ r.2.mem ((c.tc : Thread Cert.Reference28Ideal.nD Cert.Reference28Ideal.τ).loc Cert.Reference28Ideal.main_arg5) = m ((c.tc : Thread Cert.Reference28Ideal.nD Cert.Reference28Ideal.τ).loc Cert.Reference28Ideal.main_arg5)
      ∧ r.2.mem ((c.tc : Thread Cert.Reference28Ideal.nD Cert.Reference28Ideal.τ).loc Cert.Reference28Ideal.main_arg6) = m ((c.tc : Thread Cert.Reference28Ideal.nD Cert.Reference28Ideal.τ).loc Cert.Reference28Ideal.main_arg6)
      ∧ r.2.mem ((c.tc : Thread Cert.Reference28Ideal.nD Cert.Reference28Ideal.τ).loc Cert.Reference28Ideal.main_arg7) = m ((c.tc : Thread Cert.Reference28Ideal.nD Cert.Reference28Ideal.τ).loc Cert.Reference28Ideal.main_arg7))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v122_0)) (v1 : (c : Dev Cert.KernelIdeal.nD) → Buf (Elt Ideal) ((c.tc : Thread Cert.KernelIdeal.nD Cert.KernelIdeal.τ).loc Cert.KernelIdeal.main_v122_1)) (v2 : (c : Dev Cert.KernelIdeal.nD) → Buf (Elt Ideal) ((c.tc : Thread Cert.KernelIdeal.nD Cert.KernelIdeal.τ).loc Cert.KernelIdeal.main_v122_2)) (v3 : (c : Dev Cert.KernelIdeal.nD) → Buf (Elt Ideal) ((c.tc : Thread Cert.KernelIdeal.nD Cert.KernelIdeal.τ).loc Cert.KernelIdeal.main_v122_3)) (v4 : (c : Dev Cert.KernelIdeal.nD) → Buf (Elt Ideal) ((c.tc : Thread Cert.KernelIdeal.nD Cert.KernelIdeal.τ).loc Cert.KernelIdeal.main_v122_4)) (v5 : (c : Dev Cert.KernelIdeal.nD) → Buf (Elt Ideal) ((c.tc : Thread Cert.KernelIdeal.nD Cert.KernelIdeal.τ).loc Cert.KernelIdeal.main_v122_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v122_0) = v0 c
          ∧ r.2.mem ((c.tc : Thread Cert.KernelIdeal.nD Cert.KernelIdeal.τ).loc Cert.KernelIdeal.main_v122_1) = v1 c
          ∧ r.2.mem ((c.tc : Thread Cert.KernelIdeal.nD Cert.KernelIdeal.τ).loc Cert.KernelIdeal.main_v122_2) = v2 c
          ∧ r.2.mem ((c.tc : Thread Cert.KernelIdeal.nD Cert.KernelIdeal.τ).loc Cert.KernelIdeal.main_v122_3) = v3 c
          ∧ r.2.mem ((c.tc : Thread Cert.KernelIdeal.nD Cert.KernelIdeal.τ).loc Cert.KernelIdeal.main_v122_4) = v4 c
          ∧ r.2.mem ((c.tc : Thread Cert.KernelIdeal.nD Cert.KernelIdeal.τ).loc Cert.KernelIdeal.main_v122_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v258) = v0 c
          ∧ r.2.mem ((c.tc : Thread Cert.ReferenceIdeal.nD Cert.ReferenceIdeal.τ).loc Cert.ReferenceIdeal.main_v259) = v1 c
          ∧ r.2.mem ((c.tc : Thread Cert.ReferenceIdeal.nD Cert.ReferenceIdeal.τ).loc Cert.ReferenceIdeal.main_v192) = v2 c
          ∧ r.2.mem ((c.tc : Thread Cert.ReferenceIdeal.nD Cert.ReferenceIdeal.τ).loc Cert.ReferenceIdeal.main_v257) = v3 c
          ∧ r.2.mem ((c.tc : Thread Cert.ReferenceIdeal.nD Cert.ReferenceIdeal.τ).loc Cert.ReferenceIdeal.main_v129) = v4 c
          ∧ r.2.mem ((c.tc : Thread Cert.ReferenceIdeal.nD Cert.ReferenceIdeal.τ).loc Cert.ReferenceIdeal.main_v194) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v7) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v8) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v7) = v0 c
          ∧ r.2.mem ((c.tc : Thread Cert.Reference12Ideal.nD Cert.Reference12Ideal.τ).loc Cert.Reference12Ideal.main_v31) = v1 c
          ∧ r.2.mem ((c.tc : Thread Cert.Reference12Ideal.nD Cert.Reference12Ideal.τ).loc Cert.Reference12Ideal.main_v12) = v2 c
          ∧ r.2.mem ((c.tc : Thread Cert.Reference12Ideal.nD Cert.Reference12Ideal.τ).loc Cert.Reference12Ideal.main_v18) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v7) = v0 c
          ∧ r.2.mem ((c.tc : Thread Cert.Reference13Ideal.nD Cert.Reference13Ideal.τ).loc Cert.Reference13Ideal.main_v31) = v1 c
          ∧ r.2.mem ((c.tc : Thread Cert.Reference13Ideal.nD Cert.Reference13Ideal.τ).loc Cert.Reference13Ideal.main_v12) = v2 c
          ∧ r.2.mem ((c.tc : Thread Cert.Reference13Ideal.nD Cert.Reference13Ideal.τ).loc Cert.Reference13Ideal.main_v18) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v7) = v0 c
          ∧ r.2.mem ((c.tc : Thread Cert.Reference14Ideal.nD Cert.Reference14Ideal.τ).loc Cert.Reference14Ideal.main_v31) = v1 c
          ∧ r.2.mem ((c.tc : Thread Cert.Reference14Ideal.nD Cert.Reference14Ideal.τ).loc Cert.Reference14Ideal.main_v12) = v2 c
          ∧ r.2.mem ((c.tc : Thread Cert.Reference14Ideal.nD Cert.Reference14Ideal.τ).loc Cert.Reference14Ideal.main_v18) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v7) = v0 c
          ∧ r.2.mem ((c.tc : Thread Cert.Reference15Ideal.nD Cert.Reference15Ideal.τ).loc Cert.Reference15Ideal.main_v31) = v1 c
          ∧ r.2.mem ((c.tc : Thread Cert.Reference15Ideal.nD Cert.Reference15Ideal.τ).loc Cert.Reference15Ideal.main_v12) = v2 c
          ∧ r.2.mem ((c.tc : Thread Cert.Reference15Ideal.nD Cert.Reference15Ideal.τ).loc Cert.Reference15Ideal.main_v18) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v7) = v0 c
          ∧ r.2.mem ((c.tc : Thread Cert.Reference16Ideal.nD Cert.Reference16Ideal.τ).loc Cert.Reference16Ideal.main_v31) = v1 c
          ∧ r.2.mem ((c.tc : Thread Cert.Reference16Ideal.nD Cert.Reference16Ideal.τ).loc Cert.Reference16Ideal.main_v12) = v2 c
          ∧ r.2.mem ((c.tc : Thread Cert.Reference16Ideal.nD Cert.Reference16Ideal.τ).loc Cert.Reference16Ideal.main_v18) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v7) = v0 c
          ∧ r.2.mem ((c.tc : Thread Cert.Reference17Ideal.nD Cert.Reference17Ideal.τ).loc Cert.Reference17Ideal.main_v31) = v1 c
          ∧ r.2.mem ((c.tc : Thread Cert.Reference17Ideal.nD Cert.Reference17Ideal.τ).loc Cert.Reference17Ideal.main_v12) = v2 c
          ∧ r.2.mem ((c.tc : Thread Cert.Reference17Ideal.nD Cert.Reference17Ideal.τ).loc Cert.Reference17Ideal.main_v18) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v7) = v0 c
          ∧ r.2.mem ((c.tc : Thread Cert.Reference18Ideal.nD Cert.Reference18Ideal.τ).loc Cert.Reference18Ideal.main_v31) = v1 c
          ∧ r.2.mem ((c.tc : Thread Cert.Reference18Ideal.nD Cert.Reference18Ideal.τ).loc Cert.Reference18Ideal.main_v12) = v2 c
          ∧ r.2.mem ((c.tc : Thread Cert.Reference18Ideal.nD Cert.Reference18Ideal.τ).loc Cert.Reference18Ideal.main_v18) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v6) = v0 c
          ∧ r.2.mem ((c.tc : Thread Cert.Reference19Ideal.nD Cert.Reference19Ideal.τ).loc Cert.Reference19Ideal.main_v30) = v1 c
          ∧ r.2.mem ((c.tc : Thread Cert.Reference19Ideal.nD Cert.Reference19Ideal.τ).loc Cert.Reference19Ideal.main_v11) = v2 c
          ∧ r.2.mem ((c.tc : Thread Cert.Reference19Ideal.nD Cert.Reference19Ideal.τ).loc Cert.Reference19Ideal.main_v17) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v6) = v0 c
          ∧ r.2.mem ((c.tc : Thread Cert.Reference20Ideal.nD Cert.Reference20Ideal.τ).loc Cert.Reference20Ideal.main_v30) = v1 c
          ∧ r.2.mem ((c.tc : Thread Cert.Reference20Ideal.nD Cert.Reference20Ideal.τ).loc Cert.Reference20Ideal.main_v11) = v2 c
          ∧ r.2.mem ((c.tc : Thread Cert.Reference20Ideal.nD Cert.Reference20Ideal.τ).loc Cert.Reference20Ideal.main_v17) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v6) = v0 c
          ∧ r.2.mem ((c.tc : Thread Cert.Reference21Ideal.nD Cert.Reference21Ideal.τ).loc Cert.Reference21Ideal.main_v30) = v1 c
          ∧ r.2.mem ((c.tc : Thread Cert.Reference21Ideal.nD Cert.Reference21Ideal.τ).loc Cert.Reference21Ideal.main_v11) = v2 c
          ∧ r.2.mem ((c.tc : Thread Cert.Reference21Ideal.nD Cert.Reference21Ideal.τ).loc Cert.Reference21Ideal.main_v17) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v0) = v0 c
          ∧ r.2.mem ((c.tc : Thread Cert.Reference22Ideal.nD Cert.Reference22Ideal.τ).loc Cert.Reference22Ideal.main_v24) = v1 c
          ∧ r.2.mem ((c.tc : Thread Cert.Reference22Ideal.nD Cert.Reference22Ideal.τ).loc Cert.Reference22Ideal.main_v5) = v2 c
          ∧ r.2.mem ((c.tc : Thread Cert.Reference22Ideal.nD Cert.Reference22Ideal.τ).loc Cert.Reference22Ideal.main_v11) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v0) = v0 c
          ∧ r.2.mem ((c.tc : Thread Cert.Reference23Ideal.nD Cert.Reference23Ideal.τ).loc Cert.Reference23Ideal.main_v24) = v1 c
          ∧ r.2.mem ((c.tc : Thread Cert.Reference23Ideal.nD Cert.Reference23Ideal.τ).loc Cert.Reference23Ideal.main_v5) = v2 c
          ∧ r.2.mem ((c.tc : Thread Cert.Reference23Ideal.nD Cert.Reference23Ideal.τ).loc Cert.Reference23Ideal.main_v11) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)) (v4 : (c : Dev Cert.Kernel24Ideal.nD) → Buf (Elt Ideal) ((c.tc : Thread Cert.Kernel24Ideal.nD Cert.Kernel24Ideal.τ).loc Cert.Kernel24Ideal.main_v0_4)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_v0_4) = v4 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v57) = v0 c
          ∧ r.2.mem ((c.tc : Thread Cert.Reference24Ideal.nD Cert.Reference24Ideal.τ).loc Cert.Reference24Ideal.main_v51) = v1 c
          ∧ r.2.mem ((c.tc : Thread Cert.Reference24Ideal.nD Cert.Reference24Ideal.τ).loc Cert.Reference24Ideal.main_v58) = v2 c
          ∧ r.2.mem ((c.tc : Thread Cert.Reference24Ideal.nD Cert.Reference24Ideal.τ).loc Cert.Reference24Ideal.main_v56) = v3 c
          ∧ r.2.mem ((c.tc : Thread Cert.Reference24Ideal.nD Cert.Reference24Ideal.τ).loc Cert.Reference24Ideal.main_v35) = v4 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)
      ∧ m' ((c.tc : Thread Cert.Reference25Ideal.nD Cert.Reference25Ideal.τ).loc Cert.Reference25Ideal.main_arg5) = m ((c.tc : Thread Cert.Kernel25Ideal.nD Cert.Kernel25Ideal.τ).loc Cert.Kernel25Ideal.main_arg5)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
          ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v48) = v0 c
          ∧ r.2.mem ((c.tc : Thread Cert.Reference25Ideal.nD Cert.Reference25Ideal.τ).loc Cert.Reference25Ideal.main_v31) = v1 c
          ∧ r.2.mem ((c.tc : Thread Cert.Reference25Ideal.nD Cert.Reference25Ideal.τ).loc Cert.Reference25Ideal.main_v23) = v2 c
          ∧ r.2.mem ((c.tc : Thread Cert.Reference25Ideal.nD Cert.Reference25Ideal.τ).loc Cert.Reference25Ideal.main_v26) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4)
          ∧ r.2.mem ((c.tc : Thread Cert.Reference25Ideal.nD Cert.Reference25Ideal.τ).loc Cert.Reference25Ideal.main_arg5) = m' ((c.tc : Thread Cert.Reference25Ideal.nD Cert.Reference25Ideal.τ).loc Cert.Reference25Ideal.main_arg5))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v18) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)
      ∧ m' ((c.tc : Thread Cert.Reference27Ideal.nD Cert.Reference27Ideal.τ).loc Cert.Reference27Ideal.main_arg4) = m ((c.tc : Thread Cert.Kernel27Ideal.nD Cert.Kernel27Ideal.τ).loc Cert.Kernel27Ideal.main_arg4)
      ∧ m' ((c.tc : Thread Cert.Reference27Ideal.nD Cert.Reference27Ideal.τ).loc Cert.Reference27Ideal.main_arg5) = m ((c.tc : Thread Cert.Kernel27Ideal.nD Cert.Kernel27Ideal.τ).loc Cert.Kernel27Ideal.main_arg5)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
          ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
          ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v2) = v0 c
          ∧ r.2.mem ((c.tc : Thread Cert.Reference27Ideal.nD Cert.Reference27Ideal.τ).loc Cert.Reference27Ideal.main_v21) = v1 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3)
          ∧ r.2.mem ((c.tc : Thread Cert.Reference27Ideal.nD Cert.Reference27Ideal.τ).loc Cert.Reference27Ideal.main_arg4) = m' ((c.tc : Thread Cert.Reference27Ideal.nD Cert.Reference27Ideal.τ).loc Cert.Reference27Ideal.main_arg4)
          ∧ r.2.mem ((c.tc : Thread Cert.Reference27Ideal.nD Cert.Reference27Ideal.τ).loc Cert.Reference27Ideal.main_arg5) = m' ((c.tc : Thread Cert.Reference27Ideal.nD Cert.Reference27Ideal.τ).loc Cert.Reference27Ideal.main_arg5))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)
      ∧ m' ((c.tc : Thread Cert.Reference28Ideal.nD Cert.Reference28Ideal.τ).loc Cert.Reference28Ideal.main_arg4) = m ((c.tc : Thread Cert.Kernel28Ideal.nD Cert.Kernel28Ideal.τ).loc Cert.Kernel28Ideal.main_arg4)
      ∧ m' ((c.tc : Thread Cert.Reference28Ideal.nD Cert.Reference28Ideal.τ).loc Cert.Reference28Ideal.main_arg5) = m ((c.tc : Thread Cert.Kernel28Ideal.nD Cert.Kernel28Ideal.τ).loc Cert.Kernel28Ideal.main_arg5)
      ∧ m' ((c.tc : Thread Cert.Reference28Ideal.nD Cert.Reference28Ideal.τ).loc Cert.Reference28Ideal.main_arg6) = m ((c.tc : Thread Cert.Kernel28Ideal.nD Cert.Kernel28Ideal.τ).loc Cert.Kernel28Ideal.main_arg6)
      ∧ m' ((c.tc : Thread Cert.Reference28Ideal.nD Cert.Reference28Ideal.τ).loc Cert.Reference28Ideal.main_arg7) = m ((c.tc : Thread Cert.Kernel28Ideal.nD Cert.Kernel28Ideal.τ).loc Cert.Kernel28Ideal.main_arg7)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)) (v3 : (c : Dev Cert.Kernel28Ideal.nD) → Buf (Elt Ideal) ((c.tc : Thread Cert.Kernel28Ideal.nD Cert.Kernel28Ideal.τ).loc Cert.Kernel28Ideal.main_v0_3)) (v4 : (c : Dev Cert.Kernel28Ideal.nD) → Buf (Elt Ideal) ((c.tc : Thread Cert.Kernel28Ideal.nD Cert.Kernel28Ideal.τ).loc Cert.Kernel28Ideal.main_v0_4)) (v5 : (c : Dev Cert.Kernel28Ideal.nD) → Buf (Elt Ideal) ((c.tc : Thread Cert.Kernel28Ideal.nD Cert.Kernel28Ideal.τ).loc Cert.Kernel28Ideal.main_v0_5)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_v0_3) = v3 c
          ∧ r.2.mem ((c.tc : Thread Cert.Kernel28Ideal.nD Cert.Kernel28Ideal.τ).loc Cert.Kernel28Ideal.main_v0_4) = v4 c
          ∧ r.2.mem ((c.tc : Thread Cert.Kernel28Ideal.nD Cert.Kernel28Ideal.τ).loc Cert.Kernel28Ideal.main_v0_5) = v5 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
          ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
          ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5)
          ∧ r.2.mem ((c.tc : Thread Cert.Kernel28Ideal.nD Cert.Kernel28Ideal.τ).loc Cert.Kernel28Ideal.main_arg6) = m ((c.tc : Thread Cert.Kernel28Ideal.nD Cert.Kernel28Ideal.τ).loc Cert.Kernel28Ideal.main_arg6)
          ∧ r.2.mem ((c.tc : Thread Cert.Kernel28Ideal.nD Cert.Kernel28Ideal.τ).loc Cert.Kernel28Ideal.main_arg7) = m ((c.tc : Thread Cert.Kernel28Ideal.nD Cert.Kernel28Ideal.τ).loc Cert.Kernel28Ideal.main_arg7))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v51) = v0 c
          ∧ r.2.mem ((c.tc : Thread Cert.Reference28Ideal.nD Cert.Reference28Ideal.τ).loc Cert.Reference28Ideal.main_v58) = v1 c
          ∧ r.2.mem ((c.tc : Thread Cert.Reference28Ideal.nD Cert.Reference28Ideal.τ).loc Cert.Reference28Ideal.main_v57) = v2 c
          ∧ r.2.mem ((c.tc : Thread Cert.Reference28Ideal.nD Cert.Reference28Ideal.τ).loc Cert.Reference28Ideal.main_v34) = v3 c
          ∧ r.2.mem ((c.tc : Thread Cert.Reference28Ideal.nD Cert.Reference28Ideal.τ).loc Cert.Reference28Ideal.main_v26) = v4 c
          ∧ r.2.mem ((c.tc : Thread Cert.Reference28Ideal.nD Cert.Reference28Ideal.τ).loc Cert.Reference28Ideal.main_v29) = v5 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3)
          ∧ r.2.mem ((c.tc : Thread Cert.Reference28Ideal.nD Cert.Reference28Ideal.τ).loc Cert.Reference28Ideal.main_arg4) = m' ((c.tc : Thread Cert.Reference28Ideal.nD Cert.Reference28Ideal.τ).loc Cert.Reference28Ideal.main_arg4)
          ∧ r.2.mem ((c.tc : Thread Cert.Reference28Ideal.nD Cert.Reference28Ideal.τ).loc Cert.Reference28Ideal.main_arg5) = m' ((c.tc : Thread Cert.Reference28Ideal.nD Cert.Reference28Ideal.τ).loc Cert.Reference28Ideal.main_arg5)
          ∧ r.2.mem ((c.tc : Thread Cert.Reference28Ideal.nD Cert.Reference28Ideal.τ).loc Cert.Reference28Ideal.main_arg6) = m' ((c.tc : Thread Cert.Reference28Ideal.nD Cert.Reference28Ideal.τ).loc Cert.Reference28Ideal.main_arg6)
          ∧ r.2.mem ((c.tc : Thread Cert.Reference28Ideal.nD Cert.Reference28Ideal.τ).loc Cert.Reference28Ideal.main_arg7) = m' ((c.tc : Thread Cert.Reference28Ideal.nD Cert.Reference28Ideal.τ).loc Cert.Reference28Ideal.main_arg7))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v2) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v7) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v7) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v2) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v6) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v0)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v8) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
-- ==== Pre_finite.lean ====
abbrev S8192x2816 : Shape := ⟨2, ![8192, 2816]⟩
abbrev S9x2816 : Shape := ⟨2, ![9, 2816]⟩
abbrev S1x2816 : Shape := ⟨2, ![1, 2816]⟩
abbrev S_ : Shape := ⟨0, ![]⟩

class Facts : Prop where
  bitsLt_bf16_f32 : FTy.bits .bf16 < FTy.bits .f32
  bcast_S_S8192x2816 : S_.BroadcastsInDim S8192x2816 (![] : Fin 0 → Fin S8192x2816.rank)
  bcast_S_S9x2816 : S_.BroadcastsInDim S9x2816 (![] : Fin 0 → Fin S9x2816.rank)
  bcast_S_S1x2816 : S_.BroadcastsInDim S1x2816 (![] : Fin 0 → Fin S1x2816.rank)

variable [Facts]

def fn {F : FTy → Type} [FloatOps F] (main_arg0 : FVec F S8192x2816 .bf16) (main_arg1 : FVec F S8192x2816 .bf16) (main_arg2 : FVec F S9x2816 .f32) (main_arg3 : FVec F S9x2816 .f32) (main_arg4 : FVec F S1x2816 .f32) (main_arg5 : FVec F S1x2816 .f32) (main_arg6 : FVec F S8192x2816 .bf16) : IVec S8192x2816 1 × IVec S8192x2816 1 × IVec S9x2816 1 × IVec S1x2816 1 :=
  let main_v0 : FVec F S8192x2816 .f32 := (extf .f32 · bitsLt_bf16_f32) main_arg6
  let main_v1 : FVec F S8192x2816 .f32 := Host.absf main_v0
  let main_cst : FVec F S_ .f32 := constant S_ .f32 0x7F800000#32
  let main_v2 : FVec F S8192x2816 .f32 := broadcastInDim S8192x2816 ![] bcast_S_S8192x2816 main_cst
  let main_v3 : IVec S8192x2816 1 := cmpf .olt main_v1 main_v2
  let main_v4 : FVec F S8192x2816 .f32 := (extf .f32 · bitsLt_bf16_f32) main_arg1
  let main_v5 : FVec F S8192x2816 .f32 := Host.absf main_v4
  let main_cst_0 : FVec F S_ .f32 := constant S_ .f32 0x7F800000#32
  let main_v6 : FVec F S8192x2816 .f32 := broadcastInDim S8192x2816 ![] bcast_S_S8192x2816 main_cst_0
  let main_v7 : IVec S8192x2816 1 := cmpf .olt main_v5 main_v6
  let main_v8 : FVec F S9x2816 .f32 := Host.absf main_arg3
  let main_cst_1 : FVec F S_ .f32 := constant S_ .f32 0x7F800000#32
  let main_v9 : FVec F S9x2816 .f32 := broadcastInDim S9x2816 ![] bcast_S_S9x2816 main_cst_1
  let main_v10 : IVec S9x2816 1 := cmpf .olt main_v8 main_v9
  let main_v11 : FVec F S1x2816 .f32 := Host.absf main_arg5
  let main_cst_2 : FVec F S_ .f32 := constant S_ .f32 0x7F800000#32
  let main_v12 : FVec F S1x2816 .f32 := broadcastInDim S1x2816 ![] bcast_S_S1x2816 main_cst_2
  let main_v13 : IVec S1x2816 1 := cmpf .olt main_v11 main_v12
  (main_v3, main_v7, main_v10, main_v13)
-- ==== Kernel.lean ====
abbrev S8192x2816 : Shape := ⟨2, ![8192, 2816]⟩
abbrev S9x2816 : Shape := ⟨2, ![9, 2816]⟩
abbrev S1x2816 : Shape := ⟨2, ![1, 2816]⟩
abbrev S128x64x2816 : Shape := ⟨3, ![128, 64, 2816]⟩
abbrev S_ : Shape := ⟨0, ![]⟩
abbrev S130x66x2816 : Shape := ⟨3, ![130, 66, 2816]⟩
abbrev S1x1x2816 : Shape := ⟨3, ![1, 1, 2816]⟩
abbrev S128x256 : Shape := ⟨2, ![128, 256]⟩
abbrev S1024x256 : Shape := ⟨2, ![1024, 256]⟩
abbrev S9x256 : Shape := ⟨2, ![9, 256]⟩
abbrev S1x256 : Shape := ⟨2, ![1, 256]⟩
abbrev S1280x256 : Shape := ⟨2, ![1280, 256]⟩
abbrev S1280x1 : Shape := ⟨2, ![1280, 1]⟩
abbrev S256 : Shape := ⟨1, ![256]⟩

abbrev nBuf : Space → Nat
  | .hbm => 141
  | .vmem => 30
  | .smem => 0
  | _ => 0

abbrev hbmTy0_0 (i : Nat) : BufTy := match i % 128 with
  | 0 => ⟨S8192x2816, .bf16⟩
  | 1 => ⟨S8192x2816, .bf16⟩
  | 2 => ⟨S9x2816, .f32⟩
  | 3 => ⟨S9x2816, .f32⟩
  | 4 => ⟨S1x2816, .f32⟩
  | 5 => ⟨S1x2816, .f32⟩
  | 6 => ⟨S8192x2816, .bf16⟩
  | 7 => ⟨S8192x2816, .f32⟩
  | 8 => ⟨S128x64x2816, .f32⟩
  | 9 => ⟨S_, .i32⟩
  | 10 => ⟨S_, .f32⟩
  | 11 => ⟨S130x66x2816, .f32⟩
  | 12 => ⟨S128x64x2816, .f32⟩
  | 13 => ⟨S1x2816, .f32⟩
  | 14 => ⟨S1x1x2816, .f32⟩
  | 15 => ⟨S128x64x2816, .f32⟩
  | 16 => ⟨S128x64x2816, .f32⟩
  | 17 => ⟨S_, .f32⟩
  | 18 => ⟨S128x64x2816, .f32⟩
  | 19 => ⟨S128x64x2816, .f32⟩
  | 20 => ⟨S128x64x2816, .f32⟩
  | 21 => ⟨S1x2816, .f32⟩
  | 22 => ⟨S1x1x2816, .f32⟩
  | 23 => ⟨S128x64x2816, .f32⟩
  | 24 => ⟨S128x64x2816, .f32⟩
  | 25 => ⟨S128x64x2816, .f32⟩
  | 26 => ⟨S128x64x2816, .f32⟩
  | 27 => ⟨S1x2816, .f32⟩
  | 28 => ⟨S1x1x2816, .f32⟩
  | 29 => ⟨S128x64x2816, .f32⟩
  | 30 => ⟨S128x64x2816, .f32⟩
  | 31 => ⟨S128x64x2816, .f32⟩
  | 32 => ⟨S128x64x2816, .f32⟩
  | 33 => ⟨S1x2816, .f32⟩
  | 34 => ⟨S1x1x2816, .f32⟩
  | 35 => ⟨S128x64x2816, .f32⟩
  | 36 => ⟨S128x64x2816, .f32⟩
  | 37 => ⟨S128x64x2816, .f32⟩
  | 38 => ⟨S128x64x2816, .f32⟩
  | 39 => ⟨S1x2816, .f32⟩
  | 40 => ⟨S1x1x2816, .f32⟩
  | 41 => ⟨S128x64x2816, .f32⟩
  | 42 => ⟨S128x64x2816, .f32⟩
  | 43 => ⟨S128x64x2816, .f32⟩
  | 44 => ⟨S128x64x2816, .f32⟩
  | 45 => ⟨S1x2816, .f32⟩
  | 46 => ⟨S1x1x2816, .f32⟩
  | 47 => ⟨S128x64x2816, .f32⟩
  | 48 => ⟨S128x64x2816, .f32⟩
  | 49 => ⟨S128x64x2816, .f32⟩
  | 50 => ⟨S128x64x2816, .f32⟩
  | 51 => ⟨S1x2816, .f32⟩
  | 52 => ⟨S1x1x2816, .f32⟩
  | 53 => ⟨S128x64x2816, .f32⟩
  | 54 => ⟨S128x64x2816, .f32⟩
  | 55 => ⟨S128x64x2816, .f32⟩
  | 56 => ⟨S128x64x2816, .f32⟩
  | 57 => ⟨S1x2816, .f32⟩
  | 58 => ⟨S1x1x2816, .f32⟩
  | 59 => ⟨S128x64x2816, .f32⟩
  | 60 => ⟨S128x64x2816, .f32⟩
  | 61 => ⟨S128x64x2816, .f32⟩
  | 62 => ⟨S128x64x2816, .f32⟩
  | 63 => ⟨S1x2816, .f32⟩
  | 64 => ⟨S1x1x2816, .f32⟩
  | 65 => ⟨S128x64x2816, .f32⟩
  | 66 => ⟨S128x64x2816, .f32⟩
  | 67 => ⟨S128x64x2816, .f32⟩
  | 68 => ⟨S8192x2816, .f32⟩
  | 69 => ⟨S8192x2816, .f32⟩
  | 70 => ⟨S8192x2816, .f32⟩
  | 71 => ⟨S8192x2816, .f32⟩
  | 72 => ⟨S128x64x2816, .f32⟩
  | 73 => ⟨S_, .i32⟩
  | 74 => ⟨S_, .f32⟩
  | 75 => ⟨S130x66x2816, .f32⟩
  | 76 => ⟨S128x64x2816, .f32⟩
  | 77 => ⟨S1x2816, .f32⟩
  | 78 => ⟨S1x1x2816, .f32⟩
  | 79 => ⟨S128x64x2816, .f32⟩
  | 80 => ⟨S128x64x2816, .f32⟩
  | 81 => ⟨S_, .f32⟩
  | 82 => ⟨S128x64x2816, .f32⟩
  | 83 => ⟨S128x64x2816, .f32⟩
  | 84 => ⟨S128x64x2816, .f32⟩
  | 85 => ⟨S1x2816, .f32⟩
  | 86 => ⟨S1x1x2816, .f32⟩
  | 87 => ⟨S128x64x2816, .f32⟩
  | 88 => ⟨S128x64x2816, .f32⟩
  | 89 => ⟨S128x64x2816, .f32⟩
  | 90 => ⟨S128x64x2816, .f32⟩
  | 91 => ⟨S1x2816, .f32⟩
  | 92 => ⟨S1x1x2816, .f32⟩
  | 93 => ⟨S128x64x2816, .f32⟩
  | 94 => ⟨S128x64x2816, .f32⟩
  | 95 => ⟨S128x64x2816, .f32⟩
  | 96 => ⟨S128x64x2816, .f32⟩
  | 97 => ⟨S1x2816, .f32⟩
  | 98 => ⟨S1x1x2816, .f32⟩
  | 99 => ⟨S128x64x2816, .f32⟩
  | 100 => ⟨S128x64x2816, .f32⟩
  | 101 => ⟨S128x64x2816, .f32⟩
  | 102 => ⟨S128x64x2816, .f32⟩
  | 103 => ⟨S1x2816, .f32⟩
  | 104 => ⟨S1x1x2816, .f32⟩
  | 105 => ⟨S128x64x2816, .f32⟩
  | 106 => ⟨S128x64x2816, .f32⟩
  | 107 => ⟨S128x64x2816, .f32⟩
  | 108 => ⟨S128x64x2816, .f32⟩
  | 109 => ⟨S1x2816, .f32⟩
  | 110 => ⟨S1x1x2816, .f32⟩
  | 111 => ⟨S128x64x2816, .f32⟩
  | 112 => ⟨S128x64x2816, .f32⟩
  | 113 => ⟨S128x64x2816, .f32⟩
  | 114 => ⟨S128x64x2816, .f32⟩
  | 115 => ⟨S1x2816, .f32⟩
  | 116 => ⟨S1x1x2816, .f32⟩
  | 117 => ⟨S128x64x2816, .f32⟩
  | 118 => ⟨S128x64x2816, .f32⟩
  | 119 => ⟨S128x64x2816, .f32⟩
  | 120 => ⟨S128x64x2816, .f32⟩
  | 121 => ⟨S1x2816, .f32⟩
  | 122 => ⟨S1x1x2816, .f32⟩
  | 123 => ⟨S128x64x2816, .f32⟩
  | 124 => ⟨S128x64x2816, .f32⟩
  | 125 => ⟨S128x64x2816, .f32⟩
  | 126 => ⟨S128x64x2816, .f32⟩
  | 127 => ⟨S1x2816, .f32⟩
  | _ => ⟨S8192x2816, .bf16⟩

abbrev hbmTy0_1 (i : Nat) : BufTy := match i % 128 with
  | 0 => ⟨S1x1x2816, .f32⟩
  | 1 => ⟨S128x64x2816, .f32⟩
  | 2 => ⟨S128x64x2816, .f32⟩
  | 3 => ⟨S128x64x2816, .f32⟩
  | 4 => ⟨S8192x2816, .f32⟩
  | 5 => ⟨S8192x2816, .f32⟩
  | 6 => ⟨S8192x2816, .f32⟩
  | 7 => ⟨S8192x2816, .bf16⟩
  | 8 => ⟨S8192x2816, .bf16⟩
  | 9 => ⟨S9x2816, .f32⟩
  | 10 => ⟨S9x2816, .f32⟩
  | 11 => ⟨S1x2816, .f32⟩
  | 12 => ⟨S1x2816, .f32⟩
  | _ => ⟨S8192x2816, .bf16⟩

abbrev hbmTy (i : Nat) : BufTy := match i / 128 with
  | 0 => hbmTy0_0 i
  | 1 => hbmTy0_1 i
  | _ => ⟨S8192x2816, .bf16⟩

abbrev bufTy : (tb : Table) → Fin (tcTables nBuf tb) → BufTy
  | .hbm, ⟨i, _⟩ => hbmTy i
  | .local _ .vmem, ⟨0, _⟩ => ⟨S128x256, .bf16⟩
  | .local _ .vmem, ⟨1, _⟩ => ⟨S128x256, .bf16⟩
  | .local _ .vmem, ⟨2, _⟩ => ⟨S1024x256, .bf16⟩
  | .local _ .vmem, ⟨3, _⟩ => ⟨S1024x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S1024x256, .bf16⟩
  | .local _ .vmem, ⟨9, _⟩ => ⟨S1024x256, .bf16⟩
  | .local _ .vmem, ⟨10, _⟩ => ⟨S128x256, .bf16⟩
  | .local _ .vmem, ⟨11, _⟩ => ⟨S128x256, .bf16⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S1024x256, .bf16⟩
  | .local _ .vmem, ⟨17, _⟩ => ⟨S1024x256, .bf16⟩
  | .local _ .vmem, ⟨18, _⟩ => ⟨S1024x256, .bf16⟩
  | .local _ .vmem, ⟨19, _⟩ => ⟨S1024x256, .bf16⟩
  | .local _ .vmem, ⟨20, _⟩ => ⟨S1024x256, .bf16⟩
  | .local _ .vmem, ⟨21, _⟩ => ⟨S1024x256, .bf16⟩
  | .local _ .vmem, ⟨22, _⟩ => ⟨S9x256, .f32⟩
  | .local _ .vmem, ⟨23, _⟩ => ⟨S9x256, .f32⟩
  | .local _ .vmem, ⟨24, _⟩ => ⟨S9x256, .f32⟩
  | .local _ .vmem, ⟨25, _⟩ => ⟨S9x256, .f32⟩
  | .local _ .vmem, ⟨26, _⟩ => ⟨S1x256, .f32⟩
  | .local _ .vmem, ⟨27, _⟩ => ⟨S1x256, .f32⟩
  | .local _ .vmem, ⟨28, _⟩ => ⟨S1x256, .f32⟩
  | .local _ .vmem, ⟨29, _⟩ => ⟨S1x256, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_c_0 : Ref sig .tc := ⟨.hbm, 73, rfl⟩
abbrev main_call1_v0 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_cst_1 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122_0 : Ref sig .tc := ⟨.hbm, 135, rfl⟩
abbrev main_v122_1 : Ref sig .tc := ⟨.hbm, 136, rfl⟩
abbrev main_v122_2 : Ref sig .tc := ⟨.hbm, 137, rfl⟩
abbrev main_v122_3 : Ref sig .tc := ⟨.hbm, 138, rfl⟩
abbrev main_v122_4 : Ref sig .tc := ⟨.hbm, 139, rfl⟩
abbrev main_v122_5 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c8_i32_0 : BitVec 32 := 8#32
  let v1 : BitVec 32 := Scalar.addi v0 c8_i32_0
  let c63_i32 : BitVec 32 := 63#32
  let v2 : BitVec 32 := Scalar.minsi v1 c63_i32
  let c0_i32 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c8_i32_0 : BitVec 32 := 8#32
  let v1 : BitVec 32 := Scalar.addi v0 c8_i32_0
  let c63_i32 : BitVec 32 := 63#32
  let v2 : BitVec 32 := Scalar.minsi v1 c63_i32
  let c0_i32 : BitVec 32 := 0#32
  ![v2.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S9x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S9x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== ReferenceIdeal.lean ====
abbrev S8192x2816 : Shape := ⟨2, ![8192, 2816]⟩
abbrev S9x2816 : Shape := ⟨2, ![9, 2816]⟩
abbrev S1x2816 : Shape := ⟨2, ![1, 2816]⟩
abbrev S128x64x2816 : Shape := ⟨3, ![128, 64, 2816]⟩
abbrev S_ : Shape := ⟨0, ![]⟩
abbrev S130x66x2816 : Shape := ⟨3, ![130, 66, 2816]⟩
abbrev S1x1x2816 : Shape := ⟨3, ![1, 1, 2816]⟩
abbrev S2816 : Shape := ⟨1, ![2816]⟩

abbrev nBuf : Space → Nat
  | .hbm => 344
  | .vmem => 0
  | .smem => 0
  | _ => 0

abbrev hbmTy0_0 (i : Nat) : BufTy := match i % 128 with
  | 0 => ⟨S8192x2816, .bf16⟩
  | 1 => ⟨S8192x2816, .bf16⟩
  | 2 => ⟨S9x2816, .f32⟩
  | 3 => ⟨S9x2816, .f32⟩
  | 4 => ⟨S1x2816, .f32⟩
  | 5 => ⟨S1x2816, .f32⟩
  | 6 => ⟨S8192x2816, .bf16⟩
  | 7 => ⟨S8192x2816, .f32⟩
  | 8 => ⟨S8192x2816, .f32⟩
  | 9 => ⟨S8192x2816, .f32⟩
  | 10 => ⟨S128x64x2816, .f32⟩
  | 11 => ⟨S_, .i32⟩
  | 12 => ⟨S_, .f32⟩
  | 13 => ⟨S130x66x2816, .f32⟩
  | 14 => ⟨S128x64x2816, .f32⟩
  | 15 => ⟨S1x2816, .f32⟩
  | 16 => ⟨S1x1x2816, .f32⟩
  | 17 => ⟨S128x64x2816, .f32⟩
  | 18 => ⟨S128x64x2816, .f32⟩
  | 19 => ⟨S_, .f32⟩
  | 20 => ⟨S128x64x2816, .f32⟩
  | 21 => ⟨S128x64x2816, .f32⟩
  | 22 => ⟨S128x64x2816, .f32⟩
  | 23 => ⟨S1x2816, .f32⟩
  | 24 => ⟨S1x1x2816, .f32⟩
  | 25 => ⟨S128x64x2816, .f32⟩
  | 26 => ⟨S128x64x2816, .f32⟩
  | 27 => ⟨S128x64x2816, .f32⟩
  | 28 => ⟨S128x64x2816, .f32⟩
  | 29 => ⟨S1x2816, .f32⟩
  | 30 => ⟨S1x1x2816, .f32⟩
  | 31 => ⟨S128x64x2816, .f32⟩
  | 32 => ⟨S128x64x2816, .f32⟩
  | 33 => ⟨S128x64x2816, .f32⟩
  | 34 => ⟨S128x64x2816, .f32⟩
  | 35 => ⟨S1x2816, .f32⟩
  | 36 => ⟨S1x1x2816, .f32⟩
  | 37 => ⟨S128x64x2816, .f32⟩
  | 38 => ⟨S128x64x2816, .f32⟩
  | 39 => ⟨S128x64x2816, .f32⟩
  | 40 => ⟨S128x64x2816, .f32⟩
  | 41 => ⟨S1x2816, .f32⟩
  | 42 => ⟨S1x1x2816, .f32⟩
  | 43 => ⟨S128x64x2816, .f32⟩
  | 44 => ⟨S128x64x2816, .f32⟩
  | 45 => ⟨S128x64x2816, .f32⟩
  | 46 => ⟨S128x64x2816, .f32⟩
  | 47 => ⟨S1x2816, .f32⟩
  | 48 => ⟨S1x1x2816, .f32⟩
  | 49 => ⟨S128x64x2816, .f32⟩
  | 50 => ⟨S128x64x2816, .f32⟩
  | 51 => ⟨S128x64x2816, .f32⟩
  | 52 => ⟨S128x64x2816, .f32⟩
  | 53 => ⟨S1x2816, .f32⟩
  | 54 => ⟨S1x1x2816, .f32⟩
  | 55 => ⟨S128x64x2816, .f32⟩
  | 56 => ⟨S128x64x2816, .f32⟩
  | 57 => ⟨S128x64x2816, .f32⟩
  | 58 => ⟨S128x64x2816, .f32⟩
  | 59 => ⟨S1x2816, .f32⟩
  | 60 => ⟨S1x1x2816, .f32⟩
  | 61 => ⟨S128x64x2816, .f32⟩
  | 62 => ⟨S128x64x2816, .f32⟩
  | 63 => ⟨S128x64x2816, .f32⟩
  | 64 => ⟨S128x64x2816, .f32⟩
  | 65 => ⟨S1x2816, .f32⟩
  | 66 => ⟨S1x1x2816, .f32⟩
  | 67 => ⟨S128x64x2816, .f32⟩
  | 68 => ⟨S128x64x2816, .f32⟩
  | 69 => ⟨S128x64x2816, .f32⟩
  | 70 => ⟨S8192x2816, .f32⟩
  | 71 => ⟨S8192x2816, .f32⟩
  | 72 => ⟨S8192x2816, .f32⟩
  | 73 => ⟨S128x64x2816, .f32⟩
  | 74 => ⟨S_, .i32⟩
  | 75 => ⟨S_, .f32⟩
  | 76 => ⟨S130x66x2816, .f32⟩
  | 77 => ⟨S128x64x2816, .f32⟩
  | 78 => ⟨S1x2816, .f32⟩
  | 79 => ⟨S1x1x2816, .f32⟩
  | 80 => ⟨S128x64x2816, .f32⟩
  | 81 => ⟨S128x64x2816, .f32⟩
  | 82 => ⟨S_, .f32⟩
  | 83 => ⟨S128x64x2816, .f32⟩
  | 84 => ⟨S128x64x2816, .f32⟩
  | 85 => ⟨S128x64x2816, .f32⟩
  | 86 => ⟨S1x2816, .f32⟩
  | 87 => ⟨S1x1x2816, .f32⟩
  | 88 => ⟨S128x64x2816, .f32⟩
  | 89 => ⟨S128x64x2816, .f32⟩
  | 90 => ⟨S128x64x2816, .f32⟩
  | 91 => ⟨S128x64x2816, .f32⟩
  | 92 => ⟨S1x2816, .f32⟩
  | 93 => ⟨S1x1x2816, .f32⟩
  | 94 => ⟨S128x64x2816, .f32⟩
  | 95 => ⟨S128x64x2816, .f32⟩
  | 96 => ⟨S128x64x2816, .f32⟩
  | 97 => ⟨S128x64x2816, .f32⟩
  | 98 => ⟨S1x2816, .f32⟩
  | 99 => ⟨S1x1x2816, .f32⟩
  | 100 => ⟨S128x64x2816, .f32⟩
  | 101 => ⟨S128x64x2816, .f32⟩
  | 102 => ⟨S128x64x2816, .f32⟩
  | 103 => ⟨S128x64x2816, .f32⟩
  | 104 => ⟨S1x2816, .f32⟩
  | 105 => ⟨S1x1x2816, .f32⟩
  | 106 => ⟨S128x64x2816, .f32⟩
  | 107 => ⟨S128x64x2816, .f32⟩
  | 108 => ⟨S128x64x2816, .f32⟩
  | 109 => ⟨S128x64x2816, .f32⟩
  | 110 => ⟨S1x2816, .f32⟩
  | 111 => ⟨S1x1x2816, .f32⟩
  | 112 => ⟨S128x64x2816, .f32⟩
  | 113 => ⟨S128x64x2816, .f32⟩
  | 114 => ⟨S128x64x2816, .f32⟩
  | 115 => ⟨S128x64x2816, .f32⟩
  | 116 => ⟨S1x2816, .f32⟩
  | 117 => ⟨S1x1x2816, .f32⟩
  | 118 => ⟨S128x64x2816, .f32⟩
  | 119 => ⟨S128x64x2816, .f32⟩
  | 120 => ⟨S128x64x2816, .f32⟩
  | 121 => ⟨S128x64x2816, .f32⟩
  | 122 => ⟨S1x2816, .f32⟩
  | 123 => ⟨S1x1x2816, .f32⟩
  | 124 => ⟨S128x64x2816, .f32⟩
  | 125 => ⟨S128x64x2816, .f32⟩
  | 126 => ⟨S128x64x2816, .f32⟩
  | 127 => ⟨S128x64x2816, .f32⟩
  | _ => ⟨S8192x2816, .bf16⟩

abbrev hbmTy0_1 (i : Nat) : BufTy := match i % 128 with
  | 0 => ⟨S1x2816, .f32⟩
  | 1 => ⟨S1x1x2816, .f32⟩
  | 2 => ⟨S128x64x2816, .f32⟩
  | 3 => ⟨S128x64x2816, .f32⟩
  | 4 => ⟨S128x64x2816, .f32⟩
  | 5 => ⟨S8192x2816, .f32⟩
  | 6 => ⟨S8192x2816, .f32⟩
  | 7 => ⟨S8192x2816, .f32⟩
  | 8 => ⟨S8192x2816, .f32⟩
  | 9 => ⟨S8192x2816, .f32⟩
  | 10 => ⟨S_, .f32⟩
  | 11 => ⟨S8192x2816, .f32⟩
  | 12 => ⟨S8192x2816, .f32⟩
  | 13 => ⟨S_, .f32⟩
  | 14 => ⟨S8192x2816, .f32⟩
  | 15 => ⟨S8192x2816, .f32⟩
  | 16 => ⟨S_, .f32⟩
  | 17 => ⟨S8192x2816, .f32⟩
  | 18 => ⟨S8192x2816, .f32⟩
  | 19 => ⟨S8192x2816, .f32⟩
  | 20 => ⟨S8192x2816, .f32⟩
  | 21 => ⟨S8192x2816, .f32⟩
  | 22 => ⟨S8192x2816, .f32⟩
  | 23 => ⟨S8192x2816, .f32⟩
  | 24 => ⟨S8192x2816, .f32⟩
  | 25 => ⟨S8192x2816, .f32⟩
  | 26 => ⟨S8192x2816, .f32⟩
  | 27 => ⟨S8192x2816, .f32⟩
  | 28 => ⟨S_, .f32⟩
  | 29 => ⟨S2816, .f32⟩
  | 30 => ⟨S1x2816, .f32⟩
  | 31 => ⟨S128x64x2816, .f32⟩
  | 32 => ⟨S128x64x2816, .f32⟩
  | 33 => ⟨S_, .f32⟩
  | 34 => ⟨S2816, .f32⟩
  | 35 => ⟨S1x1x2816, .f32⟩
  | 36 => ⟨S_, .f32⟩
  | 37 => ⟨S2816, .f32⟩
  | 38 => ⟨S1x2816, .f32⟩
  | 39 => ⟨S_, .f32⟩
  | 40 => ⟨S9x2816, .f32⟩
  | 41 => ⟨S128x64x2816, .f32⟩
  | 42 => ⟨S_, .f32⟩
  | 43 => ⟨S2816, .f32⟩
  | 44 => ⟨S1x1x2816, .f32⟩
  | 45 => ⟨S_, .f32⟩
  | 46 => ⟨S2816, .f32⟩
  | 47 => ⟨S1x2816, .f32⟩
  | 48 => ⟨S_, .f32⟩
  | 49 => ⟨S9x2816, .f32⟩
  | 50 => ⟨S9x2816, .f32⟩
  | 51 => ⟨S128x64x2816, .f32⟩
  | 52 => ⟨S_, .f32⟩
  | 53 => ⟨S2816, .f32⟩
  | 54 => ⟨S1x1x2816, .f32⟩
  | 55 => ⟨S_, .f32⟩
  | 56 => ⟨S2816, .f32⟩
  | 57 => ⟨S1x2816, .f32⟩
  | 58 => ⟨S_, .f32⟩
  | 59 => ⟨S9x2816, .f32⟩
  | 60 => ⟨S9x2816, .f32⟩
  | 61 => ⟨S128x64x2816, .f32⟩
  | 62 => ⟨S_, .f32⟩
  | 63 => ⟨S2816, .f32⟩
  | 64 => ⟨S1x1x2816, .f32⟩
  | 65 => ⟨S_, .f32⟩
  | 66 => ⟨S2816, .f32⟩
  | 67 => ⟨S1x2816, .f32⟩
  | 68 => ⟨S_, .f32⟩
  | 69 => ⟨S9x2816, .f32⟩
  | 70 => ⟨S9x2816, .f32⟩
  | 71 => ⟨S128x64x2816, .f32⟩
  | 72 => ⟨S_, .f32⟩
  | 73 => ⟨S2816, .f32⟩
  | 74 => ⟨S1x1x2816, .f32⟩
  | 75 => ⟨S_, .f32⟩
  | 76 => ⟨S2816, .f32⟩
  | 77 => ⟨S1x2816, .f32⟩
  | 78 => ⟨S_, .f32⟩
  | 79 => ⟨S9x2816, .f32⟩
  | 80 => ⟨S9x2816, .f32⟩
  | 81 => ⟨S128x64x2816, .f32⟩
  | 82 => ⟨S_, .f32⟩
  | 83 => ⟨S2816, .f32⟩
  | 84 => ⟨S1x1x2816, .f32⟩
  | 85 => ⟨S_, .f32⟩
  | 86 => ⟨S2816, .f32⟩
  | 87 => ⟨S1x2816, .f32⟩
  | 88 => ⟨S_, .f32⟩
  | 89 => ⟨S9x2816, .f32⟩
  | 90 => ⟨S9x2816, .f32⟩
  | 91 => ⟨S128x64x2816, .f32⟩
  | 92 => ⟨S_, .f32⟩
  | 93 => ⟨S2816, .f32⟩
  | 94 => ⟨S1x1x2816, .f32⟩
  | 95 => ⟨S_, .f32⟩
  | 96 => ⟨S2816, .f32⟩
  | 97 => ⟨S1x2816, .f32⟩
  | 98 => ⟨S_, .f32⟩
  | 99 => ⟨S9x2816, .f32⟩
  | 100 => ⟨S9x2816, .f32⟩
  | 101 => ⟨S128x64x2816, .f32⟩
  | 102 => ⟨S_, .f32⟩
  | 103 => ⟨S2816, .f32⟩
  | 104 => ⟨S1x1x2816, .f32⟩
  | 105 => ⟨S_, .f32⟩
  | 106 => ⟨S2816, .f32⟩
  | 107 => ⟨S1x2816, .f32⟩
  | 108 => ⟨S_, .f32⟩
  | 109 => ⟨S9x2816, .f32⟩
  | 110 => ⟨S9x2816, .f32⟩
  | 111 => ⟨S128x64x2816, .f32⟩
  | 112 => ⟨S_, .f32⟩
  | 113 => ⟨S2816, .f32⟩
  | 114 => ⟨S1x1x2816, .f32⟩
  | 115 => ⟨S_, .f32⟩
  | 116 => ⟨S2816, .f32⟩
  | 117 => ⟨S1x2816, .f32⟩
  | 118 => ⟨S_, .f32⟩
  | 119 => ⟨S9x2816, .f32⟩
  | 120 => ⟨S9x2816, .f32⟩
  | 121 => ⟨S_, .f32⟩
  | 122 => ⟨S2816, .f32⟩
  | 123 => ⟨S1x2816, .f32⟩
  | 124 => ⟨S128x64x2816, .f32⟩
  | 125 => ⟨S128x64x2816, .f32⟩
  | 126 => ⟨S_, .f32⟩
  | 127 => ⟨S2816, .f32⟩
  | _ => ⟨S8192x2816, .bf16⟩

abbrev hbmTy0_2 (i : Nat) : BufTy := match i % 128 with
  | 0 => ⟨S1x1x2816, .f32⟩
  | 1 => ⟨S_, .f32⟩
  | 2 => ⟨S2816, .f32⟩
  | 3 => ⟨S1x2816, .f32⟩
  | 4 => ⟨S_, .f32⟩
  | 5 => ⟨S9x2816, .f32⟩
  | 6 => ⟨S128x64x2816, .f32⟩
  | 7 => ⟨S_, .f32⟩
  | 8 => ⟨S2816, .f32⟩
  | 9 => ⟨S1x1x2816, .f32⟩
  | 10 => ⟨S_, .f32⟩
  | 11 => ⟨S2816, .f32⟩
  | 12 => ⟨S1x2816, .f32⟩
  | 13 => ⟨S_, .f32⟩
  | 14 => ⟨S9x2816, .f32⟩
  | 15 => ⟨S9x2816, .f32⟩
  | 16 => ⟨S128x64x2816, .f32⟩
  | 17 => ⟨S_, .f32⟩
  | 18 => ⟨S2816, .f32⟩
  | 19 => ⟨S1x1x2816, .f32⟩
  | 20 => ⟨S_, .f32⟩
  | 21 => ⟨S2816, .f32⟩
  | 22 => ⟨S1x2816, .f32⟩
  | 23 => ⟨S_, .f32⟩
  | 24 => ⟨S9x2816, .f32⟩
  | 25 => ⟨S9x2816, .f32⟩
  | 26 => ⟨S128x64x2816, .f32⟩
  | 27 => ⟨S_, .f32⟩
  | 28 => ⟨S2816, .f32⟩
  | 29 => ⟨S1x1x2816, .f32⟩
  | 30 => ⟨S_, .f32⟩
  | 31 => ⟨S2816, .f32⟩
  | 32 => ⟨S1x2816, .f32⟩
  | 33 => ⟨S_, .f32⟩
  | 34 => ⟨S9x2816, .f32⟩
  | 35 => ⟨S9x2816, .f32⟩
  | 36 => ⟨S128x64x2816, .f32⟩
  | 37 => ⟨S_, .f32⟩
  | 38 => ⟨S2816, .f32⟩
  | 39 => ⟨S1x1x2816, .f32⟩
  | 40 => ⟨S_, .f32⟩
  | 41 => ⟨S2816, .f32⟩
  | 42 => ⟨S1x2816, .f32⟩
  | 43 => ⟨S_, .f32⟩
  | 44 => ⟨S9x2816, .f32⟩
  | 45 => ⟨S9x2816, .f32⟩
  | 46 => ⟨S128x64x2816, .f32⟩
  | 47 => ⟨S_, .f32⟩
  | 48 => ⟨S2816, .f32⟩
  | 49 => ⟨S1x1x2816, .f32⟩
  | 50 => ⟨S_, .f32⟩
  | 51 => ⟨S2816, .f32⟩
  | 52 => ⟨S1x2816, .f32⟩
  | 53 => ⟨S_, .f32⟩
  | 54 => ⟨S9x2816, .f32⟩
  | 55 => ⟨S9x2816, .f32⟩
  | 56 => ⟨S128x64x2816, .f32⟩
  | 57 => ⟨S_, .f32⟩
  | 58 => ⟨S2816, .f32⟩
  | 59 => ⟨S1x1x2816, .f32⟩
  | 60 => ⟨S_, .f32⟩
  | 61 => ⟨S2816, .f32⟩
  | 62 => ⟨S1x2816, .f32⟩
  | 63 => ⟨S_, .f32⟩
  | 64 => ⟨S9x2816, .f32⟩
  | 65 => ⟨S9x2816, .f32⟩
  | 66 => ⟨S128x64x2816, .f32⟩
  | 67 => ⟨S_, .f32⟩
  | 68 => ⟨S2816, .f32⟩
  | 69 => ⟨S1x1x2816, .f32⟩
  | 70 => ⟨S_, .f32⟩
  | 71 => ⟨S2816, .f32⟩
  | 72 => ⟨S1x2816, .f32⟩
  | 73 => ⟨S_, .f32⟩
  | 74 => ⟨S9x2816, .f32⟩
  | 75 => ⟨S9x2816, .f32⟩
  | 76 => ⟨S128x64x2816, .f32⟩
  | 77 => ⟨S_, .f32⟩
  | 78 => ⟨S2816, .f32⟩
  | 79 => ⟨S1x1x2816, .f32⟩
  | 80 => ⟨S_, .f32⟩
  | 81 => ⟨S2816, .f32⟩
  | 82 => ⟨S1x2816, .f32⟩
  | 83 => ⟨S_, .f32⟩
  | 84 => ⟨S9x2816, .f32⟩
  | 85 => ⟨S9x2816, .f32⟩
  | 86 => ⟨S8192x2816, .bf16⟩
  | 87 => ⟨S8192x2816, .bf16⟩
  | _ => ⟨S8192x2816, .bf16⟩

abbrev hbmTy (i : Nat) : BufTy := match i / 128 with
  | 0 => hbmTy0_0 i
  | 1 => hbmTy0_1 i
  | 2 => hbmTy0_2 i
  | _ => ⟨S8192x2816, .bf16⟩

abbrev bufTy : (tb : Table) → Fin (tcTables nBuf tb) → BufTy
  | .hbm, ⟨i, _⟩ => hbmTy i
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_c_0 : Ref sig .tc := ⟨.hbm, 74, rfl⟩
abbrev main_call1_v0 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_cst_1 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_call2_v0 : Ref sig .tc := ⟨.hbm, 136, rfl⟩
abbrev main_call2_v1 : Ref sig .tc := ⟨.hbm, 137, rfl⟩
abbrev main_call2_cst : Ref sig .tc := ⟨.hbm, 138, rfl⟩
abbrev main_call2_v2 : Ref sig .tc := ⟨.hbm, 139, rfl⟩
abbrev main_call2_v3 : Ref sig .tc := ⟨.hbm, 140, rfl⟩
abbrev main_call2_cst_0 : Ref sig .tc := ⟨.hbm, 141, rfl⟩
abbrev main_call2_v4 : Ref sig .tc := ⟨.hbm, 142, rfl⟩
abbrev main_v123_2 : Ref sig .tc := ⟨.hbm, 143, rfl⟩
abbrev main_call2_cst_1 : Ref sig .tc := ⟨.hbm, 144, rfl⟩
abbrev main_call2_v6 : Ref sig .tc := ⟨.hbm, 145, rfl⟩
abbrev main_call2_v7 : Ref sig .tc := ⟨.hbm, 146, rfl⟩
abbrev main_v123_1 : Ref sig .tc := ⟨.hbm, 147, rfl⟩
abbrev main_v123_0 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_call3_v0 : Ref sig .tc := ⟨.hbm, 152, rfl⟩
abbrev main_call3_v1 : Ref sig .tc := ⟨.hbm, 153, rfl⟩
abbrev main_call3_v2 : Ref sig .tc := ⟨.hbm, 154, rfl⟩
abbrev main_v127 : Ref sig .tc := ⟨.hbm, 155, rfl⟩
abbrev main_cst_2 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_cst_3 : Ref sig .tc := ⟨.hbm, 161, rfl⟩
abbrev main_v132 : Ref sig .tc := ⟨.hbm, 162, rfl⟩
abbrev main_v133 : Ref sig .tc := ⟨.hbm, 163, rfl⟩
abbrev main_cst_4 : Ref sig .tc := ⟨.hbm, 164, rfl⟩
abbrev main_v134 : Ref sig .tc := ⟨.hbm, 165, rfl⟩
abbrev main_v135 : Ref sig .tc := ⟨.hbm, 166, rfl⟩
abbrev main_cst_5 : Ref sig .tc := ⟨.hbm, 167, rfl⟩
abbrev main_v136 : Ref sig .tc := ⟨.hbm, 168, rfl⟩
abbrev main_v137 : Ref sig .tc := ⟨.hbm, 169, rfl⟩
abbrev main_cst_6 : Ref sig .tc := ⟨.hbm, 170, rfl⟩
abbrev main_v138 : Ref sig .tc := ⟨.hbm, 171, rfl⟩
abbrev main_v139 : Ref sig .tc := ⟨.hbm, 172, rfl⟩
abbrev main_cst_7 : Ref sig .tc := ⟨.hbm, 173, rfl⟩
abbrev main_v140 : Ref sig .tc := ⟨.hbm, 174, rfl⟩
abbrev main_v141 : Ref sig .tc := ⟨.hbm, 175, rfl⟩
abbrev main_cst_8 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_cst_9 : Ref sig .tc := ⟨.hbm, 180, rfl⟩
abbrev main_v145 : Ref sig .tc := ⟨.hbm, 181, rfl⟩
abbrev main_v146 : Ref sig .tc := ⟨.hbm, 182, rfl⟩
abbrev main_cst_10 : Ref sig .tc := ⟨.hbm, 183, rfl⟩
abbrev main_v147 : Ref sig .tc := ⟨.hbm, 184, rfl⟩
abbrev main_v148 : Ref sig .tc := ⟨.hbm, 185, rfl⟩
abbrev main_cst_11 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_cst_12 : Ref sig .tc := ⟨.hbm, 190, rfl⟩
abbrev main_v152 : Ref sig .tc := ⟨.hbm, 191, rfl⟩
abbrev main_v153 : Ref sig .tc := ⟨.hbm, 192, rfl⟩
abbrev main_cst_13 : Ref sig .tc := ⟨.hbm, 193, rfl⟩
abbrev main_v154 : Ref sig .tc := ⟨.hbm, 194, rfl⟩
abbrev main_v155 : Ref sig .tc := ⟨.hbm, 195, rfl⟩
abbrev main_cst_14 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_cst_15 : Ref sig .tc := ⟨.hbm, 200, rfl⟩
abbrev main_v159 : Ref sig .tc := ⟨.hbm, 201, rfl⟩
abbrev main_v160 : Ref sig .tc := ⟨.hbm, 202, rfl⟩
abbrev main_cst_16 : Ref sig .tc := ⟨.hbm, 203, rfl⟩
abbrev main_v161 : Ref sig .tc := ⟨.hbm, 204, rfl⟩
abbrev main_v162 : Ref sig .tc := ⟨.hbm, 205, rfl⟩
abbrev main_cst_17 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_cst_18 : Ref sig .tc := ⟨.hbm, 210, rfl⟩
abbrev main_v166 : Ref sig .tc := ⟨.hbm, 211, rfl⟩
abbrev main_v167 : Ref sig .tc := ⟨.hbm, 212, rfl⟩
abbrev main_cst_19 : Ref sig .tc := ⟨.hbm, 213, rfl⟩
abbrev main_v168 : Ref sig .tc := ⟨.hbm, 214, rfl⟩
abbrev main_v169 : Ref sig .tc := ⟨.hbm, 215, rfl⟩
abbrev main_cst_20 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_cst_21 : Ref sig .tc := ⟨.hbm, 220, rfl⟩
abbrev main_v173 : Ref sig .tc := ⟨.hbm, 221, rfl⟩
abbrev main_v174 : Ref sig .tc := ⟨.hbm, 222, rfl⟩
abbrev main_cst_22 : Ref sig .tc := ⟨.hbm, 223, rfl⟩
abbrev main_v175 : Ref sig .tc := ⟨.hbm, 224, rfl⟩
abbrev main_v176 : Ref sig .tc := ⟨.hbm, 225, rfl⟩
abbrev main_cst_23 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_cst_24 : Ref sig .tc := ⟨.hbm, 230, rfl⟩
abbrev main_v180 : Ref sig .tc := ⟨.hbm, 231, rfl⟩
abbrev main_v181 : Ref sig .tc := ⟨.hbm, 232, rfl⟩
abbrev main_cst_25 : Ref sig .tc := ⟨.hbm, 233, rfl⟩
abbrev main_v182 : Ref sig .tc := ⟨.hbm, 234, rfl⟩
abbrev main_v183 : Ref sig .tc := ⟨.hbm, 235, rfl⟩
abbrev main_cst_26 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_cst_27 : Ref sig .tc := ⟨.hbm, 240, rfl⟩
abbrev main_v187 : Ref sig .tc := ⟨.hbm, 241, rfl⟩
abbrev main_v188 : Ref sig .tc := ⟨.hbm, 242, rfl⟩
abbrev main_cst_28 : Ref sig .tc := ⟨.hbm, 243, rfl⟩
abbrev main_v189 : Ref sig .tc := ⟨.hbm, 244, rfl⟩
abbrev main_v190 : Ref sig .tc := ⟨.hbm, 245, rfl⟩
abbrev main_cst_29 : Ref sig .tc := ⟨.hbm, 246, rfl⟩
abbrev main_v191 : Ref sig .tc := ⟨.hbm, 247, rfl⟩
abbrev main_v192 : Ref sig .tc := ⟨.hbm, 248, rfl⟩
abbrev main_cst_30 : Ref sig .tc := ⟨.hbm, 249, rfl⟩
abbrev main_v193 : Ref sig .tc := ⟨.hbm, 250, rfl⟩
abbrev main_v194 : Ref sig .tc := ⟨.hbm, 251, rfl⟩
abbrev main_v195 : Ref sig .tc := ⟨.hbm, 252, rfl⟩
abbrev main_v196 : Ref sig .tc := ⟨.hbm, 253, rfl⟩
abbrev main_cst_31 : Ref sig .tc := ⟨.hbm, 254, rfl⟩
abbrev main_v197 : Ref sig .tc := ⟨.hbm, 255, rfl⟩
abbrev main_v198 : Ref sig .tc := ⟨.hbm, 256, rfl⟩
abbrev main_cst_32 : Ref sig .tc := ⟨.hbm, 257, rfl⟩
abbrev main_v199 : Ref sig .tc := ⟨.hbm, 258, rfl⟩
abbrev main_v200 : Ref sig .tc := ⟨.hbm, 259, rfl⟩
abbrev main_cst_33 : Ref sig .tc := ⟨.hbm, 260, rfl⟩
abbrev main_v201 : Ref sig .tc := ⟨.hbm, 261, rfl⟩
abbrev main_v202 : Ref sig .tc := ⟨.hbm, 262, rfl⟩
abbrev main_cst_34 : Ref sig .tc := ⟨.hbm, 263, rfl⟩
abbrev main_v203 : Ref sig .tc := ⟨.hbm, 264, rfl⟩
abbrev main_v204 : Ref sig .tc := ⟨.hbm, 265, rfl⟩
abbrev main_cst_35 : Ref sig .tc := ⟨.hbm, 266, rfl⟩
abbrev main_v205 : Ref sig .tc := ⟨.hbm, 267, rfl⟩
abbrev main_v206 : Ref sig .tc := ⟨.hbm, 268, rfl⟩
abbrev main_cst_36 : Ref sig .tc := ⟨.hbm, 269, rfl⟩
abbrev main_v207 : Ref sig .tc := ⟨.hbm, 270, rfl⟩
abbrev main_v208 : Ref sig .tc := ⟨.hbm, 271, rfl⟩
abbrev main_v209 : Ref sig .tc := ⟨.hbm, 272, rfl⟩
abbrev main_cst_37 : Ref sig .tc := ⟨.hbm, 273, rfl⟩
abbrev main_v210 : Ref sig .tc := ⟨.hbm, 274, rfl⟩
abbrev main_v211 : Ref sig .tc := ⟨.hbm, 275, rfl⟩
abbrev main_cst_38 : Ref sig .tc := ⟨.hbm, 276, rfl⟩
abbrev main_v212 : Ref sig .tc := ⟨.hbm, 277, rfl⟩
abbrev main_v213 : Ref sig .tc := ⟨.hbm, 278, rfl⟩
abbrev main_cst_39 : Ref sig .tc := ⟨.hbm, 279, rfl⟩
abbrev main_v214 : Ref sig .tc := ⟨.hbm, 280, rfl⟩
abbrev main_v215 : Ref sig .tc := ⟨.hbm, 281, rfl⟩
abbrev main_v216 : Ref sig .tc := ⟨.hbm, 282, rfl⟩
abbrev main_cst_40 : Ref sig .tc := ⟨.hbm, 283, rfl⟩
abbrev main_v217 : Ref sig .tc := ⟨.hbm, 284, rfl⟩
abbrev main_v218 : Ref sig .tc := ⟨.hbm, 285, rfl⟩
abbrev main_cst_41 : Ref sig .tc := ⟨.hbm, 286, rfl⟩
abbrev main_v219 : Ref sig .tc := ⟨.hbm, 287, rfl⟩
abbrev main_v220 : Ref sig .tc := ⟨.hbm, 288, rfl⟩
abbrev main_cst_42 : Ref sig .tc := ⟨.hbm, 289, rfl⟩
abbrev main_v221 : Ref sig .tc := ⟨.hbm, 290, rfl⟩
abbrev main_v222 : Ref sig .tc := ⟨.hbm, 291, rfl⟩
abbrev main_v223 : Ref sig .tc := ⟨.hbm, 292, rfl⟩
abbrev main_cst_43 : Ref sig .tc := ⟨.hbm, 293, rfl⟩
abbrev main_v224 : Ref sig .tc := ⟨.hbm, 294, rfl⟩
abbrev main_v225 : Ref sig .tc := ⟨.hbm, 295, rfl⟩
abbrev main_cst_44 : Ref sig .tc := ⟨.hbm, 296, rfl⟩
abbrev main_v226 : Ref sig .tc := ⟨.hbm, 297, rfl⟩
abbrev main_v227 : Ref sig .tc := ⟨.hbm, 298, rfl⟩
abbrev main_cst_45 : Ref sig .tc := ⟨.hbm, 299, rfl⟩
abbrev main_v228 : Ref sig .tc := ⟨.hbm, 300, rfl⟩
abbrev main_v229 : Ref sig .tc := ⟨.hbm, 301, rfl⟩
abbrev main_v230 : Ref sig .tc := ⟨.hbm, 302, rfl⟩
abbrev main_cst_46 : Ref sig .tc := ⟨.hbm, 303, rfl⟩
abbrev main_v231 : Ref sig .tc := ⟨.hbm, 304, rfl⟩
abbrev main_v232 : Ref sig .tc := ⟨.hbm, 305, rfl⟩
abbrev main_cst_47 : Ref sig .tc := ⟨.hbm, 306, rfl⟩
abbrev main_v233 : Ref sig .tc := ⟨.hbm, 307, rfl⟩
abbrev main_v234 : Ref sig .tc := ⟨.hbm, 308, rfl⟩
abbrev main_cst_48 : Ref sig .tc := ⟨.hbm, 309, rfl⟩
abbrev main_v235 : Ref sig .tc := ⟨.hbm, 310, rfl⟩
abbrev main_v236 : Ref sig .tc := ⟨.hbm, 311, rfl⟩
abbrev main_v237 : Ref sig .tc := ⟨.hbm, 312, rfl⟩
abbrev main_cst_49 : Ref sig .tc := ⟨.hbm, 313, rfl⟩
abbrev main_v238 : Ref sig .tc := ⟨.hbm, 314, rfl⟩
abbrev main_v239 : Ref sig .tc := ⟨.hbm, 315, rfl⟩
abbrev main_cst_50 : Ref sig .tc := ⟨.hbm, 316, rfl⟩
abbrev main_v240 : Ref sig .tc := ⟨.hbm, 317, rfl⟩
abbrev main_v241 : Ref sig .tc := ⟨.hbm, 318, rfl⟩
abbrev main_cst_51 : Ref sig .tc := ⟨.hbm, 319, rfl⟩
abbrev main_v242 : Ref sig .tc := ⟨.hbm, 320, rfl⟩
abbrev main_v243 : Ref sig .tc := ⟨.hbm, 321, rfl⟩
abbrev main_v244 : Ref sig .tc := ⟨.hbm, 322, rfl⟩
abbrev main_cst_52 : Ref sig .tc := ⟨.hbm, 323, rfl⟩
abbrev main_v245 : Ref sig .tc := ⟨.hbm, 324, rfl⟩
abbrev main_v246 : Ref sig .tc := ⟨.hbm, 325, rfl⟩
abbrev main_cst_53 : Ref sig .tc := ⟨.hbm, 326, rfl⟩
abbrev main_v247 : Ref sig .tc := ⟨.hbm, 327, rfl⟩
abbrev main_v248 : Ref sig .tc := ⟨.hbm, 328, rfl⟩
abbrev main_cst_54 : Ref sig .tc := ⟨.hbm, 329, rfl⟩
abbrev main_v249 : Ref sig .tc := ⟨.hbm, 330, rfl⟩
abbrev main_v250 : Ref sig .tc := ⟨.hbm, 331, rfl⟩
abbrev main_v251 : Ref sig .tc := ⟨.hbm, 332, rfl⟩
abbrev main_cst_55 : Ref sig .tc := ⟨.hbm, 333, rfl⟩
abbrev main_v252 : Ref sig .tc := ⟨.hbm, 334, rfl⟩
abbrev main_v253 : Ref sig .tc := ⟨.hbm, 335, rfl⟩
abbrev main_cst_56 : Ref sig .tc := ⟨.hbm, 336, rfl⟩
abbrev main_v254 : Ref sig .tc := ⟨.hbm, 337, rfl⟩
abbrev main_v255 : Ref sig .tc := ⟨.hbm, 338, rfl⟩
abbrev main_cst_57 : Ref sig .tc := ⟨.hbm, 339, rfl⟩
abbrev main_v256 : Ref sig .tc := ⟨.hbm, 340, rfl⟩
abbrev main_v257 : Ref sig .tc := ⟨.hbm, 341, rfl⟩
abbrev main_v258 : Ref sig .tc := ⟨.hbm, 342, rfl⟩
abbrev main_v259 : Ref sig .tc := ⟨.hbm, 343, rfl⟩

abbrev nD : Nat := 1
abbrev τ : Topo := Topo.v7x

variable {F : FTy → Type} [FloatOps F]
-- ==== Kernel2.lean ====
abbrev S8192x2816 : Shape := ⟨2, ![8192, 2816]⟩
abbrev S2816x1024 : Shape := ⟨2, ![2816, 1024]⟩
abbrev S8192x1024 : Shape := ⟨2, ![8192, 1024]⟩
abbrev S2048x1024 : Shape := ⟨2, ![2048, 1024]⟩
abbrev S1408x1024 : Shape := ⟨2, ![1408, 1024]⟩
abbrev S2048x1408 : Shape := ⟨2, ![2048, 1408]⟩

abbrev nBuf : Space → Nat
  | .hbm => 4
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .bf16⟩
  | .hbm, ⟨3, _⟩ => ⟨S8192x2816, .bf16⟩
  | .local _ .vmem, ⟨0, _⟩ => ⟨S2048x1024, .bf16⟩
  | .local _ .vmem, ⟨1, _⟩ => ⟨S2048x1024, .bf16⟩
  | .local _ .vmem, ⟨2, _⟩ => ⟨S1408x1024, .bf16⟩
  | .local _ .vmem, ⟨3, _⟩ => ⟨S1408x1024, .bf16⟩
  | .local _ .vmem, ⟨4, _⟩ => ⟨S2048x1408, .bf16⟩
  | .local _ .vmem, ⟨5, _⟩ => ⟨S2048x1408, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩

abbrev nBuf : Space → Nat
  | .hbm => 11
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .bf16⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S8192x2816, .f32⟩
  | .hbm, ⟨10, _⟩ => ⟨S8192x2816, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel3.lean ====
abbrev S8192x2816 : Shape := ⟨2, ![8192, 2816]⟩
abbrev S2816x1024 : Shape := ⟨2, ![2816, 1024]⟩
abbrev S8192x1024 : Shape := ⟨2, ![8192, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .bf16⟩
  | .hbm, ⟨3, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩

abbrev nBuf : Space → Nat
  | .hbm => 11
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .bf16⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S8192x2816, .f32⟩
  | .hbm, ⟨10, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S8192x1024 : Shape := ⟨2, ![8192, 1024]⟩
abbrev S1024x2816 : Shape := ⟨2, ![1024, 2816]⟩
abbrev S8192x2816 : Shape := ⟨2, ![8192, 2816]⟩
abbrev S2048x1408 : Shape := ⟨2, ![2048, 1408]⟩
abbrev S1024x1408 : Shape := ⟨2, ![1024, 1408]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S8192x2816, .bf16⟩
  | .hbm, ⟨3, _⟩ => ⟨S8192x1024, .f32⟩
  | .local _ .vmem, ⟨0, _⟩ => ⟨S2048x1408, .bf16⟩
  | .local _ .vmem, ⟨1, _⟩ => ⟨S2048x1408, .bf16⟩
  | .local _ .vmem, ⟨2, _⟩ => ⟨S1024x1408, .bf16⟩
  | .local _ .vmem, ⟨3, _⟩ => ⟨S1024x1408, .bf16⟩
  | .local _ .vmem, ⟨4, _⟩ => ⟨S2048x1024, .f32⟩
  | .local _ .vmem, ⟨5, _⟩ => ⟨S2048x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S1024x2816 : Shape := ⟨2, ![1024, 2816]⟩
abbrev S8192x2816 : Shape := ⟨2, ![8192, 2816]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S8192x2816, .bf16⟩
  | .hbm, ⟨3, _⟩ => ⟨S8192x1024, .f32⟩
  | .hbm, ⟨4, _⟩ => ⟨S1024x2816, .f32⟩
  | .hbm, ⟨5, _⟩ => ⟨S8192x2816, .f32⟩
  | .hbm, ⟨6, _⟩ => ⟨S8192x2816, .f32⟩
  | .hbm, ⟨7, _⟩ => ⟨S2816x1024, .f32⟩
  | .hbm, ⟨8, _⟩ => ⟨S1024x2816, .f32⟩
  | .hbm, ⟨9, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S8192x1024 : Shape := ⟨2, ![8192, 1024]⟩
abbrev S1024x2816 : Shape := ⟨2, ![1024, 2816]⟩
abbrev S8192x2816 : Shape := ⟨2, ![8192, 2816]⟩
abbrev S1024x1408 : Shape := ⟨2, ![1024, 1408]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S8192x2816, .bf16⟩
  | .hbm, ⟨3, _⟩ => ⟨S8192x1024, .f32⟩
  | .hbm, ⟨4, _⟩ => ⟨S8192x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S8192x1024 : Shape := ⟨2, ![8192, 1024]⟩
abbrev S1024x2816 : Shape := ⟨2, ![1024, 2816]⟩
abbrev S8192x2816 : Shape := ⟨2, ![8192, 2816]⟩
abbrev S2816x1024 : Shape := ⟨2, ![2816, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S8192x2816, .bf16⟩
  | .hbm, ⟨3, _⟩ => ⟨S8192x1024, .f32⟩
  | .hbm, ⟨4, _⟩ => ⟨S8192x1024, .f32⟩
  | .hbm, ⟨5, _⟩ => ⟨S1024x2816, .f32⟩
  | .hbm, ⟨6, _⟩ => ⟨S8192x2816, .f32⟩
  | .hbm, ⟨7, _⟩ => ⟨S8192x2816, .f32⟩
  | .hbm, ⟨8, _⟩ => ⟨S2816x1024, .f32⟩
  | .hbm, ⟨9, _⟩ => ⟨S1024x2816, .f32⟩
  | .hbm, ⟨10, _⟩ => ⟨S8192x1024, .f32⟩
  | .hbm, ⟨11, _⟩ => ⟨S8192x1024, .f32⟩
  | .hbm, ⟨12, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel6.lean ====
abbrev S8192x1024 : Shape := ⟨2, ![8192, 1024]⟩
abbrev S1024x2816 : Shape := ⟨2, ![1024, 2816]⟩
abbrev S8192x2816 : Shape := ⟨2, ![8192, 2816]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S8192x2816, .bf16⟩
  | .hbm, ⟨3, _⟩ => ⟨S1024x2816, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S1024x2816 : Shape := ⟨2, ![1024, 2816]⟩
abbrev S8192x2816 : Shape := ⟨2, ![8192, 2816]⟩
abbrev S2816x1024 : Shape := ⟨2, ![2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S8192x2816, .bf16⟩
  | .hbm, ⟨3, _⟩ => ⟨S8192x1024, .f32⟩
  | .hbm, ⟨4, _⟩ => ⟨S1024x2816, .f32⟩
  | .hbm, ⟨5, _⟩ => ⟨S8192x2816, .f32⟩
  | .hbm, ⟨6, _⟩ => ⟨S8192x2816, .f32⟩
  | .hbm, ⟨7, _⟩ => ⟨S2816x1024, .f32⟩
  | .hbm, ⟨8, _⟩ => ⟨S1024x2816, .f32⟩
  | .hbm, ⟨9, _⟩ => ⟨S8192x1024, .f32⟩
  | .hbm, ⟨10, _⟩ => ⟨S1024x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel7.lean ====
abbrev S8192x1024 : Shape := ⟨2, ![8192, 1024]⟩
abbrev S1024x2816 : Shape := ⟨2, ![1024, 2816]⟩
abbrev S8192x2816 : Shape := ⟨2, ![8192, 2816]⟩
abbrev S2048x1024 : Shape := ⟨2, ![2048, 1024]⟩
abbrev S1024x1408 : Shape := ⟨2, ![1024, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S8192x2816, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1408, .bf16⟩
  | .local _ .vmem, ⟨3, _⟩ => ⟨S1024x1408, .bf16⟩
  | .local _ .vmem, ⟨4, _⟩ => ⟨S2048x1408, .bf16⟩
  | .local _ .vmem, ⟨5, _⟩ => ⟨S2048x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S1024x2816 : Shape := ⟨2, ![1024, 2816]⟩
abbrev S8192x2816 : Shape := ⟨2, ![8192, 2816]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S8192x1024, .f32⟩
  | .hbm, ⟨3, _⟩ => ⟨S1024x2816, .f32⟩
  | .hbm, ⟨4, _⟩ => ⟨S8192x2816, .f32⟩
  | .hbm, ⟨5, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel8.lean ====
abbrev S8192x2816 : Shape := ⟨2, ![8192, 2816]⟩
abbrev S2816x1024 : Shape := ⟨2, ![2816, 1024]⟩
abbrev S8192x1024 : Shape := ⟨2, ![8192, 1024]⟩
abbrev S2048x1408 : Shape := ⟨2, ![2048, 1408]⟩
abbrev S1408x1024 : Shape := ⟨2, ![1408, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .local _ .vmem, ⟨0, _⟩ => ⟨S2048x1408, .bf16⟩
  | .local _ .vmem, ⟨1, _⟩ => ⟨S2048x1408, .bf16⟩
  | .local _ .vmem, ⟨2, _⟩ => ⟨S1408x1024, .bf16⟩
  | .local _ .vmem, ⟨3, _⟩ => ⟨S1408x1024, .bf16⟩
  | .local _ .vmem, ⟨4, _⟩ => ⟨S2048x1024, .f32⟩
  | .local _ .vmem, ⟨5, _⟩ => ⟨S2048x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x2816, .f32⟩
  | .hbm, ⟨3, _⟩ => ⟨S2816x1024, .f32⟩
  | .hbm, ⟨4, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S8192x1024 : Shape := ⟨2, ![8192, 1024]⟩
abbrev S1024x3072 : Shape := ⟨2, ![1024, 3072]⟩
abbrev S8192x3072 : Shape := ⟨2, ![8192, 3072]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x3072, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x1024, .f32⟩
  | .hbm, ⟨3, _⟩ => ⟨S1024x3072, .f32⟩
  | .hbm, ⟨4, _⟩ => ⟨S8192x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel10.lean ====
abbrev S8192x1024 : Shape := ⟨2, ![8192, 1024]⟩
abbrev S1024x3072 : Shape := ⟨2, ![1024, 3072]⟩
abbrev S8192x3072 : Shape := ⟨2, ![8192, 3072]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x3072, .bf16⟩
  | .hbm, ⟨3, _⟩ => ⟨S1024x3072, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S1024x3072 : Shape := ⟨2, ![1024, 3072]⟩
abbrev S8192x3072 : Shape := ⟨2, ![8192, 3072]⟩
abbrev S3072x1024 : Shape := ⟨2, ![3072, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x3072, .bf16⟩
  | .hbm, ⟨3, _⟩ => ⟨S8192x1024, .f32⟩
  | .hbm, ⟨4, _⟩ => ⟨S1024x3072, .f32⟩
  | .hbm, ⟨5, _⟩ => ⟨S8192x3072, .f32⟩
  | .hbm, ⟨6, _⟩ => ⟨S8192x3072, .f32⟩
  | .hbm, ⟨7, _⟩ => ⟨S3072x1024, .f32⟩
  | .hbm, ⟨8, _⟩ => ⟨S1024x3072, .f32⟩
  | .hbm, ⟨9, _⟩ => ⟨S8192x1024, .f32⟩
  | .hbm, ⟨10, _⟩ => ⟨S1024x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel11.lean ====
abbrev S8192x1024 : Shape := ⟨2, ![8192, 1024]⟩
abbrev S1024x3072 : Shape := ⟨2, ![1024, 3072]⟩
abbrev S8192x3072 : Shape := ⟨2, ![8192, 3072]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x3072, .bf16⟩
  | .hbm, ⟨3, _⟩ => ⟨S8192x1024, .f32⟩
  | .hbm, ⟨4, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S8192x1024 : Shape := ⟨2, ![8192, 1024]⟩
abbrev S1024x3072 : Shape := ⟨2, ![1024, 3072]⟩
abbrev S8192x3072 : Shape := ⟨2, ![8192, 3072]⟩
abbrev S3072x1024 : Shape := ⟨2, ![3072, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x3072, .bf16⟩
  | .hbm, ⟨3, _⟩ => ⟨S8192x1024, .f32⟩
  | .hbm, ⟨4, _⟩ => ⟨S8192x1024, .f32⟩
  | .hbm, ⟨5, _⟩ => ⟨S1024x3072, .f32⟩
  | .hbm, ⟨6, _⟩ => ⟨S8192x3072, .f32⟩
  | .hbm, ⟨7, _⟩ => ⟨S8192x3072, .f32⟩
  | .hbm, ⟨8, _⟩ => ⟨S3072x1024, .f32⟩
  | .hbm, ⟨9, _⟩ => ⟨S1024x3072, .f32⟩
  | .hbm, ⟨10, _⟩ => ⟨S8192x1024, .f32⟩
  | .hbm, ⟨11, _⟩ => ⟨S8192x1024, .f32⟩
  | .hbm, ⟨12, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel12.lean ====
abbrev S352x1024 : Shape := ⟨2, ![352, 1024]⟩
abbrev S8x352x1024 : Shape := ⟨3, ![8, 352, 1024]⟩
abbrev S1x1 : Shape := ⟨2, ![1, 1]⟩
abbrev S176x1024 : Shape := ⟨2, ![176, 1024]⟩
abbrev S8x176x1024 : Shape := ⟨3, ![8, 176, 1024]⟩
abbrev S1x176x1024 : Shape := ⟨3, ![1, 176, 1024]⟩

abbrev nBuf : Space → Nat
  | .hbm => 10
  | .vmem => 19
  | .smem => 0
  | _ => 0

abbrev bufTy : (tb : Table) → Fin (tcTables nBuf tb) → BufTy
  | .hbm, ⟨0, _⟩ => ⟨S352x1024, .f32⟩
  | .hbm, ⟨1, _⟩ => ⟨S8x352x1024, .bf16⟩
  | .hbm, ⟨2, _⟩ => ⟨S352x1024, .f32⟩
  | .hbm, ⟨3, _⟩ => ⟨S352x1024, .f32⟩
  | .hbm, ⟨4, _⟩ => ⟨S352x1024, .bf16⟩
  | .hbm, ⟨5, _⟩ => ⟨S1x1, .i32⟩
  | .hbm, ⟨6, _⟩ => ⟨S352x1024, .f32⟩
  | .hbm, ⟨7, _⟩ => ⟨S352x1024, .f32⟩
  | .hbm, ⟨8, _⟩ => ⟨S352x1024, .f32⟩
  | .hbm, ⟨9, _⟩ => ⟨S352x1024, .f32⟩
  | .local _ .vmem, ⟨0, _⟩ => ⟨S176x1024, .f32⟩
  | .local _ .vmem, ⟨1, _⟩ => ⟨S176x1024, .f32⟩
  | .local _ .vmem, ⟨2, _⟩ => ⟨S8x176x1024, .bf16⟩
  | .local _ .vmem, ⟨3, _⟩ => ⟨S8x176x1024, .bf16⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .bf16⟩
  | .local _ .vmem, ⟨9, _⟩ => ⟨S176x1024, .bf16⟩
  | .local _ .vmem, ⟨10, _⟩ => ⟨S1x1, .i32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | .local _ .vmem, ⟨18, _⟩ => ⟨S176x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference12Ideal.lean ====
abbrev S352x1024 : Shape := ⟨2, ![352, 1024]⟩
abbrev S8x352x1024 : Shape := ⟨3, ![8, 352, 1024]⟩
abbrev S1x1 : Shape := ⟨2, ![1, 1]⟩
abbrev S_ : Shape := ⟨0, ![]⟩
abbrev S1x352x1024 : Shape := ⟨3, ![1, 352, 1024]⟩

abbrev nBuf : Space → Nat
  | .hbm => 49
  | .vmem => 0
  | .smem => 0
  | _ => 0

abbrev bufTy : (tb : Table) → Fin (tcTables nBuf tb) → BufTy
  | .hbm, ⟨0, _⟩ => ⟨S352x1024, .f32⟩
  | .hbm, ⟨1, _⟩ => ⟨S8x352x1024, .bf16⟩
  | .hbm, ⟨2, _⟩ => ⟨S352x1024, .f32⟩
  | .hbm, ⟨3, _⟩ => ⟨S352x1024, .f32⟩
  | .hbm, ⟨4, _⟩ => ⟨S352x1024, .bf16⟩
  | .hbm, ⟨5, _⟩ => ⟨S1x1, .i32⟩
  | .hbm, ⟨6, _⟩ => ⟨S8x352x1024, .i32⟩
  | .hbm, ⟨7, _⟩ => ⟨S_, .i32⟩
  | .hbm, ⟨8, _⟩ => ⟨S8x352x1024, .i32⟩
  | .hbm, ⟨9, _⟩ => ⟨S8x352x1024, .i1⟩
  | .hbm, ⟨10, _⟩ => ⟨S1x352x1024, .bf16⟩
  | .hbm, ⟨11, _⟩ => ⟨S8x352x1024, .bf16⟩
  | .hbm, ⟨12, _⟩ => ⟨S8x352x1024, .bf16⟩
  | .hbm, ⟨13, _⟩ => ⟨S8x352x1024, .f32⟩
  | .hbm, ⟨14, _⟩ => ⟨S_, .f32⟩
  | .hbm, ⟨15, _⟩ => ⟨S352x1024, .f32⟩
  | .hbm, ⟨16, _⟩ => ⟨S_, .f32⟩
  | .hbm, ⟨17, _⟩ => ⟨S352x1024, .f32⟩
  | .hbm, ⟨18, _⟩ => ⟨S352x1024, .f32⟩
  | .hbm, ⟨19, _⟩ => ⟨S_, .f32⟩
  | .hbm, ⟨20, _⟩ => ⟨S352x1024, .f32⟩
  | .hbm, ⟨21, _⟩ => ⟨S352x1024, .f32⟩
  | .hbm, ⟨22, _⟩ => ⟨S352x1024, .f32⟩
  | .hbm, ⟨23, _⟩ => ⟨S_, .f32⟩
  | .hbm, ⟨24, _⟩ => ⟨S352x1024, .f32⟩
  | .hbm, ⟨25, _⟩ => ⟨S352x1024, .f32⟩
  | .hbm, ⟨26, _⟩ => ⟨S352x1024, .f32⟩
  | .hbm, ⟨27, _⟩ => ⟨S_, .f32⟩
  | .hbm, ⟨28, _⟩ => ⟨S352x1024, .f32⟩
  | .hbm, ⟨29, _⟩ => ⟨S352x1024, .f32⟩
  | .hbm, ⟨30, _⟩ => ⟨S352x1024, .f32⟩
  | .hbm, ⟨31, _⟩ => ⟨S_, .f32⟩
  | .hbm, ⟨32, _⟩ => ⟨S352x1024, .f32⟩
  | .hbm, ⟨33, _⟩ => ⟨S352x1024, .f32⟩
  | .hbm, ⟨34, _⟩ => ⟨S_, .f32⟩
  | .hbm, ⟨35, _⟩ => ⟨S352x1024, .f32⟩
  | .hbm, ⟨36, _⟩ => ⟨S352x1024, .f32⟩
  | .hbm, ⟨37, _⟩ => ⟨S352x1024, .f32⟩
  | .hbm, ⟨38, _⟩ => ⟨S_, .f32⟩
  | .hbm, ⟨39, _⟩ => ⟨S352x1024, .f32⟩
  | .hbm, ⟨40, _⟩ => ⟨S352x1024, .f32⟩
  | .hbm, ⟨41, _⟩ => ⟨S352x1024, .f32⟩
  | .hbm, ⟨42, _⟩ => ⟨S_, .f32⟩
  | .hbm, ⟨43, _⟩ => ⟨S352x1024, .f32⟩
  | .hbm, ⟨44, _⟩ => ⟨S352x1024, .f32⟩
  | .hbm, ⟨45, _⟩ => ⟨S352x1024, .f32⟩
  | .hbm, ⟨46, _⟩ => ⟨S_, .f32⟩
  | .hbm, ⟨47, _⟩ => ⟨S352x1024, .f32⟩
  | .hbm, ⟨48, _⟩ => ⟨S352x1024, .f32⟩
  | _, _ => ⟨S352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Kernel13.lean ====
abbrev S1024x704 : Shape := ⟨2, ![1024, 704]⟩
abbrev S8x1024x704 : Shape := ⟨3, ![8, 1024, 704]⟩
abbrev S1x1 : Shape := ⟨2, ![1, 1]⟩
abbrev S256x704 : Shape := ⟨2, ![256, 704]⟩
abbrev S8x256x704 : Shape := ⟨3, ![8, 256, 704]⟩
abbrev S1x256x704 : Shape := ⟨3, ![1, 256, 704]⟩

abbrev nBuf : Space → Nat
  | .hbm => 10
  | .vmem => 19
  | .smem => 0
  | _ => 0

abbrev bufTy : (tb : Table) → Fin (tcTables nBuf tb) → BufTy
  | .hbm, ⟨0, _⟩ => ⟨S1024x704, .f32⟩
  | .hbm, ⟨1, _⟩ => ⟨S8x1024x704, .bf16⟩
  | .hbm, ⟨2, _⟩ => ⟨S1024x704, .f32⟩
  | .hbm, ⟨3, _⟩ => ⟨S1024x704, .f32⟩
  | .hbm, ⟨4, _⟩ => ⟨S1024x704, .bf16⟩
  | .hbm, ⟨5, _⟩ => ⟨S1x1, .i32⟩
  | .hbm, ⟨6, _⟩ => ⟨S1024x704, .f32⟩
  | .hbm, ⟨7, _⟩ => ⟨S1024x704, .f32⟩
  | .hbm, ⟨8, _⟩ => ⟨S1024x704, .f32⟩
  | .hbm, ⟨9, _⟩ => ⟨S1024x704, .f32⟩
  | .local _ .vmem, ⟨0, _⟩ => ⟨S256x704, .f32⟩
  | .local _ .vmem, ⟨1, _⟩ => ⟨S256x704, .f32⟩
  | .local _ .vmem, ⟨2, _⟩ => ⟨S8x256x704, .bf16⟩
  | .local _ .vmem, ⟨3, _⟩ => ⟨S8x256x704, .bf16⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .bf16⟩
  | .local _ .vmem, ⟨9, _⟩ => ⟨S256x704, .bf16⟩
  | .local _ .vmem, ⟨10, _⟩ => ⟨S1x1, .i32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | .local _ .vmem, ⟨16, _⟩ => ⟨S256x704, .f32⟩
  | .local _ .vmem, ⟨17, _⟩ => ⟨S256x704, .f32⟩
  | .local _ .vmem, ⟨18, _⟩ => ⟨S256x704, .f32⟩
  | _, _ => ⟨S1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x704 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference13Ideal.lean ====
abbrev S1024x704 : Shape := ⟨2, ![1024, 704]⟩
abbrev S8x1024x704 : Shape := ⟨3, ![8, 1024, 704]⟩
abbrev S1x1 : Shape := ⟨2, ![1, 1]⟩
abbrev S_ : Shape := ⟨0, ![]⟩
abbrev S1x1024x704 : Shape := ⟨3, ![1, 1024, 704]⟩

abbrev nBuf : Space → Nat
  | .hbm => 49
  | .vmem => 0
  | .smem => 0
  | _ => 0

abbrev bufTy : (tb : Table) → Fin (tcTables nBuf tb) → BufTy
  | .hbm, ⟨0, _⟩ => ⟨S1024x704, .f32⟩
  | .hbm, ⟨1, _⟩ => ⟨S8x1024x704, .bf16⟩
  | .hbm, ⟨2, _⟩ => ⟨S1024x704, .f32⟩
  | .hbm, ⟨3, _⟩ => ⟨S1024x704, .f32⟩
  | .hbm, ⟨4, _⟩ => ⟨S1024x704, .bf16⟩
  | .hbm, ⟨5, _⟩ => ⟨S1x1, .i32⟩
  | .hbm, ⟨6, _⟩ => ⟨S8x1024x704, .i32⟩
  | .hbm, ⟨7, _⟩ => ⟨S_, .i32⟩
  | .hbm, ⟨8, _⟩ => ⟨S8x1024x704, .i32⟩
  | .hbm, ⟨9, _⟩ => ⟨S8x1024x704, .i1⟩
  | .hbm, ⟨10, _⟩ => ⟨S1x1024x704, .bf16⟩
  | .hbm, ⟨11, _⟩ => ⟨S8x1024x704, .bf16⟩
  | .hbm, ⟨12, _⟩ => ⟨S8x1024x704, .bf16⟩
  | .hbm, ⟨13, _⟩ => ⟨S8x1024x704, .f32⟩
  | .hbm, ⟨14, _⟩ => ⟨S_, .f32⟩
  | .hbm, ⟨15, _⟩ => ⟨S1024x704, .f32⟩
  | .hbm, ⟨16, _⟩ => ⟨S_, .f32⟩
  | .hbm, ⟨17, _⟩ => ⟨S1024x704, .f32⟩
  | .hbm, ⟨18, _⟩ => ⟨S1024x704, .f32⟩
  | .hbm, ⟨19, _⟩ => ⟨S_, .f32⟩
  | .hbm, ⟨20, _⟩ => ⟨S1024x704, .f32⟩
  | .hbm, ⟨21, _⟩ => ⟨S1024x704, .f32⟩
  | .hbm, ⟨22, _⟩ => ⟨S1024x704, .f32⟩
  | .hbm, ⟨23, _⟩ => ⟨S_, .f32⟩
  | .hbm, ⟨24, _⟩ => ⟨S1024x704, .f32⟩
  | .hbm, ⟨25, _⟩ => ⟨S1024x704, .f32⟩
  | .hbm, ⟨26, _⟩ => ⟨S1024x704, .f32⟩
  | .hbm, ⟨27, _⟩ => ⟨S_, .f32⟩
  | .hbm, ⟨28, _⟩ => ⟨S1024x704, .f32⟩
  | .hbm, ⟨29, _⟩ => ⟨S1024x704, .f32⟩
  | .hbm, ⟨30, _⟩ => ⟨S1024x704, .f32⟩
  | .hbm, ⟨31, _⟩ => ⟨S_, .f32⟩
  | .hbm, ⟨32, _⟩ => ⟨S1024x704, .f32⟩
  | .hbm, ⟨33, _⟩ => ⟨S1024x704, .f32⟩
  | .hbm, ⟨34, _⟩ => ⟨S_, .f32⟩
  | .hbm, ⟨35, _⟩ => ⟨S1024x704, .f32⟩
  | .hbm, ⟨36, _⟩ => ⟨S1024x704, .f32⟩
  | .hbm, ⟨37, _⟩ => ⟨S1024x704, .f32⟩
  | .hbm, ⟨38, _⟩ => ⟨S_, .f32⟩
  | .hbm, ⟨39, _⟩ => ⟨S1024x704, .f32⟩
  | .hbm, ⟨40, _⟩ => ⟨S1024x704, .f32⟩
  | .hbm, ⟨41, _⟩ => ⟨S1024x704, .f32⟩
  | .hbm, ⟨42, _⟩ => ⟨S_, .f32⟩
  | .hbm, ⟨43, _⟩ => ⟨S1024x704, .f32⟩
  | .hbm, ⟨44, _⟩ => ⟨S1024x704, .f32⟩
  | .hbm, ⟨45, _⟩ => ⟨S1024x704, .f32⟩
  | .hbm, ⟨46, _⟩ => ⟨S_, .f32⟩
  | .hbm, ⟨47, _⟩ => ⟨S1024x704, .f32⟩
  | .hbm, ⟨48, _⟩ => ⟨S1024x704, .f32⟩
  | _, _ => ⟨S1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Kernel14.lean ====
abbrev S9x704 : Shape := ⟨2, ![9, 704]⟩
abbrev S8x9x704 : Shape := ⟨3, ![8, 9, 704]⟩
abbrev S1x1 : Shape := ⟨2, ![1, 1]⟩
abbrev S1x9x704 : Shape := ⟨3, ![1, 9, 704]⟩

abbrev nBuf : Space → Nat
  | .hbm => 10
  | .vmem => 10
  | .smem => 0
  | _ => 0

abbrev bufTy : (tb : Table) → Fin (tcTables nBuf tb) → BufTy
  | .hbm, ⟨0, _⟩ => ⟨S9x704, .f32⟩
  | .hbm, ⟨1, _⟩ => ⟨S8x9x704, .bf16⟩
  | .hbm, ⟨2, _⟩ => ⟨S9x704, .f32⟩
  | .hbm, ⟨3, _⟩ => ⟨S9x704, .f32⟩
  | .hbm, ⟨4, _⟩ => ⟨S9x704, .bf16⟩
  | .hbm, ⟨5, _⟩ => ⟨S1x1, .i32⟩
  | .hbm, ⟨6, _⟩ => ⟨S9x704, .f32⟩
  | .hbm, ⟨7, _⟩ => ⟨S9x704, .f32⟩
  | .hbm, ⟨8, _⟩ => ⟨S9x704, .f32⟩
  | .hbm, ⟨9, _⟩ => ⟨S9x704, .f32⟩
  | .local _ .vmem, ⟨0, _⟩ => ⟨S9x704, .f32⟩
  | .local _ .vmem, ⟨1, _⟩ => ⟨S8x9x704, .bf16⟩
  | .local _ .vmem, ⟨2, _⟩ => ⟨S9x704, .f32⟩
  | .local _ .vmem, ⟨3, _⟩ => ⟨S9x704, .f32⟩
  | .local _ .vmem, ⟨4, _⟩ => ⟨S9x704, .bf16⟩
  | .local _ .vmem, ⟨5, _⟩ => ⟨S1x1, .i32⟩
  | .local _ .vmem, ⟨6, _⟩ => ⟨S9x704, .f32⟩
  | .local _ .vmem, ⟨7, _⟩ => ⟨S9x704, .f32⟩
  | .local _ .vmem, ⟨8, _⟩ => ⟨S9x704, .f32⟩
  | .local _ .vmem, ⟨9, _⟩ => ⟨S9x704, .f32⟩
  | _, _ => ⟨S9x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S9x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x9x704 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S9x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S9x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S9x704 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S9x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S9x704 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S9x704 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S9x704 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== Reference14Ideal.lean ====
abbrev S9x704 : Shape := ⟨2, ![9, 704]⟩
abbrev S8x9x704 : Shape := ⟨3, ![8, 9, 704]⟩
abbrev S1x1 : Shape := ⟨2, ![1, 1]⟩
abbrev S_ : Shape := ⟨0, ![]⟩
abbrev S1x9x704 : Shape := ⟨3, ![1, 9, 704]⟩

abbrev nBuf : Space → Nat
  | .hbm => 49
  | .vmem => 0
  | .smem => 0
  | _ => 0

abbrev bufTy : (tb : Table) → Fin (tcTables nBuf tb) → BufTy
  | .hbm, ⟨0, _⟩ => ⟨S9x704, .f32⟩
  | .hbm, ⟨1, _⟩ => ⟨S8x9x704, .bf16⟩
  | .hbm, ⟨2, _⟩ => ⟨S9x704, .f32⟩
  | .hbm, ⟨3, _⟩ => ⟨S9x704, .f32⟩
  | .hbm, ⟨4, _⟩ => ⟨S9x704, .bf16⟩
  | .hbm, ⟨5, _⟩ => ⟨S1x1, .i32⟩
  | .hbm, ⟨6, _⟩ => ⟨S8x9x704, .i32⟩
  | .hbm, ⟨7, _⟩ => ⟨S_, .i32⟩
  | .hbm, ⟨8, _⟩ => ⟨S8x9x704, .i32⟩
  | .hbm, ⟨9, _⟩ => ⟨S8x9x704, .i1⟩
  | .hbm, ⟨10, _⟩ => ⟨S1x9x704, .bf16⟩
  | .hbm, ⟨11, _⟩ => ⟨S8x9x704, .bf16⟩
  | .hbm, ⟨12, _⟩ => ⟨S8x9x704, .bf16⟩
  | .hbm, ⟨13, _⟩ => ⟨S8x9x704, .f32⟩
  | .hbm, ⟨14, _⟩ => ⟨S_, .f32⟩
  | .hbm, ⟨15, _⟩ => ⟨S9x704, .f32⟩
  | .hbm, ⟨16, _⟩ => ⟨S_, .f32⟩
  | .hbm, ⟨17, _⟩ => ⟨S9x704, .f32⟩
  | .hbm, ⟨18, _⟩ => ⟨S9x704, .f32⟩
  | .hbm, ⟨19, _⟩ => ⟨S_, .f32⟩
  | .hbm, ⟨20, _⟩ => ⟨S9x704, .f32⟩
  | .hbm, ⟨21, _⟩ => ⟨S9x704, .f32⟩
  | .hbm, ⟨22, _⟩ => ⟨S9x704, .f32⟩
  | .hbm, ⟨23, _⟩ => ⟨S_, .f32⟩
  | .hbm, ⟨24, _⟩ => ⟨S9x704, .f32⟩
  | .hbm, ⟨25, _⟩ => ⟨S9x704, .f32⟩
  | .hbm, ⟨26, _⟩ => ⟨S9x704, .f32⟩
  | .hbm, ⟨27, _⟩ => ⟨S_, .f32⟩
  | .hbm, ⟨28, _⟩ => ⟨S9x704, .f32⟩
  | .hbm, ⟨29, _⟩ => ⟨S9x704, .f32⟩
  | .hbm, ⟨30, _⟩ => ⟨S9x704, .f32⟩
  | .hbm, ⟨31, _⟩ => ⟨S_, .f32⟩
  | .hbm, ⟨32, _⟩ => ⟨S9x704, .f32⟩
  | .hbm, ⟨33, _⟩ => ⟨S9x704, .f32⟩
  | .hbm, ⟨34, _⟩ => ⟨S_, .f32⟩
  | .hbm, ⟨35, _⟩ => ⟨S9x704, .f32⟩
  | .hbm, ⟨36, _⟩ => ⟨S9x704, .f32⟩
  | .hbm, ⟨37, _⟩ => ⟨S9x704, .f32⟩
  | .hbm, ⟨38, _⟩ => ⟨S_, .f32⟩
  | .hbm, ⟨39, _⟩ => ⟨S9x704, .f32⟩
  | .hbm, ⟨40, _⟩ => ⟨S9x704, .f32⟩
  | .hbm, ⟨41, _⟩ => ⟨S9x704, .f32⟩
  | .hbm, ⟨42, _⟩ => ⟨S_, .f32⟩
  | .hbm, ⟨43, _⟩ => ⟨S9x704, .f32⟩
  | .hbm, ⟨44, _⟩ => ⟨S9x704, .f32⟩
  | .hbm, ⟨45, _⟩ => ⟨S9x704, .f32⟩
  | .hbm, ⟨46, _⟩ => ⟨S_, .f32⟩
  | .hbm, ⟨47, _⟩ => ⟨S9x704, .f32⟩
  | .hbm, ⟨48, _⟩ => ⟨S9x704, .f32⟩
  | _, _ => ⟨S9x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Kernel15.lean ====
abbrev S128x1024 : Shape := ⟨2, ![128, 1024]⟩
abbrev S8x128x1024 : Shape := ⟨3, ![8, 128, 1024]⟩
abbrev S1x1 : Shape := ⟨2, ![1, 1]⟩
abbrev S1x128x1024 : Shape := ⟨3, ![1, 128, 1024]⟩

abbrev nBuf : Space → Nat
  | .hbm => 10
  | .vmem => 10
  | .smem => 0
  | _ => 0

abbrev bufTy : (tb : Table) → Fin (tcTables nBuf tb) → BufTy
  | .hbm, ⟨0, _⟩ => ⟨S128x1024, .f32⟩
  | .hbm, ⟨1, _⟩ => ⟨S8x128x1024, .bf16⟩
  | .hbm, ⟨2, _⟩ => ⟨S128x1024, .f32⟩
  | .hbm, ⟨3, _⟩ => ⟨S128x1024, .f32⟩
  | .hbm, ⟨4, _⟩ => ⟨S128x1024, .bf16⟩
  | .hbm, ⟨5, _⟩ => ⟨S1x1, .i32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .local _ .vmem, ⟨0, _⟩ => ⟨S128x1024, .f32⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .bf16⟩
  | .local _ .vmem, ⟨5, _⟩ => ⟨S1x1, .i32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== Reference15Ideal.lean ====
abbrev S128x1024 : Shape := ⟨2, ![128, 1024]⟩
abbrev S8x128x1024 : Shape := ⟨3, ![8, 128, 1024]⟩
abbrev S1x1 : Shape := ⟨2, ![1, 1]⟩
abbrev S_ : Shape := ⟨0, ![]⟩
abbrev S1x128x1024 : Shape := ⟨3, ![1, 128, 1024]⟩

abbrev nBuf : Space → Nat
  | .hbm => 49
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S8x128x1024, .bf16⟩
  | .hbm, ⟨2, _⟩ => ⟨S128x1024, .f32⟩
  | .hbm, ⟨3, _⟩ => ⟨S128x1024, .f32⟩
  | .hbm, ⟨4, _⟩ => ⟨S128x1024, .bf16⟩
  | .hbm, ⟨5, _⟩ => ⟨S1x1, .i32⟩
  | .hbm, ⟨6, _⟩ => ⟨S8x128x1024, .i32⟩
  | .hbm, ⟨7, _⟩ => ⟨S_, .i32⟩
  | .hbm, ⟨8, _⟩ => ⟨S8x128x1024, .i32⟩
  | .hbm, ⟨9, _⟩ => ⟨S8x128x1024, .i1⟩
  | .hbm, ⟨10, _⟩ => ⟨S1x128x1024, .bf16⟩
  | .hbm, ⟨11, _⟩ => ⟨S8x128x1024, .bf16⟩
  | .hbm, ⟨12, _⟩ => ⟨S8x128x1024, .bf16⟩
  | .hbm, ⟨13, _⟩ => ⟨S8x128x1024, .f32⟩
  | .hbm, ⟨14, _⟩ => ⟨S_, .f32⟩
  | .hbm, ⟨15, _⟩ => ⟨S128x1024, .f32⟩
  | .hbm, ⟨16, _⟩ => ⟨S_, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S128x1024, .f32⟩
  | .hbm, ⟨23, _⟩ => ⟨S_, .f32⟩
  | .hbm, ⟨24, _⟩ => ⟨S128x1024, .f32⟩
  | .hbm, ⟨25, _⟩ => ⟨S128x1024, .f32⟩
  | .hbm, ⟨26, _⟩ => ⟨S128x1024, .f32⟩
  | .hbm, ⟨27, _⟩ => ⟨S_, .f32⟩
  | .hbm, ⟨28, _⟩ => ⟨S128x1024, .f32⟩
  | .hbm, ⟨29, _⟩ => ⟨S128x1024, .f32⟩
  | .hbm, ⟨30, _⟩ => ⟨S128x1024, .f32⟩
  | .hbm, ⟨31, _⟩ => ⟨S_, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | .hbm, ⟨37, _⟩ => ⟨S128x1024, .f32⟩
  | .hbm, ⟨38, _⟩ => ⟨S_, .f32⟩
  | .hbm, ⟨39, _⟩ => ⟨S128x1024, .f32⟩
  | .hbm, ⟨40, _⟩ => ⟨S128x1024, .f32⟩
  | .hbm, ⟨41, _⟩ => ⟨S128x1024, .f32⟩
  | .hbm, ⟨42, _⟩ => ⟨S_, .f32⟩
  | .hbm, ⟨43, _⟩ => ⟨S128x1024, .f32⟩
  | .hbm, ⟨44, _⟩ => ⟨S128x1024, .f32⟩
  | .hbm, ⟨45, _⟩ => ⟨S128x1024, .f32⟩
  | .hbm, ⟨46, _⟩ => ⟨S_, .f32⟩
  | .hbm, ⟨47, _⟩ => ⟨S128x1024, .f32⟩
  | .hbm, ⟨48, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Kernel16.lean ====
abbrev S64x512 : Shape := ⟨2, ![64, 512]⟩
abbrev S8x64x512 : Shape := ⟨3, ![8, 64, 512]⟩
abbrev S1x1 : Shape := ⟨2, ![1, 1]⟩
abbrev S1x64x512 : Shape := ⟨3, ![1, 64, 512]⟩

abbrev nBuf : Space → Nat
  | .hbm => 10
  | .vmem => 10
  | .smem => 0
  | _ => 0

abbrev bufTy : (tb : Table) → Fin (tcTables nBuf tb) → BufTy
  | .hbm, ⟨0, _⟩ => ⟨S64x512, .f32⟩
  | .hbm, ⟨1, _⟩ => ⟨S8x64x512, .bf16⟩
  | .hbm, ⟨2, _⟩ => ⟨S64x512, .f32⟩
  | .hbm, ⟨3, _⟩ => ⟨S64x512, .f32⟩
  | .hbm, ⟨4, _⟩ => ⟨S64x512, .bf16⟩
  | .hbm, ⟨5, _⟩ => ⟨S1x1, .i32⟩
  | .hbm, ⟨6, _⟩ => ⟨S64x512, .f32⟩
  | .hbm, ⟨7, _⟩ => ⟨S64x512, .f32⟩
  | .hbm, ⟨8, _⟩ => ⟨S64x512, .f32⟩
  | .hbm, ⟨9, _⟩ => ⟨S64x512, .f32⟩
  | .local _ .vmem, ⟨0, _⟩ => ⟨S64x512, .f32⟩
  | .local _ .vmem, ⟨1, _⟩ => ⟨S8x64x512, .bf16⟩
  | .local _ .vmem, ⟨2, _⟩ => ⟨S64x512, .f32⟩
  | .local _ .vmem, ⟨3, _⟩ => ⟨S64x512, .f32⟩
  | .local _ .vmem, ⟨4, _⟩ => ⟨S64x512, .bf16⟩
  | .local _ .vmem, ⟨5, _⟩ => ⟨S1x1, .i32⟩
  | .local _ .vmem, ⟨6, _⟩ => ⟨S64x512, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x64x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S64x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S64x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== Reference16Ideal.lean ====
abbrev S64x512 : Shape := ⟨2, ![64, 512]⟩
abbrev S8x64x512 : Shape := ⟨3, ![8, 64, 512]⟩
abbrev S1x1 : Shape := ⟨2, ![1, 1]⟩
abbrev S_ : Shape := ⟨0, ![]⟩
abbrev S1x64x512 : Shape := ⟨3, ![1, 64, 512]⟩

abbrev nBuf : Space → Nat
  | .hbm => 49
  | .vmem => 0
  | .smem => 0
  | _ => 0

abbrev bufTy : (tb : Table) → Fin (tcTables nBuf tb) → BufTy
  | .hbm, ⟨0, _⟩ => ⟨S64x512, .f32⟩
  | .hbm, ⟨1, _⟩ => ⟨S8x64x512, .bf16⟩
  | .hbm, ⟨2, _⟩ => ⟨S64x512, .f32⟩
  | .hbm, ⟨3, _⟩ => ⟨S64x512, .f32⟩
  | .hbm, ⟨4, _⟩ => ⟨S64x512, .bf16⟩
  | .hbm, ⟨5, _⟩ => ⟨S1x1, .i32⟩
  | .hbm, ⟨6, _⟩ => ⟨S8x64x512, .i32⟩
  | .hbm, ⟨7, _⟩ => ⟨S_, .i32⟩
  | .hbm, ⟨8, _⟩ => ⟨S8x64x512, .i32⟩
  | .hbm, ⟨9, _⟩ => ⟨S8x64x512, .i1⟩
  | .hbm, ⟨10, _⟩ => ⟨S1x64x512, .bf16⟩
  | .hbm, ⟨11, _⟩ => ⟨S8x64x512, .bf16⟩
  | .hbm, ⟨12, _⟩ => ⟨S8x64x512, .bf16⟩
  | .hbm, ⟨13, _⟩ => ⟨S8x64x512, .f32⟩
  | .hbm, ⟨14, _⟩ => ⟨S_, .f32⟩
  | .hbm, ⟨15, _⟩ => ⟨S64x512, .f32⟩
  | .hbm, ⟨16, _⟩ => ⟨S_, .f32⟩
  | .hbm, ⟨17, _⟩ => ⟨S64x512, .f32⟩
  | .hbm, ⟨18, _⟩ => ⟨S64x512, .f32⟩
  | .hbm, ⟨19, _⟩ => ⟨S_, .f32⟩
  | .hbm, ⟨20, _⟩ => ⟨S64x512, .f32⟩
  | .hbm, ⟨21, _⟩ => ⟨S64x512, .f32⟩
  | .hbm, ⟨22, _⟩ => ⟨S64x512, .f32⟩
  | .hbm, ⟨23, _⟩ => ⟨S_, .f32⟩
  | .hbm, ⟨24, _⟩ => ⟨S64x512, .f32⟩
  | .hbm, ⟨25, _⟩ => ⟨S64x512, .f32⟩
  | .hbm, ⟨26, _⟩ => ⟨S64x512, .f32⟩
  | .hbm, ⟨27, _⟩ => ⟨S_, .f32⟩
  | .hbm, ⟨28, _⟩ => ⟨S64x512, .f32⟩
  | .hbm, ⟨29, _⟩ => ⟨S64x512, .f32⟩
  | .hbm, ⟨30, _⟩ => ⟨S64x512, .f32⟩
  | .hbm, ⟨31, _⟩ => ⟨S_, .f32⟩
  | .hbm, ⟨32, _⟩ => ⟨S64x512, .f32⟩
  | .hbm, ⟨33, _⟩ => ⟨S64x512, .f32⟩
  | .hbm, ⟨34, _⟩ => ⟨S_, .f32⟩
  | .hbm, ⟨35, _⟩ => ⟨S64x512, .f32⟩
  | .hbm, ⟨36, _⟩ => ⟨S64x512, .f32⟩
  | .hbm, ⟨37, _⟩ => ⟨S64x512, .f32⟩
  | .hbm, ⟨38, _⟩ => ⟨S_, .f32⟩
  | .hbm, ⟨39, _⟩ => ⟨S64x512, .f32⟩
  | .hbm, ⟨40, _⟩ => ⟨S64x512, .f32⟩
  | .hbm, ⟨41, _⟩ => ⟨S64x512, .f32⟩
  | .hbm, ⟨42, _⟩ => ⟨S_, .f32⟩
  | .hbm, ⟨43, _⟩ => ⟨S64x512, .f32⟩
  | .hbm, ⟨44, _⟩ => ⟨S64x512, .f32⟩
  | .hbm, ⟨45, _⟩ => ⟨S64x512, .f32⟩
  | .hbm, ⟨46, _⟩ => ⟨S_, .f32⟩
  | .hbm, ⟨47, _⟩ => ⟨S64x512, .f32⟩
  | .hbm, ⟨48, _⟩ => ⟨S64x512, .f32⟩
  | _, _ => ⟨S64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Kernel17.lean ====
abbrev S512x128 : Shape := ⟨2, ![512, 128]⟩
abbrev S8x512x128 : Shape := ⟨3, ![8, 512, 128]⟩
abbrev S1x1 : Shape := ⟨2, ![1, 1]⟩
abbrev S256x128 : Shape := ⟨2, ![256, 128]⟩
abbrev S8x256x128 : Shape := ⟨3, ![8, 256, 128]⟩
abbrev S1x256x128 : Shape := ⟨3, ![1, 256, 128]⟩

abbrev nBuf : Space → Nat
  | .hbm => 10
  | .vmem => 19
  | .smem => 0
  | _ => 0

abbrev bufTy : (tb : Table) → Fin (tcTables nBuf tb) → BufTy
  | .hbm, ⟨0, _⟩ => ⟨S512x128, .f32⟩
  | .hbm, ⟨1, _⟩ => ⟨S8x512x128, .bf16⟩
  | .hbm, ⟨2, _⟩ => ⟨S512x128, .f32⟩
  | .hbm, ⟨3, _⟩ => ⟨S512x128, .f32⟩
  | .hbm, ⟨4, _⟩ => ⟨S512x128, .bf16⟩
  | .hbm, ⟨5, _⟩ => ⟨S1x1, .i32⟩
  | .hbm, ⟨6, _⟩ => ⟨S512x128, .f32⟩
  | .hbm, ⟨7, _⟩ => ⟨S512x128, .f32⟩
  | .hbm, ⟨8, _⟩ => ⟨S512x128, .f32⟩
  | .hbm, ⟨9, _⟩ => ⟨S512x128, .f32⟩
  | .local _ .vmem, ⟨0, _⟩ => ⟨S256x128, .f32⟩
  | .local _ .vmem, ⟨1, _⟩ => ⟨S256x128, .f32⟩
  | .local _ .vmem, ⟨2, _⟩ => ⟨S8x256x128, .bf16⟩
  | .local _ .vmem, ⟨3, _⟩ => ⟨S8x256x128, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .bf16⟩
  | .local _ .vmem, ⟨9, _⟩ => ⟨S256x128, .bf16⟩
  | .local _ .vmem, ⟨10, _⟩ => ⟨S1x1, .i32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference17Ideal.lean ====
abbrev S512x128 : Shape := ⟨2, ![512, 128]⟩
abbrev S8x512x128 : Shape := ⟨3, ![8, 512, 128]⟩
abbrev S1x1 : Shape := ⟨2, ![1, 1]⟩
abbrev S_ : Shape := ⟨0, ![]⟩
abbrev S1x512x128 : Shape := ⟨3, ![1, 512, 128]⟩

abbrev nBuf : Space → Nat
  | .hbm => 49
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S8x512x128, .bf16⟩
  | .hbm, ⟨2, _⟩ => ⟨S512x128, .f32⟩
  | .hbm, ⟨3, _⟩ => ⟨S512x128, .f32⟩
  | .hbm, ⟨4, _⟩ => ⟨S512x128, .bf16⟩
  | .hbm, ⟨5, _⟩ => ⟨S1x1, .i32⟩
  | .hbm, ⟨6, _⟩ => ⟨S8x512x128, .i32⟩
  | .hbm, ⟨7, _⟩ => ⟨S_, .i32⟩
  | .hbm, ⟨8, _⟩ => ⟨S8x512x128, .i32⟩
  | .hbm, ⟨9, _⟩ => ⟨S8x512x128, .i1⟩
  | .hbm, ⟨10, _⟩ => ⟨S1x512x128, .bf16⟩
  | .hbm, ⟨11, _⟩ => ⟨S8x512x128, .bf16⟩
  | .hbm, ⟨12, _⟩ => ⟨S8x512x128, .bf16⟩
  | .hbm, ⟨13, _⟩ => ⟨S8x512x128, .f32⟩
  | .hbm, ⟨14, _⟩ => ⟨S_, .f32⟩
  | .hbm, ⟨15, _⟩ => ⟨S512x128, .f32⟩
  | .hbm, ⟨16, _⟩ => ⟨S_, .f32⟩
  | .hbm, ⟨17, _⟩ => ⟨S512x128, .f32⟩
  | .hbm, ⟨18, _⟩ => ⟨S512x128, .f32⟩
  | .hbm, ⟨19, _⟩ => ⟨S_, .f32⟩
  | .hbm, ⟨20, _⟩ => ⟨S512x128, .f32⟩
  | .hbm, ⟨21, _⟩ => ⟨S512x128, .f32⟩
  | .hbm, ⟨22, _⟩ => ⟨S512x128, .f32⟩
  | .hbm, ⟨23, _⟩ => ⟨S_, .f32⟩
  | .hbm, ⟨24, _⟩ => ⟨S512x128, .f32⟩
  | .hbm, ⟨25, _⟩ => ⟨S512x128, .f32⟩
  | .hbm, ⟨26, _⟩ => ⟨S512x128, .f32⟩
  | .hbm, ⟨27, _⟩ => ⟨S_, .f32⟩
  | .hbm, ⟨28, _⟩ => ⟨S512x128, .f32⟩
  | .hbm, ⟨29, _⟩ => ⟨S512x128, .f32⟩
  | .hbm, ⟨30, _⟩ => ⟨S512x128, .f32⟩
  | .hbm, ⟨31, _⟩ => ⟨S_, .f32⟩
  | .hbm, ⟨32, _⟩ => ⟨S512x128, .f32⟩
  | .hbm, ⟨33, _⟩ => ⟨S512x128, .f32⟩
  | .hbm, ⟨34, _⟩ => ⟨S_, .f32⟩
  | .hbm, ⟨35, _⟩ => ⟨S512x128, .f32⟩
  | .hbm, ⟨36, _⟩ => ⟨S512x128, .f32⟩
  | .hbm, ⟨37, _⟩ => ⟨S512x128, .f32⟩
  | .hbm, ⟨38, _⟩ => ⟨S_, .f32⟩
  | .hbm, ⟨39, _⟩ => ⟨S512x128, .f32⟩
  | .hbm, ⟨40, _⟩ => ⟨S512x128, .f32⟩
  | .hbm, ⟨41, _⟩ => ⟨S512x128, .f32⟩
  | .hbm, ⟨42, _⟩ => ⟨S_, .f32⟩
  | .hbm, ⟨43, _⟩ => ⟨S512x128, .f32⟩
  | .hbm, ⟨44, _⟩ => ⟨S512x128, .f32⟩
  | .hbm, ⟨45, _⟩ => ⟨S512x128, .f32⟩
  | .hbm, ⟨46, _⟩ => ⟨S_, .f32⟩
  | .hbm, ⟨47, _⟩ => ⟨S512x128, .f32⟩
  | .hbm, ⟨48, _⟩ => ⟨S512x128, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Kernel18.lean ====
abbrev S1024x448 : Shape := ⟨2, ![1024, 448]⟩
abbrev S8x1024x448 : Shape := ⟨3, ![8, 1024, 448]⟩
abbrev S1x1 : Shape := ⟨2, ![1, 1]⟩
abbrev S256x448 : Shape := ⟨2, ![256, 448]⟩
abbrev S8x256x448 : Shape := ⟨3, ![8, 256, 448]⟩
abbrev S1x256x448 : Shape := ⟨3, ![1, 256, 448]⟩

abbrev nBuf : Space → Nat
  | .hbm => 10
  | .vmem => 19
  | .smem => 0
  | _ => 0

abbrev bufTy : (tb : Table) → Fin (tcTables nBuf tb) → BufTy
  | .hbm, ⟨0, _⟩ => ⟨S1024x448, .f32⟩
  | .hbm, ⟨1, _⟩ => ⟨S8x1024x448, .bf16⟩
  | .hbm, ⟨2, _⟩ => ⟨S1024x448, .f32⟩
  | .hbm, ⟨3, _⟩ => ⟨S1024x448, .f32⟩
  | .hbm, ⟨4, _⟩ => ⟨S1024x448, .bf16⟩
  | .hbm, ⟨5, _⟩ => ⟨S1x1, .i32⟩
  | .hbm, ⟨6, _⟩ => ⟨S1024x448, .f32⟩
  | .hbm, ⟨7, _⟩ => ⟨S1024x448, .f32⟩
  | .hbm, ⟨8, _⟩ => ⟨S1024x448, .f32⟩
  | .hbm, ⟨9, _⟩ => ⟨S1024x448, .f32⟩
  | .local _ .vmem, ⟨0, _⟩ => ⟨S256x448, .f32⟩
  | .local _ .vmem, ⟨1, _⟩ => ⟨S256x448, .f32⟩
  | .local _ .vmem, ⟨2, _⟩ => ⟨S8x256x448, .bf16⟩
  | .local _ .vmem, ⟨3, _⟩ => ⟨S8x256x448, .bf16⟩
  | .local _ .vmem, ⟨4, _⟩ => ⟨S256x448, .f32⟩
  | .local _ .vmem, ⟨5, _⟩ => ⟨S256x448, .f32⟩
  | .local _ .vmem, ⟨6, _⟩ => ⟨S256x448, .f32⟩
  | .local _ .vmem, ⟨7, _⟩ => ⟨S256x448, .f32⟩
  | .local _ .vmem, ⟨8, _⟩ => ⟨S256x448, .bf16⟩
  | .local _ .vmem, ⟨9, _⟩ => ⟨S256x448, .bf16⟩
  | .local _ .vmem, ⟨10, _⟩ => ⟨S1x1, .i32⟩
  | .local _ .vmem, ⟨11, _⟩ => ⟨S256x448, .f32⟩
  | .local _ .vmem, ⟨12, _⟩ => ⟨S256x448, .f32⟩
  | .local _ .vmem, ⟨13, _⟩ => ⟨S256x448, .f32⟩
  | .local _ .vmem, ⟨14, _⟩ => ⟨S256x448, .f32⟩
  | .local _ .vmem, ⟨15, _⟩ => ⟨S256x448, .f32⟩
  | .local _ .vmem, ⟨16, _⟩ => ⟨S256x448, .f32⟩
  | .local _ .vmem, ⟨17, _⟩ => ⟨S256x448, .f32⟩
  | .local _ .vmem, ⟨18, _⟩ => ⟨S256x448, .f32⟩
  | _, _ => ⟨S1024x448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x448 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x448 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x448 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x448 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x448 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x448 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x448 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x448 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x448 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference18Ideal.lean ====
abbrev S1024x448 : Shape := ⟨2, ![1024, 448]⟩
abbrev S8x1024x448 : Shape := ⟨3, ![8, 1024, 448]⟩
abbrev S1x1 : Shape := ⟨2, ![1, 1]⟩
abbrev S_ : Shape := ⟨0, ![]⟩
abbrev S1x1024x448 : Shape := ⟨3, ![1, 1024, 448]⟩

abbrev nBuf : Space → Nat
  | .hbm => 49
  | .vmem => 0
  | .smem => 0
  | _ => 0

abbrev bufTy : (tb : Table) → Fin (tcTables nBuf tb) → BufTy
  | .hbm, ⟨0, _⟩ => ⟨S1024x448, .f32⟩
  | .hbm, ⟨1, _⟩ => ⟨S8x1024x448, .bf16⟩
  | .hbm, ⟨2, _⟩ => ⟨S1024x448, .f32⟩
  | .hbm, ⟨3, _⟩ => ⟨S1024x448, .f32⟩
  | .hbm, ⟨4, _⟩ => ⟨S1024x448, .bf16⟩
  | .hbm, ⟨5, _⟩ => ⟨S1x1, .i32⟩
  | .hbm, ⟨6, _⟩ => ⟨S8x1024x448, .i32⟩
  | .hbm, ⟨7, _⟩ => ⟨S_, .i32⟩
  | .hbm, ⟨8, _⟩ => ⟨S8x1024x448, .i32⟩
  | .hbm, ⟨9, _⟩ => ⟨S8x1024x448, .i1⟩
  | .hbm, ⟨10, _⟩ => ⟨S1x1024x448, .bf16⟩
  | .hbm, ⟨11, _⟩ => ⟨S8x1024x448, .bf16⟩
  | .hbm, ⟨12, _⟩ => ⟨S8x1024x448, .bf16⟩
  | .hbm, ⟨13, _⟩ => ⟨S8x1024x448, .f32⟩
  | .hbm, ⟨14, _⟩ => ⟨S_, .f32⟩
  | .hbm, ⟨15, _⟩ => ⟨S1024x448, .f32⟩
  | .hbm, ⟨16, _⟩ => ⟨S_, .f32⟩
  | .hbm, ⟨17, _⟩ => ⟨S1024x448, .f32⟩
  | .hbm, ⟨18, _⟩ => ⟨S1024x448, .f32⟩
  | .hbm, ⟨19, _⟩ => ⟨S_, .f32⟩
  | .hbm, ⟨20, _⟩ => ⟨S1024x448, .f32⟩
  | .hbm, ⟨21, _⟩ => ⟨S1024x448, .f32⟩
  | .hbm, ⟨22, _⟩ => ⟨S1024x448, .f32⟩
  | .hbm, ⟨23, _⟩ => ⟨S_, .f32⟩
  | .hbm, ⟨24, _⟩ => ⟨S1024x448, .f32⟩
  | .hbm, ⟨25, _⟩ => ⟨S1024x448, .f32⟩
  | .hbm, ⟨26, _⟩ => ⟨S1024x448, .f32⟩
  | .hbm, ⟨27, _⟩ => ⟨S_, .f32⟩
  | .hbm, ⟨28, _⟩ => ⟨S1024x448, .f32⟩
  | .hbm, ⟨29, _⟩ => ⟨S1024x448, .f32⟩
  | .hbm, ⟨30, _⟩ => ⟨S1024x448, .f32⟩
  | .hbm, ⟨31, _⟩ => ⟨S_, .f32⟩
  | .hbm, ⟨32, _⟩ => ⟨S1024x448, .f32⟩
  | .hbm, ⟨33, _⟩ => ⟨S1024x448, .f32⟩
  | .hbm, ⟨34, _⟩ => ⟨S_, .f32⟩
  | .hbm, ⟨35, _⟩ => ⟨S1024x448, .f32⟩
  | .hbm, ⟨36, _⟩ => ⟨S1024x448, .f32⟩
  | .hbm, ⟨37, _⟩ => ⟨S1024x448, .f32⟩
  | .hbm, ⟨38, _⟩ => ⟨S_, .f32⟩
  | .hbm, ⟨39, _⟩ => ⟨S1024x448, .f32⟩
  | .hbm, ⟨40, _⟩ => ⟨S1024x448, .f32⟩
  | .hbm, ⟨41, _⟩ => ⟨S1024x448, .f32⟩
  | .hbm, ⟨42, _⟩ => ⟨S_, .f32⟩
  | .hbm, ⟨43, _⟩ => ⟨S1024x448, .f32⟩
  | .hbm, ⟨44, _⟩ => ⟨S1024x448, .f32⟩
  | .hbm, ⟨45, _⟩ => ⟨S1024x448, .f32⟩
  | .hbm, ⟨46, _⟩ => ⟨S_, .f32⟩
  | .hbm, ⟨47, _⟩ => ⟨S1024x448, .f32⟩
  | .hbm, ⟨48, _⟩ => ⟨S1024x448, .f32⟩
  | _, _ => ⟨S1024x448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Kernel19.lean ====
abbrev S1024x128 : Shape := ⟨2, ![1024, 128]⟩
abbrev S8x1024x128 : Shape := ⟨3, ![8, 1024, 128]⟩
abbrev S1x1 : Shape := ⟨2, ![1, 1]⟩
abbrev S256x128 : Shape := ⟨2, ![256, 128]⟩
abbrev S8x256x128 : Shape := ⟨3, ![8, 256, 128]⟩
abbrev S1x256x128 : Shape := ⟨3, ![1, 256, 128]⟩

abbrev nBuf : Space → Nat
  | .hbm => 10
  | .vmem => 19
  | .smem => 0
  | _ => 0

abbrev bufTy : (tb : Table) → Fin (tcTables nBuf tb) → BufTy
  | .hbm, ⟨0, _⟩ => ⟨S1024x128, .f32⟩
  | .hbm, ⟨1, _⟩ => ⟨S8x1024x128, .f32⟩
  | .hbm, ⟨2, _⟩ => ⟨S1024x128, .f32⟩
  | .hbm, ⟨3, _⟩ => ⟨S1024x128, .f32⟩
  | .hbm, ⟨4, _⟩ => ⟨S1024x128, .f32⟩
  | .hbm, ⟨5, _⟩ => ⟨S1x1, .i32⟩
  | .hbm, ⟨6, _⟩ => ⟨S1024x128, .f32⟩
  | .hbm, ⟨7, _⟩ => ⟨S1024x128, .f32⟩
  | .hbm, ⟨8, _⟩ => ⟨S1024x128, .f32⟩
  | .hbm, ⟨9, _⟩ => ⟨S1024x128, .f32⟩
  | .local _ .vmem, ⟨0, _⟩ => ⟨S256x128, .f32⟩
  | .local _ .vmem, ⟨1, _⟩ => ⟨S256x128, .f32⟩
  | .local _ .vmem, ⟨2, _⟩ => ⟨S8x256x128, .f32⟩
  | .local _ .vmem, ⟨3, _⟩ => ⟨S8x256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S1x1, .i32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference19Ideal.lean ====
abbrev S1024x128 : Shape := ⟨2, ![1024, 128]⟩
abbrev S8x1024x128 : Shape := ⟨3, ![8, 1024, 128]⟩
abbrev S1x1 : Shape := ⟨2, ![1, 1]⟩
abbrev S_ : Shape := ⟨0, ![]⟩
abbrev S1x1024x128 : Shape := ⟨3, ![1, 1024, 128]⟩

abbrev nBuf : Space → Nat
  | .hbm => 48
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S8x1024x128, .f32⟩
  | .hbm, ⟨2, _⟩ => ⟨S1024x128, .f32⟩
  | .hbm, ⟨3, _⟩ => ⟨S1024x128, .f32⟩
  | .hbm, ⟨4, _⟩ => ⟨S1024x128, .f32⟩
  | .hbm, ⟨5, _⟩ => ⟨S1x1, .i32⟩
  | .hbm, ⟨6, _⟩ => ⟨S8x1024x128, .i32⟩
  | .hbm, ⟨7, _⟩ => ⟨S_, .i32⟩
  | .hbm, ⟨8, _⟩ => ⟨S8x1024x128, .i32⟩
  | .hbm, ⟨9, _⟩ => ⟨S8x1024x128, .i1⟩
  | .hbm, ⟨10, _⟩ => ⟨S1x1024x128, .f32⟩
  | .hbm, ⟨11, _⟩ => ⟨S8x1024x128, .f32⟩
  | .hbm, ⟨12, _⟩ => ⟨S8x1024x128, .f32⟩
  | .hbm, ⟨13, _⟩ => ⟨S_, .f32⟩
  | .hbm, ⟨14, _⟩ => ⟨S1024x128, .f32⟩
  | .hbm, ⟨15, _⟩ => ⟨S_, .f32⟩
  | .hbm, ⟨16, _⟩ => ⟨S1024x128, .f32⟩
  | .hbm, ⟨17, _⟩ => ⟨S1024x128, .f32⟩
  | .hbm, ⟨18, _⟩ => ⟨S_, .f32⟩
  | .hbm, ⟨19, _⟩ => ⟨S1024x128, .f32⟩
  | .hbm, ⟨20, _⟩ => ⟨S1024x128, .f32⟩
  | .hbm, ⟨21, _⟩ => ⟨S1024x128, .f32⟩
  | .hbm, ⟨22, _⟩ => ⟨S_, .f32⟩
  | .hbm, ⟨23, _⟩ => ⟨S1024x128, .f32⟩
  | .hbm, ⟨24, _⟩ => ⟨S1024x128, .f32⟩
  | .hbm, ⟨25, _⟩ => ⟨S1024x128, .f32⟩
  | .hbm, ⟨26, _⟩ => ⟨S_, .f32⟩
  | .hbm, ⟨27, _⟩ => ⟨S1024x128, .f32⟩
  | .hbm, ⟨28, _⟩ => ⟨S1024x128, .f32⟩
  | .hbm, ⟨29, _⟩ => ⟨S1024x128, .f32⟩
  | .hbm, ⟨30, _⟩ => ⟨S_, .f32⟩
  | .hbm, ⟨31, _⟩ => ⟨S1024x128, .f32⟩
  | .hbm, ⟨32, _⟩ => ⟨S1024x128, .f32⟩
  | .hbm, ⟨33, _⟩ => ⟨S_, .f32⟩
  | .hbm, ⟨34, _⟩ => ⟨S1024x128, .f32⟩
  | .hbm, ⟨35, _⟩ => ⟨S1024x128, .f32⟩
  | .hbm, ⟨36, _⟩ => ⟨S1024x128, .f32⟩
  | .hbm, ⟨37, _⟩ => ⟨S_, .f32⟩
  | .hbm, ⟨38, _⟩ => ⟨S1024x128, .f32⟩
  | .hbm, ⟨39, _⟩ => ⟨S1024x128, .f32⟩
  | .hbm, ⟨40, _⟩ => ⟨S1024x128, .f32⟩
  | .hbm, ⟨41, _⟩ => ⟨S_, .f32⟩
  | .hbm, ⟨42, _⟩ => ⟨S1024x128, .f32⟩
  | .hbm, ⟨43, _⟩ => ⟨S1024x128, .f32⟩
  | .hbm, ⟨44, _⟩ => ⟨S1024x128, .f32⟩
  | .hbm, ⟨45, _⟩ => ⟨S_, .f32⟩
  | .hbm, ⟨46, _⟩ => ⟨S1024x128, .f32⟩
  | .hbm, ⟨47, _⟩ => ⟨S1024x128, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Kernel20.lean ====
abbrev S1024x64 : Shape := ⟨2, ![1024, 64]⟩
abbrev S8x1024x64 : Shape := ⟨3, ![8, 1024, 64]⟩
abbrev S1x1 : Shape := ⟨2, ![1, 1]⟩
abbrev S256x64 : Shape := ⟨2, ![256, 64]⟩
abbrev S8x256x64 : Shape := ⟨3, ![8, 256, 64]⟩
abbrev S1x256x64 : Shape := ⟨3, ![1, 256, 64]⟩

abbrev nBuf : Space → Nat
  | .hbm => 10
  | .vmem => 19
  | .smem => 0
  | _ => 0

abbrev bufTy : (tb : Table) → Fin (tcTables nBuf tb) → BufTy
  | .hbm, ⟨0, _⟩ => ⟨S1024x64, .f32⟩
  | .hbm, ⟨1, _⟩ => ⟨S8x1024x64, .f32⟩
  | .hbm, ⟨2, _⟩ => ⟨S1024x64, .f32⟩
  | .hbm, ⟨3, _⟩ => ⟨S1024x64, .f32⟩
  | .hbm, ⟨4, _⟩ => ⟨S1024x64, .f32⟩
  | .hbm, ⟨5, _⟩ => ⟨S1x1, .i32⟩
  | .hbm, ⟨6, _⟩ => ⟨S1024x64, .f32⟩
  | .hbm, ⟨7, _⟩ => ⟨S1024x64, .f32⟩
  | .hbm, ⟨8, _⟩ => ⟨S1024x64, .f32⟩
  | .hbm, ⟨9, _⟩ => ⟨S1024x64, .f32⟩
  | .local _ .vmem, ⟨0, _⟩ => ⟨S256x64, .f32⟩
  | .local _ .vmem, ⟨1, _⟩ => ⟨S256x64, .f32⟩
  | .local _ .vmem, ⟨2, _⟩ => ⟨S8x256x64, .f32⟩
  | .local _ .vmem, ⟨3, _⟩ => ⟨S8x256x64, .f32⟩
  | .local _ .vmem, ⟨4, _⟩ => ⟨S256x64, .f32⟩
  | .local _ .vmem, ⟨5, _⟩ => ⟨S256x64, .f32⟩
  | .local _ .vmem, ⟨6, _⟩ => ⟨S256x64, .f32⟩
  | .local _ .vmem, ⟨7, _⟩ => ⟨S256x64, .f32⟩
  | .local _ .vmem, ⟨8, _⟩ => ⟨S256x64, .f32⟩
  | .local _ .vmem, ⟨9, _⟩ => ⟨S256x64, .f32⟩
  | .local _ .vmem, ⟨10, _⟩ => ⟨S1x1, .i32⟩
  | .local _ .vmem, ⟨11, _⟩ => ⟨S256x64, .f32⟩
  | .local _ .vmem, ⟨12, _⟩ => ⟨S256x64, .f32⟩
  | .local _ .vmem, ⟨13, _⟩ => ⟨S256x64, .f32⟩
  | .local _ .vmem, ⟨14, _⟩ => ⟨S256x64, .f32⟩
  | .local _ .vmem, ⟨15, _⟩ => ⟨S256x64, .f32⟩
  | .local _ .vmem, ⟨16, _⟩ => ⟨S256x64, .f32⟩
  | .local _ .vmem, ⟨17, _⟩ => ⟨S256x64, .f32⟩
  | .local _ .vmem, ⟨18, _⟩ => ⟨S256x64, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference20Ideal.lean ====
abbrev S1024x64 : Shape := ⟨2, ![1024, 64]⟩
abbrev S8x1024x64 : Shape := ⟨3, ![8, 1024, 64]⟩
abbrev S1x1 : Shape := ⟨2, ![1, 1]⟩
abbrev S_ : Shape := ⟨0, ![]⟩
abbrev S1x1024x64 : Shape := ⟨3, ![1, 1024, 64]⟩

abbrev nBuf : Space → Nat
  | .hbm => 48
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S8x1024x64, .f32⟩
  | .hbm, ⟨2, _⟩ => ⟨S1024x64, .f32⟩
  | .hbm, ⟨3, _⟩ => ⟨S1024x64, .f32⟩
  | .hbm, ⟨4, _⟩ => ⟨S1024x64, .f32⟩
  | .hbm, ⟨5, _⟩ => ⟨S1x1, .i32⟩
  | .hbm, ⟨6, _⟩ => ⟨S8x1024x64, .i32⟩
  | .hbm, ⟨7, _⟩ => ⟨S_, .i32⟩
  | .hbm, ⟨8, _⟩ => ⟨S8x1024x64, .i32⟩
  | .hbm, ⟨9, _⟩ => ⟨S8x1024x64, .i1⟩
  | .hbm, ⟨10, _⟩ => ⟨S1x1024x64, .f32⟩
  | .hbm, ⟨11, _⟩ => ⟨S8x1024x64, .f32⟩
  | .hbm, ⟨12, _⟩ => ⟨S8x1024x64, .f32⟩
  | .hbm, ⟨13, _⟩ => ⟨S_, .f32⟩
  | .hbm, ⟨14, _⟩ => ⟨S1024x64, .f32⟩
  | .hbm, ⟨15, _⟩ => ⟨S_, .f32⟩
  | .hbm, ⟨16, _⟩ => ⟨S1024x64, .f32⟩
  | .hbm, ⟨17, _⟩ => ⟨S1024x64, .f32⟩
  | .hbm, ⟨18, _⟩ => ⟨S_, .f32⟩
  | .hbm, ⟨19, _⟩ => ⟨S1024x64, .f32⟩
  | .hbm, ⟨20, _⟩ => ⟨S1024x64, .f32⟩
  | .hbm, ⟨21, _⟩ => ⟨S1024x64, .f32⟩
  | .hbm, ⟨22, _⟩ => ⟨S_, .f32⟩
  | .hbm, ⟨23, _⟩ => ⟨S1024x64, .f32⟩
  | .hbm, ⟨24, _⟩ => ⟨S1024x64, .f32⟩
  | .hbm, ⟨25, _⟩ => ⟨S1024x64, .f32⟩
  | .hbm, ⟨26, _⟩ => ⟨S_, .f32⟩
  | .hbm, ⟨27, _⟩ => ⟨S1024x64, .f32⟩
  | .hbm, ⟨28, _⟩ => ⟨S1024x64, .f32⟩
  | .hbm, ⟨29, _⟩ => ⟨S1024x64, .f32⟩
  | .hbm, ⟨30, _⟩ => ⟨S_, .f32⟩
  | .hbm, ⟨31, _⟩ => ⟨S1024x64, .f32⟩
  | .hbm, ⟨32, _⟩ => ⟨S1024x64, .f32⟩
  | .hbm, ⟨33, _⟩ => ⟨S_, .f32⟩
  | .hbm, ⟨34, _⟩ => ⟨S1024x64, .f32⟩
  | .hbm, ⟨35, _⟩ => ⟨S1024x64, .f32⟩
  | .hbm, ⟨36, _⟩ => ⟨S1024x64, .f32⟩
  | .hbm, ⟨37, _⟩ => ⟨S_, .f32⟩
  | .hbm, ⟨38, _⟩ => ⟨S1024x64, .f32⟩
  | .hbm, ⟨39, _⟩ => ⟨S1024x64, .f32⟩
  | .hbm, ⟨40, _⟩ => ⟨S1024x64, .f32⟩
  | .hbm, ⟨41, _⟩ => ⟨S_, .f32⟩
  | .hbm, ⟨42, _⟩ => ⟨S1024x64, .f32⟩
  | .hbm, ⟨43, _⟩ => ⟨S1024x64, .f32⟩
  | .hbm, ⟨44, _⟩ => ⟨S1024x64, .f32⟩
  | .hbm, ⟨45, _⟩ => ⟨S_, .f32⟩
  | .hbm, ⟨46, _⟩ => ⟨S1024x64, .f32⟩
  | .hbm, ⟨47, _⟩ => ⟨S1024x64, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Kernel21.lean ====
abbrev S1280x128 : Shape := ⟨2, ![1280, 128]⟩
abbrev S8x1280x128 : Shape := ⟨3, ![8, 1280, 128]⟩
abbrev S1x1 : Shape := ⟨2, ![1, 1]⟩
abbrev S256x128 : Shape := ⟨2, ![256, 128]⟩
abbrev S8x256x128 : Shape := ⟨3, ![8, 256, 128]⟩
abbrev S1x256x128 : Shape := ⟨3, ![1, 256, 128]⟩

abbrev nBuf : Space → Nat
  | .hbm => 10
  | .vmem => 19
  | .smem => 0
  | _ => 0

abbrev bufTy : (tb : Table) → Fin (tcTables nBuf tb) → BufTy
  | .hbm, ⟨0, _⟩ => ⟨S1280x128, .f32⟩
  | .hbm, ⟨1, _⟩ => ⟨S8x1280x128, .f32⟩
  | .hbm, ⟨2, _⟩ => ⟨S1280x128, .f32⟩
  | .hbm, ⟨3, _⟩ => ⟨S1280x128, .f32⟩
  | .hbm, ⟨4, _⟩ => ⟨S1280x128, .f32⟩
  | .hbm, ⟨5, _⟩ => ⟨S1x1, .i32⟩
  | .hbm, ⟨6, _⟩ => ⟨S1280x128, .f32⟩
  | .hbm, ⟨7, _⟩ => ⟨S1280x128, .f32⟩
  | .hbm, ⟨8, _⟩ => ⟨S1280x128, .f32⟩
  | .hbm, ⟨9, _⟩ => ⟨S1280x128, .f32⟩
  | .local _ .vmem, ⟨0, _⟩ => ⟨S256x128, .f32⟩
  | .local _ .vmem, ⟨1, _⟩ => ⟨S256x128, .f32⟩
  | .local _ .vmem, ⟨2, _⟩ => ⟨S8x256x128, .f32⟩
  | .local _ .vmem, ⟨3, _⟩ => ⟨S8x256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S1x1, .i32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | _, _ => ⟨S1280x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference21Ideal.lean ====
abbrev S1280x128 : Shape := ⟨2, ![1280, 128]⟩
abbrev S8x1280x128 : Shape := ⟨3, ![8, 1280, 128]⟩
abbrev S1x1 : Shape := ⟨2, ![1, 1]⟩
abbrev S_ : Shape := ⟨0, ![]⟩
abbrev S1x1280x128 : Shape := ⟨3, ![1, 1280, 128]⟩

abbrev nBuf : Space → Nat
  | .hbm => 48
  | .vmem => 0
  | .smem => 0
  | _ => 0

abbrev bufTy : (tb : Table) → Fin (tcTables nBuf tb) → BufTy
  | .hbm, ⟨0, _⟩ => ⟨S1280x128, .f32⟩
  | .hbm, ⟨1, _⟩ => ⟨S8x1280x128, .f32⟩
  | .hbm, ⟨2, _⟩ => ⟨S1280x128, .f32⟩
  | .hbm, ⟨3, _⟩ => ⟨S1280x128, .f32⟩
  | .hbm, ⟨4, _⟩ => ⟨S1280x128, .f32⟩
  | .hbm, ⟨5, _⟩ => ⟨S1x1, .i32⟩
  | .hbm, ⟨6, _⟩ => ⟨S8x1280x128, .i32⟩
  | .hbm, ⟨7, _⟩ => ⟨S_, .i32⟩
  | .hbm, ⟨8, _⟩ => ⟨S8x1280x128, .i32⟩
  | .hbm, ⟨9, _⟩ => ⟨S8x1280x128, .i1⟩
  | .hbm, ⟨10, _⟩ => ⟨S1x1280x128, .f32⟩
  | .hbm, ⟨11, _⟩ => ⟨S8x1280x128, .f32⟩
  | .hbm, ⟨12, _⟩ => ⟨S8x1280x128, .f32⟩
  | .hbm, ⟨13, _⟩ => ⟨S_, .f32⟩
  | .hbm, ⟨14, _⟩ => ⟨S1280x128, .f32⟩
  | .hbm, ⟨15, _⟩ => ⟨S_, .f32⟩
  | .hbm, ⟨16, _⟩ => ⟨S1280x128, .f32⟩
  | .hbm, ⟨17, _⟩ => ⟨S1280x128, .f32⟩
  | .hbm, ⟨18, _⟩ => ⟨S_, .f32⟩
  | .hbm, ⟨19, _⟩ => ⟨S1280x128, .f32⟩
  | .hbm, ⟨20, _⟩ => ⟨S1280x128, .f32⟩
  | .hbm, ⟨21, _⟩ => ⟨S1280x128, .f32⟩
  | .hbm, ⟨22, _⟩ => ⟨S_, .f32⟩
  | .hbm, ⟨23, _⟩ => ⟨S1280x128, .f32⟩
  | .hbm, ⟨24, _⟩ => ⟨S1280x128, .f32⟩
  | .hbm, ⟨25, _⟩ => ⟨S1280x128, .f32⟩
  | .hbm, ⟨26, _⟩ => ⟨S_, .f32⟩
  | .hbm, ⟨27, _⟩ => ⟨S1280x128, .f32⟩
  | .hbm, ⟨28, _⟩ => ⟨S1280x128, .f32⟩
  | .hbm, ⟨29, _⟩ => ⟨S1280x128, .f32⟩
  | .hbm, ⟨30, _⟩ => ⟨S_, .f32⟩
  | .hbm, ⟨31, _⟩ => ⟨S1280x128, .f32⟩
  | .hbm, ⟨32, _⟩ => ⟨S1280x128, .f32⟩
  | .hbm, ⟨33, _⟩ => ⟨S_, .f32⟩
  | .hbm, ⟨34, _⟩ => ⟨S1280x128, .f32⟩
  | .hbm, ⟨35, _⟩ => ⟨S1280x128, .f32⟩
  | .hbm, ⟨36, _⟩ => ⟨S1280x128, .f32⟩
  | .hbm, ⟨37, _⟩ => ⟨S_, .f32⟩
  | .hbm, ⟨38, _⟩ => ⟨S1280x128, .f32⟩
  | .hbm, ⟨39, _⟩ => ⟨S1280x128, .f32⟩
  | .hbm, ⟨40, _⟩ => ⟨S1280x128, .f32⟩
  | .hbm, ⟨41, _⟩ => ⟨S_, .f32⟩
  | .hbm, ⟨42, _⟩ => ⟨S1280x128, .f32⟩
  | .hbm, ⟨43, _⟩ => ⟨S1280x128, .f32⟩
  | .hbm, ⟨44, _⟩ => ⟨S1280x128, .f32⟩
  | .hbm, ⟨45, _⟩ => ⟨S_, .f32⟩
  | .hbm, ⟨46, _⟩ => ⟨S1280x128, .f32⟩
  | .hbm, ⟨47, _⟩ => ⟨S1280x128, .f32⟩
  | _, _ => ⟨S1280x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Kernel22.lean ====
abbrev S64x128 : Shape := ⟨2, ![64, 128]⟩
abbrev S8x64x128 : Shape := ⟨3, ![8, 64, 128]⟩
abbrev S1x64x128 : Shape := ⟨3, ![1, 64, 128]⟩

abbrev nBuf : Space → Nat
  | .hbm => 8
  | .vmem => 8
  | .smem => 0
  | _ => 0

abbrev bufTy : (tb : Table) → Fin (tcTables nBuf tb) → BufTy
  | .hbm, ⟨0, _⟩ => ⟨S64x128, .f32⟩
  | .hbm, ⟨1, _⟩ => ⟨S8x64x128, .f32⟩
  | .hbm, ⟨2, _⟩ => ⟨S64x128, .f32⟩
  | .hbm, ⟨3, _⟩ => ⟨S64x128, .f32⟩
  | .hbm, ⟨4, _⟩ => ⟨S64x128, .f32⟩
  | .hbm, ⟨5, _⟩ => ⟨S64x128, .f32⟩
  | .hbm, ⟨6, _⟩ => ⟨S64x128, .f32⟩
  | .hbm, ⟨7, _⟩ => ⟨S64x128, .f32⟩
  | .local _ .vmem, ⟨0, _⟩ => ⟨S64x128, .f32⟩
  | .local _ .vmem, ⟨1, _⟩ => ⟨S8x64x128, .f32⟩
  | .local _ .vmem, ⟨2, _⟩ => ⟨S64x128, .f32⟩
  | .local _ .vmem, ⟨3, _⟩ => ⟨S64x128, .f32⟩
  | .local _ .vmem, ⟨4, _⟩ => ⟨S64x128, .f32⟩
  | .local _ .vmem, ⟨5, _⟩ => ⟨S64x128, .f32⟩
  | .local _ .vmem, ⟨6, _⟩ => ⟨S64x128, .f32⟩
  | .local _ .vmem, ⟨7, _⟩ => ⟨S64x128, .f32⟩
  | _, _ => ⟨S64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference22Ideal.lean ====
abbrev S64x128 : Shape := ⟨2, ![64, 128]⟩
abbrev S8x64x128 : Shape := ⟨3, ![8, 64, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S64x128, .f32⟩
  | .hbm, ⟨1, _⟩ => ⟨S8x64x128, .f32⟩
  | .hbm, ⟨2, _⟩ => ⟨S64x128, .f32⟩
  | .hbm, ⟨3, _⟩ => ⟨S64x128, .f32⟩
  | .hbm, ⟨4, _⟩ => ⟨S_, .f32⟩
  | .hbm, ⟨5, _⟩ => ⟨S64x128, .f32⟩
  | .hbm, ⟨6, _⟩ => ⟨S_, .f32⟩
  | .hbm, ⟨7, _⟩ => ⟨S64x128, .f32⟩
  | .hbm, ⟨8, _⟩ => ⟨S64x128, .f32⟩
  | .hbm, ⟨9, _⟩ => ⟨S_, .f32⟩
  | .hbm, ⟨10, _⟩ => ⟨S64x128, .f32⟩
  | .hbm, ⟨11, _⟩ => ⟨S64x128, .f32⟩
  | .hbm, ⟨12, _⟩ => ⟨S64x128, .f32⟩
  | .hbm, ⟨13, _⟩ => ⟨S_, .f32⟩
  | .hbm, ⟨14, _⟩ => ⟨S64x128, .f32⟩
  | .hbm, ⟨15, _⟩ => ⟨S64x128, .f32⟩
  | .hbm, ⟨16, _⟩ => ⟨S64x128, .f32⟩
  | .hbm, ⟨17, _⟩ => ⟨S_, .f32⟩
  | .hbm, ⟨18, _⟩ => ⟨S64x128, .f32⟩
  | .hbm, ⟨19, _⟩ => ⟨S64x128, .f32⟩
  | .hbm, ⟨20, _⟩ => ⟨S64x128, .f32⟩
  | .hbm, ⟨21, _⟩ => ⟨S_, .f32⟩
  | .hbm, ⟨22, _⟩ => ⟨S64x128, .f32⟩
  | .hbm, ⟨23, _⟩ => ⟨S64x128, .f32⟩
  | .hbm, ⟨24, _⟩ => ⟨S_, .f32⟩
  | .hbm, ⟨25, _⟩ => ⟨S64x128, .f32⟩
  | .hbm, ⟨26, _⟩ => ⟨S64x128, .f32⟩
  | .hbm, ⟨27, _⟩ => ⟨S64x128, .f32⟩
  | .hbm, ⟨28, _⟩ => ⟨S_, .f32⟩
  | .hbm, ⟨29, _⟩ => ⟨S64x128, .f32⟩
  | .hbm, ⟨30, _⟩ => ⟨S64x128, .f32⟩
  | .hbm, ⟨31, _⟩ => ⟨S64x128, .f32⟩
  | .hbm, ⟨32, _⟩ => ⟨S_, .f32⟩
  | .hbm, ⟨33, _⟩ => ⟨S64x128, .f32⟩
  | .hbm, ⟨34, _⟩ => ⟨S64x128, .f32⟩
  | .hbm, ⟨35, _⟩ => ⟨S64x128, .f32⟩
  | .hbm, ⟨36, _⟩ => ⟨S_, .f32⟩
  | .hbm, ⟨37, _⟩ => ⟨S64x128, .f32⟩
  | .hbm, ⟨38, _⟩ => ⟨S64x128, .f32⟩
  | _, _ => ⟨S64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel23.lean ====
abbrev S1024x768 : Shape := ⟨2, ![1024, 768]⟩
abbrev S1x1024x768 : Shape := ⟨3, ![1, 1024, 768]⟩
abbrev S256x768 : Shape := ⟨2, ![256, 768]⟩
abbrev S1x256x768 : Shape := ⟨3, ![1, 256, 768]⟩

abbrev nBuf : Space → Nat
  | .hbm => 8
  | .vmem => 16
  | .smem => 0
  | _ => 0

abbrev bufTy : (tb : Table) → Fin (tcTables nBuf tb) → BufTy
  | .hbm, ⟨0, _⟩ => ⟨S1024x768, .f32⟩
  | .hbm, ⟨1, _⟩ => ⟨S1x1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S1024x768, .f32⟩
  | .local _ .vmem, ⟨0, _⟩ => ⟨S256x768, .f32⟩
  | .local _ .vmem, ⟨1, _⟩ => ⟨S256x768, .f32⟩
  | .local _ .vmem, ⟨2, _⟩ => ⟨S1x256x768, .f32⟩
  | .local _ .vmem, ⟨3, _⟩ => ⟨S1x256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference23Ideal.lean ====
abbrev S1024x768 : Shape := ⟨2, ![1024, 768]⟩
abbrev S1x1024x768 : Shape := ⟨3, ![1, 1024, 768]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x768, .f32⟩
  | .hbm, ⟨1, _⟩ => ⟨S1x1024x768, .f32⟩
  | .hbm, ⟨2, _⟩ => ⟨S1024x768, .f32⟩
  | .hbm, ⟨3, _⟩ => ⟨S1024x768, .f32⟩
  | .hbm, ⟨4, _⟩ => ⟨S_, .f32⟩
  | .hbm, ⟨5, _⟩ => ⟨S1024x768, .f32⟩
  | .hbm, ⟨6, _⟩ => ⟨S_, .f32⟩
  | .hbm, ⟨7, _⟩ => ⟨S1024x768, .f32⟩
  | .hbm, ⟨8, _⟩ => ⟨S1024x768, .f32⟩
  | .hbm, ⟨9, _⟩ => ⟨S_, .f32⟩
  | .hbm, ⟨10, _⟩ => ⟨S1024x768, .f32⟩
  | .hbm, ⟨11, _⟩ => ⟨S1024x768, .f32⟩
  | .hbm, ⟨12, _⟩ => ⟨S1024x768, .f32⟩
  | .hbm, ⟨13, _⟩ => ⟨S_, .f32⟩
  | .hbm, ⟨14, _⟩ => ⟨S1024x768, .f32⟩
  | .hbm, ⟨15, _⟩ => ⟨S1024x768, .f32⟩
  | .hbm, ⟨16, _⟩ => ⟨S1024x768, .f32⟩
  | .hbm, ⟨17, _⟩ => ⟨S_, .f32⟩
  | .hbm, ⟨18, _⟩ => ⟨S1024x768, .f32⟩
  | .hbm, ⟨19, _⟩ => ⟨S1024x768, .f32⟩
  | .hbm, ⟨20, _⟩ => ⟨S1024x768, .f32⟩
  | .hbm, ⟨21, _⟩ => ⟨S_, .f32⟩
  | .hbm, ⟨22, _⟩ => ⟨S1024x768, .f32⟩
  | .hbm, ⟨23, _⟩ => ⟨S1024x768, .f32⟩
  | .hbm, ⟨24, _⟩ => ⟨S_, .f32⟩
  | .hbm, ⟨25, _⟩ => ⟨S1024x768, .f32⟩
  | .hbm, ⟨26, _⟩ => ⟨S1024x768, .f32⟩
  | .hbm, ⟨27, _⟩ => ⟨S1024x768, .f32⟩
  | .hbm, ⟨28, _⟩ => ⟨S_, .f32⟩
  | .hbm, ⟨29, _⟩ => ⟨S1024x768, .f32⟩
  | .hbm, ⟨30, _⟩ => ⟨S1024x768, .f32⟩
  | .hbm, ⟨31, _⟩ => ⟨S1024x768, .f32⟩
  | .hbm, ⟨32, _⟩ => ⟨S_, .f32⟩
  | .hbm, ⟨33, _⟩ => ⟨S1024x768, .f32⟩
  | .hbm, ⟨34, _⟩ => ⟨S1024x768, .f32⟩
  | .hbm, ⟨35, _⟩ => ⟨S1024x768, .f32⟩
  | .hbm, ⟨36, _⟩ => ⟨S_, .f32⟩
  | .hbm, ⟨37, _⟩ => ⟨S1024x768, .f32⟩
  | .hbm, ⟨38, _⟩ => ⟨S1024x768, .f32⟩
  | _, _ => ⟨S1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel24.lean ====
abbrev S8192x1024 : Shape := ⟨2, ![8192, 1024]⟩
abbrev S1x1024 : Shape := ⟨2, ![1, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1x1 : Shape := ⟨3, ![1, 1, 1]⟩
abbrev S1024 : Shape := ⟨1, ![1024]⟩

abbrev nBuf : Space → Nat
  | .hbm => 10
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1, .f32⟩
  | .hbm, ⟨6, _⟩ => ⟨S8192x1024, .f32⟩
  | .hbm, ⟨7, _⟩ => ⟨S8192x1024, .bf16⟩
  | .hbm, ⟨8, _⟩ => ⟨S1x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S1x1, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference24Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x1 : Shape := ⟨2, ![1, 1]⟩

abbrev nBuf : Space → Nat
  | .hbm => 81
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S8192, .f32⟩
  | .hbm, ⟨59, _⟩ => ⟨S8192x1, .f32⟩
  | .hbm, ⟨60, _⟩ => ⟨S8192x1024, .f32⟩
  | .hbm, ⟨61, _⟩ => ⟨S8192x1024, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S_, .f32⟩
  | .hbm, ⟨67, _⟩ => ⟨S8192, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S1x1, .f32⟩
  | .hbm, ⟨80, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_13 : Ref sig .tc := ⟨.hbm, 63, rfl⟩
abbrev main_v44 : Ref sig .tc := ⟨.hbm, 64, rfl⟩
abbrev main_v45 : Ref sig .tc := ⟨.hbm, 65, rfl⟩
abbrev main_cst_14 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_15 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== Kernel25.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S8192x1024, .bf16⟩
  | .hbm, ⟨5, _⟩ => ⟨S8192x1024, .f32⟩
  | .hbm, ⟨6, _⟩ => ⟨S8192x1024, .f32⟩
  | .hbm, ⟨7, _⟩ => ⟨S1x1024, .f32⟩
  | .hbm, ⟨8, _⟩ => ⟨S1x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference25Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 66
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S8192x1024, .bf16⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S_, .f32⟩
  | .hbm, ⟨60, _⟩ => ⟨S8192, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== Kernel26.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference26Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel27.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference27Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Kernel28.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 14
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .bf16⟩
  | .hbm, ⟨8, _⟩ => ⟨S8192x1024, .f32⟩
  | .hbm, ⟨9, _⟩ => ⟨S8192x1024, .bf16⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference28Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 79
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .bf16⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S8192x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_10 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩

abbrev nD : Nat := 1
abbrev τ : Topo := Topo.v7x

variable {F : FTy → Type} [FloatOps F]
-- ==== Kernel29.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference29Ideal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel30.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .hbm, ⟨3, _⟩ => ⟨S8192x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference30Ideal.lean ====
abbrev S8192x1024 : Shape := ⟨2, ![8192, 1024]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S8192x1024, .f32⟩
  | .hbm, ⟨10, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel31.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .hbm, ⟨3, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference31Ideal.lean ====
abbrev S8192x1024 : Shape := ⟨2, ![8192, 1024]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S8192x1024, .f32⟩
  | .hbm, ⟨10, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel32.lean ====
abbrev S8192x1024 : Shape := ⟨2, ![8192, 1024]⟩
abbrev S1024x512 : Shape := ⟨2, ![1024, 512]⟩
abbrev S8192x512 : Shape := ⟨2, ![8192, 512]⟩
abbrev S2048x1024 : Shape := ⟨2, ![2048, 1024]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x512, .bf16⟩
  | .hbm, ⟨2, _⟩ => ⟨S8192x512, .f32⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S2048x512, .f32⟩
  | .local _ .vmem, ⟨4, _⟩ => ⟨S2048x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference32Ideal.lean ====
abbrev S8192x1024 : Shape := ⟨2, ![8192, 1024]⟩
abbrev S1024x512 : Shape := ⟨2, ![1024, 512]⟩
abbrev S8192x512 : Shape := ⟨2, ![8192, 512]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x512, .bf16⟩
  | .hbm, ⟨2, _⟩ => ⟨S8192x1024, .f32⟩
  | .hbm, ⟨3, _⟩ => ⟨S1024x512, .f32⟩
  | .hbm, ⟨4, _⟩ => ⟨S8192x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel33.lean ====
abbrev S8192x1024 : Shape := ⟨2, ![8192, 1024]⟩
abbrev S1024x512 : Shape := ⟨2, ![1024, 512]⟩
abbrev S8192x512 : Shape := ⟨2, ![8192, 512]⟩
abbrev S2048x512 : Shape := ⟨2, ![2048, 512]⟩
abbrev S2048x1024 : Shape := ⟨2, ![2048, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x512, .bf16⟩
  | .hbm, ⟨2, _⟩ => ⟨S8192x512, .bf16⟩
  | .hbm, ⟨3, _⟩ => ⟨S8192x1024, .f32⟩
  | .local _ .vmem, ⟨0, _⟩ => ⟨S2048x512, .bf16⟩
  | .local _ .vmem, ⟨1, _⟩ => ⟨S2048x512, .bf16⟩
  | .local _ .vmem, ⟨2, _⟩ => ⟨S1024x512, .bf16⟩
  | .local _ .vmem, ⟨3, _⟩ => ⟨S2048x1024, .f32⟩
  | .local _ .vmem, ⟨4, _⟩ => ⟨S2048x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference33Ideal.lean ====
abbrev S8192x1024 : Shape := ⟨2, ![8192, 1024]⟩
abbrev S1024x512 : Shape := ⟨2, ![1024, 512]⟩
abbrev S8192x512 : Shape := ⟨2, ![8192, 512]⟩
abbrev S512x1024 : Shape := ⟨2, ![512, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x512, .bf16⟩
  | .hbm, ⟨2, _⟩ => ⟨S8192x512, .bf16⟩
  | .hbm, ⟨3, _⟩ => ⟨S8192x1024, .f32⟩
  | .hbm, ⟨4, _⟩ => ⟨S1024x512, .f32⟩
  | .hbm, ⟨5, _⟩ => ⟨S8192x512, .f32⟩
  | .hbm, ⟨6, _⟩ => ⟨S8192x512, .f32⟩
  | .hbm, ⟨7, _⟩ => ⟨S512x1024, .f32⟩
  | .hbm, ⟨8, _⟩ => ⟨S1024x512, .f32⟩
  | .hbm, ⟨9, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel34.lean ====
abbrev S8192x1024 : Shape := ⟨2, ![8192, 1024]⟩
abbrev S1024x512 : Shape := ⟨2, ![1024, 512]⟩
abbrev S8192x512 : Shape := ⟨2, ![8192, 512]⟩
abbrev S2048x1024 : Shape := ⟨2, ![2048, 1024]⟩
abbrev S2048x512 : Shape := ⟨2, ![2048, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x512, .bf16⟩
  | .hbm, ⟨2, _⟩ => ⟨S8192x512, .bf16⟩
  | .hbm, ⟨3, _⟩ => ⟨S1024x512, .f32⟩
  | .hbm, ⟨4, _⟩ => ⟨S1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .bf16⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== Reference34Ideal.lean ====
abbrev S8192x1024 : Shape := ⟨2, ![8192, 1024]⟩
abbrev S1024x512 : Shape := ⟨2, ![1024, 512]⟩
abbrev S8192x512 : Shape := ⟨2, ![8192, 512]⟩
abbrev S512x1024 : Shape := ⟨2, ![512, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x512, .bf16⟩
  | .hbm, ⟨2, _⟩ => ⟨S8192x512, .bf16⟩
  | .hbm, ⟨3, _⟩ => ⟨S1024x512, .f32⟩
  | .hbm, ⟨4, _⟩ => ⟨S8192x1024, .f32⟩
  | .hbm, ⟨5, _⟩ => ⟨S1024x512, .f32⟩
  | .hbm, ⟨6, _⟩ => ⟨S8192x512, .f32⟩
  | .hbm, ⟨7, _⟩ => ⟨S8192x512, .f32⟩
  | .hbm, ⟨8, _⟩ => ⟨S512x1024, .f32⟩
  | .hbm, ⟨9, _⟩ => ⟨S1024x512, .f32⟩
  | .hbm, ⟨10, _⟩ => ⟨S8192x1024, .f32⟩
  | .hbm, ⟨11, _⟩ => ⟨S1024x512, .f32⟩
  | .hbm, ⟨12, _⟩ => ⟨S1024x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.ConvBwd.Taps.lean ====
/-
  The nine taps of the depthwise 3 by 3 convolution. The tokens are the rows of a grid of 128 rows of 64 columns.
  `padded u r c` is the grid of `u` with one zero all round. A strip of the kernel holds 1024 tokens, and 128 more on
  each side of them (zeros outside the grid): reading it one token to the left or to the right, with the column that
  leaves the grid set to zero, gives the values of the padded grid.
-/
module

public import proofs.«01_k».proof.Proof.Gen.KernelIdeal.Skeleton
public import Idealize.ShloMosaic.Lib.Pipeline.ValueKit
public import Idealize.ShloMosaic.Lib.Pointwise

@[expose] public section

set_option maxRecDepth 16384

noncomputable section

namespace Cert.ConvBwd

open Cert.KernelIdeal Cert.KernelIdeal.Gen
open Idealize.ShloMosaic Idealize.ShloMosaic.TcCoe Idealize.SL.Sem

/-- The token in row `r - 1`, column `c - 1` of the grid, and zero on the border. -/
def padded (u : Fin 8192 → EReal) (r c : ℕ) : EReal :=
  if h : (1 ≤ r ∧ r ≤ 128) ∧ (1 ≤ c ∧ c ≤ 64) then u ⟨(r - 1) * 64 + (c - 1), by omega⟩ else 0

/-- The three blocks a grid step reads of one column `u` of the tokens: the 128 tokens before its strip (anything at the
    first step), its own 1024, and the 128 after it (anything at the last). -/
structure Strip (i : Fin 8) (v0 : Vec Ideal S128x256 .bf16) (v1 : Vec Ideal S1024x256 .bf16)
    (v2 : Vec Ideal S128x256 .bf16) (l : Fin 256) (u : Fin 8192 → EReal) : Prop where
  before : ∀ p : Fin 128, ∀ h : 0 < i.val, v0 (ix2 p l) = u ⟨i.val * 1024 - 128 + p.val, by omega⟩
  own : ∀ r : Fin 1024, v1 (ix2 r l) = u ⟨i.val * 1024 + r.val, by omega⟩
  after : ∀ p : Fin 128, ∀ h : i.val < 7, v2 (ix2 p l) = u ⟨i.val * 1024 + 1024 + p.val, by omega⟩

theorem first_iff : ∀ i : Fin 8, (Scalar.cmpi CmpIPredicate.eq (BitVec.ofNat 32 i.val) 0#32) = if i.val = 0 then 1#1 else 0#1 := by
  decide +kernel

theorem last_iff : ∀ i : Fin 8, (Scalar.cmpi CmpIPredicate.eq (BitVec.ofNat 32 i.val) 7#32) = if i.val = 7 then 1#1 else 0#1 := by
  decide +kernel

/-- A selection by a decided word is a case distinction. -/
theorem select_ite {α : Type} (c : Prop) [Decidable c] (a b : α) :
    Scalar.select (if c then 1#1 else 0#1) a b = if c then a else b := by
  by_cases h : c <;> simp only [h, if_true, if_false, Scalar.select] <;> rfl

/-- Position `q` of the tokens with 128 zeros before them. -/
def shifted (u : Fin 8192 → EReal) (q : ℕ) : EReal :=
  if h : 128 ≤ q ∧ q < 8320 then u ⟨q - 128, by omega⟩ else 0

/-- Row `p` of the strip of a grid step: 128 tokens before it, its own 1024, and 128 after it, zeros outside the grid. -/
theorem strip_at (i : grid0.Coords) (v0 : Vec Ideal S128x256 .bf16) (v1 : Vec Ideal S1024x256 .bf16)
    (v2 : Vec Ideal S128x256 .bf16) (l : Fin 256) (u : Fin 8192 → EReal) (hs : Strip (i 1) v0 v1 v2 l u) (p : Fin 1280) :
    k0_pay4 (F := Ideal) i v0 v1 v2 (ix2 p l) = shifted u ((i 1).val * 1024 + p.val) := by
  have hi : (i 1).val < 8 := (i 1).isLt
  pointwise [k0_pay4]
  rw [first_iff (i 1), last_iff (i 1)]
  simp only [select_ite]
  unfold shifted
  split_ifs <;> first | (exfalso; omega) | skip
  all_goals first
    | omega
    | rfl
    | (refine (hs.before _ (by omega)).trans ?_; rw [dif_pos (by omega)]; congr 2; simp only []; omega)
    | (refine (hs.own _).trans ?_; rw [dif_pos (by omega)]; congr 2; simp only []; omega)
    | (refine (hs.after _ (by omega)).trans ?_; rw [dif_pos (by omega)]; congr 2; simp only []; omega)
    | (rw [dif_neg (by omega)])

/-- The column of a row of the strip. -/
theorem col_at : ∀ p : Fin 1280, k0_pay5 (ix2 p 0) = BitVec.ofNat 32 (p.val % 64) := by
  intro p
  pointwise [k0_pay5]
  revert p
  decide +kernel

theorem not_first_col : ∀ c : Fin 64, IntOp.cmpi CmpIPredicate.sge (BitVec.ofNat 32 c.val) 1#32 = if 1 ≤ c.val then 1#1 else 0#1 := by
  decide +kernel

theorem not_last_col : ∀ c : Fin 64, IntOp.cmpi CmpIPredicate.sle (BitVec.ofNat 32 c.val) 62#32 = if c.val ≤ 62 then 1#1 else 0#1 := by
  decide +kernel

/-- The strip read one token to the left, zero in the first column. -/
theorem left_at (i : grid0.Coords) (v0 : Vec Ideal S128x256 .bf16) (v1 : Vec Ideal S1024x256 .bf16)
    (v2 : Vec Ideal S128x256 .bf16) (l : Fin 256) (u : Fin 8192 → EReal) (hs : Strip (i 1) v0 v1 v2 l u) (p : Fin 1280) :
    k0_pay6 (F := Ideal) i v0 v1 v2 (ix2 p l) = if 1 ≤ p.val % 64 then shifted u ((i 1).val * 1024 + p.val - 1) else 0 := by
  pointwise [k0_pay6]
  rw [col_at, not_first_col ⟨p.val % 64, by omega⟩]
  rw [select_ite]
  by_cases h : 1 ≤ p.val % 64
  · rw [if_pos h, if_pos h, strip_at i v0 v1 v2 l u hs]
    have e : (p.val + 1280 - 1) % 1280 = p.val - 1 := by omega
    show shifted u ((i 1).val * 1024 + (p.val + 1280 - 1) % 1280) = _
    rw [e, Nat.add_sub_assoc (by omega)]
  · rw [if_neg h, if_neg h]

/-- The strip read one token to the right, zero in the last column. -/
theorem right_at (i : grid0.Coords) (v0 : Vec Ideal S128x256 .bf16) (v1 : Vec Ideal S1024x256 .bf16)
    (v2 : Vec Ideal S128x256 .bf16) (l : Fin 256) (u : Fin 8192 → EReal) (hs : Strip (i 1) v0 v1 v2 l u) (p : Fin 1280) :
    k0_pay8 (F := Ideal) (k0_pay4 i v0 v1 v2) k0_pay5 k0_pay7 (ix2 p l)
      = if p.val % 64 ≤ 62 then shifted u ((i 1).val * 1024 + p.val + 1) else 0 := by
  pointwise [k0_pay8, k0_pay7]
  rw [col_at, not_last_col ⟨p.val % 64, by omega⟩]
  rw [select_ite]
  by_cases h : p.val % 64 ≤ 62
  · rw [if_pos h, if_pos h, strip_at i v0 v1 v2 l u hs]
    have e : (p.val + 1280 - 1279) % 1280 = p.val + 1 := by omega
    show shifted u ((i 1).val * 1024 + (p.val + 1280 - 1279) % 1280) = _
    rw [e, Nat.add_assoc]
  · rw [if_neg h, if_neg h]

/-- A token of the padded grid through its position among the tokens. -/
theorem padded_left (u : Fin 8192 → EReal) (n d : ℕ) (hn : n < 8192) (hd : d < 3) :
    (if 1 ≤ n % 64 then shifted u (n + 64 + 64 * d - 1) else 0) = padded u (n / 64 + d) (n % 64) := by
  unfold shifted padded
  split_ifs <;> first | rfl | omega | (congr 2; omega)

theorem padded_own (u : Fin 8192 → EReal) (n d : ℕ) (hn : n < 8192) (hd : d < 3) :
    shifted u (n + 64 + 64 * d) = padded u (n / 64 + d) (n % 64 + 1) := by
  unfold shifted padded
  split_ifs <;> first | rfl | omega | (congr 2; omega)

theorem padded_right (u : Fin 8192 → EReal) (n d : ℕ) (hn : n < 8192) (hd : d < 3) :
    (if n % 64 ≤ 62 then shifted u (n + 64 + 64 * d + 1) else 0) = padded u (n / 64 + d) (n % 64 + 2) := by
  unfold shifted padded
  split_ifs <;> first | rfl | omega | (congr 2; omega)

section Taps

variable (i : grid0.Coords) (v0 : Vec Ideal S128x256 .bf16) (v1 : Vec Ideal S1024x256 .bf16)
  (v2 : Vec Ideal S128x256 .bf16) (l : Fin 256) (u : Fin 8192 → EReal) (hs : Strip (i 1) v0 v1 v2 l u) (r : Fin 1024)

include hs

/-- A tap of the strip of grid step `i`: row `r + 64 (d + 1)` of the strip read to the left, in place or to the right is
    the value of the padded grid `d` rows and `0`, `1` or `2` columns further. -/
theorem tap_left (d : ℕ) (hd : d < 3) (p : Fin 1280) (hp : p.val = 64 + 64 * d + r.val) :
    k0_pay6 (F := Ideal) i v0 v1 v2 (ix2 p l)
      = padded u (((i 1).val * 1024 + r.val) / 64 + d) (((i 1).val * 1024 + r.val) % 64) := by
  have hi : (i 1).val < 8 := (i 1).isLt
  rw [left_at i v0 v1 v2 l u hs, ← padded_left u _ d (by omega) hd]
  have h1 : p.val % 64 = ((i 1).val * 1024 + r.val) % 64 := by omega
  have h2 : (i 1).val * 1024 + p.val - 1 = (i 1).val * 1024 + r.val + 64 + 64 * d - 1 := by omega
  rw [h1, h2]

theorem tap_own (d : ℕ) (hd : d < 3) (p : Fin 1280) (hp : p.val = 64 + 64 * d + r.val) :
    k0_pay4 (F := Ideal) i v0 v1 v2 (ix2 p l)
      = padded u (((i 1).val * 1024 + r.val) / 64 + d) (((i 1).val * 1024 + r.val) % 64 + 1) := by
  have hi : (i 1).val < 8 := (i 1).isLt
  rw [strip_at i v0 v1 v2 l u hs, ← padded_own u _ d (by omega) hd]
  congr 1
  omega

theorem tap_right (d : ℕ) (hd : d < 3) (p : Fin 1280) (hp : p.val = 64 + 64 * d + r.val) :
    k0_pay8 (F := Ideal) (k0_pay4 i v0 v1 v2) k0_pay5 k0_pay7 (ix2 p l)
      = padded u (((i 1).val * 1024 + r.val) / 64 + d) (((i 1).val * 1024 + r.val) % 64 + 2) := by
  have hi : (i 1).val < 8 := (i 1).isLt
  rw [right_at i v0 v1 v2 l u hs, ← padded_right u _ d (by omega) hd]
  have h1 : p.val % 64 = ((i 1).val * 1024 + r.val) % 64 := by omega
  have h2 : (i 1).val * 1024 + p.val + 1 = (i 1).val * 1024 + r.val + 64 + 64 * d + 1 := by omega
  rw [h1, h2]

end Taps

end Cert.ConvBwd
-- ==== Proof.ConvBwd.Blocks.lean ====
/-
  What one grid step of the kernel reads and computes: the nine taps of its strip in the order of the rows of the
  weights, the gradients through the gate, and the blocks of the arrays at its strip of tokens and channels.
-/
module

public import proofs.«01_k».proof.Proof.ConvBwd.Taps
public import proofs.«01_k».proof.Proof.Gen.KernelIdeal.Value

@[expose] public section

set_option maxRecDepth 16384

noncomputable section

namespace Cert.ConvBwd

open Cert.KernelIdeal Cert.KernelIdeal.Gen
open Idealize.ShloMosaic Idealize.ShloMosaic.TcCoe Idealize.SL.Sem
open Idealize.ShloMosaic.Pipeline (Dat)

/-! ### The taps, in the order of the rows of the weights -/

section Rows

variable (i : grid0.Coords) (v0 : Vec Ideal S128x256 .bf16) (v1 : Vec Ideal S1024x256 .bf16)
  (v2 : Vec Ideal S128x256 .bf16) (l : Fin 256) (u : Fin 8192 → EReal) (hs : Strip (i 1) v0 v1 v2 l u) (r : Fin 1024)

include hs

theorem tap0 : k0_pay9 (F := Ideal) (k0_pay6 i v0 v1 v2) (ix2 r l)
    = padded u (((i 1).val * 1024 + r.val) / 64 + 0) (((i 1).val * 1024 + r.val) % 64 + 0) := by
  pointwise [k0_pay9]
  exact tap_left i v0 v1 v2 l u hs r 0 (by omega) _ rfl

theorem tap1 : k0_pay10 (F := Ideal) (k0_pay4 i v0 v1 v2) (ix2 r l)
    = padded u (((i 1).val * 1024 + r.val) / 64 + 0) (((i 1).val * 1024 + r.val) % 64 + 1) := by
  pointwise [k0_pay10]
  exact tap_own i v0 v1 v2 l u hs r 0 (by omega) _ rfl

theorem tap2 : k0_pay11 (F := Ideal) (k0_pay4 i v0 v1 v2) k0_pay5 k0_pay7 (ix2 r l)
    = padded u (((i 1).val * 1024 + r.val) / 64 + 0) (((i 1).val * 1024 + r.val) % 64 + 2) := by
  pointwise [k0_pay11]
  exact tap_right i v0 v1 v2 l u hs r 0 (by omega) _ rfl

theorem tap3 : k0_pay12 (F := Ideal) (k0_pay6 i v0 v1 v2) (ix2 r l)
    = padded u (((i 1).val * 1024 + r.val) / 64 + 1) (((i 1).val * 1024 + r.val) % 64 + 0) := by
  pointwise [k0_pay12]
  exact tap_left i v0 v1 v2 l u hs r 1 (by omega) _ rfl

theorem tap4 : k0_pay13 (F := Ideal) (k0_pay4 i v0 v1 v2) (ix2 r l)
    = padded u (((i 1).val * 1024 + r.val) / 64 + 1) (((i 1).val * 1024 + r.val) % 64 + 1) := by
  pointwise [k0_pay13]
  exact tap_own i v0 v1 v2 l u hs r 1 (by omega) _ rfl

theorem tap5 : k0_pay14 (F := Ideal) (k0_pay4 i v0 v1 v2) k0_pay5 k0_pay7 (ix2 r l)
    = padded u (((i 1).val * 1024 + r.val) / 64 + 1) (((i 1).val * 1024 + r.val) % 64 + 2) := by
  pointwise [k0_pay14]
  exact tap_right i v0 v1 v2 l u hs r 1 (by omega) _ rfl

theorem tap6 : k0_pay15 (F := Ideal) (k0_pay6 i v0 v1 v2) (ix2 r l)
    = padded u (((i 1).val * 1024 + r.val) / 64 + 2) (((i 1).val * 1024 + r.val) % 64 + 0) := by
  pointwise [k0_pay15]
  exact tap_left i v0 v1 v2 l u hs r 2 (by omega) _ rfl

theorem tap7 : k0_pay16 (F := Ideal) (k0_pay4 i v0 v1 v2) (ix2 r l)
    = padded u (((i 1).val * 1024 + r.val) / 64 + 2) (((i 1).val * 1024 + r.val) % 64 + 1) := by
  pointwise [k0_pay16]
  exact tap_own i v0 v1 v2 l u hs r 2 (by omega) _ rfl

theorem tap8 : k0_pay17 (F := Ideal) (k0_pay4 i v0 v1 v2) k0_pay5 k0_pay7 (ix2 r l)
    = padded u (((i 1).val * 1024 + r.val) / 64 + 2) (((i 1).val * 1024 + r.val) % 64 + 2) := by
  pointwise [k0_pay17]
  exact tap_right i v0 v1 v2 l u hs r 2 (by omega) _ rfl

end Rows

/-! ### The gate -/

/-- The gradient of the gated half: `d` is the cotangent, `g` and `v` the two halves. -/
def gradGate (g v d : EReal) : EReal := d * v * Ideal.logistic g * (1 + g * (1 - Ideal.logistic g))

/-- The gradient of the other half. -/
def gradVal (g d : EReal) : EReal := d * g * Ideal.logistic g

theorem gate_at (g v : Vec Ideal S1024x256 .f32) (d : Vec Ideal S1024x256 .bf16) (r : Fin 1024) (l : Fin 256) :
    k0_pay36 g v d (ix2 r l) = gradGate (g (ix2 r l)) (v (ix2 r l)) (d (ix2 r l)) := by
  pointwise [k0_pay36, k0_pay35, k0_pay34, k0_pay33]
  rfl

theorem val_at (g : Vec Ideal S1024x256 .f32) (d : Vec Ideal S1024x256 .bf16) (r : Fin 1024) (l : Fin 256) :
    k0_pay37 g d (ix2 r l) = gradVal (g (ix2 r l)) (d (ix2 r l)) := by
  pointwise [k0_pay37, k0_pay35, k0_pay34, k0_pay33]
  rfl

/-! ### The blocks -/

theorem idx : ∀ t : Fin cfg0.N, (win0_1.index t = ![t.val % 8, t.val / 8] ∧ win0_4.index t = ![t.val % 8, t.val / 8]
    ∧ win0_6.index t = ![t.val % 8, t.val / 8] ∧ win0_7.index t = ![t.val % 8, t.val / 8]
    ∧ win0_8.index t = ![t.val % 8, t.val / 8] ∧ win0_9.index t = ![t.val % 8, t.val / 8]
    ∧ win0_10.index t = ![t.val % 8, t.val / 8])
    ∧ (win0_11.index t = ![0, t.val / 8] ∧ win0_12.index t = ![0, t.val / 8] ∧ win0_13.index t = ![0, t.val / 8]
    ∧ win0_14.index t = ![0, t.val / 8])
    ∧ (win0_0.index t = ![t.val % 8 * 8 - 1, t.val / 8] ∧ win0_3.index t = ![t.val % 8 * 8 - 1, t.val / 8])
    ∧ (t.val % 8 < 7 → win0_2.index t = ![t.val % 8 * 8 + 8, t.val / 8] ∧ win0_5.index t = ![t.val % 8 * 8 + 8, t.val / 8])
    ∧ (grid0.coords t 1).val = t.val % 8 :=
  (by decide +kernel : ∀ t : Fin grid0.N, _)

variable (m : (ℓ : Loc nD τ sig) → Buf (Elt Ideal) ℓ) (c : Dev nD)

/-- The half to be gated after its convolution, as the launch stages it. -/
abbrev gateArr : S8192x2816.Idx → EReal := V m c main_v60

/-- The other half after its convolution, as the launch stages it. -/
abbrev valArr : S8192x2816.Idx → EReal := V m c main_v121

/-- A column of an array of tokens. -/
def column (A : S8192x2816.Idx → EReal) (j : Fin 2816) (n : Fin 8192) : EReal := A (ix2 n j)

theorem strip_gate (t : Fin cfg0.N) (l : Fin 256) (j : Fin 2816) (hj : j.val = t.val / 8 * 256 + l.val) :
    Strip (grid0.coords t 1) (iblk m c 0 t) (iblk m c 1 t) (iblk m c 2 t) l
      (column (m (c.tc.loc main_arg0)) j) := by
  obtain ⟨⟨h1, h4, h6, h7, h8, h9, h10⟩, ⟨h11, h12, h13, h14⟩, ⟨h0, h3⟩, h25, hi⟩ := idx t
  constructor
  · intro p h
    show V m c main_arg0 ((win0_0.blk t).view.emb (ix2 p l)) = _
    rw [V_main_arg0]
    unfold column
    blk_ext [h0, hi]
  · intro p
    show V m c main_arg0 ((win0_1.blk t).view.emb (ix2 p l)) = _
    rw [V_main_arg0]
    unfold column
    blk_ext [h1, hi]
  · intro p h
    show V m c main_arg0 ((win0_2.blk t).view.emb (ix2 p l)) = _
    rw [V_main_arg0]
    unfold column
    blk_ext [(h25 (by omega)).1, hi]

theorem strip_val (t : Fin cfg0.N) (l : Fin 256) (j : Fin 2816) (hj : j.val = t.val / 8 * 256 + l.val) :
    Strip (grid0.coords t 1) (iblk m c 3 t) (iblk m c 4 t) (iblk m c 5 t) l
      (column (m (c.tc.loc main_arg1)) j) := by
  obtain ⟨⟨h1, h4, h6, h7, h8, h9, h10⟩, ⟨h11, h12, h13, h14⟩, ⟨h0, h3⟩, h25, hi⟩ := idx t
  constructor
  · intro p h
    show V m c main_arg1 ((win0_3.blk t).view.emb (ix2 p l)) = _
    rw [V_main_arg1]
    unfold column
    blk_ext [h3, hi]
  · intro p
    show V m c main_arg1 ((win0_4.blk t).view.emb (ix2 p l)) = _
    rw [V_main_arg1]
    unfold column
    blk_ext [h4, hi]
  · intro p h
    show V m c main_arg1 ((win0_5.blk t).view.emb (ix2 p l)) = _
    rw [V_main_arg1]
    unfold column
    blk_ext [(h25 (by omega)).2, hi]

/-- Token `r` of the strip of point `t`. -/
abbrev token (t : Fin cfg0.N) (r : Fin 1024) : Fin 8192 := ⟨t.val % 8 * 1024 + r.val, by omega⟩

theorem read_gate (t : Fin cfg0.N) (r : Fin 1024) (l : Fin 256) (j : Fin 2816) (hj : j.val = t.val / 8 * 256 + l.val) :
    iblk m c 6 t (ix2 r l) = gateArr m c (ix2 (token t r) j) := by
  obtain ⟨⟨h1, h4, h6, h7, h8, h9, h10⟩, ⟨h11, h12, h13, h14⟩, ⟨h0, h3⟩, h25, hi⟩ := idx t
  show V m c main_v60 ((win0_6.blk t).view.emb (ix2 r l)) = _
  blk_ext [h6]

theorem read_val (t : Fin cfg0.N) (r : Fin 1024) (l : Fin 256) (j : Fin 2816) (hj : j.val = t.val / 8 * 256 + l.val) :
    iblk m c 7 t (ix2 r l) = valArr m c (ix2 (token t r) j) := by
  obtain ⟨⟨h1, h4, h6, h7, h8, h9, h10⟩, ⟨h11, h12, h13, h14⟩, ⟨h0, h3⟩, h25, hi⟩ := idx t
  show V m c main_v121 ((win0_7.blk t).view.emb (ix2 r l)) = _
  blk_ext [h7]

theorem read_cot (t : Fin cfg0.N) (r : Fin 1024) (l : Fin 256) (j : Fin 2816) (hj : j.val = t.val / 8 * 256 + l.val) :
    iblk m c 8 t (ix2 r l) = m (c.tc.loc main_arg6) (ix2 (token t r) j) := by
  obtain ⟨⟨h1, h4, h6, h7, h8, h9, h10⟩, ⟨h11, h12, h13, h14⟩, ⟨h0, h3⟩, h25, hi⟩ := idx t
  show V m c main_arg6 ((win0_8.blk t).view.emb (ix2 r l)) = _
  rw [V_main_arg6]
  blk_ext [h8]

end Cert.ConvBwd
-- ==== Proof.ConvBwd.Steps.lean ====
/-
  What one grid step adds to the gradients of the taps and of the offsets: the first step of a run of eight starts them
  from zero, every other one adds to what the step before it left.
-/
module

public import proofs.«01_k».proof.Proof.ConvBwd.Blocks
public import Idealize.ShloMosaic.Lib.Pipeline.ReadBack
public import proofs.«01_k».proof.Proof.Gen.KernelIdeal.Value

@[expose] public section

set_option maxRecDepth 16384

noncomputable section

namespace Cert.ConvBwd

open Cert.KernelIdeal Cert.KernelIdeal.Gen
open Idealize.ShloMosaic Idealize.ShloMosaic.TcCoe Idealize.SL.Sem
open Idealize.ShloMosaic.Pipeline (Dat)

/-- Stores that cover an index hide what was stored there before them. -/
theorem canon_hides {s : Shape} {e : EltTy} (L L' : List (View.Piece (Elt Ideal) s e)) (y : s.Idx) (v : Elt Ideal e)
    (hc : ∃ p ∈ L, y ∈ p.1.set) (h : View.canon L y = v) : View.canon (L ++ L') y = v := by
  rw [← h]
  clear h
  induction L with
  | nil => exact absurd hc (by simp)
  | cons p L ih =>
    by_cases hy : y ∈ p.1.set
    · obtain ⟨x, rfl⟩ := p.1.exists_idx_of_mem hy
      exact (View.canon_cons_emb p.1 p.2 _ x).trans (View.canon_cons_emb p.1 p.2 _ x).symm
    · rw [List.cons_append, View.canon_cons_of_not_mem p _ hy, View.canon_cons_of_not_mem p _ hy]
      refine ih ?_
      obtain ⟨q, hq, hyq⟩ := hc
      rcases List.mem_cons.mp hq with rfl | hq
      · exact absurd hyq hy
      · exact ⟨q, hq, hyq⟩

variable (m : (ℓ : Loc nD τ sig) → Buf (Elt Ideal) ℓ) (c : Dev nD)

/-- The gradient of the gated half, as an array of tokens. -/
def dGate : S8192x2816.Idx → EReal := fun n => gradGate (gateArr m c n) (valArr m c n) (m (c.tc.loc main_arg6) n)

/-- The gradient of the other half. -/
def dVal : S8192x2816.Idx → EReal := fun n => gradVal (gateArr m c n) (m (c.tc.loc main_arg6) n)

theorem step_gate (t : Fin cfg0.N) (r : Fin 1024) (l : Fin 256) (j : Fin 2816) (hj : j.val = t.val / 8 * 256 + l.val) :
    k0_pay36 (F := Ideal) (iblk m c 6 t) (iblk m c 7 t) (iblk m c 8 t) (ix2 r l) = dGate m c (ix2 (token t r) j) := by
  refine (gate_at _ _ _ r l).trans ?_
  rw [read_gate m c t r l j hj, read_val m c t r l j hj, read_cot m c t r l j hj]
  rfl

theorem step_val (t : Fin cfg0.N) (r : Fin 1024) (l : Fin 256) (j : Fin 2816) (hj : j.val = t.val / 8 * 256 + l.val) :
    k0_pay37 (F := Ideal) (iblk m c 6 t) (iblk m c 8 t) (ix2 r l) = dVal m c (ix2 (token t r) j) := by
  refine (val_at _ _ r l).trans ?_
  rw [read_gate m c t r l j hj, read_cot m c t r l j hj]
  rfl

/-- The channel a point's lane `l` stands for. -/
abbrev channel (t : Fin cfg0.N) (l : Fin 256) : Fin 2816 :=
  ⟨t.val / 8 * 256 + l.val, by have := t.isLt; have h : cfg0.N = 88 := rfl; omega⟩

/-- Token `n`'s share of the gradient of tap `k` of channel `j`: the token's neighbour times the gradient. -/
def share (U D : S8192x2816.Idx → EReal) (k : Fin 9) (j : Fin 2816) (n : Fin 8192) : EReal :=
  padded (column U j) (n.val / 64 + k.val / 3) (n.val % 64 + k.val % 3) * D (ix2 n j)

/-- What point `t` adds to the gradient of the taps. -/
def addTaps (U D : S8192x2816.Idx → EReal) (t : Fin cfg0.N) (y : S9x256.Idx) : EReal :=
  ∑ r : Fin 1024, share U D (y 0) (channel t (y 1)) (token t r)

/-- What point `t` adds to the gradient of the offset. -/
def addOffset (D : S8192x2816.Idx → EReal) (t : Fin cfg0.N) (y : S1x256.Idx) : EReal :=
  ∑ r : Fin 1024, D (ix2 (token t r) (channel t (y 1)))

/-- One row of what a point adds to the taps' gradient: the sum of the tap times the gradient. -/
theorem row_sum (U D : S8192x2816.Idx → EReal) (t : Fin cfg0.N) (y : S9x256.Idx) (l : Fin 256) (a b : ℕ) (k : Fin 9)
    (hk : (y 0).val = k.val) (hl : (y 1).val = l.val) (ha : k.val / 3 = a) (hb : k.val % 3 = b)
    (T X : S1024x256.Idx → EReal)
    (hT : ∀ r : Fin 1024, T (ix2 r l) = padded (column U (channel t l))
      (((grid0.coords t 1).val * 1024 + r.val) / 64 + a) (((grid0.coords t 1).val * 1024 + r.val) % 64 + b))
    (hX : ∀ r : Fin 1024, X (ix2 r l) = D (ix2 (token t r) (channel t l))) :
    ∑ r : Fin 1024, T (ix2 r l) * X (ix2 r l) = addTaps U D t y := by
  have hy : y = ix2 k l := by idx_ext <;> assumption
  subst hy
  have hi : (grid0.coords t 1).val = t.val % 8 := (idx t).2.2.2.2
  refine Finset.sum_congr rfl fun r _ => ?_
  rw [hT, hX, hi, ← ha, ← hb]
  rfl

/-- The row after the point: the row before it, and what the point adds. -/
theorem row_eq (U D : S8192x2816.Idx → EReal) (t : Fin cfg0.N) (y : S9x256.Idx) (l : Fin 256) (a b : ℕ) (k : Fin 9)
    (hk : (y 0).val = k.val) (hl : (y 1).val = l.val) (ha : k.val / 3 = a) (hb : k.val % 3 = b)
    (prev : S9x256.Idx → EReal) (T X : S1024x256.Idx → EReal)
    (hT : ∀ r : Fin 1024, T (ix2 r l) = padded (column U (channel t l))
      (((grid0.coords t 1).val * 1024 + r.val) / 64 + a) (((grid0.coords t 1).val * 1024 + r.val) % 64 + b))
    (hX : ∀ r : Fin 1024, X (ix2 r l) = D (ix2 (token t r) (channel t l))) :
    prev (ix2 k l) + ∑ r : Fin 1024, T (ix2 r l) * X (ix2 r l) = prev y + addTaps U D t y := by
  rw [row_sum U D t y l a b k hk hl ha hb T X hT hX]
  have hy : y = ix2 k l := by idx_ext <;> assumption
  rw [hy]

theorem start11 (t : Fin cfg0.N) (h : t.val % 8 = 0) (y : S9x256.Idx) :
    (outsAt0 m c t.val t.isLt).2.2.1 y = 0 + addTaps (m (c.tc.loc main_arg0)) (dGate m c) t y := by
  rw [outsAt0_A m c t h, zero_add]
  frame_open
  simp (disch := decide) only [↓ View.readCov_skip, ↓ View.readCov_cons_toLoadRect, ↓ View.readCov_fill]
  frame_out
  clear h
  have hD := fun (l : Fin 256) (r : Fin 1024) => step_gate m c t r l (channel t l) rfl
  have hS := fun l : Fin 256 => strip_gate m c t l (channel t l) rfl
  refine canon_hides [_, _, _, _, _, _, _, _, _] [_] y _ (View.cover_of_tiled_head _ _ _ (by rfl) y) ?_
  canon_tiles x h
  · pointwise [k0_pay2, k0_pay40]
    exact row_sum _ _ t y (x 1) 2 2 8 (by omega) h1 rfl rfl _ _ (fun r => tap8 _ _ _ _ _ _ (hS (x 1)) r) (hD (x 1))
  · pointwise [k0_pay62, k0_pay40]
    exact row_sum _ _ t y (x 1) 2 1 7 (by omega) h1 rfl rfl _ _ (fun r => tap7 _ _ _ _ _ _ (hS (x 1)) r) (hD (x 1))
  · pointwise [k0_pay60, k0_pay40]
    exact row_sum _ _ t y (x 1) 2 0 6 (by omega) h1 rfl rfl _ _ (fun r => tap6 _ _ _ _ _ _ (hS (x 1)) r) (hD (x 1))
  · pointwise [k0_pay58, k0_pay40]
    exact row_sum _ _ t y (x 1) 1 2 5 (by omega) h1 rfl rfl _ _ (fun r => tap5 _ _ _ _ _ _ (hS (x 1)) r) (hD (x 1))
  · pointwise [k0_pay56, k0_pay40]
    exact row_sum _ _ t y (x 1) 1 1 4 (by omega) h1 rfl rfl _ _ (fun r => tap4 _ _ _ _ _ _ (hS (x 1)) r) (hD (x 1))
  · pointwise [k0_pay54, k0_pay52, k0_pay53, k0_pay40]
    exact row_sum _ _ t y (x 1) 1 0 3 (by omega) h1 rfl rfl _ _ (fun r => tap3 _ _ _ _ _ _ (hS (x 1)) r) (hD (x 1))
  · pointwise [k0_pay50, k0_pay40]
    exact row_sum _ _ t y (x 1) 0 2 2 (by omega) h1 rfl rfl _ _ (fun r => tap2 _ _ _ _ _ _ (hS (x 1)) r) (hD (x 1))
  · pointwise [k0_pay48, k0_pay40]
    exact row_sum _ _ t y (x 1) 0 1 1 (by omega) h1 rfl rfl _ _ (fun r => tap1 _ _ _ _ _ _ (hS (x 1)) r) (hD (x 1))
  · pointwise [k0_pay46, k0_pay40]
    exact row_sum _ _ t y (x 1) 0 0 0 (by omega) h1 rfl rfl _ _ (fun r => tap0 _ _ _ _ _ _ (hS (x 1)) r) (hD (x 1))

theorem step11 (t : Fin cfg0.N) (h : ¬ t.val % 8 = 0) (y : S9x256.Idx) :
    (outsAt0 m c t.val t.isLt).2.2.1 y
      = (outsAt0 m c (t.val - 1) (Nat.lt_of_le_of_lt (Nat.sub_le _ _) t.isLt)).2.2.1 y
        + addTaps (m (c.tc.loc main_arg0)) (dGate m c) t y := by
  rw [outsAt0_B m c t h]
  frame_open
  simp (disch := decide) only [↓ View.readCov_skip, ↓ View.readCov_cons_toLoadRect, ↓ View.readCov_fill]
  frame_out
  clear h
  have hD := fun (l : Fin 256) (r : Fin 1024) => step_gate m c t r l (channel t l) rfl
  have hS := fun l : Fin 256 => strip_gate m c t l (channel t l) rfl
  canon_tiles x h
  · pointwise [k0_pay2]
    exact row_eq _ _ t y (x 1) 2 2 8 (by omega) h1 rfl rfl _ _ _ (fun r => tap8 _ _ _ _ _ _ (hS (x 1)) r) (hD (x 1))
  · pointwise [k0_pay62]
    exact row_eq _ _ t y (x 1) 2 1 7 (by omega) h1 rfl rfl _ _ _ (fun r => tap7 _ _ _ _ _ _ (hS (x 1)) r) (hD (x 1))
  · pointwise [k0_pay60]
    exact row_eq _ _ t y (x 1) 2 0 6 (by omega) h1 rfl rfl _ _ _ (fun r => tap6 _ _ _ _ _ _ (hS (x 1)) r) (hD (x 1))
  · pointwise [k0_pay58]
    exact row_eq _ _ t y (x 1) 1 2 5 (by omega) h1 rfl rfl _ _ _ (fun r => tap5 _ _ _ _ _ _ (hS (x 1)) r) (hD (x 1))
  · pointwise [k0_pay56]
    exact row_eq _ _ t y (x 1) 1 1 4 (by omega) h1 rfl rfl _ _ _ (fun r => tap4 _ _ _ _ _ _ (hS (x 1)) r) (hD (x 1))
  · pointwise [k0_pay54, k0_pay52, k0_pay53]
    exact row_eq _ _ t y (x 1) 1 0 3 (by omega) h1 rfl rfl _ _ _ (fun r => tap3 _ _ _ _ _ _ (hS (x 1)) r) (hD (x 1))
  · pointwise [k0_pay50]
    exact row_eq _ _ t y (x 1) 0 2 2 (by omega) h1 rfl rfl _ _ _ (fun r => tap2 _ _ _ _ _ _ (hS (x 1)) r) (hD (x 1))
  · pointwise [k0_pay48]
    exact row_eq _ _ t y (x 1) 0 1 1 (by omega) h1 rfl rfl _ _ _ (fun r => tap1 _ _ _ _ _ _ (hS (x 1)) r) (hD (x 1))
  · pointwise [k0_pay46]
    exact row_eq _ _ t y (x 1) 0 0 0 (by omega) h1 rfl rfl _ _ _ (fun r => tap0 _ _ _ _ _ _ (hS (x 1)) r) (hD (x 1))

theorem start12 (t : Fin cfg0.N) (h : t.val % 8 = 0) (y : S9x256.Idx) :
    (outsAt0 m c t.val t.isLt).2.2.2.1 y = 0 + addTaps (m (c.tc.loc main_arg1)) (dVal m c) t y := by
  rw [outsAt0_A m c t h, zero_add]
  frame_open
  simp (disch := decide) only [↓ View.readCov_skip, ↓ View.readCov_cons_toLoadRect, ↓ View.readCov_fill]
  frame_out
  clear h
  have hD := fun (l : Fin 256) (r : Fin 1024) => step_val m c t r l (channel t l) rfl
  have hS := fun l : Fin 256 => strip_val m c t l (channel t l) rfl
  refine canon_hides [_, _, _, _, _, _, _, _, _] [_] y _ (View.cover_of_tiled_head _ _ _ (by rfl) y) ?_
  canon_tiles x h
  · pointwise [k0_pay3, k0_pay41]
    exact row_sum _ _ t y (x 1) 2 2 8 (by omega) h1 rfl rfl _ _ (fun r => tap8 _ _ _ _ _ _ (hS (x 1)) r) (hD (x 1))
  · pointwise [k0_pay1, k0_pay63, k0_pay64, k0_pay41]
    exact row_sum _ _ t y (x 1) 2 1 7 (by omega) h1 rfl rfl _ _ (fun r => tap7 _ _ _ _ _ _ (hS (x 1)) r) (hD (x 1))
  · pointwise [k0_pay61, k0_pay41]
    exact row_sum _ _ t y (x 1) 2 0 6 (by omega) h1 rfl rfl _ _ (fun r => tap6 _ _ _ _ _ _ (hS (x 1)) r) (hD (x 1))
  · pointwise [k0_pay59, k0_pay41]
    exact row_sum _ _ t y (x 1) 1 2 5 (by omega) h1 rfl rfl _ _ (fun r => tap5 _ _ _ _ _ _ (hS (x 1)) r) (hD (x 1))
  · pointwise [k0_pay57, k0_pay41]
    exact row_sum _ _ t y (x 1) 1 1 4 (by omega) h1 rfl rfl _ _ (fun r => tap4 _ _ _ _ _ _ (hS (x 1)) r) (hD (x 1))
  · pointwise [k0_pay55, k0_pay41]
    exact row_sum _ _ t y (x 1) 1 0 3 (by omega) h1 rfl rfl _ _ (fun r => tap3 _ _ _ _ _ _ (hS (x 1)) r) (hD (x 1))
  · pointwise [k0_pay51, k0_pay41]
    exact row_sum _ _ t y (x 1) 0 2 2 (by omega) h1 rfl rfl _ _ (fun r => tap2 _ _ _ _ _ _ (hS (x 1)) r) (hD (x 1))
  · pointwise [k0_pay49, k0_pay41]
    exact row_sum _ _ t y (x 1) 0 1 1 (by omega) h1 rfl rfl _ _ (fun r => tap1 _ _ _ _ _ _ (hS (x 1)) r) (hD (x 1))
  · pointwise [k0_pay47, k0_pay41]
    exact row_sum _ _ t y (x 1) 0 0 0 (by omega) h1 rfl rfl _ _ (fun r => tap0 _ _ _ _ _ _ (hS (x 1)) r) (hD (x 1))

theorem step12 (t : Fin cfg0.N) (h : ¬ t.val % 8 = 0) (y : S9x256.Idx) :
    (outsAt0 m c t.val t.isLt).2.2.2.1 y
      = (outsAt0 m c (t.val - 1) (Nat.lt_of_le_of_lt (Nat.sub_le _ _) t.isLt)).2.2.2.1 y
        + addTaps (m (c.tc.loc main_arg1)) (dVal m c) t y := by
  rw [outsAt0_B m c t h]
  frame_open
  simp (disch := decide) only [↓ View.readCov_skip, ↓ View.readCov_cons_toLoadRect, ↓ View.readCov_fill]
  frame_out
  clear h
  have hD := fun (l : Fin 256) (r : Fin 1024) => step_val m c t r l (channel t l) rfl
  have hS := fun l : Fin 256 => strip_val m c t l (channel t l) rfl
  canon_tiles x h
  · pointwise [k0_pay3]
    exact row_eq _ _ t y (x 1) 2 2 8 (by omega) h1 rfl rfl _ _ _ (fun r => tap8 _ _ _ _ _ _ (hS (x 1)) r) (hD (x 1))
  · pointwise [k0_pay1, k0_pay63, k0_pay64]
    exact row_eq _ _ t y (x 1) 2 1 7 (by omega) h1 rfl rfl _ _ _ (fun r => tap7 _ _ _ _ _ _ (hS (x 1)) r) (hD (x 1))
  · pointwise [k0_pay61]
    exact row_eq _ _ t y (x 1) 2 0 6 (by omega) h1 rfl rfl _ _ _ (fun r => tap6 _ _ _ _ _ _ (hS (x 1)) r) (hD (x 1))
  · pointwise [k0_pay59]
    exact row_eq _ _ t y (x 1) 1 2 5 (by omega) h1 rfl rfl _ _ _ (fun r => tap5 _ _ _ _ _ _ (hS (x 1)) r) (hD (x 1))
  · pointwise [k0_pay57]
    exact row_eq _ _ t y (x 1) 1 1 4 (by omega) h1 rfl rfl _ _ _ (fun r => tap4 _ _ _ _ _ _ (hS (x 1)) r) (hD (x 1))
  · pointwise [k0_pay55]
    exact row_eq _ _ t y (x 1) 1 0 3 (by omega) h1 rfl rfl _ _ _ (fun r => tap3 _ _ _ _ _ _ (hS (x 1)) r) (hD (x 1))
  · pointwise [k0_pay51]
    exact row_eq _ _ t y (x 1) 0 2 2 (by omega) h1 rfl rfl _ _ _ (fun r => tap2 _ _ _ _ _ _ (hS (x 1)) r) (hD (x 1))
  · pointwise [k0_pay49]
    exact row_eq _ _ t y (x 1) 0 1 1 (by omega) h1 rfl rfl _ _ _ (fun r => tap1 _ _ _ _ _ _ (hS (x 1)) r) (hD (x 1))
  · pointwise [k0_pay47]
    exact row_eq _ _ t y (x 1) 0 0 0 (by omega) h1 rfl rfl _ _ _ (fun r => tap0 _ _ _ _ _ _ (hS (x 1)) r) (hD (x 1))

theorem start13 (t : Fin cfg0.N) (h : t.val % 8 = 0) (y : S1x256.Idx) :
    (outsAt0 m c t.val t.isLt).2.2.2.2.1 y = 0 + addOffset (dGate m c) t y := by
  rw [outsAt0_A m c t h, zero_add]
  frame_out
  have hy : y = ix2 0 (y 1) := by idx_ext
  rw [hy]
  pointwise [k0_pay44, k0_pay42]
  exact Finset.sum_congr rfl fun r _ => step_gate m c t r (y 1) (channel t (y 1)) rfl

theorem step13 (t : Fin cfg0.N) (h : ¬ t.val % 8 = 0) (y : S1x256.Idx) :
    (outsAt0 m c t.val t.isLt).2.2.2.2.1 y
      = (outsAt0 m c (t.val - 1) (Nat.lt_of_le_of_lt (Nat.sub_le _ _) t.isLt)).2.2.2.2.1 y + addOffset (dGate m c) t y := by
  rw [outsAt0_B m c t h]
  frame_out
  have hy : y = ix2 0 (y 1) := by idx_ext
  rw [hy]
  pointwise [k0_pay44]
  exact congrArg _ (Finset.sum_congr rfl fun r _ => step_gate m c t r (y 1) (channel t (y 1)) rfl)

theorem start14 (t : Fin cfg0.N) (h : t.val % 8 = 0) (y : S1x256.Idx) :
    (outsAt0 m c t.val t.isLt).2.2.2.2.2 y = 0 + addOffset (dVal m c) t y := by
  rw [outsAt0_A m c t h, zero_add]
  frame_out
  have hy : y = ix2 0 (y 1) := by idx_ext
  rw [hy]
  pointwise [k0_pay45, k0_pay43]
  exact Finset.sum_congr rfl fun r _ => step_val m c t r (y 1) (channel t (y 1)) rfl

theorem step14 (t : Fin cfg0.N) (h : ¬ t.val % 8 = 0) (y : S1x256.Idx) :
    (outsAt0 m c t.val t.isLt).2.2.2.2.2 y
      = (outsAt0 m c (t.val - 1) (Nat.lt_of_le_of_lt (Nat.sub_le _ _) t.isLt)).2.2.2.2.2 y + addOffset (dVal m c) t y := by
  rw [outsAt0_B m c t h]
  frame_out
  have hy : y = ix2 0 (y 1) := by idx_ext
  rw [hy]
  pointwise [k0_pay45]
  exact congrArg _ (Finset.sum_congr rfl fun r _ => step_val m c t r (y 1) (channel t (y 1)) rfl)

end Cert.ConvBwd
-- ==== Proof.ConvBwd.Arrays.lean ====
/-
  What the kernel leaves in its six results: the gradients of the two halves before the gate token by token, and the
  gradients of the convolutions' taps and offsets as sums over all tokens, gathered strip by strip.
-/
module

public import proofs.«01_k».proof.Proof.ConvBwd.Steps
public import proofs.«01_k».proof.Proof.Gen.KernelIdeal.Value

@[expose] public section

set_option maxRecDepth 16384

noncomputable section

namespace Cert.ConvBwd

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- Token and channel of an element of a point's block. -/
theorem ix2_eta (y : S1024x256.Idx) : ix2 (y 0) (y 1) = y := by idx_ext

/-- The gated half's gradient fills its result. -/
theorem final9 : (dats m 0 c).arrAt 9 cfg0.N = dGate m c := by
  refine (dats m 0 c).arrAt_eq_of_covers 9 _ (by decide +kernel) fun t hf y => ?_
  have h9 := (idx t).1.2.2.2.2.2.1
  have hy : (win0_9.blk t).view.emb y = ix2 (token t (y 0)) (channel t (y 1)) := by blk_ext [h9]
  have key : (outsAt0 m c t.val t.isLt).1 y = k0_pay36 (F := Ideal) (iblk m c 6 t) (iblk m c 7 t) (iblk m c 8 t) y := by
    by_cases h : t.val % 8 = 0
    · rw [outsAt0_A m c t h]
      frame_out
      rfl
    · rw [outsAt0_B m c t h]
      frame_out
      rfl
  blk_simp [h9]
  rw [after0_9]
  refine key.trans ?_
  rw [← ix2_eta y]
  refine (step_gate m c t (y 0) (y 1) (channel t (y 1)) rfl).trans ?_
  rw [ix2_eta y]
  exact congrArg _ hy.symm

/-- The other half's gradient fills its result. -/
theorem final10 : (dats m 0 c).arrAt 10 cfg0.N = dVal m c := by
  refine (dats m 0 c).arrAt_eq_of_covers 10 _ (by decide +kernel) fun t hf y => ?_
  have h10 := (idx t).1.2.2.2.2.2.2
  have hy : (win0_10.blk t).view.emb y = ix2 (token t (y 0)) (channel t (y 1)) := by blk_ext [h10]
  have key : (outsAt0 m c t.val t.isLt).2.1 y = k0_pay37 (F := Ideal) (iblk m c 6 t) (iblk m c 8 t) y := by
    by_cases h : t.val % 8 = 0
    · rw [outsAt0_A m c t h]
      frame_out
      rfl
    · rw [outsAt0_B m c t h]
      frame_out
      rfl
  blk_simp [h10]
  rw [after0_10]
  refine key.trans ?_
  rw [← ix2_eta y]
  refine (step_val m c t (y 0) (y 1) (channel t (y 1)) rfl).trans ?_
  rw [ix2_eta y]
  exact congrArg _ hy.symm

/-- The gradient of the taps over all tokens. -/
def sumTaps (U D : S8192x2816.Idx → EReal) (z : S9x2816.Idx) : EReal := ∑ n : Fin 8192, share U D (z 0) (z 1) n

/-- The gradient of the offset over all tokens. -/
def sumOffset (D : S8192x2816.Idx → EReal) (z : S1x2816.Idx) : EReal := ∑ n : Fin 8192, D (ix2 n (z 1))

/-- The eight points of a run together add over all tokens. -/
theorem run_tokens (f : Fin 2816 → Fin 8192 → EReal) (t : Fin cfg0.N) (hr : t.val % 8 = 8 - 1) (l : Fin 256) :
    ∑ s : Fin 8, (∑ r : Fin 1024, f (channel ⟨8 * (t.val / 8) + s.val, Pipeline.run_point_lt_of_flush t hr s⟩ l)
        (token ⟨8 * (t.val / 8) + s.val, Pipeline.run_point_lt_of_flush t hr s⟩ r))
      = ∑ n : Fin 8192, f (channel t l) n := by
  refine Fin.sum_mul_add_congr fun s r hl => ?_
  have h1 : (8 * (t.val / 8) + s.val) / 8 = t.val / 8 := by omega
  have h2 : (8 * (t.val / 8) + s.val) % 8 = s.val := by omega
  congr 1 <;> (apply Fin.ext; simp only [h1, h2])

theorem final11 : (dats m 0 c).arrAt 11 cfg0.N = sumTaps (m (c.tc.loc main_arg0)) (dGate m c) := by
  refine (dats m 0 c).arrAt_eq_of_covers 11 _ (by decide +kernel) fun t hf y => ?_
  have h11 := (idx t).2.1.1
  have hy : (win0_11.blk t).view.emb y = ix2 (y 0) (channel t (y 1)) := by blk_ext [h11]
  have h := Pipeline.eq_sum_fin_of_reset_step_apply_of_flush (fun n h => (outsAt0 m c n h).2.2.1) 8 (fun _ => 0)
    (addTaps (m (c.tc.loc main_arg0)) (dGate m c)) (start11 m c) (step11 m c) t ((flush0_11 t).mp hf) y
  blk_simp [h11]
  rw [after0_11]
  refine h.trans ((zero_add _).trans ?_)
  refine (run_tokens (share (m (c.tc.loc main_arg0)) (dGate m c) (y 0)) t ((flush0_11 t).mp hf) (y 1)).trans ?_
  exact congrArg (sumTaps (m (c.tc.loc main_arg0)) (dGate m c)) hy.symm

theorem final12 : (dats m 0 c).arrAt 12 cfg0.N = sumTaps (m (c.tc.loc main_arg1)) (dVal m c) := by
  refine (dats m 0 c).arrAt_eq_of_covers 12 _ (by decide +kernel) fun t hf y => ?_
  have h12 := (idx t).2.1.2.1
  have hy : (win0_12.blk t).view.emb y = ix2 (y 0) (channel t (y 1)) := by blk_ext [h12]
  have h := Pipeline.eq_sum_fin_of_reset_step_apply_of_flush (fun n h => (outsAt0 m c n h).2.2.2.1) 8 (fun _ => 0)
    (addTaps (m (c.tc.loc main_arg1)) (dVal m c)) (start12 m c) (step12 m c) t ((flush0_12 t).mp hf) y
  blk_simp [h12]
  rw [after0_12]
  refine h.trans ((zero_add _).trans ?_)
  refine (run_tokens (share (m (c.tc.loc main_arg1)) (dVal m c) (y 0)) t ((flush0_12 t).mp hf) (y 1)).trans ?_
  exact congrArg (sumTaps (m (c.tc.loc main_arg1)) (dVal m c)) hy.symm

theorem final13 : (dats m 0 c).arrAt 13 cfg0.N = sumOffset (dGate m c) := by
  refine (dats m 0 c).arrAt_eq_of_covers 13 _ (by decide +kernel) fun t hf y => ?_
  have h13 := (idx t).2.1.2.2.1
  have hy : (win0_13.blk t).view.emb y = ix2 (y 0) (channel t (y 1)) := by blk_ext [h13]
  have hk : (win0_13.blk t).view.emb y 1 = channel t (y 1) := congrFun hy 1
  have h := Pipeline.eq_sum_fin_of_reset_step_apply_of_flush (fun n h => (outsAt0 m c n h).2.2.2.2.1) 8 (fun _ => 0)
    (addOffset (dGate m c)) (start13 m c) (step13 m c) t ((flush0_13 t).mp hf) y
  blk_simp [h13]
  rw [after0_13]
  refine h.trans ((zero_add _).trans ?_)
  refine (run_tokens (fun j n => dGate m c (ix2 n j)) t ((flush0_13 t).mp hf) (y 1)).trans ?_
  exact Finset.sum_congr rfl fun n _ => congrArg (fun k => dGate m c (ix2 n k)) hk.symm

theorem final14 : (dats m 0 c).arrAt 14 cfg0.N = sumOffset (dVal m c) := by
  refine (dats m 0 c).arrAt_eq_of_covers 14 _ (by decide +kernel) fun t hf y => ?_
  have h14 := (idx t).2.1.2.2.2
  have hy : (win0_14.blk t).view.emb y = ix2 (y 0) (channel t (y 1)) := by blk_ext [h14]
  have hk : (win0_14.blk t).view.emb y 1 = channel t (y 1) := congrFun hy 1
  have h := Pipeline.eq_sum_fin_of_reset_step_apply_of_flush (fun n h => (outsAt0 m c n h).2.2.2.2.2) 8 (fun _ => 0)
    (addOffset (dVal m c)) (start14 m c) (step14 m c) t ((flush0_14 t).mp hf) y
  blk_simp [h14]
  rw [after0_14]
  refine h.trans ((zero_add _).trans ?_)
  refine (run_tokens (fun j n => dVal m c (ix2 n j)) t ((flush0_14 t).mp hf) (y 1)).trans ?_
  exact Finset.sum_congr rfl fun n _ => congrArg (fun k => dVal m c (ix2 n k)) hk.symm

end Cert.ConvBwd
-- ==== Proof.ConvBwd.Gate.lean ====
/-
  The gate's derivative over the extended reals, and the arrays without infinities for which its two written forms agree.
-/
module

public import proofs.«01_k».proof.Proof.Gen.Pre_finite
public import proofs.«01_k».proof.Proof.Gen.KernelIdeal
public import proofs.«01_k».proof.Proof.Gen.ReferenceIdeal.Read
public import proofs.«01_k».proof.Defs

@[expose] public section

set_option maxRecDepth 16384

noncomputable section

namespace Cert.ConvBwd

open Idealize.ShloMosaic Idealize.ShloMosaic.TcCoe Idealize.SL.Sem

/-- The derivative of `g · logistic g`, times a real `t`: factored by `t · logistic g`, or as the sum of the product rule. -/
theorem gate_rule (t : ℝ) (g : EReal) :
    (t : EReal) * Ideal.logistic g * (1 + g * (1 - Ideal.logistic g))
      = (t : EReal) * Ideal.logistic g + g * t * (Ideal.logistic g * (1 - Ideal.logistic g)) := by
  have one_sub : (1 : EReal) - 1 = 0 := by rw [← EReal.coe_one, ← EReal.coe_sub, sub_self, EReal.coe_zero]
  induction g using EReal.rec with
  | bot => rw [Ideal.logistic_bot]; simp
  | top => rw [Ideal.logistic_top, one_sub]; simp
  | coe r =>
    rw [Ideal.logistic_coe]
    norm_cast
    ring

/-- An array all of whose elements are real numbers. -/
def Finite {s : Shape} (x : s.Idx → EReal) : Prop := ∀ i, ∃ r : ℝ, x i = r

theorem Finite.add {s : Shape} {x y : FVec Ideal s .f32} (hx : Finite x) (hy : Finite y) : Finite (addf x y) := fun i => by
  obtain ⟨a, ha⟩ := hx i
  obtain ⟨b, hb⟩ := hy i
  exact ⟨a + b, (congrArg₂ (· + ·) ha hb).trans (EReal.coe_add a b).symm⟩

theorem Finite.mul {s : Shape} {x y : FVec Ideal s .f32} (hx : Finite x) (hy : Finite y) : Finite (mulf x y) := fun i => by
  obtain ⟨a, ha⟩ := hx i
  obtain ⟨b, hb⟩ := hy i
  exact ⟨a * b, (congrArg₂ (· * ·) ha hb).trans (EReal.coe_mul a b).symm⟩

theorem Finite.cast {s t : Shape} {x : s.Idx → EReal} (hx : Finite x) (h : s.ShapeCasts t) : Finite (shapeCast t x h) :=
  fun i => hx _

theorem Finite.slice {s t : Shape} {x : s.Idx → EReal} (hx : Finite x) (off : Fin s.rank → ℕ) (h : s.Slices off t) :
    Finite (extractStridedSlice t off x h) := fun i => hx _

theorem Finite.spread {s t : Shape} {x : s.Idx → EReal} (hx : Finite x) (dims : Fin s.rank → Fin t.rank)
    (h : s.BroadcastsInDim t dims) : Finite (broadcastInDim t dims h x) := fun i => hx _

theorem Finite.pad {s t u : Shape} {x : s.Idx → EReal} {v : u.Idx → EReal} (hx : Finite x) (hv : Finite v)
    (lo hi inner : Fin s.rank → ℕ) (h : s.Pads lo hi inner t) (hu : 0 < u.numel) :
    Finite (Idealize.ShloMosaic.pad t lo hi inner x v h hu) := fun i => by
  unfold Idealize.ShloMosaic.pad
  split
  · exact hx _
  · exact hv _

/-- The comparison of a magnitude with infinity says that a number is real. -/
theorem real_of_lt {x : EReal} (h : Ideal.cmp .olt (FloatOps.absf (F := Ideal) (φ := .f32) x) (Ideal.ofBits .f32 0x7F800000#32) = 1#1) :
    ∃ r : ℝ, x = r := by
  have top : Ideal.ofBits .f32 0x7F800000#32 = (⊤ : EReal) := by simp [Ideal.ofBits, Ideal.ieee]
  rw [top] at h
  induction x using EReal.rec with
  | coe r => exact ⟨r, rfl⟩
  | bot => exact absurd h (by decide +kernel)
  | top => exact absurd h (by decide +kernel)

open Cert.ReferenceIdeal Cert.ReferenceIdeal.Gen Cert.ReferenceIdeal.Read in
/-- The ungated half's convolution of arrays without infinities has none. -/
theorem val_finite (x1 : Vec Ideal S8192x2816 .bf16) (x3 : Vec Ideal S9x2816 .f32) (x5 : Vec Ideal S1x2816 .f32)
    (h1 : Finite x1) (h3 : Finite x3) (h5 : Finite x5) : Finite (val_main_v122 (F := Ideal) x1 x3 x5) := by
  have zero : Finite (val_main_call1_v0 (F := Ideal)) := fun i => ⟨0, by
    show ((((0#32 : BitVec 32).toInt : ℝ)) : EReal) = _
    simp⟩
  have start : Finite (val_main_cst_1 (F := Ideal)) := fun i => ⟨0, by
    show Ideal.ofBits .f32 0x00000000#32 = _
    simp [Ideal.ofBits, Ideal.ieee]⟩
  have grid : Finite (val_main_v64 (F := Ideal) x1) := ((show Finite (val_main_v1 (F := Ideal) x1) from h1).cast _).pad zero _ _ _ _ _
  have tap (a b : ℕ) (hs : S130x66x2816.Slices ![a, b, 0] S128x64x2816) (k : ℕ) (hk : S9x2816.Slices ![k, 0] S1x2816) :
      Finite (s := S128x64x2816) (mulf (F := Ideal) (φ := .f32) (extractStridedSlice S128x64x2816 ![a, b, 0] (val_main_v64 (F := Ideal) x1) hs)
        (broadcastInDim S128x64x2816 ![0, 1, 2] bcast_S1x1x2816_S128x64x2816_0_1_2
          (broadcastInDim S1x1x2816 ![1, 2] bcast_S1x2816_S1x1x2816_1_2 (extractStridedSlice S1x2816 ![k, 0] x3 hk)))) :=
    (grid.slice _ _).mul (((h3.slice _ _).spread _ _).spread _ _)
  have sum : Finite (val_main_v119 (F := Ideal) x1 x3) :=
    ((((((((((start.spread _ _).add
      (tap 0 0 slices_S130x66x2816_S128x64x2816_0_0_0 0 slices_S9x2816_S1x2816_0_0)).add
      (tap 0 1 slices_S130x66x2816_S128x64x2816_0_1_0 1 slices_S9x2816_S1x2816_1_0)).add
      (tap 0 2 slices_S130x66x2816_S128x64x2816_0_2_0 2 slices_S9x2816_S1x2816_2_0)).add
      (tap 1 0 slices_S130x66x2816_S128x64x2816_1_0_0 3 slices_S9x2816_S1x2816_3_0)).add
      (tap 1 1 slices_S130x66x2816_S128x64x2816_1_1_0 4 slices_S9x2816_S1x2816_4_0)).add
      (tap 1 2 slices_S130x66x2816_S128x64x2816_1_2_0 5 slices_S9x2816_S1x2816_5_0)).add
      (tap 2 0 slices_S130x66x2816_S128x64x2816_2_0_0 6 slices_S9x2816_S1x2816_6_0)).add
      (tap 2 1 slices_S130x66x2816_S128x64x2816_2_1_0 7 slices_S9x2816_S1x2816_7_0)).add
      (tap 2 2 slices_S130x66x2816_S128x64x2816_2_2_0 8 slices_S9x2816_S1x2816_8_0))
  exact (sum.cast _).add (h5.spread _ _)

end Cert.ConvBwd

end
-- ==== Proof.ConvBwd.Reference.lean ====
/-
  The reference's results element by element: the same gradients before the gate, and the gradients of the taps and
  offsets as sums over the tokens, which the reference forms on the tokens' grid, one tap at a time.
-/
module

public import proofs.«01_k».proof.Proof.ConvBwd.Arrays
public import proofs.«01_k».proof.Proof.ConvBwd.Gate
public import Idealize.ShloMosaic.Lib.KernelVsHost

@[expose] public section

set_option maxRecDepth 16384

noncomputable section

namespace Cert.ConvBwd

open Cert.ReferenceIdeal Cert.ReferenceIdeal.Gen Cert.ReferenceIdeal.Read
open Idealize.ShloMosaic Idealize.ShloMosaic.TcCoe Idealize.SL.Sem

/-- The constant zero the reference starts its sums and paddings from. -/
theorem zero_at (i : S_.Idx) : constant (F := Ideal) S_ .f32 0x00000000#32 i = (0 : EReal) := by
  show Ideal.ofBits .f32 0x00000000#32 = _
  simp [Ideal.ofBits, Ideal.ieee]

/-- The tokens on their grid with a rim of zeros around it. -/
def rimmed (x : Vec Ideal S8192x2816 .bf16) : Vec Ideal S130x66x2816 .f32 :=
  pad S130x66x2816 ![1, 1, 0] ![1, 1, 0] ![0, 0, 0] (shapeCast S128x64x2816 (extf (F := Ideal) .f32 x bitsLt_bf16_f32) shapeCasts_S8192x2816_S128x64x2816)
    (sitofp (F := Ideal) .f32 (constantI S_ 32 0#32)) pads_S128x64x2816_S130x66x2816_110_110_000 h_S_

theorem rimmed_at (x : Vec Ideal S8192x2816 .bf16) (r : Fin 130) (q : Fin 66) (j : Fin 2816) :
    rimmed x (ix3 r q j) = padded (column x j) r.val q.val := by
  unfold padded rimmed
  by_cases h : (1 ≤ r.val ∧ r.val ≤ 128) ∧ (1 ≤ q.val ∧ q.val ≤ 64)
  · rw [dif_pos h]
    refine (pad_apply_of_inside _ _ _ _ _ _ _ _ (ix3 (⟨r.val - 1, by omega⟩ : Fin 128) (⟨q.val - 1, by omega⟩ : Fin 64) j)
      fun a => ?_).trans ?_
    · match a with
      | ⟨0, _⟩ => show r.val = 1 + (r.val - 1) * 1; omega
      | ⟨1, _⟩ => show q.val = 1 + (q.val - 1) * 1; omega
      | ⟨2, _⟩ => show j.val = 0 + j.val * 1; omega
    · refine shapeCast_apply _ _ _ (ix2 (⟨(r.val - 1) * 64 + (q.val - 1), by omega⟩ : Fin 8192) j) ?_
      rw [Shape.rowMajor_val_two, Shape.rowMajor_val_three]
      rfl
  · rw [dif_neg h]
    have zero : (sitofp (F := Ideal) .f32 (constantI S_ 32 0#32)) (Shape.Idx.first h_S_) = (0 : EReal) := by
      show ((((0#32 : BitVec 32).toInt : ℝ)) : EReal) = _
      simp
    refine Eq.trans ?_ zero
    by_cases hr : 1 ≤ r.val ∧ r.val ≤ 128
    · refine pad_apply_of_not_inside _ _ _ _ _ _ _ _ 1 fun hin => h ⟨hr, ?_⟩
      have h1 : 1 ≤ q.val := hin.1
      have h2 : (q.val - 1) / 1 < 64 := hin.2.2
      omega
    · refine pad_apply_of_not_inside _ _ _ _ _ _ _ _ 0 fun hin => hr ?_
      have h1 : 1 ≤ r.val := hin.1
      have h2 : (r.val - 1) / 1 < 128 := hin.2.2
      omega

/-- One tap's part of the grid. -/
theorem slice_at (x : Vec Ideal S8192x2816 .bf16) (a b : ℕ) (h : S130x66x2816.Slices ![a, b, 0] S128x64x2816)
    (p : Fin 128) (q : Fin 64) (j : Fin 2816) (ha : a ≤ 2) (hb : b ≤ 2) :
    extractStridedSlice S128x64x2816 ![a, b, 0] (rimmed x) h (ix3 p q j) = padded (column x j) (p.val + a) (q.val + b) := by
  refine (extractStridedSlice_apply ![a, b, 0] (rimmed x) h _
    (ix3 (⟨p.val + a, by omega⟩ : Fin 130) (⟨q.val + b, by omega⟩ : Fin 66) j) fun k => ?_).trans (rimmed_at x _ _ j)
  match k with
  | ⟨0, _⟩ => exact Nat.add_comm p.val a
  | ⟨1, _⟩ => exact Nat.add_comm q.val b
  | ⟨2, _⟩ => exact (Nat.zero_add j.val).symm

/-- A sum over the first two axes of the grid is the sum over the tokens. -/
theorem sum_grid (x : S128x64x2816.Idx → EReal) (h : S128x64x2816.ReducesTo [0, 1] S2816) (b : EReal) (j : Fin 2816) :
    Ideal.hostReduceAdd h x b (ix1 j)
      = b + ∑ n : Fin 8192, x (ix3 (⟨n.val / 64, by omega⟩ : Fin 128) (⟨n.val % 64, by omega⟩ : Fin 64) j) := by
  refine congrArg (b + ·) (Finset.sum_filter_eq_sum_of_fiber _
    (fun n : Fin 8192 => ix3 (⟨n.val / 64, by omega⟩ : Fin 128) (⟨n.val % 64, by omega⟩ : Fin 64) j) (fun n n' e => ?_) (fun i => ?_) x)
  · have h0 : n.val / 64 = n'.val / 64 := congrArg Fin.val (congrFun e 0)
    have h1 : n.val % 64 = n'.val % 64 := congrArg Fin.val (congrFun e 1)
    exact Fin.ext (by omega)
  · constructor
    · intro e
      have hj : (i 2).val = j.val := congrArg Fin.val (congrFun e 0)
      have h0 : (i 0).val < 128 := (i 0).isLt
      have h1 : (i 1).val < 64 := (i 1).isLt
      refine ⟨⟨(i 0).val * 64 + (i 1).val, by omega⟩, funext fun a => Fin.ext ?_⟩
      match a with
      | ⟨0, _⟩ => show ((i 0).val * 64 + (i 1).val) / 64 = (i 0).val; omega
      | ⟨1, _⟩ => show ((i 0).val * 64 + (i 1).val) % 64 = (i 1).val; omega
      | ⟨2, _⟩ => exact hj.symm
    · rintro ⟨n, rfl⟩
      funext a
      match a with
      | ⟨0, _⟩ => rfl

/-- A sum over two axes of extent one is the element. -/
theorem sum_unit (x : S1x1x2816.Idx → EReal) (h : S1x1x2816.ReducesTo [0, 1] S2816) (b : EReal) (j : Fin 2816) :
    Ideal.hostReduceAdd h x b (ix1 j) = b + x (ix3 (0 : Fin 1) (0 : Fin 1) j) := by
  refine congrArg (b + ·) ((Finset.sum_filter_eq_sum_of_fiber _
    (fun n : Fin 1 => ix3 (0 : Fin 1) (0 : Fin 1) j) (fun n n' e => Subsingleton.elim _ _) (fun i => ?_) x).trans (Fin.sum_univ_one _))
  constructor
  · intro e
    have hj : (i 2).val = j.val := congrArg Fin.val (congrFun e 0)
    have h0 : (i 0).val < 1 := (i 0).isLt
    have h1 : (i 1).val < 1 := (i 1).isLt
    refine ⟨0, funext fun a => Fin.ext ?_⟩
    match a with
    | ⟨0, _⟩ => show 0 = (i 0).val; omega
    | ⟨1, _⟩ => show 0 = (i 1).val; omega
    | ⟨2, _⟩ => exact hj.symm
  · rintro ⟨n, rfl⟩
    funext a
    match a with
    | ⟨0, _⟩ => rfl

/-- One tap's gradient as the reference forms it: the products summed over the grid, then over two axes of extent one. -/
def tapRow (S : FVec Ideal S128x64x2816 .f32) (D : FVec Ideal S8192x2816 .f32) : FVec Ideal S2816 .f32 :=
  Host.reduceAdd (shapeCast S1x1x2816 (Host.reduceAdd (mulf S (shapeCast S128x64x2816 D shapeCasts_S8192x2816_S128x64x2816))
    (constant S_ .f32 0x00000000#32) reducesTo_S128x64x2816_S2816_d0_1 h_S_) shapeCasts_S2816_S1x1x2816)
    (constant S_ .f32 0x00000000#32) reducesTo_S1x1x2816_S2816_d0_1 h_S_

theorem tapRow_at (S : FVec Ideal S128x64x2816 .f32) (D : FVec Ideal S8192x2816 .f32) (j : Fin 2816) :
    tapRow S D (ix1 j) = ∑ n : Fin 8192, S (ix3 (⟨n.val / 64, by omega⟩ : Fin 128) (⟨n.val % 64, by omega⟩ : Fin 64) j)
      * D (ix2 n j) := by
  refine (sum_unit _ _ _ j).trans ?_
  rw [zero_at, zero_add]
  refine (shapeCast_apply _ shapeCasts_S2816_S1x1x2816 _ (ix1 j) ?_).trans ?_
  · rw [Shape.rowMajor_val_one, Shape.rowMajor_val_three]
    show j.val = (0 * 1 + 0) * 2816 + j.val
    omega
  refine (sum_grid _ _ _ j).trans ?_
  rw [zero_at, zero_add]
  refine Finset.sum_congr rfl fun n _ => congrArg (S _ * ·) ?_
  refine shapeCast_apply D shapeCasts_S8192x2816_S128x64x2816 _ (ix2 n j) ?_
  rw [Shape.rowMajor_val_two, Shape.rowMajor_val_three]
  show n.val * 2816 + j.val = (n.val / 64 * 64 + n.val % 64) * 2816 + j.val
  have : n.val / 64 * 64 + n.val % 64 = n.val := Nat.div_add_mod' _ _
  rw [this]

/-- A tap's gradient set into its row. -/
def inRow (lo hi : ℕ) (h : S1x2816.Pads ![lo, 0] ![hi, 0] ![0, 0] S9x2816) (f : FVec Ideal S2816 .f32) : FVec Ideal S9x2816 .f32 :=
  pad S9x2816 ![lo, 0] ![hi, 0] ![0, 0] (broadcastInDim S1x2816 ![1] bcast_S2816_S1x2816_1 f)
    (constant (F := Ideal) S_ .f32 0x00000000#32) h h_S_

theorem inRow_at (lo hi : ℕ) (h : S1x2816.Pads ![lo, 0] ![hi, 0] ![0, 0] S9x2816) (f : FVec Ideal S2816 .f32)
    (k : Fin 9) (j : Fin 2816) : inRow lo hi h f (ix2 k j) = if k.val = lo then f (ix1 j) else 0 := by
  unfold inRow
  split
  · rename_i hk
    refine (pad_apply_of_inside _ _ _ _ _ _ _ _ (ix2 (0 : Fin 1) j) fun a => ?_).trans ?_
    · match a with
      | ⟨0, _⟩ => show k.val = lo + 0 * 1; omega
      | ⟨1, _⟩ => show j.val = 0 + j.val * 1; omega
    · refine broadcastInDim_apply _ _ _ _ (ix1 j) fun a => ?_
      match a with
      | ⟨0, _⟩ => rfl
  · rename_i hk
    refine (pad_apply_of_not_inside _ _ _ _ _ _ _ _ 0 fun hin => hk ?_).trans (zero_at _)
    have h1 : lo ≤ k.val := hin.1
    have h2 : (k.val - lo) / 1 < 1 := hin.2.2
    omega

/-- The nine taps' gradients together. -/
def taps (x : Vec Ideal S8192x2816 .bf16) (D : FVec Ideal S8192x2816 .f32) : FVec Ideal S9x2816 .f32 :=
  addf (addf (addf (addf (addf (addf (addf (addf
    (inRow 8 0 pads_S1x2816_S9x2816_800_000 (tapRow (extractStridedSlice S128x64x2816 ![2, 2, 0] (rimmed x) slices_S130x66x2816_S128x64x2816_2_2_0) D))
    (inRow 7 1 pads_S1x2816_S9x2816_710_000 (tapRow (extractStridedSlice S128x64x2816 ![2, 1, 0] (rimmed x) slices_S130x66x2816_S128x64x2816_2_1_0) D)))
    (inRow 6 2 pads_S1x2816_S9x2816_620_000 (tapRow (extractStridedSlice S128x64x2816 ![2, 0, 0] (rimmed x) slices_S130x66x2816_S128x64x2816_2_0_0) D)))
    (inRow 5 3 pads_S1x2816_S9x2816_530_000 (tapRow (extractStridedSlice S128x64x2816 ![1, 2, 0] (rimmed x) slices_S130x66x2816_S128x64x2816_1_2_0) D)))
    (inRow 4 4 pads_S1x2816_S9x2816_440_000 (tapRow (extractStridedSlice S128x64x2816 ![1, 1, 0] (rimmed x) slices_S130x66x2816_S128x64x2816_1_1_0) D)))
    (inRow 3 5 pads_S1x2816_S9x2816_350_000 (tapRow (extractStridedSlice S128x64x2816 ![1, 0, 0] (rimmed x) slices_S130x66x2816_S128x64x2816_1_0_0) D)))
    (inRow 2 6 pads_S1x2816_S9x2816_260_000 (tapRow (extractStridedSlice S128x64x2816 ![0, 2, 0] (rimmed x) slices_S130x66x2816_S128x64x2816_0_2_0) D)))
    (inRow 1 7 pads_S1x2816_S9x2816_170_000 (tapRow (extractStridedSlice S128x64x2816 ![0, 1, 0] (rimmed x) slices_S130x66x2816_S128x64x2816_0_1_0) D)))
    (inRow 0 8 pads_S1x2816_S9x2816_080_000 (tapRow (extractStridedSlice S128x64x2816 ![0, 0, 0] (rimmed x) slices_S130x66x2816_S128x64x2816_0_0_0) D))

/-- One tap's gradient is the sum of its products over the tokens. -/
theorem tap_at (x : Vec Ideal S8192x2816 .bf16) (D : FVec Ideal S8192x2816 .f32) (a b : ℕ)
    (h : S130x66x2816.Slices ![a, b, 0] S128x64x2816) (k : Fin 9) (j : Fin 2816) (ha : k.val / 3 = a) (hb : k.val % 3 = b) :
    tapRow (extractStridedSlice S128x64x2816 ![a, b, 0] (rimmed x) h) D (ix1 j) = ∑ n : Fin 8192, share x D k j n := by
  refine (tapRow_at _ D j).trans (Finset.sum_congr rfl fun n _ => ?_)
  rw [slice_at x a b h _ _ j (by omega) (by omega), ← ha, ← hb]
  rfl

theorem taps_at (x : Vec Ideal S8192x2816 .bf16) (D : FVec Ideal S8192x2816 .f32) (k : Fin 9) (j : Fin 2816) :
    taps x D (ix2 k j) = ∑ n : Fin 8192, share x D k j n := by
  show inRow 8 0 _ _ (ix2 k j) + inRow 7 1 _ _ (ix2 k j) + inRow 6 2 _ _ (ix2 k j) + inRow 5 3 _ _ (ix2 k j)
    + inRow 4 4 _ _ (ix2 k j) + inRow 3 5 _ _ (ix2 k j) + inRow 2 6 _ _ (ix2 k j) + inRow 1 7 _ _ (ix2 k j)
    + inRow 0 8 _ _ (ix2 k j) = _
  simp only [inRow_at]
  rw [tap_at x D 2 2 _ 8 j rfl rfl, tap_at x D 2 1 _ 7 j rfl rfl, tap_at x D 2 0 _ 6 j rfl rfl, tap_at x D 1 2 _ 5 j rfl rfl,
    tap_at x D 1 1 _ 4 j rfl rfl, tap_at x D 1 0 _ 3 j rfl rfl, tap_at x D 0 2 _ 2 j rfl rfl, tap_at x D 0 1 _ 1 j rfl rfl,
    tap_at x D 0 0 _ 0 j rfl rfl]
  fin_cases k <;> simp

/-- The offset's gradient as the reference forms it. -/
theorem offset_at (D : FVec Ideal S8192x2816 .f32) (z : S1x2816.Idx) :
    shapeCast S1x2816 (Host.reduceAdd D (constant (F := Ideal) S_ .f32 0x00000000#32) reducesTo_S8192x2816_S2816_d0 h_S_) shapeCasts_S2816_S1x2816 z
      = sumOffset D z := by
  refine (shapeCast_apply _ shapeCasts_S2816_S1x2816 z (ix1 (z 1)) ?_).trans ?_
  · rw [Shape.rowMajor_val_one, Shape.rowMajor_val_two]
    have h0 : (z 0).val < 1 := (z 0).isLt
    show (z 1).val = (z 0).val * 2816 + (z 1).val
    omega
  · refine (Ideal.hostReduceAdd_r2_a0 _ D _ _).trans ?_
    rw [zero_at, zero_add]
    rfl

end Cert.ConvBwd

end
-- ==== Proof.ConvBwd.Host.lean ====
/-
  The convolutions the kernel's program forms before its call are the reference's, and the reference's results are the
  arrays the kernel leaves.
-/
module

public import proofs.«01_k».proof.Proof.ConvBwd.Reference

@[expose] public section

set_option maxRecDepth 16384

noncomputable section

namespace Cert.ConvBwd

open Cert.KernelIdeal Cert.KernelIdeal.Gen
open Cert.ReferenceIdeal.Read
open Idealize.ShloMosaic Idealize.ShloMosaic.TcCoe Idealize.SL.Sem

variable (m : (ℓ : Loc nD τ sig) → Buf (Elt Ideal) ℓ) (c : Dev nD)

set_option maxHeartbeats 3200000 in
/-- The gated half's convolution. -/
theorem gate_host : gateArr m c = val_main_v62 (F := Ideal) (m (c.tc.loc main_arg0)) (m (c.tc.loc main_arg2)) (m (c.tc.loc main_arg4)) := by
  unfold gateArr
  entry_read
  rfl

set_option maxHeartbeats 3200000 in
/-- The other half's convolution. -/
theorem val_host : valArr m c = val_main_v122 (F := Ideal) (m (c.tc.loc main_arg1)) (m (c.tc.loc main_arg3)) (m (c.tc.loc main_arg5)) := by
  unfold valArr
  entry_read
  rfl

/-- The precondition says that the cotangent and what the ungated half's convolution is made of are real. -/
theorem finite_of (h : Cert.Pre_KernelIdeal_finite m) :
    Finite (s := S8192x2816) (m (c.tc.loc main_arg6)) ∧ Finite (s := S8192x2816) (m (c.tc.loc main_arg1))
      ∧ Finite (s := S9x2816) (m (c.tc.loc main_arg3)) ∧ Finite (s := S1x2816) (m (c.tc.loc main_arg5)) := by
  obtain ⟨h6, h1, h3, h5⟩ := h c
  exact ⟨fun i => real_of_lt (congrFun h6 i), fun i => real_of_lt (congrFun h1 i), fun i => real_of_lt (congrFun h3 i),
    fun i => real_of_lt (congrFun h5 i)⟩

/-- The reference's logistic function is the library's. -/
theorem logistic_at (x0 : Vec Ideal S8192x2816 .bf16) (x2 : Vec Ideal S9x2816 .f32) (x4 : Vec Ideal S1x2816 .f32)
    (i : S8192x2816.Idx) : val_main_v123_2 (F := Ideal) x0 x2 x4 i = Ideal.logistic (val_main_v62 (F := Ideal) x0 x2 x4 i) := by
  have one : Ideal.ofBits .f32 0x3F800000#32 = (1 : EReal) := by
    simp [Ideal.ofBits, Ideal.ieee, -EReal.coe_mul]
    norm_num
  show Ideal.div (Ideal.ofBits .f32 0x3F800000#32) (Ideal.ofBits .f32 0x3F800000#32 + Ideal.exp (-(val_main_v62 (F := Ideal) x0 x2 x4 i))) = _
  rw [one]
  rfl

/-- The gated half's gradient as the reference writes it: the product rule, `s` the logistic function's value. -/
def productRule (g v d s : EReal) : EReal := d * v * s + g * (d * v) * (s * (Ideal.ofBits .f32 0x3F800000#32 - s))

/-- The other half's gradient as the reference writes it. -/
def valRule (g d s : EReal) : EReal := g * s * d

/-- The reference's gradient of the gated half. -/
theorem gate_ref (h : Cert.Pre_KernelIdeal_finite m) :
    val_main_v127 (F := Ideal) (m (c.tc.loc main_arg0)) (m (c.tc.loc main_arg1)) (m (c.tc.loc main_arg2)) (m (c.tc.loc main_arg3))
      (m (c.tc.loc main_arg4)) (m (c.tc.loc main_arg5)) (m (c.tc.loc main_arg6)) = dGate m c := by
  funext i
  obtain ⟨h6, h1, h3, h5⟩ := finite_of m c h
  obtain ⟨d, hd⟩ := h6 i
  obtain ⟨v, hv⟩ := val_finite _ _ _ h1 h3 h5 i
  have one : Ideal.ofBits .f32 0x3F800000#32 = (1 : EReal) := by
    simp [Ideal.ofBits, Ideal.ieee, -EReal.coe_mul]
    norm_num
  unfold dGate gradGate
  rw [gate_host, val_host]
  have hl := logistic_at (m (c.tc.loc main_arg0)) (m (c.tc.loc main_arg2)) (m (c.tc.loc main_arg4)) i
  refine Eq.trans (b := productRule (val_main_v62 (F := Ideal) (m (c.tc.loc main_arg0)) (m (c.tc.loc main_arg2)) (m (c.tc.loc main_arg4)) i)
    (val_main_v122 (F := Ideal) (m (c.tc.loc main_arg1)) (m (c.tc.loc main_arg3)) (m (c.tc.loc main_arg5)) i) (m (c.tc.loc main_arg6) i)
    (val_main_v123_2 (F := Ideal) (m (c.tc.loc main_arg0)) (m (c.tc.loc main_arg2)) (m (c.tc.loc main_arg4)) i)) rfl ?_
  unfold productRule
  rw [one, hl, hv, hd, ← EReal.coe_mul]
  exact (gate_rule (d * v) _).symm

/-- The reference's gradient of the other half. -/
theorem val_ref : val_main_v125 (F := Ideal) (m (c.tc.loc main_arg0)) (m (c.tc.loc main_arg2)) (m (c.tc.loc main_arg4))
      (m (c.tc.loc main_arg6)) = dVal m c := by
  funext i
  unfold dVal gradVal
  rw [gate_host]
  have hl := logistic_at (m (c.tc.loc main_arg0)) (m (c.tc.loc main_arg2)) (m (c.tc.loc main_arg4)) i
  refine Eq.trans (b := valRule (val_main_v62 (F := Ideal) (m (c.tc.loc main_arg0)) (m (c.tc.loc main_arg2)) (m (c.tc.loc main_arg4)) i)
    (m (c.tc.loc main_arg6) i) (val_main_v123_2 (F := Ideal) (m (c.tc.loc main_arg0)) (m (c.tc.loc main_arg2)) (m (c.tc.loc main_arg4)) i)) rfl ?_
  unfold valRule
  rw [hl]
  exact (mul_comm _ _).trans (mul_assoc _ _ _).symm

/-- The reference's gradient of the gated half's taps. -/
theorem tapsGate_ref (h : Cert.Pre_KernelIdeal_finite m) :
    val_main_v192 (F := Ideal) (m (c.tc.loc main_arg0)) (m (c.tc.loc main_arg1)) (m (c.tc.loc main_arg2)) (m (c.tc.loc main_arg3))
      (m (c.tc.loc main_arg4)) (m (c.tc.loc main_arg5)) (m (c.tc.loc main_arg6)) = sumTaps (m (c.tc.loc main_arg0)) (dGate m c) := by
  funext z
  obtain ⟨k, j, rfl⟩ : ∃ (k : Fin 9) (j : Fin 2816), z = ix2 k j := ⟨z 0, z 1, by idx_ext⟩
  rw [← gate_ref m c h]
  exact taps_at _ _ k j

/-- The reference's gradient of the other half's taps. -/
theorem tapsVal_ref : val_main_v257 (F := Ideal) (m (c.tc.loc main_arg0)) (m (c.tc.loc main_arg1)) (m (c.tc.loc main_arg2))
      (m (c.tc.loc main_arg4)) (m (c.tc.loc main_arg6)) = sumTaps (m (c.tc.loc main_arg1)) (dVal m c) := by
  funext z
  obtain ⟨k, j, rfl⟩ : ∃ (k : Fin 9) (j : Fin 2816), z = ix2 k j := ⟨z 0, z 1, by idx_ext⟩
  rw [← val_ref m c]
  exact taps_at _ _ k j

/-- The reference's gradient of the gated half's offset. -/
theorem offsetGate_ref (h : Cert.Pre_KernelIdeal_finite m) :
    val_main_v129 (F := Ideal) (m (c.tc.loc main_arg0)) (m (c.tc.loc main_arg1)) (m (c.tc.loc main_arg2)) (m (c.tc.loc main_arg3))
      (m (c.tc.loc main_arg4)) (m (c.tc.loc main_arg5)) (m (c.tc.loc main_arg6)) = sumOffset (dGate m c) := by
  funext z
  rw [← gate_ref m c h]
  exact offset_at _ z

/-- The reference's gradient of the other half's offset. -/
theorem offsetVal_ref : val_main_v194 (F := Ideal) (m (c.tc.loc main_arg0)) (m (c.tc.loc main_arg2)) (m (c.tc.loc main_arg4))
      (m (c.tc.loc main_arg6)) = sumOffset (dVal m c) := by
  funext z
  rw [← val_ref m c]
  exact offset_at _ z

end Cert.ConvBwd

end
-- ==== Proof.Products.Sums.lean ====
/-
  The products that the blocked kernels form, each as one sum.
-/
module

public import Idealize.ShloMosaic.Lib.Pipeline.ReadBack
public import Idealize.ShloMosaic.Lib.Pipeline.ValueKit
public import Idealize.ShloMosaic.Lib.Pointwise
public import Idealize.ShloMosaic.Lib.KernelVsHost

@[expose] public section

noncomputable section

namespace Cert.Products

open Idealize.ShloMosaic

/-- A matrix of extended reals. -/
abbrev Mat (p q : ℕ) : Type := (⟨2, ![p, q]⟩ : Shape).Idx → EReal

/-- `a b`. -/
def mul {p k q : ℕ} (a : Mat p k) (b : Mat k q) : Mat p q := fun i => ∑ n : Fin k, a (ix2 (i 0) n) * b (ix2 n (i 1))

/-- `a bᵀ`. -/
def mulTransposed {p k q : ℕ} (a : Mat p k) (b : Mat q k) : Mat p q := fun i =>
  ∑ n : Fin k, a (ix2 (i 0) n) * b (ix2 (i 1) n)

/-- `aᵀ b`. -/
def transposedMul {k p q : ℕ} (a : Mat k p) (b : Mat k q) : Mat p q := fun i =>
  ∑ n : Fin k, a (ix2 n (i 0)) * b (ix2 n (i 1))

end Cert.Products
-- ==== Proof.Products.DownDx.lean ====
/-
  The gradient of the gated product through the down projection, each block at once.
-/
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import proofs.«01_k».proof.Proof.Products.Sums

@[expose] public section

set_option maxRecDepth 16384

noncomputable section

namespace Cert.Products.DownDx

open Cert.Kernel2Ideal Cert.Kernel2Ideal.Gen
open Idealize.ShloMosaic Idealize.ShloMosaic.TcCoe Idealize.SL.Sem
open Idealize.ShloMosaic.Pipeline (Dat)

theorem idx : ∀ t : Fin cfg0.N, win0_0.index t = ![t.val / 2, 0] ∧ win0_1.index t = ![t.val % 2, 0]
    ∧ win0_2.index t = ![t.val / 2, t.val % 2] :=
  (by decide +kernel : ∀ t : Fin grid0.N, _)

variable (m : (ℓ : Loc nD τ sig) → Buf (Elt Ideal) ℓ) (c : Dev nD)

/-- The cotangent. -/
def left : Mat 8192 1024 := m (c.tc.loc main_arg2)

/-- The weights. -/
def right : Mat 2816 1024 := m (c.tc.loc main_arg1)

/-- The token at place `k` of a point's block. -/
abbrev token (t : Fin cfg0.N) (k : Fin 2048) : Fin 8192 :=
  ⟨t.val / 2 * 2048 + k.val, by have := t.isLt; have h : cfg0.N = 8 := rfl; omega⟩

/-- The channel at place `k` of a point's block. -/
abbrev channel (t : Fin cfg0.N) (k : Fin 1408) : Fin 2816 := ⟨t.val % 2 * 1408 + k.val, by omega⟩

theorem read_left (t : Fin cfg0.N) (r : Fin 2048) (k : Fin 1024) :
    (iblk m c 0 t : Mat 2048 1024) (ix2 r k) = left m c (ix2 (token t r) k) := by
  have h := (idx t).1
  show V m c main_arg2 ((win0_0.blk t).view.emb (ix2 r k)) = _
  rw [V_main_arg2]
  refine congrArg (left m c) ?_
  blk_ext [h]

theorem read_right (t : Fin cfg0.N) (r : Fin 1408) (k : Fin 1024) :
    (iblk m c 1 t : Mat 1408 1024) (ix2 r k) = right m c (ix2 (channel t r) k) := by
  have h := (idx t).2.1
  show V m c main_arg1 ((win0_1.blk t).view.emb (ix2 r k)) = _
  rw [V_main_arg1]
  refine congrArg (right m c) ?_
  blk_ext [h]

theorem point (t : Fin cfg0.N) (y : S2048x1408.Idx) :
    k0_pay1 (F := Ideal) (iblk m c 0 t) (iblk m c 1 t) y
      = mulTransposed (left m c) (right m c) (ix2 (token t (y 0)) (channel t (y 1))) := by
  pointwise [k0_pay1]
  exact Finset.sum_congr rfl fun k _ => congrArg₂ (· * ·) (read_left m c t (y 0) k) (read_right m c t (y 1) k)

/-- The result is the product. -/
theorem final : (dats m 0 c).arrAt 2 cfg0.N = mulTransposed (left m c) (right m c) := by
  refine (dats m 0 c).arrAt_eq_of_covers 2 _ (by decide +kernel) fun t hf y => ?_
  have h2 := (idx t).2.2
  have hy : (win0_2.blk t).view.emb y = ix2 (token t (y 0)) (channel t (y 1)) := by blk_ext [h2]
  rw [after0_2]
  refine Eq.trans ?_ (congrArg (mulTransposed (left m c) (right m c)) hy).symm
  frame_out
  exact point m c t y

/-- The derivative of the product by its input is the same sum. -/
theorem derivative (b : Mat 2816 1024) (a : Mat 8192 1024) :
    Cert.Reference2Ideal.Read.val_main_v7 (F := Ideal) b a = mulTransposed a b := by
  funext i
  pointwise [Cert.Reference2Ideal.Read.val_main_v7, Cert.Reference2Ideal.Read.val_main_v6, Cert.Reference2Ideal.Read.val_main_v3,
    Cert.Reference2Ideal.Read.val_main_v1]
  rfl

/-- Kernel and reference leave the same result. -/
theorem agree : Cert.algebraic_Kernel2Ideal_Reference2Ideal := by
  intro m g m' g' _ hagree
  refine ⟨_, Cert.Kernel2Ideal.Value.run_blocks m g, ?_⟩
  refine (θ_run Cert.Reference2Ideal.defs _ _).mono (fun r h c => ?_) (Cert.Reference2Ideal.Value.run (F := Ideal) m' g')
  obtain ⟨h0, hargs⟩ := h c
  obtain ⟨a0, a1, a2⟩ := hagree c
  refine ⟨h0.trans ?_, hargs⟩
  refine (Cert.Reference2Ideal.Read.val_main_v7_eq (F := Ideal) _ _).trans ?_
  rw [a1, a2]
  exact (derivative _ _).trans (final m c).symm

/-- The reference leaves its arguments and counters alone. -/
theorem kept : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

end Cert.Products.DownDx

end
-- ==== Proof.Products.DownDw.lean ====
/-
  The gradient of the down projection's weights: the tokens are summed in four blocks into one accumulator.
-/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import proofs.«01_k».proof.Proof.Products.Sums

@[expose] public section

set_option maxRecDepth 16384

noncomputable section

namespace Cert.Products.DownDw

open Cert.Kernel3Ideal Cert.Kernel3Ideal.Gen
open Idealize.ShloMosaic Idealize.ShloMosaic.TcCoe Idealize.SL.Sem
open Idealize.ShloMosaic.Pipeline (Dat)

theorem idx : ∀ t : Fin cfg0.N, win0_0.index t = ![t.val % 4, t.val / 4] ∧ win0_1.index t = ![t.val % 4, 0]
    ∧ win0_2.index t = ![t.val / 4, 0] :=
  (by decide +kernel : ∀ t : Fin grid0.N, _)

variable (m : (ℓ : Loc nD τ sig) → Buf (Elt Ideal) ℓ) (c : Dev nD)

/-- The left operand. -/
def left : Mat 8192 2816 := m (c.tc.loc main_arg0)

/-- The right operand. -/
def right : Mat 8192 1024 := m (c.tc.loc main_arg2)

/-- The token at place `k` of a point's block. -/
abbrev token (t : Fin cfg0.N) (k : Fin 2048) : Fin 8192 := ⟨t.val % 4 * 2048 + k.val, by omega⟩

/-- The row of the result at place `k` of a point's block. -/
abbrev row (t : Fin cfg0.N) (k : Fin 1408) : Fin 2816 :=
  ⟨t.val / 4 * 1408 + k.val, by have := t.isLt; have h : cfg0.N = 8 := rfl; omega⟩

/-- What a point adds. -/
def part (t : Fin cfg0.N) (y : S1408x1024.Idx) : EReal :=
  ∑ k : Fin 2048, left m c (ix2 (token t k) (row t (y 0))) * right m c (ix2 (token t k) (y 1))

theorem read_left (t : Fin cfg0.N) (k : Fin 2048) (r : Fin 1408) :
    (iblk m c 0 t : Mat 2048 1408) (ix2 k r) = left m c (ix2 (token t k) (row t r)) := by
  have h := (idx t).1
  show V m c main_arg0 ((win0_0.blk t).view.emb (ix2 k r)) = _
  rw [V_main_arg0]
  refine congrArg (left m c) ?_
  blk_ext [h]

theorem read_right (t : Fin cfg0.N) (k : Fin 2048) (r : Fin 1024) :
    (iblk m c 1 t : Mat 2048 1024) (ix2 k r) = right m c (ix2 (token t k) r) := by
  have h := (idx t).2.1
  show V m c main_arg2 ((win0_1.blk t).view.emb (ix2 k r)) = _
  rw [V_main_arg2]
  refine congrArg (right m c) ?_
  blk_ext [h]

theorem point (t : Fin cfg0.N) (y : S1408x1024.Idx) :
    k0_pay1 (F := Ideal) (iblk m c 0 t) (iblk m c 1 t) y = part m c t y := by
  pointwise [k0_pay1]
  exact Finset.sum_congr rfl fun k _ => congrArg₂ (· * ·) (read_left m c t k (y 0)) (read_right m c t k (y 1))

theorem start (t : Fin cfg0.N) (h : t.val % 4 = 0) (y : S1408x1024.Idx) :
    (outsAt0 m c t.val t.isLt).2 y = 0 + part m c t y := by
  rw [outsAt0_A m c t h (by omega) (by omega), zero_add]
  frame_out
  pointwise [k0_pay2]
  exact point m c t y

theorem step (t : Fin cfg0.N) (h : ¬t.val % 4 = 0) (y : S1408x1024.Idx) :
    (outsAt0 m c t.val t.isLt).2 y
      = (outsAt0 m c (t.val - 1) (Nat.lt_of_le_of_lt (Nat.sub_le _ _) t.isLt)).2 y + part m c t y := by
  by_cases h3 : t.val % 4 = 3
  · rw [outsAt0_C m c t h (by omega) h3]
    frame_out
    simp only [read_unread_whole]
    pointwise [k0_pay3]
    exact congrArg (_ + ·) (point m c t y)
  · rw [outsAt0_B m c t h (by omega) h3]
    frame_out
    simp only [read_unread_whole]
    pointwise [k0_pay3]
    exact congrArg (_ + ·) (point m c t y)

/-- The result is the product over all tokens. -/
theorem final : (dats m 0 c).arrAt 2 cfg0.N = transposedMul (left m c) (right m c) := by
  refine (dats m 0 c).arrAt_eq_of_covers 2 _ (by decide +kernel) fun t hf y => ?_
  have ht := (flush0_2 t).mp hf
  have h2 := (idx t).2.2
  have hy : (win0_2.blk t).view.emb y = ix2 (row t (y 0)) (y 1) := by blk_ext [h2]
  have key : (outsAt0 m c t.val t.isLt).1 y = (outsAt0 m c t.val t.isLt).2 y := by
    rw [outsAt0_C m c t (by omega) (by omega) ht]
    frame_out
    pointwise [k0_pay4]
  have h := Pipeline.eq_sum_fin_of_reset_step_apply_of_flush (fun n h => (outsAt0 m c n h).2) 4 (fun _ => 0)
    (part m c) (start m c) (step m c) t ht y
  rw [after0_2]
  refine key.trans (h.trans ((zero_add _).trans ?_))
  refine Eq.trans ?_ (congrArg (transposedMul (left m c) (right m c)) hy).symm
  refine Fin.sum_mul_add_congr fun s r hl => congrArg₂ (· * ·) (congrArg _ ?_) (congrArg _ ?_)
  · blk_ext []
  · blk_ext []

/-- The derivative of the product by its weights is the same sum. -/
theorem derivative (a : Mat 8192 2816) (b : Mat 8192 1024) :
    Cert.Reference3Ideal.Read.val_main_v7 (F := Ideal) a b = transposedMul a b := by
  funext i
  pointwise [Cert.Reference3Ideal.Read.val_main_v7, Cert.Reference3Ideal.Read.val_main_v5, Cert.Reference3Ideal.Read.val_main_v4,
    Cert.Reference3Ideal.Read.val_main_v3, Cert.Reference3Ideal.Read.val_main_v0]
  exact Finset.sum_congr rfl fun n _ => mul_comm _ _

/-- Kernel and reference leave the same result. -/
theorem agree : Cert.algebraic_Kernel3Ideal_Reference3Ideal := by
  intro m g m' g' _ hagree
  refine ⟨_, Cert.Kernel3Ideal.Value.run_blocks m g, ?_⟩
  refine (θ_run Cert.Reference3Ideal.defs _ _).mono (fun r h c => ?_) (Cert.Reference3Ideal.Value.run (F := Ideal) m' g')
  obtain ⟨h0, hargs⟩ := h c
  obtain ⟨a0, a1, a2⟩ := hagree c
  refine ⟨h0.trans ?_, hargs⟩
  refine (Cert.Reference3Ideal.Read.val_main_v7_eq (F := Ideal) _ _).trans ?_
  rw [a0, a2]
  exact (derivative _ _).trans (final m c).symm

/-- The reference leaves its arguments and counters alone. -/
theorem kept : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

end Cert.Products.DownDw

end
-- ==== Proof.Products.UpGateDx.lean ====
/-
  The gradient of the normed input through the gate's half of the up projection: the channels are summed in two blocks
  in the result's own window.
-/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import proofs.«01_k».proof.Proof.Products.Sums

@[expose] public section

set_option maxRecDepth 16384

noncomputable section

namespace Cert.Products.UpGateDx

open Cert.Kernel4Ideal Cert.Kernel4Ideal.Gen
open Idealize.ShloMosaic Idealize.ShloMosaic.TcCoe Idealize.SL.Sem
open Idealize.ShloMosaic.Pipeline (Dat)

theorem idx : ∀ t : Fin cfg0.N, win0_0.index t = ![t.val / 2, t.val % 2] ∧ win0_1.index t = ![0, t.val % 2]
    ∧ win0_2.index t = ![t.val / 2, 0] :=
  (by decide +kernel : ∀ t : Fin grid0.N, _)

variable (m : (ℓ : Loc nD τ sig) → Buf (Elt Ideal) ℓ) (c : Dev nD)

/-- The cotangent. -/
def left : Mat 8192 2816 := m (c.tc.loc main_arg2)

/-- The weights. -/
def right : Mat 1024 2816 := m (c.tc.loc main_arg1)

/-- The token at place `k` of a point's block. -/
abbrev token (t : Fin cfg0.N) (k : Fin 2048) : Fin 8192 :=
  ⟨t.val / 2 * 2048 + k.val, by have := t.isLt; have h : cfg0.N = 8 := rfl; omega⟩

/-- The channel at place `k` of a point's block. -/
abbrev channel (t : Fin cfg0.N) (k : Fin 1408) : Fin 2816 := ⟨t.val % 2 * 1408 + k.val, by omega⟩

/-- What a point adds. -/
def part (t : Fin cfg0.N) (y : S2048x1024.Idx) : EReal :=
  ∑ k : Fin 1408, left m c (ix2 (token t (y 0)) (channel t k)) * right m c (ix2 (y 1) (channel t k))

theorem read_left (t : Fin cfg0.N) (r : Fin 2048) (k : Fin 1408) :
    (iblk m c 0 t : Mat 2048 1408) (ix2 r k) = left m c (ix2 (token t r) (channel t k)) := by
  have h := (idx t).1
  show V m c main_arg2 ((win0_0.blk t).view.emb (ix2 r k)) = _
  rw [V_main_arg2]
  refine congrArg (left m c) ?_
  blk_ext [h]

theorem read_right (t : Fin cfg0.N) (r : Fin 1024) (k : Fin 1408) :
    (iblk m c 1 t : Mat 1024 1408) (ix2 r k) = right m c (ix2 r (channel t k)) := by
  have h := (idx t).2.1
  show V m c main_arg1 ((win0_1.blk t).view.emb (ix2 r k)) = _
  rw [V_main_arg1]
  refine congrArg (right m c) ?_
  blk_ext [h]

theorem point (t : Fin cfg0.N) (y : S2048x1024.Idx) :
    k0_pay1 (F := Ideal) (iblk m c 0 t) (iblk m c 1 t) y = part m c t y := by
  pointwise [k0_pay1]
  exact Finset.sum_congr rfl fun k _ => congrArg₂ (· * ·) (read_left m c t (y 0) k) (read_right m c t (y 1) k)

theorem start (t : Fin cfg0.N) (h : t.val % 2 = 0) (y : S2048x1024.Idx) :
    outsAt0 m c t.val t.isLt y = 0 + part m c t y := by
  rw [outsAt0_A m c t h (by omega), zero_add]
  frame_out
  exact point m c t y

theorem step (t : Fin cfg0.N) (h : ¬t.val % 2 = 0) (y : S2048x1024.Idx) :
    outsAt0 m c t.val t.isLt y
      = outsAt0 m c (t.val - 1) (Nat.lt_of_le_of_lt (Nat.sub_le _ _) t.isLt) y + part m c t y := by
  rw [outsAt0_B m c t h (by omega)]
  frame_out
  pointwise [k0_pay2]
  exact congrArg (_ + ·) (point m c t y)

/-- The result is the product over all channels. -/
theorem final : (dats m 0 c).arrAt 2 cfg0.N = mulTransposed (left m c) (right m c) := by
  refine (dats m 0 c).arrAt_eq_of_covers 2 _ (by decide +kernel) fun t hf y => ?_
  have ht := (flush0_2 t).mp hf
  have h2 := (idx t).2.2
  have hy : (win0_2.blk t).view.emb y = ix2 (token t (y 0)) (y 1) := by blk_ext [h2]
  have h := Pipeline.eq_sum_fin_of_reset_step_apply_of_flush (fun n h => outsAt0 m c n h) 2 (fun _ => 0)
    (part m c) (start m c) (step m c) t ht y
  rw [after0_2]
  refine h.trans ((zero_add _).trans ?_)
  refine Eq.trans ?_ (congrArg (mulTransposed (left m c) (right m c)) hy).symm
  refine Fin.sum_mul_add_congr fun s r hl => congrArg₂ (· * ·) (congrArg _ ?_) (congrArg _ ?_)
  · blk_ext []
  · blk_ext []

/-- The derivative of the product by its input is the same sum. -/
theorem derivative (b : Mat 1024 2816) (a : Mat 8192 2816) :
    Cert.Reference4Ideal.Read.val_main_v6 (F := Ideal) b a = mulTransposed a b := by
  funext i
  pointwise [Cert.Reference4Ideal.Read.val_main_v6, Cert.Reference4Ideal.Read.val_main_v3, Cert.Reference4Ideal.Read.val_main_v1]
  rfl

/-- Kernel and reference leave the same result. -/
theorem agree : Cert.algebraic_Kernel4Ideal_Reference4Ideal := by
  intro m g m' g' _ hagree
  refine ⟨_, Cert.Kernel4Ideal.Value.run_blocks m g, ?_⟩
  refine (θ_run Cert.Reference4Ideal.defs _ _).mono (fun r h c => ?_) (Cert.Reference4Ideal.Value.run (F := Ideal) m' g')
  obtain ⟨h0, hargs⟩ := h c
  obtain ⟨a0, a1, a2⟩ := hagree c
  refine ⟨h0.trans ?_, hargs⟩
  refine (Cert.Reference4Ideal.Read.val_main_v6_eq (F := Ideal) _ _).trans ?_
  rw [a1, a2]
  exact (derivative _ _).trans (final m c).symm

/-- The reference leaves its arguments and counters alone. -/
theorem kept : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

end Cert.Products.UpGateDx

end
-- ==== Proof.Products.UpValDx.lean ====
/-
  The gradient of the normed input through both halves of the up projection: the value half's product is summed in two
  blocks into an accumulator, and the gate half's gradient is added at the end.
-/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import proofs.«01_k».proof.Proof.Products.Sums

@[expose] public section

set_option maxRecDepth 16384

noncomputable section

namespace Cert.Products.UpValDx

open Cert.Kernel5Ideal Cert.Kernel5Ideal.Gen
open Idealize.ShloMosaic Idealize.ShloMosaic.TcCoe Idealize.SL.Sem
open Idealize.ShloMosaic.Pipeline (Dat)

theorem idx : ∀ t : Fin cfg0.N, win0_0.index t = ![t.val / 2, t.val % 2] ∧ win0_1.index t = ![0, t.val % 2]
    ∧ win0_2.index t = ![t.val / 2, 0] ∧ win0_3.index t = ![t.val / 2, 0] :=
  (by decide +kernel : ∀ t : Fin grid0.N, _)

variable (m : (ℓ : Loc nD τ sig) → Buf (Elt Ideal) ℓ) (c : Dev nD)

/-- The cotangent. -/
def left : Mat 8192 2816 := m (c.tc.loc main_arg2)

/-- The weights. -/
def right : Mat 1024 2816 := m (c.tc.loc main_arg1)

/-- The gradient that is there already. -/
def before : Mat 8192 1024 := m (c.tc.loc main_arg3)

/-- The token at place `k` of a point's block. -/
abbrev token (t : Fin cfg0.N) (k : Fin 1024) : Fin 8192 :=
  ⟨t.val / 2 * 1024 + k.val, by have := t.isLt; have h : cfg0.N = 16 := rfl; omega⟩

/-- The channel at place `k` of a point's block. -/
abbrev channel (t : Fin cfg0.N) (k : Fin 1408) : Fin 2816 := ⟨t.val % 2 * 1408 + k.val, by omega⟩

/-- What a point adds. -/
def part (t : Fin cfg0.N) (y : S1024x1024.Idx) : EReal :=
  ∑ k : Fin 1408, left m c (ix2 (token t (y 0)) (channel t k)) * right m c (ix2 (y 1) (channel t k))

theorem read_left (t : Fin cfg0.N) (r : Fin 1024) (k : Fin 1408) :
    (iblk m c 0 t : Mat 1024 1408) (ix2 r k) = left m c (ix2 (token t r) (channel t k)) := by
  have h := (idx t).1
  show V m c main_arg2 ((win0_0.blk t).view.emb (ix2 r k)) = _
  rw [V_main_arg2]
  refine congrArg (left m c) ?_
  blk_ext [h]

theorem read_right (t : Fin cfg0.N) (r : Fin 1024) (k : Fin 1408) :
    (iblk m c 1 t : Mat 1024 1408) (ix2 r k) = right m c (ix2 r (channel t k)) := by
  have h := (idx t).2.1
  show V m c main_arg1 ((win0_1.blk t).view.emb (ix2 r k)) = _
  rw [V_main_arg1]
  refine congrArg (right m c) ?_
  blk_ext [h]

theorem read_before (t : Fin cfg0.N) (y : S1024x1024.Idx) :
    (iblk m c 2 t : Mat 1024 1024) y = before m c (ix2 (token t (y 0)) (y 1)) := by
  have h := (idx t).2.2.1
  show V m c main_arg3 ((win0_2.blk t).view.emb y) = _
  rw [V_main_arg3]
  refine congrArg (before m c) ?_
  blk_ext [h]

theorem point (t : Fin cfg0.N) (y : S1024x1024.Idx) :
    k0_pay1 (F := Ideal) (iblk m c 0 t) (iblk m c 1 t) y = part m c t y := by
  pointwise [k0_pay1]
  exact Finset.sum_congr rfl fun k _ => congrArg₂ (· * ·) (read_left m c t (y 0) k) (read_right m c t (y 1) k)

theorem start (t : Fin cfg0.N) (h : t.val % 2 = 0) (y : S1024x1024.Idx) :
    (outsAt0 m c t.val t.isLt).2 y = 0 + part m c t y := by
  rw [outsAt0_A m c t h (by omega) (by omega), zero_add]
  frame_out
  pointwise [k0_pay2]
  exact point m c t y

theorem step (t : Fin cfg0.N) (h : ¬t.val % 2 = 0) (y : S1024x1024.Idx) :
    (outsAt0 m c t.val t.isLt).2 y
      = (outsAt0 m c (t.val - 1) (Nat.lt_of_le_of_lt (Nat.sub_le _ _) t.isLt)).2 y + part m c t y := by
  rw [outsAt0_B m c t h (by omega) (by omega)]
  frame_out
  simp only [read_unread_whole]
  pointwise [k0_pay3]
  exact congrArg (_ + ·) (point m c t y)

/-- The result is the product over all channels and what was there before. -/
theorem final : (dats m 0 c).arrAt 3 cfg0.N = fun i => mulTransposed (left m c) (right m c) i + before m c i := by
  refine (dats m 0 c).arrAt_eq_of_covers 3 _ (by decide +kernel) fun t hf y => ?_
  have ht := (flush0_3 t).mp hf
  have h3 := (idx t).2.2.2
  have hy : (win0_3.blk t).view.emb y = ix2 (token t (y 0)) (y 1) := by blk_ext [h3]
  have key : (outsAt0 m c t.val t.isLt).1 y
      = (outsAt0 m c t.val t.isLt).2 y + (iblk m c 2 t : Mat 1024 1024) y := by
    rw [outsAt0_B m c t (by omega) ht ht]
    frame_out
    pointwise [k0_pay4]
  have h := Pipeline.eq_sum_fin_of_reset_step_apply_of_flush (fun n h => (outsAt0 m c n h).2) 2 (fun _ => 0)
    (part m c) (start m c) (step m c) t ht y
  rw [after0_3]
  refine key.trans ?_
  refine Eq.trans ?_ (congrArg (fun i => mulTransposed (left m c) (right m c) i + before m c i) hy).symm
  refine congrArg₂ (· + ·) (h.trans ((zero_add _).trans ?_)) (read_before m c t y)
  refine Fin.sum_mul_add_congr fun s r hl => congrArg₂ (· * ·) (congrArg _ ?_) (congrArg _ ?_)
  · blk_ext []
  · blk_ext []

/-- The derivative of the product by its input, added to the other, is the same sum. -/
theorem derivative (b : Mat 1024 2816) (a : Mat 8192 2816) (d : Mat 8192 1024) :
    Cert.Reference5Ideal.Read.val_main_v8 (F := Ideal) b a d = fun i => mulTransposed a b i + d i := by
  funext i
  pointwise [Cert.Reference5Ideal.Read.val_main_v8, Cert.Reference5Ideal.Read.val_main_v7, Cert.Reference5Ideal.Read.val_main_v6,
    Cert.Reference5Ideal.Read.val_main_v3, Cert.Reference5Ideal.Read.val_main_v1]
  exact add_comm _ _

/-- Kernel and reference leave the same result. -/
theorem agree : Cert.algebraic_Kernel5Ideal_Reference5Ideal := by
  intro m g m' g' _ hagree
  refine ⟨_, Cert.Kernel5Ideal.Value.run_blocks m g, ?_⟩
  refine (θ_run Cert.Reference5Ideal.defs _ _).mono (fun r h c => ?_) (Cert.Reference5Ideal.Value.run (F := Ideal) m' g')
  obtain ⟨h0, hargs⟩ := h c
  obtain ⟨a0, a1, a2, a3⟩ := hagree c
  refine ⟨h0.trans ?_, hargs⟩
  refine (Cert.Reference5Ideal.Read.val_main_v8_eq (F := Ideal) _ _ _).trans ?_
  rw [a1, a2, a3]
  exact (derivative _ _ _).trans (final m c).symm

/-- The reference leaves its arguments and counters alone. -/
theorem kept : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

end Cert.Products.UpValDx

end
-- ==== Proof.Products.UpDw.lean ====
/-
  The gradient of the weights of one half of the up projection: the tokens are summed in four blocks into one
  accumulator.
-/
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import proofs.«01_k».proof.Proof.Products.Sums

@[expose] public section

set_option maxRecDepth 16384

noncomputable section

namespace Cert.Products.UpDw

open Cert.Kernel6Ideal Cert.Kernel6Ideal.Gen
open Idealize.ShloMosaic Idealize.ShloMosaic.TcCoe Idealize.SL.Sem
open Idealize.ShloMosaic.Pipeline (Dat)

theorem idx : ∀ t : Fin cfg0.N, win0_0.index t = ![t.val % 4, 0] ∧ win0_1.index t = ![t.val % 4, t.val / 4]
    ∧ win0_2.index t = ![0, t.val / 4] :=
  (by decide +kernel : ∀ t : Fin grid0.N, _)

variable (m : (ℓ : Loc nD τ sig) → Buf (Elt Ideal) ℓ) (c : Dev nD)

/-- The left operand. -/
def left : Mat 8192 1024 := m (c.tc.loc main_arg0)

/-- The right operand. -/
def right : Mat 8192 2816 := m (c.tc.loc main_arg2)

/-- The token at place `k` of a point's block. -/
abbrev token (t : Fin cfg0.N) (k : Fin 2048) : Fin 8192 := ⟨t.val % 4 * 2048 + k.val, by omega⟩

/-- The column of the result at place `k` of a point's block. -/
abbrev column (t : Fin cfg0.N) (k : Fin 1408) : Fin 2816 :=
  ⟨t.val / 4 * 1408 + k.val, by have := t.isLt; have h : cfg0.N = 8 := rfl; omega⟩

/-- What a point adds. -/
def part (t : Fin cfg0.N) (y : S1024x1408.Idx) : EReal :=
  ∑ k : Fin 2048, left m c (ix2 (token t k) (y 0)) * right m c (ix2 (token t k) (column t (y 1)))

theorem read_left (t : Fin cfg0.N) (k : Fin 2048) (r : Fin 1024) :
    (iblk m c 0 t : Mat 2048 1024) (ix2 k r) = left m c (ix2 (token t k) r) := by
  have h := (idx t).1
  show V m c main_arg0 ((win0_0.blk t).view.emb (ix2 k r)) = _
  rw [V_main_arg0]
  refine congrArg (left m c) ?_
  blk_ext [h]

theorem read_right (t : Fin cfg0.N) (k : Fin 2048) (r : Fin 1408) :
    (iblk m c 1 t : Mat 2048 1408) (ix2 k r) = right m c (ix2 (token t k) (column t r)) := by
  have h := (idx t).2.1
  show V m c main_arg2 ((win0_1.blk t).view.emb (ix2 k r)) = _
  rw [V_main_arg2]
  refine congrArg (right m c) ?_
  blk_ext [h]

theorem point (t : Fin cfg0.N) (y : S1024x1408.Idx) :
    k0_pay1 (F := Ideal) (iblk m c 0 t) (iblk m c 1 t) y = part m c t y := by
  pointwise [k0_pay1]
  exact Finset.sum_congr rfl fun k _ => congrArg₂ (· * ·) (read_left m c t k (y 0)) (read_right m c t k (y 1))

theorem start (t : Fin cfg0.N) (h : t.val % 4 = 0) (y : S1024x1408.Idx) :
    (outsAt0 m c t.val t.isLt).2 y = 0 + part m c t y := by
  rw [outsAt0_A m c t h (by omega) (by omega), zero_add]
  frame_out
  pointwise [k0_pay2]
  exact point m c t y

theorem step (t : Fin cfg0.N) (h : ¬t.val % 4 = 0) (y : S1024x1408.Idx) :
    (outsAt0 m c t.val t.isLt).2 y
      = (outsAt0 m c (t.val - 1) (Nat.lt_of_le_of_lt (Nat.sub_le _ _) t.isLt)).2 y + part m c t y := by
  by_cases h3 : t.val % 4 = 3
  · rw [outsAt0_C m c t h (by omega) h3]
    frame_out
    simp only [read_unread_whole]
    pointwise [k0_pay3]
    exact congrArg (_ + ·) (point m c t y)
  · rw [outsAt0_B m c t h (by omega) h3]
    frame_out
    simp only [read_unread_whole]
    pointwise [k0_pay3]
    exact congrArg (_ + ·) (point m c t y)

/-- The result is the product over all tokens. -/
theorem final : (dats m 0 c).arrAt 2 cfg0.N = transposedMul (left m c) (right m c) := by
  refine (dats m 0 c).arrAt_eq_of_covers 2 _ (by decide +kernel) fun t hf y => ?_
  have ht := (flush0_2 t).mp hf
  have h2 := (idx t).2.2
  have hy : (win0_2.blk t).view.emb y = ix2 (y 0) (column t (y 1)) := by blk_ext [h2]
  have key : (outsAt0 m c t.val t.isLt).1 y = (outsAt0 m c t.val t.isLt).2 y := by
    rw [outsAt0_C m c t (by omega) (by omega) ht]
    frame_out
    pointwise [k0_pay4]
  have h := Pipeline.eq_sum_fin_of_reset_step_apply_of_flush (fun n h => (outsAt0 m c n h).2) 4 (fun _ => 0)
    (part m c) (start m c) (step m c) t ht y
  rw [after0_2]
  refine key.trans (h.trans ((zero_add _).trans ?_))
  refine Eq.trans ?_ (congrArg (transposedMul (left m c) (right m c)) hy).symm
  refine Fin.sum_mul_add_congr fun s r hl => congrArg₂ (· * ·) (congrArg _ ?_) (congrArg _ ?_)
  · blk_ext []
  · blk_ext []

/-- The derivative of the product by its weights is the same sum. -/
theorem derivative (a : Mat 8192 1024) (b : Mat 8192 2816) :
    Cert.Reference6Ideal.Read.val_main_v7 (F := Ideal) a b = transposedMul a b := by
  funext i
  pointwise [Cert.Reference6Ideal.Read.val_main_v7, Cert.Reference6Ideal.Read.val_main_v5, Cert.Reference6Ideal.Read.val_main_v4,
    Cert.Reference6Ideal.Read.val_main_v3, Cert.Reference6Ideal.Read.val_main_v0]
  exact Finset.sum_congr rfl fun n _ => mul_comm _ _

/-- Kernel and reference leave the same result. -/
theorem agree : Cert.algebraic_Kernel6Ideal_Reference6Ideal := by
  intro m g m' g' _ hagree
  refine ⟨_, Cert.Kernel6Ideal.Value.run_blocks m g, ?_⟩
  refine (θ_run Cert.Reference6Ideal.defs _ _).mono (fun r h c => ?_) (Cert.Reference6Ideal.Value.run (F := Ideal) m' g')
  obtain ⟨h0, hargs⟩ := h c
  obtain ⟨a0, a1, a2⟩ := hagree c
  refine ⟨h0.trans ?_, hargs⟩
  refine (Cert.Reference6Ideal.Read.val_main_v7_eq (F := Ideal) _ _).trans ?_
  rw [a0, a2]
  exact (derivative _ _).trans (final m c).symm

/-- The reference leaves its arguments and counters alone. -/
theorem kept : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

end Cert.Products.UpDw

end
-- ==== Proof.Products.Up.lean ====
/-
  One half of the up projection, each block at once.
-/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import proofs.«01_k».proof.Proof.Products.Sums

@[expose] public section

set_option maxRecDepth 16384

noncomputable section

namespace Cert.Products.Up

open Cert.Kernel7Ideal Cert.Kernel7Ideal.Gen
open Idealize.ShloMosaic Idealize.ShloMosaic.TcCoe Idealize.SL.Sem
open Idealize.ShloMosaic.Pipeline (Dat)

theorem idx : ∀ t : Fin cfg0.N, win0_0.index t = ![t.val / 2, 0] ∧ win0_1.index t = ![0, t.val % 2]
    ∧ win0_2.index t = ![t.val / 2, t.val % 2] :=
  (by decide +kernel : ∀ t : Fin grid0.N, _)

variable (m : (ℓ : Loc nD τ sig) → Buf (Elt Ideal) ℓ) (c : Dev nD)

/-- The normed input. -/
def left : Mat 8192 1024 := m (c.tc.loc main_arg0)

/-- The weights. -/
def right : Mat 1024 2816 := m (c.tc.loc main_arg1)

/-- The token at place `k` of a point's block. -/
abbrev token (t : Fin cfg0.N) (k : Fin 2048) : Fin 8192 :=
  ⟨t.val / 2 * 2048 + k.val, by have := t.isLt; have h : cfg0.N = 8 := rfl; omega⟩

/-- The channel at place `k` of a point's block. -/
abbrev channel (t : Fin cfg0.N) (k : Fin 1408) : Fin 2816 := ⟨t.val % 2 * 1408 + k.val, by omega⟩

theorem read_left (t : Fin cfg0.N) (r : Fin 2048) (k : Fin 1024) :
    (iblk m c 0 t : Mat 2048 1024) (ix2 r k) = left m c (ix2 (token t r) k) := by
  have h := (idx t).1
  show V m c main_arg0 ((win0_0.blk t).view.emb (ix2 r k)) = _
  rw [V_main_arg0]
  refine congrArg (left m c) ?_
  blk_ext [h]

theorem read_right (t : Fin cfg0.N) (r : Fin 1408) (k : Fin 1024) :
    (iblk m c 1 t : Mat 1024 1408) (ix2 k r) = right m c (ix2 k (channel t r)) := by
  have h := (idx t).2.1
  show V m c main_arg1 ((win0_1.blk t).view.emb (ix2 k r)) = _
  rw [V_main_arg1]
  refine congrArg (right m c) ?_
  blk_ext [h]

theorem point (t : Fin cfg0.N) (y : S2048x1408.Idx) :
    k0_pay1 (F := Ideal) (iblk m c 0 t) (iblk m c 1 t) y
      = mul (left m c) (right m c) (ix2 (token t (y 0)) (channel t (y 1))) := by
  pointwise [k0_pay1]
  exact Finset.sum_congr rfl fun k _ => congrArg₂ (· * ·) (read_left m c t (y 0) k) (read_right m c t (y 1) k)

/-- The result is the product. -/
theorem final : (dats m 0 c).arrAt 2 cfg0.N = mul (left m c) (right m c) := by
  refine (dats m 0 c).arrAt_eq_of_covers 2 _ (by decide +kernel) fun t hf y => ?_
  have h2 := (idx t).2.2
  have hy : (win0_2.blk t).view.emb y = ix2 (token t (y 0)) (channel t (y 1)) := by blk_ext [h2]
  rw [after0_2]
  refine Eq.trans ?_ (congrArg (mul (left m c) (right m c)) hy).symm
  frame_out
  exact point m c t y

/-- The reference's product is the same sum. -/
theorem product (a : Mat 8192 1024) (b : Mat 1024 2816) :
    Cert.Reference7Ideal.Read.val_main_v3 (F := Ideal) a b = mul a b := by
  funext i
  pointwise [Cert.Reference7Ideal.Read.val_main_v3, Cert.Reference7Ideal.Read.val_main_v2, Cert.Reference7Ideal.Read.val_main_v1,
    Cert.Reference7Ideal.Read.val_main_v0]
  rfl

/-- Kernel and reference leave the same result. -/
theorem agree : Cert.algebraic_Kernel7Ideal_Reference7Ideal := by
  intro m g m' g' _ hagree
  refine ⟨_, Cert.Kernel7Ideal.Value.run_blocks m g, ?_⟩
  refine (θ_run Cert.Reference7Ideal.defs _ _).mono (fun r h c => ?_) (Cert.Reference7Ideal.Value.run (F := Ideal) m' g')
  obtain ⟨h0, hargs⟩ := h c
  obtain ⟨a0, a1⟩ := hagree c
  refine ⟨h0.trans ?_, hargs⟩
  refine (Cert.Reference7Ideal.Read.val_main_v3_eq (F := Ideal) _ _).trans ?_
  rw [a0, a1]
  exact (product _ _).trans (final m c).symm

/-- The reference leaves its arguments and counters alone. -/
theorem kept : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

end Cert.Products.Up

end
-- ==== Proof.Products.Down.lean ====
/-
  The down projection: the channels are summed in two blocks in the result's own window.
-/
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import proofs.«01_k».proof.Proof.Products.Sums

@[expose] public section

set_option maxRecDepth 16384

noncomputable section

namespace Cert.Products.Down

open Cert.Kernel8Ideal Cert.Kernel8Ideal.Gen
open Idealize.ShloMosaic Idealize.ShloMosaic.TcCoe Idealize.SL.Sem
open Idealize.ShloMosaic.Pipeline (Dat)

theorem idx : ∀ t : Fin cfg0.N, win0_0.index t = ![t.val / 2, t.val % 2] ∧ win0_1.index t = ![t.val % 2, 0]
    ∧ win0_2.index t = ![t.val / 2, 0] :=
  (by decide +kernel : ∀ t : Fin grid0.N, _)

variable (m : (ℓ : Loc nD τ sig) → Buf (Elt Ideal) ℓ) (c : Dev nD)

/-- The gated product. -/
def left : Mat 8192 2816 := m (c.tc.loc main_arg0)

/-- The weights. -/
def right : Mat 2816 1024 := m (c.tc.loc main_arg1)

/-- The token at place `k` of a point's block. -/
abbrev token (t : Fin cfg0.N) (k : Fin 2048) : Fin 8192 :=
  ⟨t.val / 2 * 2048 + k.val, by have := t.isLt; have h : cfg0.N = 8 := rfl; omega⟩

/-- The channel at place `k` of a point's block. -/
abbrev channel (t : Fin cfg0.N) (k : Fin 1408) : Fin 2816 := ⟨t.val % 2 * 1408 + k.val, by omega⟩

/-- What a point adds. -/
def part (t : Fin cfg0.N) (y : S2048x1024.Idx) : EReal :=
  ∑ k : Fin 1408, left m c (ix2 (token t (y 0)) (channel t k)) * right m c (ix2 (channel t k) (y 1))

theorem read_left (t : Fin cfg0.N) (r : Fin 2048) (k : Fin 1408) :
    (iblk m c 0 t : Mat 2048 1408) (ix2 r k) = left m c (ix2 (token t r) (channel t k)) := by
  have h := (idx t).1
  show V m c main_arg0 ((win0_0.blk t).view.emb (ix2 r k)) = _
  rw [V_main_arg0]
  refine congrArg (left m c) ?_
  blk_ext [h]

theorem read_right (t : Fin cfg0.N) (r : Fin 1024) (k : Fin 1408) :
    (iblk m c 1 t : Mat 1408 1024) (ix2 k r) = right m c (ix2 (channel t k) r) := by
  have h := (idx t).2.1
  show V m c main_arg1 ((win0_1.blk t).view.emb (ix2 k r)) = _
  rw [V_main_arg1]
  refine congrArg (right m c) ?_
  blk_ext [h]

theorem point (t : Fin cfg0.N) (y : S2048x1024.Idx) :
    k0_pay1 (F := Ideal) (iblk m c 0 t) (iblk m c 1 t) y = part m c t y := by
  pointwise [k0_pay1]
  exact Finset.sum_congr rfl fun k _ => congrArg₂ (· * ·) (read_left m c t (y 0) k) (read_right m c t (y 1) k)

theorem start (t : Fin cfg0.N) (h : t.val % 2 = 0) (y : S2048x1024.Idx) :
    outsAt0 m c t.val t.isLt y = 0 + part m c t y := by
  rw [outsAt0_A m c t h (by omega), zero_add]
  frame_out
  exact point m c t y

theorem step (t : Fin cfg0.N) (h : ¬t.val % 2 = 0) (y : S2048x1024.Idx) :
    outsAt0 m c t.val t.isLt y
      = outsAt0 m c (t.val - 1) (Nat.lt_of_le_of_lt (Nat.sub_le _ _) t.isLt) y + part m c t y := by
  rw [outsAt0_B m c t h (by omega)]
  frame_out
  pointwise [k0_pay2]
  exact congrArg (_ + ·) (point m c t y)

/-- The result is the product over all channels. -/
theorem final : (dats m 0 c).arrAt 2 cfg0.N = mul (left m c) (right m c) := by
  refine (dats m 0 c).arrAt_eq_of_covers 2 _ (by decide +kernel) fun t hf y => ?_
  have ht := (flush0_2 t).mp hf
  have h2 := (idx t).2.2
  have hy : (win0_2.blk t).view.emb y = ix2 (token t (y 0)) (y 1) := by blk_ext [h2]
  have h := Pipeline.eq_sum_fin_of_reset_step_apply_of_flush (fun n h => outsAt0 m c n h) 2 (fun _ => 0)
    (part m c) (start m c) (step m c) t ht y
  rw [after0_2]
  refine h.trans ((zero_add _).trans ?_)
  refine Eq.trans ?_ (congrArg (mul (left m c) (right m c)) hy).symm
  refine Fin.sum_mul_add_congr fun s r hl => congrArg₂ (· * ·) (congrArg _ ?_) (congrArg _ ?_)
  · blk_ext []
  · blk_ext []

/-- The reference's product is the same sum. -/
theorem product (a : Mat 8192 2816) (b : Mat 2816 1024) :
    Cert.Reference8Ideal.Read.val_main_v2 (F := Ideal) a b = mul a b := by
  funext i
  pointwise [Cert.Reference8Ideal.Read.val_main_v2, Cert.Reference8Ideal.Read.val_main_v1, Cert.Reference8Ideal.Read.val_main_v0]
  rfl

/-- Kernel and reference leave the same result. -/
theorem agree : Cert.algebraic_Kernel8Ideal_Reference8Ideal := by
  intro m g m' g' _ hagree
  refine ⟨_, Cert.Kernel8Ideal.Value.run_blocks m g, ?_⟩
  refine (θ_run Cert.Reference8Ideal.defs _ _).mono (fun r h c => ?_) (Cert.Reference8Ideal.Value.run (F := Ideal) m' g')
  obtain ⟨h0, hargs⟩ := h c
  obtain ⟨a0, a1⟩ := hagree c
  refine ⟨h0.trans ?_, hargs⟩
  refine (Cert.Reference8Ideal.Read.val_main_v2_eq (F := Ideal) _ _).trans ?_
  rw [a0, a1]
  exact (product _ _).trans (final m c).symm

/-- The reference leaves its arguments and counters alone. -/
theorem kept : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

end Cert.Products.Down

end
-- ==== Proof.Products.Rest.lean ====
/-
  The part of the input projection after the S5 channels, each block at once.
-/
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import proofs.«01_k».proof.Proof.Products.Sums

@[expose] public section

set_option maxRecDepth 16384

noncomputable section

namespace Cert.Products.Rest

open Cert.Kernel9Ideal Cert.Kernel9Ideal.Gen
open Idealize.ShloMosaic Idealize.ShloMosaic.TcCoe Idealize.SL.Sem
open Idealize.ShloMosaic.Pipeline (Dat)

theorem idx : ∀ t : Fin cfg0.N, win0_0.index t = ![t.val / 3, 0] ∧ win0_1.index t = ![0, t.val % 3]
    ∧ win0_2.index t = ![t.val / 3, t.val % 3] :=
  (by decide +kernel : ∀ t : Fin grid0.N, _)

variable (m : (ℓ : Loc nD τ sig) → Buf (Elt Ideal) ℓ) (c : Dev nD)

/-- The normed input. -/
def left : Mat 8192 1024 := m (c.tc.loc main_arg0)

/-- The weights. -/
def right : Mat 1024 3072 := m (c.tc.loc main_arg1)

/-- The token at place `k` of a point's block. -/
abbrev token (t : Fin cfg0.N) (k : Fin 2048) : Fin 8192 :=
  ⟨t.val / 3 * 2048 + k.val, by have := t.isLt; have h : cfg0.N = 12 := rfl; omega⟩

/-- The column at place `k` of a point's block. -/
abbrev column (t : Fin cfg0.N) (k : Fin 1024) : Fin 3072 := ⟨t.val % 3 * 1024 + k.val, by omega⟩

theorem read_left (t : Fin cfg0.N) (r : Fin 2048) (k : Fin 1024) :
    (iblk m c 0 t : Mat 2048 1024) (ix2 r k) = left m c (ix2 (token t r) k) := by
  have h := (idx t).1
  show V m c main_arg0 ((win0_0.blk t).view.emb (ix2 r k)) = _
  rw [V_main_arg0]
  refine congrArg (left m c) ?_
  blk_ext [h]

theorem read_right (t : Fin cfg0.N) (r : Fin 1024) (k : Fin 1024) :
    (iblk m c 1 t : Mat 1024 1024) (ix2 k r) = right m c (ix2 k (column t r)) := by
  have h := (idx t).2.1
  show V m c main_arg1 ((win0_1.blk t).view.emb (ix2 k r)) = _
  rw [V_main_arg1]
  refine congrArg (right m c) ?_
  blk_ext [h]

theorem point (t : Fin cfg0.N) (y : S2048x1024.Idx) :
    k0_pay1 (F := Ideal) (iblk m c 0 t) (iblk m c 1 t) y
      = mul (left m c) (right m c) (ix2 (token t (y 0)) (column t (y 1))) := by
  pointwise [k0_pay1]
  exact Finset.sum_congr rfl fun k _ => congrArg₂ (· * ·) (read_left m c t (y 0) k) (read_right m c t (y 1) k)

/-- The result is the product. -/
theorem final : (dats m 0 c).arrAt 2 cfg0.N = mul (left m c) (right m c) := by
  refine (dats m 0 c).arrAt_eq_of_covers 2 _ (by decide +kernel) fun t hf y => ?_
  have h2 := (idx t).2.2
  have hy : (win0_2.blk t).view.emb y = ix2 (token t (y 0)) (column t (y 1)) := by blk_ext [h2]
  rw [after0_2]
  refine Eq.trans ?_ (congrArg (mul (left m c) (right m c)) hy).symm
  frame_out
  exact point m c t y

/-- The reference's product is the same sum. -/
theorem product (a : Mat 8192 1024) (b : Mat 1024 3072) :
    Cert.Reference9Ideal.Read.val_main_v2 (F := Ideal) a b = mul a b := by
  funext i
  pointwise [Cert.Reference9Ideal.Read.val_main_v2, Cert.Reference9Ideal.Read.val_main_v1,
    Cert.Reference9Ideal.Read.val_main_v0]
  rfl

/-- Kernel and reference leave the same result. -/
theorem agree : Cert.algebraic_Kernel9Ideal_Reference9Ideal := by
  intro m g m' g' _ hagree
  refine ⟨_, Cert.Kernel9Ideal.Value.run_blocks m g, ?_⟩
  refine (θ_run Cert.Reference9Ideal.defs _ _).mono (fun r h c => ?_) (Cert.Reference9Ideal.Value.run (F := Ideal) m' g')
  obtain ⟨h0, hargs⟩ := h c
  obtain ⟨a0, a1⟩ := hagree c
  refine ⟨h0.trans ?_, hargs⟩
  refine (Cert.Reference9Ideal.Read.val_main_v2_eq (F := Ideal) _ _).trans ?_
  rw [a0, a1]
  exact (product _ _).trans (final m c).symm

/-- The reference leaves its arguments and counters alone. -/
theorem kept : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

end Cert.Products.Rest

end
-- ==== Proof.Products.RestDw.lean ====
/-
  The gradient of the weights of the input projection's part after the S5 channels: the tokens are summed in four
  blocks into one accumulator.
-/
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import proofs.«01_k».proof.Proof.Products.Sums

@[expose] public section

set_option maxRecDepth 16384

noncomputable section

namespace Cert.Products.RestDw

open Cert.Kernel10Ideal Cert.Kernel10Ideal.Gen
open Idealize.ShloMosaic Idealize.ShloMosaic.TcCoe Idealize.SL.Sem
open Idealize.ShloMosaic.Pipeline (Dat)

theorem idx : ∀ t : Fin cfg0.N, win0_0.index t = ![t.val % 4, 0] ∧ win0_1.index t = ![t.val % 4, t.val / 4]
    ∧ win0_2.index t = ![0, t.val / 4] :=
  (by decide +kernel : ∀ t : Fin grid0.N, _)

variable (m : (ℓ : Loc nD τ sig) → Buf (Elt Ideal) ℓ) (c : Dev nD)

/-- The left operand. -/
def left : Mat 8192 1024 := m (c.tc.loc main_arg0)

/-- The right operand. -/
def right : Mat 8192 3072 := m (c.tc.loc main_arg2)

/-- The token at place `k` of a point's block. -/
abbrev token (t : Fin cfg0.N) (k : Fin 2048) : Fin 8192 := ⟨t.val % 4 * 2048 + k.val, by omega⟩

/-- The column of the result at place `k` of a point's block. -/
abbrev column (t : Fin cfg0.N) (k : Fin 1024) : Fin 3072 :=
  ⟨t.val / 4 * 1024 + k.val, by have := t.isLt; have h : cfg0.N = 12 := rfl; omega⟩

/-- What a point adds. -/
def part (t : Fin cfg0.N) (y : S1024x1024.Idx) : EReal :=
  ∑ k : Fin 2048, left m c (ix2 (token t k) (y 0)) * right m c (ix2 (token t k) (column t (y 1)))

theorem read_left (t : Fin cfg0.N) (k : Fin 2048) (r : Fin 1024) :
    (iblk m c 0 t : Mat 2048 1024) (ix2 k r) = left m c (ix2 (token t k) r) := by
  have h := (idx t).1
  show V m c main_arg0 ((win0_0.blk t).view.emb (ix2 k r)) = _
  rw [V_main_arg0]
  refine congrArg (left m c) ?_
  blk_ext [h]

theorem read_right (t : Fin cfg0.N) (k : Fin 2048) (r : Fin 1024) :
    (iblk m c 1 t : Mat 2048 1024) (ix2 k r) = right m c (ix2 (token t k) (column t r)) := by
  have h := (idx t).2.1
  show V m c main_arg2 ((win0_1.blk t).view.emb (ix2 k r)) = _
  rw [V_main_arg2]
  refine congrArg (right m c) ?_
  blk_ext [h]

theorem point (t : Fin cfg0.N) (y : S1024x1024.Idx) :
    k0_pay1 (F := Ideal) (iblk m c 0 t) (iblk m c 1 t) y = part m c t y := by
  pointwise [k0_pay1]
  exact Finset.sum_congr rfl fun k _ => congrArg₂ (· * ·) (read_left m c t k (y 0)) (read_right m c t k (y 1))

theorem start (t : Fin cfg0.N) (h : t.val % 4 = 0) (y : S1024x1024.Idx) :
    (outsAt0 m c t.val t.isLt).2 y = 0 + part m c t y := by
  rw [outsAt0_A m c t h (by omega) (by omega), zero_add]
  frame_out
  pointwise [k0_pay2]
  exact point m c t y

theorem step (t : Fin cfg0.N) (h : ¬t.val % 4 = 0) (y : S1024x1024.Idx) :
    (outsAt0 m c t.val t.isLt).2 y
      = (outsAt0 m c (t.val - 1) (Nat.lt_of_le_of_lt (Nat.sub_le _ _) t.isLt)).2 y + part m c t y := by
  by_cases h3 : t.val % 4 = 3
  · rw [outsAt0_C m c t h (by omega) h3]
    frame_out
    simp only [read_unread_whole]
    pointwise [k0_pay3]
    exact congrArg (_ + ·) (point m c t y)
  · rw [outsAt0_B m c t h (by omega) h3]
    frame_out
    simp only [read_unread_whole]
    pointwise [k0_pay3]
    exact congrArg (_ + ·) (point m c t y)

/-- The result is the product over all tokens. -/
theorem final : (dats m 0 c).arrAt 2 cfg0.N = transposedMul (left m c) (right m c) := by
  refine (dats m 0 c).arrAt_eq_of_covers 2 _ (by decide +kernel) fun t hf y => ?_
  have ht := (flush0_2 t).mp hf
  have h2 := (idx t).2.2
  have hy : (win0_2.blk t).view.emb y = ix2 (y 0) (column t (y 1)) := by blk_ext [h2]
  have key : (outsAt0 m c t.val t.isLt).1 y = (outsAt0 m c t.val t.isLt).2 y := by
    rw [outsAt0_C m c t (by omega) (by omega) ht]
    frame_out
    pointwise [k0_pay4]
  have h := Pipeline.eq_sum_fin_of_reset_step_apply_of_flush (fun n h => (outsAt0 m c n h).2) 4 (fun _ => 0)
    (part m c) (start m c) (step m c) t ht y
  rw [after0_2]
  refine key.trans (h.trans ((zero_add _).trans ?_))
  refine Eq.trans ?_ (congrArg (transposedMul (left m c) (right m c)) hy).symm
  refine Fin.sum_mul_add_congr fun s r hl => congrArg₂ (· * ·) (congrArg _ ?_) (congrArg _ ?_)
  · blk_ext []
  · blk_ext []

/-- The derivative of the product by its weights is the same sum. -/
theorem derivative (a : Mat 8192 1024) (b : Mat 8192 3072) :
    Cert.Reference10Ideal.Read.val_main_v7 (F := Ideal) a b = transposedMul a b := by
  funext i
  pointwise [Cert.Reference10Ideal.Read.val_main_v7, Cert.Reference10Ideal.Read.val_main_v5, Cert.Reference10Ideal.Read.val_main_v4,
    Cert.Reference10Ideal.Read.val_main_v3, Cert.Reference10Ideal.Read.val_main_v0]
  exact Finset.sum_congr rfl fun n _ => mul_comm _ _

/-- Kernel and reference leave the same result. -/
theorem agree : Cert.algebraic_Kernel10Ideal_Reference10Ideal := by
  intro m g m' g' _ hagree
  refine ⟨_, Cert.Kernel10Ideal.Value.run_blocks m g, ?_⟩
  refine (θ_run Cert.Reference10Ideal.defs _ _).mono (fun r h c => ?_) (Cert.Reference10Ideal.Value.run (F := Ideal) m' g')
  obtain ⟨h0, hargs⟩ := h c
  obtain ⟨a0, a1, a2⟩ := hagree c
  refine ⟨h0.trans ?_, hargs⟩
  refine (Cert.Reference10Ideal.Read.val_main_v7_eq (F := Ideal) _ _).trans ?_
  rw [a0, a2]
  exact (derivative _ _).trans (final m c).symm

/-- The reference leaves its arguments and counters alone. -/
theorem kept : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

end Cert.Products.RestDw

end
-- ==== Proof.Products.RestDx.lean ====
/-
  The gradient of the normed input through the input projection: the product of the part after the S5 channels is summed
  in three blocks into an accumulator, and the gradient through the S5 channels is added at the end.
-/
module

public import proofs.«01_k».proof.Defs
public import proofs.«01_k».proof.Proof.Gen.Kernel11Ideal.Value
public import proofs.«01_k».proof.Proof.Gen.Reference11Ideal.Run
public import proofs.«01_k».proof.Proof.Gen.Reference11Ideal.Read
public import proofs.«01_k».proof.Proof.Products.Sums

@[expose] public section

set_option maxRecDepth 16384

noncomputable section

namespace Cert.Products.RestDx

open Cert.Kernel11Ideal Cert.Kernel11Ideal.Gen
open Idealize.ShloMosaic Idealize.ShloMosaic.TcCoe Idealize.SL.Sem
open Idealize.ShloMosaic.Pipeline (Dat)

theorem idx : ∀ t : Fin cfg0.N, win0_0.index t = ![t.val / 3, t.val % 3] ∧ win0_1.index t = ![0, t.val % 3]
    ∧ win0_2.index t = ![t.val / 3, 0] ∧ win0_3.index t = ![t.val / 3, 0] :=
  (by decide +kernel : ∀ t : Fin grid0.N, _)

variable (m : (ℓ : Loc nD τ sig) → Buf (Elt Ideal) ℓ) (c : Dev nD)

/-- The cotangent. -/
def left : Mat 8192 3072 := m (c.tc.loc main_arg2)

/-- The weights. -/
def right : Mat 1024 3072 := m (c.tc.loc main_arg1)

/-- The gradient that is there already. -/
def before : Mat 8192 1024 := m (c.tc.loc main_arg3)

/-- The token at place `k` of a point's block. -/
abbrev token (t : Fin cfg0.N) (k : Fin 1024) : Fin 8192 :=
  ⟨t.val / 3 * 1024 + k.val, by have := t.isLt; have h : cfg0.N = 24 := rfl; omega⟩

/-- The column at place `k` of a point's block. -/
abbrev column (t : Fin cfg0.N) (k : Fin 1024) : Fin 3072 := ⟨t.val % 3 * 1024 + k.val, by omega⟩

/-- What a point adds. -/
def part (t : Fin cfg0.N) (y : S1024x1024.Idx) : EReal :=
  ∑ k : Fin 1024, left m c (ix2 (token t (y 0)) (column t k)) * right m c (ix2 (y 1) (column t k))

theorem read_left (t : Fin cfg0.N) (r : Fin 1024) (k : Fin 1024) :
    (iblk m c 0 t : Mat 1024 1024) (ix2 r k) = left m c (ix2 (token t r) (column t k)) := by
  have h := (idx t).1
  show V m c main_arg2 ((win0_0.blk t).view.emb (ix2 r k)) = _
  rw [V_main_arg2]
  refine congrArg (left m c) ?_
  blk_ext [h]

theorem read_right (t : Fin cfg0.N) (r : Fin 1024) (k : Fin 1024) :
    (iblk m c 1 t : Mat 1024 1024) (ix2 r k) = right m c (ix2 r (column t k)) := by
  have h := (idx t).2.1
  show V m c main_arg1 ((win0_1.blk t).view.emb (ix2 r k)) = _
  rw [V_main_arg1]
  refine congrArg (right m c) ?_
  blk_ext [h]

theorem read_before (t : Fin cfg0.N) (y : S1024x1024.Idx) :
    (iblk m c 2 t : Mat 1024 1024) y = before m c (ix2 (token t (y 0)) (y 1)) := by
  have h := (idx t).2.2.1
  show V m c main_arg3 ((win0_2.blk t).view.emb y) = _
  rw [V_main_arg3]
  refine congrArg (before m c) ?_
  blk_ext [h]

theorem point (t : Fin cfg0.N) (y : S1024x1024.Idx) :
    k0_pay1 (F := Ideal) (iblk m c 0 t) (iblk m c 1 t) y = part m c t y := by
  pointwise [k0_pay1]
  exact Finset.sum_congr rfl fun k _ => congrArg₂ (· * ·) (read_left m c t (y 0) k) (read_right m c t (y 1) k)

theorem start (t : Fin cfg0.N) (h : t.val % 3 = 0) (y : S1024x1024.Idx) :
    (outsAt0 m c t.val t.isLt).2 y = 0 + part m c t y := by
  rw [outsAt0_A m c t h (by omega) (by omega), zero_add]
  frame_out
  pointwise [k0_pay2]
  exact point m c t y

theorem step (t : Fin cfg0.N) (h : ¬t.val % 3 = 0) (y : S1024x1024.Idx) :
    (outsAt0 m c t.val t.isLt).2 y
      = (outsAt0 m c (t.val - 1) (Nat.lt_of_le_of_lt (Nat.sub_le _ _) t.isLt)).2 y + part m c t y := by
  by_cases h2 : t.val % 3 = 2
  · rw [outsAt0_C m c t h (by omega) h2]
    frame_out
    simp only [read_unread_whole]
    pointwise [k0_pay3]
    exact congrArg (_ + ·) (point m c t y)
  · rw [outsAt0_B m c t h (by omega) h2]
    frame_out
    simp only [read_unread_whole]
    pointwise [k0_pay3]
    exact congrArg (_ + ·) (point m c t y)

/-- The result is the product over all columns and what was there before. -/
theorem final : (dats m 0 c).arrAt 3 cfg0.N = fun i => mulTransposed (left m c) (right m c) i + before m c i := by
  refine (dats m 0 c).arrAt_eq_of_covers 3 _ (by decide +kernel) fun t hf y => ?_
  have ht := (flush0_3 t).mp hf
  have h3 := (idx t).2.2.2
  have hy : (win0_3.blk t).view.emb y = ix2 (token t (y 0)) (y 1) := by blk_ext [h3]
  have key : (outsAt0 m c t.val t.isLt).1 y
      = (outsAt0 m c t.val t.isLt).2 y + (iblk m c 2 t : Mat 1024 1024) y := by
    rw [outsAt0_C m c t (by omega) (by omega) ht]
    frame_out
    pointwise [k0_pay4]
  have h := Pipeline.eq_sum_fin_of_reset_step_apply_of_flush (fun n h => (outsAt0 m c n h).2) 3 (fun _ => 0)
    (part m c) (start m c) (step m c) t ht y
  rw [after0_3]
  refine key.trans ?_
  refine Eq.trans ?_ (congrArg (fun i => mulTransposed (left m c) (right m c) i + before m c i) hy).symm
  refine congrArg₂ (· + ·) (h.trans ((zero_add _).trans ?_)) (read_before m c t y)
  refine Fin.sum_mul_add_congr fun s r hl => congrArg₂ (· * ·) (congrArg _ ?_) (congrArg _ ?_)
  · blk_ext []
  · blk_ext []

/-- The derivative of the product by its input, added to the other, is the same sum. -/
theorem derivative (b : Mat 1024 3072) (a : Mat 8192 3072) (d : Mat 8192 1024) :
    Cert.Reference11Ideal.Read.val_main_v8 (F := Ideal) b a d = fun i => mulTransposed a b i + d i := by
  funext i
  pointwise [Cert.Reference11Ideal.Read.val_main_v8, Cert.Reference11Ideal.Read.val_main_v7, Cert.Reference11Ideal.Read.val_main_v6,
    Cert.Reference11Ideal.Read.val_main_v3, Cert.Reference11Ideal.Read.val_main_v1]
  exact add_comm _ _

/-- Kernel and reference leave the same result. -/
theorem agree : Cert.algebraic_Kernel11Ideal_Reference11Ideal := by
  intro m g m' g' _ hagree
  refine ⟨_, Cert.Kernel11Ideal.Value.run_blocks m g, ?_⟩
  refine (θ_run Cert.Reference11Ideal.defs _ _).mono (fun r h c => ?_) (Cert.Reference11Ideal.Value.run (F := Ideal) m' g')
  obtain ⟨h0, hargs⟩ := h c
  obtain ⟨a0, a1, a2, a3⟩ := hagree c
  refine ⟨h0.trans ?_, hargs⟩
  refine (Cert.Reference11Ideal.Read.val_main_v8_eq (F := Ideal) _ _ _).trans ?_
  rw [a1, a2, a3]
  exact (derivative _ _ _).trans (final m c).symm

/-- The reference leaves its arguments and counters alone. -/
theorem kept : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

end Cert.Products.RestDx

end
-- ==== Proof.Optimiser.Step.lean ====
/-
  One step of the optimiser, element by element: the gradient summed over the devices, the two moments, the change of the
  weight.
-/
module

public import proofs.«01_k».proof.Proof.Products.Sums

@[expose] public section

noncomputable section

namespace Cert.Optimiser

open Idealize.ShloMosaic Cert.Products

/-- One matrix for each device. -/
abbrev Box (n p q : ℕ) : Type := (⟨3, ![n, p, q]⟩ : Shape).Idx → EReal

/-- What device `k` adds to the gradient: this device's own share where `k` is this device, the received share elsewhere. -/
def share (me : BitVec 32) (own : EReal) (part : EReal) (k : ℕ) : EReal :=
  Scalar.select (IntOp.cmpi .eq me (BitVec.ofNat 32 k)) own part

/-- The gradient: the sum of the devices' shares. -/
def gradient {p q : ℕ} (parts : Box 8 p q) (own : Mat p q) (me : BitVec 32) : Mat p q := fun i =>
  ∑ k : Fin 8, share me (own i) (parts (ix3 k (i 0) (i 1))) k.val

/-- The new first moment. -/
def moment (g m : EReal) : EReal :=
  Ideal.ofBits .f32 0x3F666666#32 * m + Ideal.ofBits .f32 0x3DCCCCCD#32 * g

/-- The new second moment. -/
def square (g v : EReal) : EReal :=
  Ideal.ofBits .f32 0x3F7FBE77#32 * v + Ideal.ofBits .f32 0x3A83126F#32 * (g * g)

/-- The change of the weight, from the two new moments. -/
def change (w m v : EReal) : EReal :=
  Ideal.ofBits .f32 0xBA83126F#32 *
    (Ideal.div (Ideal.div m (Ideal.ofBits .f32 0x3F26BD02#32))
        (Ideal.sqrt (Ideal.div v (Ideal.ofBits .f32 0x3C231ACC#32)) + Ideal.ofBits .f32 0x322BCC77#32)
      + Ideal.ofBits .f32 0x3C23D70A#32 * w)

/-- The share is the same whichever of the two numbers stands first. -/
theorem share_swap (me : BitVec 32) (own part : EReal) (k : ℕ) :
    Scalar.select (IntOp.cmpi .eq (BitVec.ofNat 32 k) me) own part = share me own part k := by
  unfold share IntOp.cmpi
  rw [Bool.beq_comm]

/-- Eight shares added one after the other are their sum. -/
theorem add_shares {p q : ℕ} (parts : Box 8 p q) (own : Mat p q) (me : BitVec 32) (r : Fin p) (s : Fin q) :
    share me (own (ix2 r s)) (parts (ix3 0 r s)) 0 + share me (own (ix2 r s)) (parts (ix3 1 r s)) 1
        + share me (own (ix2 r s)) (parts (ix3 2 r s)) 2 + share me (own (ix2 r s)) (parts (ix3 3 r s)) 3
        + share me (own (ix2 r s)) (parts (ix3 4 r s)) 4 + share me (own (ix2 r s)) (parts (ix3 5 r s)) 5
        + share me (own (ix2 r s)) (parts (ix3 6 r s)) 6 + share me (own (ix2 r s)) (parts (ix3 7 r s)) 7
      = gradient parts own me (ix2 r s) :=
  (Fin.sum_univ_eight fun k : Fin 8 => share me (own (ix2 r s)) (parts (ix3 k r s)) k.val).symm

/-- The gradient where every share was received. -/
def total {n p q : ℕ} (parts : Box n p q) : Mat p q := fun i => ∑ k : Fin n, parts (ix3 k (i 0) (i 1))

/-- Eight received shares added one after the other are their sum. -/
theorem add_parts {p q : ℕ} (parts : Box 8 p q) (r : Fin p) (s : Fin q) :
    parts (ix3 0 r s) + parts (ix3 1 r s) + parts (ix3 2 r s) + parts (ix3 3 r s) + parts (ix3 4 r s) + parts (ix3 5 r s)
        + parts (ix3 6 r s) + parts (ix3 7 r s)
      = total parts (ix2 r s) :=
  (Fin.sum_univ_eight fun k : Fin 8 => parts (ix3 k r s)).symm

/-- The operands of one step: the weights, the gradient and the two moments. -/
structure Step (p q : ℕ) where
  weight : Mat p q
  grad : Mat p q
  first : Mat p q
  second : Mat p q

namespace Step

variable {p q : ℕ}

/-- The new moments, and the change of the weights. -/
def newFirst (s : Step p q) : Mat p q := fun i => moment (s.grad i) (s.first i)
def newSecond (s : Step p q) : Mat p q := fun i => square (s.grad i) (s.second i)
def delta (s : Step p q) : Mat p q := fun i => change (s.weight i) (s.newFirst i) (s.newSecond i)

/-- The step of some of the rows. -/
def rows {r : ℕ} (s : Step p q) (f : Fin r → Fin p) : Step r q :=
  ⟨fun i => s.weight (ix2 (f (i 0)) (i 1)), fun i => s.grad (ix2 (f (i 0)) (i 1)), fun i => s.first (ix2 (f (i 0)) (i 1)),
    fun i => s.second (ix2 (f (i 0)) (i 1))⟩

/-- A step whose operands are some rows of another's is the step of those rows. -/
theorem eq_rows {r : ℕ} {b : Step r q} {s : Step p q} {f : Fin r → Fin p}
    (hw : ∀ i : (⟨2, ![r, q]⟩ : Shape).Idx, b.weight i = s.weight (ix2 (f (i 0)) (i 1)))
    (hg : ∀ i : (⟨2, ![r, q]⟩ : Shape).Idx, b.grad i = s.grad (ix2 (f (i 0)) (i 1)))
    (hu : ∀ i : (⟨2, ![r, q]⟩ : Shape).Idx, b.first i = s.first (ix2 (f (i 0)) (i 1)))
    (hv : ∀ i : (⟨2, ![r, q]⟩ : Shape).Idx, b.second i = s.second (ix2 (f (i 0)) (i 1))) : b = s.rows f := by
  cases b
  simp only [rows, mk.injEq]
  exact ⟨funext hw, funext hg, funext hu, funext hv⟩

/-- The step whose gradient is the sum of the devices' shares, `n` this device's number. -/
def fromShares (w : Mat p q) (b : Box 8 p q) (u v o : Mat p q) (n : IVec ⟨2, ![1, 1]⟩ 32) : Step p q :=
  ⟨w, gradient b o (n (ix2 0 0)), u, v⟩

/-- The step whose gradient is the sum of received shares. -/
def fromParts {n : ℕ} (w : Mat p q) (b : Box n p q) (u v : Mat p q) : Step p q := ⟨w, total b, u, v⟩

/-- What a step of some of the rows leaves. -/
theorem of_rows {r : ℕ} {b : Step r q} {s : Step p q} {f : Fin r → Fin p} (h : b = s.rows f) (i : (⟨2, ![r, q]⟩ : Shape).Idx) :
    b.grad i = s.grad (ix2 (f (i 0)) (i 1)) ∧ b.delta i = s.delta (ix2 (f (i 0)) (i 1))
      ∧ b.newFirst i = s.newFirst (ix2 (f (i 0)) (i 1)) ∧ b.newSecond i = s.newSecond (ix2 (f (i 0)) (i 1)) := by
  subst h
  exact ⟨rfl, rfl, rfl, rfl⟩

end Step

/-- The gradient of some of the rows, from those rows of the shares. -/
theorem gradient_rows {p q r : ℕ} {b : Box 8 r q} {o : Mat r q} {n : BitVec 32} {parts : Box 8 p q} {own : Mat p q} {me : BitVec 32}
    {f : Fin r → Fin p} (i : (⟨2, ![r, q]⟩ : Shape).Idx)
    (hb : ∀ k : Fin 8, b (ix3 k (i 0) (i 1)) = parts (ix3 k (f (i 0)) (i 1))) (ho : o i = own (ix2 (f (i 0)) (i 1))) (hn : n = me) :
    gradient b o n i = gradient parts own me (ix2 (f (i 0)) (i 1)) := by
  subst hn
  exact Finset.sum_congr rfl fun k _ => congrArg₂ (fun a b => share n a b k.val) ho (hb k)

/-- The gradient of some of the rows, where every share was received. -/
theorem total_rows {n p q r : ℕ} {b : Box n r q} {parts : Box n p q} {f : Fin r → Fin p} (i : (⟨2, ![r, q]⟩ : Shape).Idx)
    (hb : ∀ k : Fin n, b (ix3 k (i 0) (i 1)) = parts (ix3 k (f (i 0)) (i 1))) :
    total b i = total parts (ix2 (f (i 0)) (i 1)) :=
  Finset.sum_congr rfl fun k _ => hb k

end Cert.Optimiser

end
-- ==== Proof.Optimiser.WDown.lean ====
/-
  The optimiser's step for the weights of the down projection.
-/
module

public import proofs.«01_k».proof.Defs
public import proofs.«01_k».proof.Proof.Gen.Kernel12Ideal.Value
public import proofs.«01_k».proof.Proof.Gen.Reference12Ideal.Run
public import proofs.«01_k».proof.Proof.Gen.Reference12Ideal.Read
public import proofs.«01_k».proof.Proof.Optimiser.Step

@[expose] public section

set_option maxRecDepth 16384

noncomputable section

namespace Cert.Optimiser.WDown

open Cert.Kernel12Ideal Cert.Kernel12Ideal.Gen Cert.Products
open Idealize.ShloMosaic Idealize.ShloMosaic.TcCoe Idealize.SL.Sem
open Idealize.ShloMosaic.Pipeline (Dat)

theorem idx : ∀ t : Fin cfg0.N, win0_0.index t = ![t.val, 0] ∧ win0_1.index t = ![0, t.val, 0] ∧ win0_2.index t = ![t.val, 0]
    ∧ win0_3.index t = ![t.val, 0] ∧ win0_4.index t = ![t.val, 0] ∧ win0_5.index t = ![0, 0] ∧ win0_6.index t = ![t.val, 0]
    ∧ win0_7.index t = ![t.val, 0] ∧ win0_8.index t = ![t.val, 0] ∧ win0_9.index t = ![t.val, 0] :=
  (by decide +kernel : ∀ t : Fin grid0.N, _)

open Step

section payloads

variable (w : Mat 176 1024) (b : Box 8 176 1024) (u v o : Mat 176 1024) (n : IVec S1x1 32) (y : S176x1024.Idx)

theorem grad_at :
    k0_pay5 (F := Ideal) (k0_pay10 w b u v o n) (k0_pay11 (F := Ideal) w b u v o n) o (View.ld b r0_8) n o (View.ld b r0_9) y
      = (fromShares w b u v o n).grad y := by
  obtain ⟨r, s, rfl⟩ : ∃ r s, y = ix2 r s := ⟨y 0, y 1, by idx_ext⟩
  unfold k0_pay10 k0_pay11
  pointwise [k0_pay5, k0_pay3, k0_pay2, k0_pay4]
  exact add_shares b o (n (ix2 0 0)) r s

theorem first_at :
    k0_pay6 (F := Ideal) (k0_pay10 w b u v o n) (k0_pay11 (F := Ideal) w b u v o n) o (View.ld b r0_8) n o (View.ld b r0_9) u y
      = (fromShares w b u v o n).newFirst y := by
  pointwise [k0_pay6]
  exact congrArg (moment · (u y)) (grad_at w b u v o n y)

theorem second_at :
    k0_pay7 (F := Ideal) (k0_pay10 w b u v o n) (k0_pay11 (F := Ideal) w b u v o n) o (View.ld b r0_8) n o (View.ld b r0_9) v y
      = (fromShares w b u v o n).newSecond y := by
  pointwise [k0_pay7]
  exact congrArg (square · (v y)) (grad_at w b u v o n y)

theorem delta_at :
    k0_pay1 (F := Ideal)
        (k0_pay8 (k0_pay10 w b u v o n) (k0_pay11 (F := Ideal) w b u v o n) o (View.ld b r0_8) n o (View.ld b r0_9) u)
        (k0_pay9 (k0_pay10 w b u v o n) (k0_pay11 (F := Ideal) w b u v o n) o (View.ld b r0_8) n o (View.ld b r0_9) v) w y
      = (fromShares w b u v o n).delta y := by
  pointwise [k0_pay1, k0_pay8, k0_pay9]
  exact congrArg₂ (change (w y)) (first_at w b u v o n y) (second_at w b u v o n y)

end payloads

variable (m : (ℓ : Loc nD τ sig) → Buf (Elt Ideal) ℓ) (c : Dev nD)

/-- The step of the whole array, and of a point's block. -/
def whole : Step 352 1024 :=
  fromShares (m (c.tc.loc main_arg0)) (m (c.tc.loc main_arg1)) (m (c.tc.loc main_arg2)) (m (c.tc.loc main_arg3)) (m (c.tc.loc main_arg4))
    (m (c.tc.loc main_arg5))
def block (t : Fin cfg0.N) : Step 176 1024 :=
  fromShares (iblk m c 0 t) (iblk m c 1 t) (iblk m c 2 t) (iblk m c 3 t) (iblk m c 4 t) (iblk m c 5 t)

/-- The row at place `r` of a point's block. -/
abbrev row (t : Fin cfg0.N) (r : Fin 176) : Fin 352 :=
  ⟨t.val * 176 + r.val, by have := t.isLt; have h : cfg0.N = 2 := rfl; omega⟩

/-- A point's block holds the point's rows. -/
theorem block_eq (t : Fin cfg0.N) : block m c t = (whole m c).rows (row t) := by
  obtain ⟨h0, h1, h2, h3, h4, h5, -⟩ := idx t
  refine Step.eq_rows (fun y => ?_) (fun y => gradient_rows y (fun k => ?_) ?_ ?_) (fun y => ?_) fun y => ?_
  · show V m c main_arg0 ((win0_0.blk t).view.emb y) = _
    rw [V_main_arg0]
    exact congrArg (m (c.tc.loc main_arg0)) (by blk_ext [h0])
  · show V m c main_arg1 ((win0_1.blk t).view.emb (ix3 k (y 0) (y 1))) = _
    rw [V_main_arg1]
    exact congrArg (m (c.tc.loc main_arg1)) (by blk_ext [h1])
  · show V m c main_arg4 ((win0_4.blk t).view.emb y) = _
    rw [V_main_arg4]
    exact congrArg (m (c.tc.loc main_arg4)) (by blk_ext [h4])
  · show V m c main_arg5 ((win0_5.blk t).view.emb (ix2 0 0)) = _
    rw [V_main_arg5]
    exact congrArg (m (c.tc.loc main_arg5)) (by blk_ext [h5])
  · show V m c main_arg2 ((win0_2.blk t).view.emb y) = _
    rw [V_main_arg2]
    exact congrArg (m (c.tc.loc main_arg2)) (by blk_ext [h2])
  · show V m c main_arg3 ((win0_3.blk t).view.emb y) = _
    rw [V_main_arg3]
    exact congrArg (m (c.tc.loc main_arg3)) (by blk_ext [h3])

/-- What the points leave in the four results: the gradient, the change of the weights, and the new moments. -/
theorem final6 : (dats m 0 c).arrAt 6 cfg0.N = (whole m c).grad := by
  refine (dats m 0 c).arrAt_eq_of_covers 6 _ (by decide +kernel) fun t hf y => ?_
  obtain ⟨-, -, -, -, -, -, h, -⟩ := idx t
  rw [after0_6]
  refine Eq.trans ?_ (congrArg (whole m c).grad (by blk_ext [h] : (win0_6.blk t).view.emb y = ix2 (row t (y 0)) (y 1))).symm
  frame_out
  exact (grad_at (iblk m c 0 t) (iblk m c 1 t) (iblk m c 2 t) (iblk m c 3 t) (iblk m c 4 t) (iblk m c 5 t) y).trans (Step.of_rows (block_eq m c t) y).1

theorem final7 : (dats m 0 c).arrAt 7 cfg0.N = (whole m c).delta := by
  refine (dats m 0 c).arrAt_eq_of_covers 7 _ (by decide +kernel) fun t hf y => ?_
  obtain ⟨-, -, -, -, -, -, -, h, -⟩ := idx t
  rw [after0_7]
  refine Eq.trans ?_ (congrArg (whole m c).delta (by blk_ext [h] : (win0_7.blk t).view.emb y = ix2 (row t (y 0)) (y 1))).symm
  frame_out
  exact (delta_at (iblk m c 0 t) (iblk m c 1 t) (iblk m c 2 t) (iblk m c 3 t) (iblk m c 4 t) (iblk m c 5 t) y).trans (Step.of_rows (block_eq m c t) y).2.1

theorem final8 : (dats m 0 c).arrAt 8 cfg0.N = (whole m c).newFirst := by
  refine (dats m 0 c).arrAt_eq_of_covers 8 _ (by decide +kernel) fun t hf y => ?_
  obtain ⟨-, -, -, -, -, -, -, -, h, -⟩ := idx t
  rw [after0_8]
  refine Eq.trans ?_ (congrArg (whole m c).newFirst (by blk_ext [h] : (win0_8.blk t).view.emb y = ix2 (row t (y 0)) (y 1))).symm
  frame_out
  exact (first_at (iblk m c 0 t) (iblk m c 1 t) (iblk m c 2 t) (iblk m c 3 t) (iblk m c 4 t) (iblk m c 5 t) y).trans (Step.of_rows (block_eq m c t) y).2.2.1

theorem final9 : (dats m 0 c).arrAt 9 cfg0.N = (whole m c).newSecond := by
  refine (dats m 0 c).arrAt_eq_of_covers 9 _ (by decide +kernel) fun t hf y => ?_
  obtain ⟨-, -, -, -, -, -, -, -, -, h⟩ := idx t
  rw [after0_9]
  refine Eq.trans ?_ (congrArg (whole m c).newSecond (by blk_ext [h] : (win0_9.blk t).view.emb y = ix2 (row t (y 0)) (y 1))).symm
  frame_out
  exact (second_at (iblk m c 0 t) (iblk m c 1 t) (iblk m c 2 t) (iblk m c 3 t) (iblk m c 4 t) (iblk m c 5 t) y).trans (Step.of_rows (block_eq m c t) y).2.2.2

section reference

open Cert.Reference12Ideal.Read

variable (w : Mat 352 1024) (b : Box 8 352 1024) (u v o : Mat 352 1024) (n : IVec S1x1 32)

theorem ref_grad : val_main_v7 (F := Ideal) b o n = (fromShares w b u v o n).grad := by
  funext i
  pointwise [val_main_v7, val_main_v6, val_main_v5, val_main_v3, val_main_v2, val_main_v1, val_main_v0, val_main_v4,
    val_main_call0_v0, val_main_cst]
  exact Finset.sum_congr rfl fun k _ => share_swap _ _ _ _

theorem ref_first : val_main_v12 (F := Ideal) b u o n = (fromShares w b u v o n).newFirst := by
  funext i
  pointwise [val_main_v12, val_main_v9, val_main_v8, val_main_cst_0, val_main_v11, val_main_v10, val_main_cst_1]
  rw [ref_grad w b u v o n]
  rfl

theorem ref_second : val_main_v18 (F := Ideal) b v o n = (fromShares w b u v o n).newSecond := by
  funext i
  pointwise [val_main_v18, val_main_v14, val_main_v13, val_main_cst_2, val_main_v17, val_main_v16, val_main_cst_3,
    val_main_v15]
  rw [ref_grad w b u v o n]
  rfl

theorem ref_delta : val_main_v31 (F := Ideal) w b u v o n = (fromShares w b u v o n).delta := by
  funext i
  pointwise [val_main_v31, val_main_v30, val_main_cst_8, val_main_v29, val_main_v28, val_main_v27, val_main_cst_7,
    val_main_v26, val_main_v25, val_main_v24, val_main_cst_6, val_main_v23, val_main_v22, val_main_v21,
    val_main_cst_5, val_main_v20, val_main_v19, val_main_cst_4]
  rw [ref_first w b u v o n, ref_second w b u v o n]
  rfl

end reference

/-- Kernel and reference leave the same four results. -/
theorem agree : Cert.algebraic_Kernel12Ideal_Reference12Ideal := by
  intro m g m' g' _ hagree
  refine ⟨_, _, _, _, Cert.Kernel12Ideal.Value.run_blocks m g, ?_⟩
  refine (θ_run Cert.Reference12Ideal.defs _ _).mono (fun r h c => ?_) (Cert.Reference12Ideal.Value.run (F := Ideal) m' g')
  obtain ⟨h0, h1, h2, h3, hargs⟩ := h c
  obtain ⟨a0, a1, a2, a3, a4, a5⟩ := hagree c
  rw [final6, final7, final8, final9]
  unfold whole
  rw [← a0, ← a1, ← a2, ← a3, ← a4, ← a5]
  exact ⟨h0.trans ((Cert.Reference12Ideal.Read.val_main_v7_eq (F := Ideal) _ _ _).trans (ref_grad _ _ _ _ _ _)),
    h1.trans ((Cert.Reference12Ideal.Read.val_main_v31_eq (F := Ideal) _ _ _ _ _ _).trans (ref_delta _ _ _ _ _ _)),
    h2.trans ((Cert.Reference12Ideal.Read.val_main_v12_eq (F := Ideal) _ _ _ _).trans (ref_first _ _ _ _ _ _)),
    h3.trans ((Cert.Reference12Ideal.Read.val_main_v18_eq (F := Ideal) _ _ _ _).trans (ref_second _ _ _ _ _ _)), hargs⟩

/-- The reference leaves its arguments and counters alone. -/
theorem kept : Cert.quiescent_Reference12Ideal := fun m ρ _ =>
  (θ_run Cert.Reference12Ideal.defs _ _).mono (fun r h => ⟨fun c => (h c).2.2.2.2, sem_eq_zero_of_no_sems (by decide) r.2⟩)
    (Cert.Reference12Ideal.Value.run (F := Ideal) m ρ)

end Cert.Optimiser.WDown

end
-- ==== Proof.Optimiser.WUp.lean ====
/-
  The optimiser's step for the weights of the up projection.
-/
module

public import proofs.«01_k».proof.Defs
public import proofs.«01_k».proof.Proof.Gen.Kernel13Ideal.Value
public import proofs.«01_k».proof.Proof.Gen.Reference13Ideal.Run
public import proofs.«01_k».proof.Proof.Gen.Reference13Ideal.Read
public import proofs.«01_k».proof.Proof.Optimiser.Step

@[expose] public section

set_option maxRecDepth 16384

noncomputable section

namespace Cert.Optimiser.WUp

open Cert.Kernel13Ideal Cert.Kernel13Ideal.Gen Cert.Products
open Idealize.ShloMosaic Idealize.ShloMosaic.TcCoe Idealize.SL.Sem
open Idealize.ShloMosaic.Pipeline (Dat)

theorem idx : ∀ t : Fin cfg0.N, win0_0.index t = ![t.val, 0] ∧ win0_1.index t = ![0, t.val, 0] ∧ win0_2.index t = ![t.val, 0]
    ∧ win0_3.index t = ![t.val, 0] ∧ win0_4.index t = ![t.val, 0] ∧ win0_5.index t = ![0, 0] ∧ win0_6.index t = ![t.val, 0]
    ∧ win0_7.index t = ![t.val, 0] ∧ win0_8.index t = ![t.val, 0] ∧ win0_9.index t = ![t.val, 0] :=
  (by decide +kernel : ∀ t : Fin grid0.N, _)

open Step

section payloads

variable (w : Mat 256 704) (b : Box 8 256 704) (u v o : Mat 256 704) (n : IVec S1x1 32) (y : S256x704.Idx)

theorem grad_at :
    k0_pay5 (F := Ideal) (k0_pay10 w b u v o n) (k0_pay11 (F := Ideal) w b u v o n) o (View.ld b r0_8) n o (View.ld b r0_9) y
      = (fromShares w b u v o n).grad y := by
  obtain ⟨r, s, rfl⟩ : ∃ r s, y = ix2 r s := ⟨y 0, y 1, by idx_ext⟩
  unfold k0_pay10 k0_pay11
  pointwise [k0_pay5, k0_pay3, k0_pay2, k0_pay4]
  exact add_shares b o (n (ix2 0 0)) r s

theorem first_at :
    k0_pay6 (F := Ideal) (k0_pay10 w b u v o n) (k0_pay11 (F := Ideal) w b u v o n) o (View.ld b r0_8) n o (View.ld b r0_9) u y
      = (fromShares w b u v o n).newFirst y := by
  pointwise [k0_pay6]
  exact congrArg (moment · (u y)) (grad_at w b u v o n y)

theorem second_at :
    k0_pay7 (F := Ideal) (k0_pay10 w b u v o n) (k0_pay11 (F := Ideal) w b u v o n) o (View.ld b r0_8) n o (View.ld b r0_9) v y
      = (fromShares w b u v o n).newSecond y := by
  pointwise [k0_pay7]
  exact congrArg (square · (v y)) (grad_at w b u v o n y)

theorem delta_at :
    k0_pay1 (F := Ideal)
        (k0_pay8 (k0_pay10 w b u v o n) (k0_pay11 (F := Ideal) w b u v o n) o (View.ld b r0_8) n o (View.ld b r0_9) u)
        (k0_pay9 (k0_pay10 w b u v o n) (k0_pay11 (F := Ideal) w b u v o n) o (View.ld b r0_8) n o (View.ld b r0_9) v) w y
      = (fromShares w b u v o n).delta y := by
  pointwise [k0_pay1, k0_pay8, k0_pay9]
  exact congrArg₂ (change (w y)) (first_at w b u v o n y) (second_at w b u v o n y)

end payloads

variable (m : (ℓ : Loc nD τ sig) → Buf (Elt Ideal) ℓ) (c : Dev nD)

/-- The step of the whole array, and of a point's block. -/
def whole : Step 1024 704 :=
  fromShares (m (c.tc.loc main_arg0)) (m (c.tc.loc main_arg1)) (m (c.tc.loc main_arg2)) (m (c.tc.loc main_arg3)) (m (c.tc.loc main_arg4))
    (m (c.tc.loc main_arg5))
def block (t : Fin cfg0.N) : Step 256 704 :=
  fromShares (iblk m c 0 t) (iblk m c 1 t) (iblk m c 2 t) (iblk m c 3 t) (iblk m c 4 t) (iblk m c 5 t)

/-- The row at place `r` of a point's block. -/
abbrev row (t : Fin cfg0.N) (r : Fin 256) : Fin 1024 :=
  ⟨t.val * 256 + r.val, by have := t.isLt; have h : cfg0.N = 4 := rfl; omega⟩

/-- A point's block holds the point's rows. -/
theorem block_eq (t : Fin cfg0.N) : block m c t = (whole m c).rows (row t) := by
  obtain ⟨h0, h1, h2, h3, h4, h5, -⟩ := idx t
  refine Step.eq_rows (fun y => ?_) (fun y => gradient_rows y (fun k => ?_) ?_ ?_) (fun y => ?_) fun y => ?_
  · show V m c main_arg0 ((win0_0.blk t).view.emb y) = _
    rw [V_main_arg0]
    exact congrArg (m (c.tc.loc main_arg0)) (by blk_ext [h0])
  · show V m c main_arg1 ((win0_1.blk t).view.emb (ix3 k (y 0) (y 1))) = _
    rw [V_main_arg1]
    exact congrArg (m (c.tc.loc main_arg1)) (by blk_ext [h1])
  · show V m c main_arg4 ((win0_4.blk t).view.emb y) = _
    rw [V_main_arg4]
    exact congrArg (m (c.tc.loc main_arg4)) (by blk_ext [h4])
  · show V m c main_arg5 ((win0_5.blk t).view.emb (ix2 0 0)) = _
    rw [V_main_arg5]
    exact congrArg (m (c.tc.loc main_arg5)) (by blk_ext [h5])
  · show V m c main_arg2 ((win0_2.blk t).view.emb y) = _
    rw [V_main_arg2]
    exact congrArg (m (c.tc.loc main_arg2)) (by blk_ext [h2])
  · show V m c main_arg3 ((win0_3.blk t).view.emb y) = _
    rw [V_main_arg3]
    exact congrArg (m (c.tc.loc main_arg3)) (by blk_ext [h3])

/-- What the points leave in the four results: the gradient, the change of the weights, and the new moments. -/
theorem final6 : (dats m 0 c).arrAt 6 cfg0.N = (whole m c).grad := by
  refine (dats m 0 c).arrAt_eq_of_covers 6 _ (by decide +kernel) fun t hf y => ?_
  obtain ⟨-, -, -, -, -, -, h, -⟩ := idx t
  rw [after0_6]
  refine Eq.trans ?_ (congrArg (whole m c).grad (by blk_ext [h] : (win0_6.blk t).view.emb y = ix2 (row t (y 0)) (y 1))).symm
  frame_out
  exact (grad_at (iblk m c 0 t) (iblk m c 1 t) (iblk m c 2 t) (iblk m c 3 t) (iblk m c 4 t) (iblk m c 5 t) y).trans (Step.of_rows (block_eq m c t) y).1

theorem final7 : (dats m 0 c).arrAt 7 cfg0.N = (whole m c).delta := by
  refine (dats m 0 c).arrAt_eq_of_covers 7 _ (by decide +kernel) fun t hf y => ?_
  obtain ⟨-, -, -, -, -, -, -, h, -⟩ := idx t
  rw [after0_7]
  refine Eq.trans ?_ (congrArg (whole m c).delta (by blk_ext [h] : (win0_7.blk t).view.emb y = ix2 (row t (y 0)) (y 1))).symm
  frame_out
  exact (delta_at (iblk m c 0 t) (iblk m c 1 t) (iblk m c 2 t) (iblk m c 3 t) (iblk m c 4 t) (iblk m c 5 t) y).trans (Step.of_rows (block_eq m c t) y).2.1

theorem final8 : (dats m 0 c).arrAt 8 cfg0.N = (whole m c).newFirst := by
  refine (dats m 0 c).arrAt_eq_of_covers 8 _ (by decide +kernel) fun t hf y => ?_
  obtain ⟨-, -, -, -, -, -, -, -, h, -⟩ := idx t
  rw [after0_8]
  refine Eq.trans ?_ (congrArg (whole m c).newFirst (by blk_ext [h] : (win0_8.blk t).view.emb y = ix2 (row t (y 0)) (y 1))).symm
  frame_out
  exact (first_at (iblk m c 0 t) (iblk m c 1 t) (iblk m c 2 t) (iblk m c 3 t) (iblk m c 4 t) (iblk m c 5 t) y).trans (Step.of_rows (block_eq m c t) y).2.2.1

theorem final9 : (dats m 0 c).arrAt 9 cfg0.N = (whole m c).newSecond := by
  refine (dats m 0 c).arrAt_eq_of_covers 9 _ (by decide +kernel) fun t hf y => ?_
  obtain ⟨-, -, -, -, -, -, -, -, -, h⟩ := idx t
  rw [after0_9]
  refine Eq.trans ?_ (congrArg (whole m c).newSecond (by blk_ext [h] : (win0_9.blk t).view.emb y = ix2 (row t (y 0)) (y 1))).symm
  frame_out
  exact (second_at (iblk m c 0 t) (iblk m c 1 t) (iblk m c 2 t) (iblk m c 3 t) (iblk m c 4 t) (iblk m c 5 t) y).trans (Step.of_rows (block_eq m c t) y).2.2.2

section reference

open Cert.Reference13Ideal.Read

variable (w : Mat 1024 704) (b : Box 8 1024 704) (u v o : Mat 1024 704) (n : IVec S1x1 32)

theorem ref_grad : val_main_v7 (F := Ideal) b o n = (fromShares w b u v o n).grad := by
  funext i
  pointwise [val_main_v7, val_main_v6, val_main_v5, val_main_v3, val_main_v2, val_main_v1, val_main_v0, val_main_v4,
    val_main_call0_v0, val_main_cst]
  exact Finset.sum_congr rfl fun k _ => share_swap _ _ _ _

theorem ref_first : val_main_v12 (F := Ideal) b u o n = (fromShares w b u v o n).newFirst := by
  funext i
  pointwise [val_main_v12, val_main_v9, val_main_v8, val_main_cst_0, val_main_v11, val_main_v10, val_main_cst_1]
  rw [ref_grad w b u v o n]
  rfl

theorem ref_second : val_main_v18 (F := Ideal) b v o n = (fromShares w b u v o n).newSecond := by
  funext i
  pointwise [val_main_v18, val_main_v14, val_main_v13, val_main_cst_2, val_main_v17, val_main_v16, val_main_cst_3,
    val_main_v15]
  rw [ref_grad w b u v o n]
  rfl

theorem ref_delta : val_main_v31 (F := Ideal) w b u v o n = (fromShares w b u v o n).delta := by
  funext i
  pointwise [val_main_v31, val_main_v30, val_main_cst_8, val_main_v29, val_main_v28, val_main_v27, val_main_cst_7,
    val_main_v26, val_main_v25, val_main_v24, val_main_cst_6, val_main_v23, val_main_v22, val_main_v21,
    val_main_cst_5, val_main_v20, val_main_v19, val_main_cst_4]
  rw [ref_first w b u v o n, ref_second w b u v o n]
  rfl

end reference

/-- Kernel and reference leave the same four results. -/
theorem agree : Cert.algebraic_Kernel13Ideal_Reference13Ideal := by
  intro m g m' g' _ hagree
  refine ⟨_, _, _, _, Cert.Kernel13Ideal.Value.run_blocks m g, ?_⟩
  refine (θ_run Cert.Reference13Ideal.defs _ _).mono (fun r h c => ?_) (Cert.Reference13Ideal.Value.run (F := Ideal) m' g')
  obtain ⟨h0, h1, h2, h3, hargs⟩ := h c
  obtain ⟨a0, a1, a2, a3, a4, a5⟩ := hagree c
  rw [final6, final7, final8, final9]
  unfold whole
  rw [← a0, ← a1, ← a2, ← a3, ← a4, ← a5]
  exact ⟨h0.trans ((Cert.Reference13Ideal.Read.val_main_v7_eq (F := Ideal) _ _ _).trans (ref_grad _ _ _ _ _ _)),
    h1.trans ((Cert.Reference13Ideal.Read.val_main_v31_eq (F := Ideal) _ _ _ _ _ _).trans (ref_delta _ _ _ _ _ _)),
    h2.trans ((Cert.Reference13Ideal.Read.val_main_v12_eq (F := Ideal) _ _ _ _).trans (ref_first _ _ _ _ _ _)),
    h3.trans ((Cert.Reference13Ideal.Read.val_main_v18_eq (F := Ideal) _ _ _ _).trans (ref_second _ _ _ _ _ _)), hargs⟩

/-- The reference leaves its arguments and counters alone. -/
theorem kept : Cert.quiescent_Reference13Ideal := fun m ρ _ =>
  (θ_run Cert.Reference13Ideal.defs _ _).mono (fun r h => ⟨fun c => (h c).2.2.2.2, sem_eq_zero_of_no_sems (by decide) r.2⟩)
    (Cert.Reference13Ideal.Value.run (F := Ideal) m ρ)

end Cert.Optimiser.WUp

end
-- ==== Proof.Optimiser.ConvW.lean ====
/-
  The optimiser's step for the convolution's weights.
-/
module

public import proofs.«01_k».proof.Defs
public import proofs.«01_k».proof.Proof.Gen.Kernel14Ideal.Value
public import proofs.«01_k».proof.Proof.Gen.Reference14Ideal.Run
public import proofs.«01_k».proof.Proof.Gen.Reference14Ideal.Read
public import proofs.«01_k».proof.Proof.Optimiser.Step

@[expose] public section

set_option maxRecDepth 16384

noncomputable section

namespace Cert.Optimiser.ConvW

open Cert.Kernel14Ideal Cert.Kernel14Ideal.Gen Cert.Products
open Idealize.ShloMosaic Idealize.ShloMosaic.TcCoe Idealize.SL.Sem
open Idealize.ShloMosaic.Pipeline (Dat)

theorem idx : ∀ t : Fin cfg0.N, win0_0.index t = ![t.val, 0] ∧ win0_1.index t = ![0, t.val, 0] ∧ win0_2.index t = ![t.val, 0]
    ∧ win0_3.index t = ![t.val, 0] ∧ win0_4.index t = ![t.val, 0] ∧ win0_5.index t = ![0, 0] ∧ win0_6.index t = ![t.val, 0]
    ∧ win0_7.index t = ![t.val, 0] ∧ win0_8.index t = ![t.val, 0] ∧ win0_9.index t = ![t.val, 0] :=
  (by decide +kernel : ∀ t : Fin grid0.N, _)

open Step

section payloads

variable (w : Mat 9 704) (b : Box 8 9 704) (u v o : Mat 9 704) (n : IVec S1x1 32) (y : S9x704.Idx)

theorem grad_at :
    k0_pay5 (F := Ideal) (k0_pay10 w b u v o n) (k0_pay11 (F := Ideal) w b u v o n) o (View.ld b r0_8) n o (View.ld b r0_9) y
      = (fromShares w b u v o n).grad y := by
  obtain ⟨r, s, rfl⟩ : ∃ r s, y = ix2 r s := ⟨y 0, y 1, by idx_ext⟩
  unfold k0_pay10 k0_pay11
  pointwise [k0_pay5, k0_pay3, k0_pay2, k0_pay4]
  exact add_shares b o (n (ix2 0 0)) r s

theorem first_at :
    k0_pay6 (F := Ideal) (k0_pay10 w b u v o n) (k0_pay11 (F := Ideal) w b u v o n) o (View.ld b r0_8) n o (View.ld b r0_9) u y
      = (fromShares w b u v o n).newFirst y := by
  pointwise [k0_pay6]
  exact congrArg (moment · (u y)) (grad_at w b u v o n y)

theorem second_at :
    k0_pay7 (F := Ideal) (k0_pay10 w b u v o n) (k0_pay11 (F := Ideal) w b u v o n) o (View.ld b r0_8) n o (View.ld b r0_9) v y
      = (fromShares w b u v o n).newSecond y := by
  pointwise [k0_pay7]
  exact congrArg (square · (v y)) (grad_at w b u v o n y)

theorem delta_at :
    k0_pay1 (F := Ideal)
        (k0_pay8 (k0_pay10 w b u v o n) (k0_pay11 (F := Ideal) w b u v o n) o (View.ld b r0_8) n o (View.ld b r0_9) u)
        (k0_pay9 (k0_pay10 w b u v o n) (k0_pay11 (F := Ideal) w b u v o n) o (View.ld b r0_8) n o (View.ld b r0_9) v) w y
      = (fromShares w b u v o n).delta y := by
  pointwise [k0_pay1, k0_pay8, k0_pay9]
  exact congrArg₂ (change (w y)) (first_at w b u v o n y) (second_at w b u v o n y)

end payloads

variable (m : (ℓ : Loc nD τ sig) → Buf (Elt Ideal) ℓ) (c : Dev nD)

/-- The step of the whole array, and of a point's block. -/
def whole : Step 9 704 :=
  fromShares (m (c.tc.loc main_arg0)) (m (c.tc.loc main_arg1)) (m (c.tc.loc main_arg2)) (m (c.tc.loc main_arg3)) (m (c.tc.loc main_arg4))
    (m (c.tc.loc main_arg5))
def block (t : Fin cfg0.N) : Step 9 704 :=
  fromShares (iblk m c 0 t) (iblk m c 1 t) (iblk m c 2 t) (iblk m c 3 t) (iblk m c 4 t) (iblk m c 5 t)

/-- The row at place `r` of a point's block. -/
abbrev row (t : Fin cfg0.N) (r : Fin 9) : Fin 9 :=
  ⟨t.val * 9 + r.val, by have := t.isLt; have h : cfg0.N = 1 := rfl; omega⟩

/-- A point's block holds the point's rows. -/
theorem block_eq (t : Fin cfg0.N) : block m c t = (whole m c).rows (row t) := by
  obtain ⟨h0, h1, h2, h3, h4, h5, -⟩ := idx t
  refine Step.eq_rows (fun y => ?_) (fun y => gradient_rows y (fun k => ?_) ?_ ?_) (fun y => ?_) fun y => ?_
  · show V m c main_arg0 ((win0_0.blk t).view.emb y) = _
    rw [V_main_arg0]
    exact congrArg (m (c.tc.loc main_arg0)) (by blk_ext [h0])
  · show V m c main_arg1 ((win0_1.blk t).view.emb (ix3 k (y 0) (y 1))) = _
    rw [V_main_arg1]
    exact congrArg (m (c.tc.loc main_arg1)) (by blk_ext [h1])
  · show V m c main_arg4 ((win0_4.blk t).view.emb y) = _
    rw [V_main_arg4]
    exact congrArg (m (c.tc.loc main_arg4)) (by blk_ext [h4])
  · show V m c main_arg5 ((win0_5.blk t).view.emb (ix2 0 0)) = _
    rw [V_main_arg5]
    exact congrArg (m (c.tc.loc main_arg5)) (by blk_ext [h5])
  · show V m c main_arg2 ((win0_2.blk t).view.emb y) = _
    rw [V_main_arg2]
    exact congrArg (m (c.tc.loc main_arg2)) (by blk_ext [h2])
  · show V m c main_arg3 ((win0_3.blk t).view.emb y) = _
    rw [V_main_arg3]
    exact congrArg (m (c.tc.loc main_arg3)) (by blk_ext [h3])

/-- What the points leave in the four results: the gradient, the change of the weights, and the new moments. -/
theorem final6 : (dats m 0 c).arrAt 6 cfg0.N = (whole m c).grad := by
  refine (dats m 0 c).arrAt_eq_of_covers 6 _ (by decide +kernel) fun t hf y => ?_
  obtain ⟨-, -, -, -, -, -, h, -⟩ := idx t
  rw [after0_6]
  refine Eq.trans ?_ (congrArg (whole m c).grad (by blk_ext [h] : (win0_6.blk t).view.emb y = ix2 (row t (y 0)) (y 1))).symm
  frame_out
  exact (grad_at (iblk m c 0 t) (iblk m c 1 t) (iblk m c 2 t) (iblk m c 3 t) (iblk m c 4 t) (iblk m c 5 t) y).trans (Step.of_rows (block_eq m c t) y).1

theorem final7 : (dats m 0 c).arrAt 7 cfg0.N = (whole m c).delta := by
  refine (dats m 0 c).arrAt_eq_of_covers 7 _ (by decide +kernel) fun t hf y => ?_
  obtain ⟨-, -, -, -, -, -, -, h, -⟩ := idx t
  rw [after0_7]
  refine Eq.trans ?_ (congrArg (whole m c).delta (by blk_ext [h] : (win0_7.blk t).view.emb y = ix2 (row t (y 0)) (y 1))).symm
  frame_out
  exact (delta_at (iblk m c 0 t) (iblk m c 1 t) (iblk m c 2 t) (iblk m c 3 t) (iblk m c 4 t) (iblk m c 5 t) y).trans (Step.of_rows (block_eq m c t) y).2.1

theorem final8 : (dats m 0 c).arrAt 8 cfg0.N = (whole m c).newFirst := by
  refine (dats m 0 c).arrAt_eq_of_covers 8 _ (by decide +kernel) fun t hf y => ?_
  obtain ⟨-, -, -, -, -, -, -, -, h, -⟩ := idx t
  rw [after0_8]
  refine Eq.trans ?_ (congrArg (whole m c).newFirst (by blk_ext [h] : (win0_8.blk t).view.emb y = ix2 (row t (y 0)) (y 1))).symm
  frame_out
  exact (first_at (iblk m c 0 t) (iblk m c 1 t) (iblk m c 2 t) (iblk m c 3 t) (iblk m c 4 t) (iblk m c 5 t) y).trans (Step.of_rows (block_eq m c t) y).2.2.1

theorem final9 : (dats m 0 c).arrAt 9 cfg0.N = (whole m c).newSecond := by
  refine (dats m 0 c).arrAt_eq_of_covers 9 _ (by decide +kernel) fun t hf y => ?_
  obtain ⟨-, -, -, -, -, -, -, -, -, h⟩ := idx t
  rw [after0_9]
  refine Eq.trans ?_ (congrArg (whole m c).newSecond (by blk_ext [h] : (win0_9.blk t).view.emb y = ix2 (row t (y 0)) (y 1))).symm
  frame_out
  exact (second_at (iblk m c 0 t) (iblk m c 1 t) (iblk m c 2 t) (iblk m c 3 t) (iblk m c 4 t) (iblk m c 5 t) y).trans (Step.of_rows (block_eq m c t) y).2.2.2

section reference

open Cert.Reference14Ideal.Read

variable (w : Mat 9 704) (b : Box 8 9 704) (u v o : Mat 9 704) (n : IVec S1x1 32)

theorem ref_grad : val_main_v7 (F := Ideal) b o n = (fromShares w b u v o n).grad := by
  funext i
  pointwise [val_main_v7, val_main_v6, val_main_v5, val_main_v3, val_main_v2, val_main_v1, val_main_v0, val_main_v4,
    val_main_call0_v0, val_main_cst]
  exact Finset.sum_congr rfl fun k _ => share_swap _ _ _ _

theorem ref_first : val_main_v12 (F := Ideal) b u o n = (fromShares w b u v o n).newFirst := by
  funext i
  pointwise [val_main_v12, val_main_v9, val_main_v8, val_main_cst_0, val_main_v11, val_main_v10, val_main_cst_1]
  rw [ref_grad w b u v o n]
  rfl

theorem ref_second : val_main_v18 (F := Ideal) b v o n = (fromShares w b u v o n).newSecond := by
  funext i
  pointwise [val_main_v18, val_main_v14, val_main_v13, val_main_cst_2, val_main_v17, val_main_v16, val_main_cst_3,
    val_main_v15]
  rw [ref_grad w b u v o n]
  rfl

theorem ref_delta : val_main_v31 (F := Ideal) w b u v o n = (fromShares w b u v o n).delta := by
  funext i
  pointwise [val_main_v31, val_main_v30, val_main_cst_8, val_main_v29, val_main_v28, val_main_v27, val_main_cst_7,
    val_main_v26, val_main_v25, val_main_v24, val_main_cst_6, val_main_v23, val_main_v22, val_main_v21,
    val_main_cst_5, val_main_v20, val_main_v19, val_main_cst_4]
  rw [ref_first w b u v o n, ref_second w b u v o n]
  rfl

end reference

/-- Kernel and reference leave the same four results. -/
theorem agree : Cert.algebraic_Kernel14Ideal_Reference14Ideal := by
  intro m g m' g' _ hagree
  refine ⟨_, _, _, _, Cert.Kernel14Ideal.Value.run_blocks m g, ?_⟩
  refine (θ_run Cert.Reference14Ideal.defs _ _).mono (fun r h c => ?_) (Cert.Reference14Ideal.Value.run (F := Ideal) m' g')
  obtain ⟨h0, h1, h2, h3, hargs⟩ := h c
  obtain ⟨a0, a1, a2, a3, a4, a5⟩ := hagree c
  rw [final6, final7, final8, final9]
  unfold whole
  rw [← a0, ← a1, ← a2, ← a3, ← a4, ← a5]
  exact ⟨h0.trans ((Cert.Reference14Ideal.Read.val_main_v7_eq (F := Ideal) _ _ _).trans (ref_grad _ _ _ _ _ _)),
    h1.trans ((Cert.Reference14Ideal.Read.val_main_v31_eq (F := Ideal) _ _ _ _ _ _).trans (ref_delta _ _ _ _ _ _)),
    h2.trans ((Cert.Reference14Ideal.Read.val_main_v12_eq (F := Ideal) _ _ _ _).trans (ref_first _ _ _ _ _ _)),
    h3.trans ((Cert.Reference14Ideal.Read.val_main_v18_eq (F := Ideal) _ _ _ _).trans (ref_second _ _ _ _ _ _)), hargs⟩

/-- The reference leaves its arguments and counters alone. -/
theorem kept : Cert.quiescent_Reference14Ideal := fun m ρ _ =>
  (θ_run Cert.Reference14Ideal.defs _ _).mono (fun r h => ⟨fun c => (h c).2.2.2.2, sem_eq_zero_of_no_sems (by decide) r.2⟩)
    (Cert.Reference14Ideal.Value.run (F := Ideal) m ρ)

end Cert.Optimiser.ConvW

end
-- ==== Proof.Optimiser.WOut.lean ====
/-
  The optimiser's step for the weights of the output projection.
-/
module

public import proofs.«01_k».proof.Defs
public import proofs.«01_k».proof.Proof.Gen.Kernel15Ideal.Value
public import proofs.«01_k».proof.Proof.Gen.Reference15Ideal.Run
public import proofs.«01_k».proof.Proof.Gen.Reference15Ideal.Read
public import proofs.«01_k».proof.Proof.Optimiser.Step

@[expose] public section

set_option maxRecDepth 16384

noncomputable section

namespace Cert.Optimiser.WOut

open Cert.Kernel15Ideal Cert.Kernel15Ideal.Gen Cert.Products
open Idealize.ShloMosaic Idealize.ShloMosaic.TcCoe Idealize.SL.Sem
open Idealize.ShloMosaic.Pipeline (Dat)

theorem idx : ∀ t : Fin cfg0.N, win0_0.index t = ![t.val, 0] ∧ win0_1.index t = ![0, t.val, 0] ∧ win0_2.index t = ![t.val, 0]
    ∧ win0_3.index t = ![t.val, 0] ∧ win0_4.index t = ![t.val, 0] ∧ win0_5.index t = ![0, 0] ∧ win0_6.index t = ![t.val, 0]
    ∧ win0_7.index t = ![t.val, 0] ∧ win0_8.index t = ![t.val, 0] ∧ win0_9.index t = ![t.val, 0] :=
  (by decide +kernel : ∀ t : Fin grid0.N, _)

open Step

section payloads

variable (w : Mat 128 1024) (b : Box 8 128 1024) (u v o : Mat 128 1024) (n : IVec S1x1 32) (y : S128x1024.Idx)

theorem grad_at :
    k0_pay5 (F := Ideal) (k0_pay10 w b u v o n) (k0_pay11 (F := Ideal) w b u v o n) o (View.ld b r0_8) n o (View.ld b r0_9) y
      = (fromShares w b u v o n).grad y := by
  obtain ⟨r, s, rfl⟩ : ∃ r s, y = ix2 r s := ⟨y 0, y 1, by idx_ext⟩
  unfold k0_pay10 k0_pay11
  pointwise [k0_pay5, k0_pay3, k0_pay2, k0_pay4]
  exact add_shares b o (n (ix2 0 0)) r s

theorem first_at :
    k0_pay6 (F := Ideal) (k0_pay10 w b u v o n) (k0_pay11 (F := Ideal) w b u v o n) o (View.ld b r0_8) n o (View.ld b r0_9) u y
      = (fromShares w b u v o n).newFirst y := by
  pointwise [k0_pay6]
  exact congrArg (moment · (u y)) (grad_at w b u v o n y)

theorem second_at :
    k0_pay7 (F := Ideal) (k0_pay10 w b u v o n) (k0_pay11 (F := Ideal) w b u v o n) o (View.ld b r0_8) n o (View.ld b r0_9) v y
      = (fromShares w b u v o n).newSecond y := by
  pointwise [k0_pay7]
  exact congrArg (square · (v y)) (grad_at w b u v o n y)

theorem delta_at :
    k0_pay1 (F := Ideal)
        (k0_pay8 (k0_pay10 w b u v o n) (k0_pay11 (F := Ideal) w b u v o n) o (View.ld b r0_8) n o (View.ld b r0_9) u)
        (k0_pay9 (k0_pay10 w b u v o n) (k0_pay11 (F := Ideal) w b u v o n) o (View.ld b r0_8) n o (View.ld b r0_9) v) w y
      = (fromShares w b u v o n).delta y := by
  pointwise [k0_pay1, k0_pay8, k0_pay9]
  exact congrArg₂ (change (w y)) (first_at w b u v o n y) (second_at w b u v o n y)

end payloads

variable (m : (ℓ : Loc nD τ sig) → Buf (Elt Ideal) ℓ) (c : Dev nD)

/-- The step of the whole array, and of a point's block. -/
def whole : Step 128 1024 :=
  fromShares (m (c.tc.loc main_arg0)) (m (c.tc.loc main_arg1)) (m (c.tc.loc main_arg2)) (m (c.tc.loc main_arg3)) (m (c.tc.loc main_arg4))
    (m (c.tc.loc main_arg5))
def block (t : Fin cfg0.N) : Step 128 1024 :=
  fromShares (iblk m c 0 t) (iblk m c 1 t) (iblk m c 2 t) (iblk m c 3 t) (iblk m c 4 t) (iblk m c 5 t)

/-- The row at place `r` of a point's block. -/
abbrev row (t : Fin cfg0.N) (r : Fin 128) : Fin 128 :=
  ⟨t.val * 128 + r.val, by have := t.isLt; have h : cfg0.N = 1 := rfl; omega⟩

/-- A point's block holds the point's rows. -/
theorem block_eq (t : Fin cfg0.N) : block m c t = (whole m c).rows (row t) := by
  obtain ⟨h0, h1, h2, h3, h4, h5, -⟩ := idx t
  refine Step.eq_rows (fun y => ?_) (fun y => gradient_rows y (fun k => ?_) ?_ ?_) (fun y => ?_) fun y => ?_
  · show V m c main_arg0 ((win0_0.blk t).view.emb y) = _
    rw [V_main_arg0]
    exact congrArg (m (c.tc.loc main_arg0)) (by blk_ext [h0])
  · show V m c main_arg1 ((win0_1.blk t).view.emb (ix3 k (y 0) (y 1))) = _
    rw [V_main_arg1]
    exact congrArg (m (c.tc.loc main_arg1)) (by blk_ext [h1])
  · show V m c main_arg4 ((win0_4.blk t).view.emb y) = _
    rw [V_main_arg4]
    exact congrArg (m (c.tc.loc main_arg4)) (by blk_ext [h4])
  · show V m c main_arg5 ((win0_5.blk t).view.emb (ix2 0 0)) = _
    rw [V_main_arg5]
    exact congrArg (m (c.tc.loc main_arg5)) (by blk_ext [h5])
  · show V m c main_arg2 ((win0_2.blk t).view.emb y) = _
    rw [V_main_arg2]
    exact congrArg (m (c.tc.loc main_arg2)) (by blk_ext [h2])
  · show V m c main_arg3 ((win0_3.blk t).view.emb y) = _
    rw [V_main_arg3]
    exact congrArg (m (c.tc.loc main_arg3)) (by blk_ext [h3])

/-- What the points leave in the four results: the gradient, the change of the weights, and the new moments. -/
theorem final6 : (dats m 0 c).arrAt 6 cfg0.N = (whole m c).grad := by
  refine (dats m 0 c).arrAt_eq_of_covers 6 _ (by decide +kernel) fun t hf y => ?_
  obtain ⟨-, -, -, -, -, -, h, -⟩ := idx t
  rw [after0_6]
  refine Eq.trans ?_ (congrArg (whole m c).grad (by blk_ext [h] : (win0_6.blk t).view.emb y = ix2 (row t (y 0)) (y 1))).symm
  frame_out
  exact (grad_at (iblk m c 0 t) (iblk m c 1 t) (iblk m c 2 t) (iblk m c 3 t) (iblk m c 4 t) (iblk m c 5 t) y).trans (Step.of_rows (block_eq m c t) y).1

theorem final7 : (dats m 0 c).arrAt 7 cfg0.N = (whole m c).delta := by
  refine (dats m 0 c).arrAt_eq_of_covers 7 _ (by decide +kernel) fun t hf y => ?_
  obtain ⟨-, -, -, -, -, -, -, h, -⟩ := idx t
  rw [after0_7]
  refine Eq.trans ?_ (congrArg (whole m c).delta (by blk_ext [h] : (win0_7.blk t).view.emb y = ix2 (row t (y 0)) (y 1))).symm
  frame_out
  exact (delta_at (iblk m c 0 t) (iblk m c 1 t) (iblk m c 2 t) (iblk m c 3 t) (iblk m c 4 t) (iblk m c 5 t) y).trans (Step.of_rows (block_eq m c t) y).2.1

theorem final8 : (dats m 0 c).arrAt 8 cfg0.N = (whole m c).newFirst := by
  refine (dats m 0 c).arrAt_eq_of_covers 8 _ (by decide +kernel) fun t hf y => ?_
  obtain ⟨-, -, -, -, -, -, -, -, h, -⟩ := idx t
  rw [after0_8]
  refine Eq.trans ?_ (congrArg (whole m c).newFirst (by blk_ext [h] : (win0_8.blk t).view.emb y = ix2 (row t (y 0)) (y 1))).symm
  frame_out
  exact (first_at (iblk m c 0 t) (iblk m c 1 t) (iblk m c 2 t) (iblk m c 3 t) (iblk m c 4 t) (iblk m c 5 t) y).trans (Step.of_rows (block_eq m c t) y).2.2.1

theorem final9 : (dats m 0 c).arrAt 9 cfg0.N = (whole m c).newSecond := by
  refine (dats m 0 c).arrAt_eq_of_covers 9 _ (by decide +kernel) fun t hf y => ?_
  obtain ⟨-, -, -, -, -, -, -, -, -, h⟩ := idx t
  rw [after0_9]
  refine Eq.trans ?_ (congrArg (whole m c).newSecond (by blk_ext [h] : (win0_9.blk t).view.emb y = ix2 (row t (y 0)) (y 1))).symm
  frame_out
  exact (second_at (iblk m c 0 t) (iblk m c 1 t) (iblk m c 2 t) (iblk m c 3 t) (iblk m c 4 t) (iblk m c 5 t) y).trans (Step.of_rows (block_eq m c t) y).2.2.2

section reference

open Cert.Reference15Ideal.Read

variable (w : Mat 128 1024) (b : Box 8 128 1024) (u v o : Mat 128 1024) (n : IVec S1x1 32)

theorem ref_grad : val_main_v7 (F := Ideal) b o n = (fromShares w b u v o n).grad := by
  funext i
  pointwise [val_main_v7, val_main_v6, val_main_v5, val_main_v3, val_main_v2, val_main_v1, val_main_v0, val_main_v4,
    val_main_call0_v0, val_main_cst]
  exact Finset.sum_congr rfl fun k _ => share_swap _ _ _ _

theorem ref_first : val_main_v12 (F := Ideal) b u o n = (fromShares w b u v o n).newFirst := by
  funext i
  pointwise [val_main_v12, val_main_v9, val_main_v8, val_main_cst_0, val_main_v11, val_main_v10, val_main_cst_1]
  rw [ref_grad w b u v o n]
  rfl

theorem ref_second : val_main_v18 (F := Ideal) b v o n = (fromShares w b u v o n).newSecond := by
  funext i
  pointwise [val_main_v18, val_main_v14, val_main_v13, val_main_cst_2, val_main_v17, val_main_v16, val_main_cst_3,
    val_main_v15]
  rw [ref_grad w b u v o n]
  rfl

theorem ref_delta : val_main_v31 (F := Ideal) w b u v o n = (fromShares w b u v o n).delta := by
  funext i
  pointwise [val_main_v31, val_main_v30, val_main_cst_8, val_main_v29, val_main_v28, val_main_v27, val_main_cst_7,
    val_main_v26, val_main_v25, val_main_v24, val_main_cst_6, val_main_v23, val_main_v22, val_main_v21,
    val_main_cst_5, val_main_v20, val_main_v19, val_main_cst_4]
  rw [ref_first w b u v o n, ref_second w b u v o n]
  rfl

end reference

/-- Kernel and reference leave the same four results. -/
theorem agree : Cert.algebraic_Kernel15Ideal_Reference15Ideal := by
  intro m g m' g' _ hagree
  refine ⟨_, _, _, _, Cert.Kernel15Ideal.Value.run_blocks m g, ?_⟩
  refine (θ_run Cert.Reference15Ideal.defs _ _).mono (fun r h c => ?_) (Cert.Reference15Ideal.Value.run (F := Ideal) m' g')
  obtain ⟨h0, h1, h2, h3, hargs⟩ := h c
  obtain ⟨a0, a1, a2, a3, a4, a5⟩ := hagree c
  rw [final6, final7, final8, final9]
  unfold whole
  rw [← a0, ← a1, ← a2, ← a3, ← a4, ← a5]
  exact ⟨h0.trans ((Cert.Reference15Ideal.Read.val_main_v7_eq (F := Ideal) _ _ _).trans (ref_grad _ _ _ _ _ _)),
    h1.trans ((Cert.Reference15Ideal.Read.val_main_v31_eq (F := Ideal) _ _ _ _ _ _).trans (ref_delta _ _ _ _ _ _)),
    h2.trans ((Cert.Reference15Ideal.Read.val_main_v12_eq (F := Ideal) _ _ _ _).trans (ref_first _ _ _ _ _ _)),
    h3.trans ((Cert.Reference15Ideal.Read.val_main_v18_eq (F := Ideal) _ _ _ _).trans (ref_second _ _ _ _ _ _)), hargs⟩

/-- The reference leaves its arguments and counters alone. -/
theorem kept : Cert.quiescent_Reference15Ideal := fun m ρ _ =>
  (θ_run Cert.Reference15Ideal.defs _ _).mono (fun r h => ⟨fun c => (h c).2.2.2.2, sem_eq_zero_of_no_sems (by decide) r.2⟩)
    (Cert.Reference15Ideal.Value.run (F := Ideal) m ρ)

end Cert.Optimiser.WOut

end
-- ==== Proof.Optimiser.WGlu.lean ====
/-
  The optimiser's step for the weights of the state space mixer's gate.
-/
module

public import proofs.«01_k».proof.Defs
public import proofs.«01_k».proof.Proof.Gen.Kernel16Ideal.Value
public import proofs.«01_k».proof.Proof.Gen.Reference16Ideal.Run
public import proofs.«01_k».proof.Proof.Gen.Reference16Ideal.Read
public import proofs.«01_k».proof.Proof.Optimiser.Step

@[expose] public section

set_option maxRecDepth 16384

noncomputable section

namespace Cert.Optimiser.WGlu

open Cert.Kernel16Ideal Cert.Kernel16Ideal.Gen Cert.Products
open Idealize.ShloMosaic Idealize.ShloMosaic.TcCoe Idealize.SL.Sem
open Idealize.ShloMosaic.Pipeline (Dat)

theorem idx : ∀ t : Fin cfg0.N, win0_0.index t = ![t.val, 0] ∧ win0_1.index t = ![0, t.val, 0] ∧ win0_2.index t = ![t.val, 0]
    ∧ win0_3.index t = ![t.val, 0] ∧ win0_4.index t = ![t.val, 0] ∧ win0_5.index t = ![0, 0] ∧ win0_6.index t = ![t.val, 0]
    ∧ win0_7.index t = ![t.val, 0] ∧ win0_8.index t = ![t.val, 0] ∧ win0_9.index t = ![t.val, 0] :=
  (by decide +kernel : ∀ t : Fin grid0.N, _)

open Step

section payloads

variable (w : Mat 64 512) (b : Box 8 64 512) (u v o : Mat 64 512) (n : IVec S1x1 32) (y : S64x512.Idx)

theorem grad_at :
    k0_pay5 (F := Ideal) (k0_pay10 w b u v o n) (k0_pay11 (F := Ideal) w b u v o n) o (View.ld b r0_8) n o (View.ld b r0_9) y
      = (fromShares w b u v o n).grad y := by
  obtain ⟨r, s, rfl⟩ : ∃ r s, y = ix2 r s := ⟨y 0, y 1, by idx_ext⟩
  unfold k0_pay10 k0_pay11
  pointwise [k0_pay5, k0_pay3, k0_pay2, k0_pay4]
  exact add_shares b o (n (ix2 0 0)) r s

theorem first_at :
    k0_pay6 (F := Ideal) (k0_pay10 w b u v o n) (k0_pay11 (F := Ideal) w b u v o n) o (View.ld b r0_8) n o (View.ld b r0_9) u y
      = (fromShares w b u v o n).newFirst y := by
  pointwise [k0_pay6]
  exact congrArg (moment · (u y)) (grad_at w b u v o n y)

theorem second_at :
    k0_pay7 (F := Ideal) (k0_pay10 w b u v o n) (k0_pay11 (F := Ideal) w b u v o n) o (View.ld b r0_8) n o (View.ld b r0_9) v y
      = (fromShares w b u v o n).newSecond y := by
  pointwise [k0_pay7]
  exact congrArg (square · (v y)) (grad_at w b u v o n y)

theorem delta_at :
    k0_pay1 (F := Ideal)
        (k0_pay8 (k0_pay10 w b u v o n) (k0_pay11 (F := Ideal) w b u v o n) o (View.ld b r0_8) n o (View.ld b r0_9) u)
        (k0_pay9 (k0_pay10 w b u v o n) (k0_pay11 (F := Ideal) w b u v o n) o (View.ld b r0_8) n o (View.ld b r0_9) v) w y
      = (fromShares w b u v o n).delta y := by
  pointwise [k0_pay1, k0_pay8, k0_pay9]
  exact congrArg₂ (change (w y)) (first_at w b u v o n y) (second_at w b u v o n y)

end payloads

variable (m : (ℓ : Loc nD τ sig) → Buf (Elt Ideal) ℓ) (c : Dev nD)

/-- The step of the whole array, and of a point's block. -/
def whole : Step 64 512 :=
  fromShares (m (c.tc.loc main_arg0)) (m (c.tc.loc main_arg1)) (m (c.tc.loc main_arg2)) (m (c.tc.loc main_arg3)) (m (c.tc.loc main_arg4))
    (m (c.tc.loc main_arg5))
def block (t : Fin cfg0.N) : Step 64 512 :=
  fromShares (iblk m c 0 t) (iblk m c 1 t) (iblk m c 2 t) (iblk m c 3 t) (iblk m c 4 t) (iblk m c 5 t)

/-- The row at place `r` of a point's block. -/
abbrev row (t : Fin cfg0.N) (r : Fin 64) : Fin 64 :=
  ⟨t.val * 64 + r.val, by have := t.isLt; have h : cfg0.N = 1 := rfl; omega⟩

/-- A point's block holds the point's rows. -/
theorem block_eq (t : Fin cfg0.N) : block m c t = (whole m c).rows (row t) := by
  obtain ⟨h0, h1, h2, h3, h4, h5, -⟩ := idx t
  refine Step.eq_rows (fun y => ?_) (fun y => gradient_rows y (fun k => ?_) ?_ ?_) (fun y => ?_) fun y => ?_
  · show V m c main_arg0 ((win0_0.blk t).view.emb y) = _
    rw [V_main_arg0]
    exact congrArg (m (c.tc.loc main_arg0)) (by blk_ext [h0])
  · show V m c main_arg1 ((win0_1.blk t).view.emb (ix3 k (y 0) (y 1))) = _
    rw [V_main_arg1]
    exact congrArg (m (c.tc.loc main_arg1)) (by blk_ext [h1])
  · show V m c main_arg4 ((win0_4.blk t).view.emb y) = _
    rw [V_main_arg4]
    exact congrArg (m (c.tc.loc main_arg4)) (by blk_ext [h4])
  · show V m c main_arg5 ((win0_5.blk t).view.emb (ix2 0 0)) = _
    rw [V_main_arg5]
    exact congrArg (m (c.tc.loc main_arg5)) (by blk_ext [h5])
  · show V m c main_arg2 ((win0_2.blk t).view.emb y) = _
    rw [V_main_arg2]
    exact congrArg (m (c.tc.loc main_arg2)) (by blk_ext [h2])
  · show V m c main_arg3 ((win0_3.blk t).view.emb y) = _
    rw [V_main_arg3]
    exact congrArg (m (c.tc.loc main_arg3)) (by blk_ext [h3])

/-- What the points leave in the four results: the gradient, the change of the weights, and the new moments. -/
theorem final6 : (dats m 0 c).arrAt 6 cfg0.N = (whole m c).grad := by
  refine (dats m 0 c).arrAt_eq_of_covers 6 _ (by decide +kernel) fun t hf y => ?_
  obtain ⟨-, -, -, -, -, -, h, -⟩ := idx t
  rw [after0_6]
  refine Eq.trans ?_ (congrArg (whole m c).grad (by blk_ext [h] : (win0_6.blk t).view.emb y = ix2 (row t (y 0)) (y 1))).symm
  frame_out
  exact (grad_at (iblk m c 0 t) (iblk m c 1 t) (iblk m c 2 t) (iblk m c 3 t) (iblk m c 4 t) (iblk m c 5 t) y).trans (Step.of_rows (block_eq m c t) y).1

theorem final7 : (dats m 0 c).arrAt 7 cfg0.N = (whole m c).delta := by
  refine (dats m 0 c).arrAt_eq_of_covers 7 _ (by decide +kernel) fun t hf y => ?_
  obtain ⟨-, -, -, -, -, -, -, h, -⟩ := idx t
  rw [after0_7]
  refine Eq.trans ?_ (congrArg (whole m c).delta (by blk_ext [h] : (win0_7.blk t).view.emb y = ix2 (row t (y 0)) (y 1))).symm
  frame_out
  exact (delta_at (iblk m c 0 t) (iblk m c 1 t) (iblk m c 2 t) (iblk m c 3 t) (iblk m c 4 t) (iblk m c 5 t) y).trans (Step.of_rows (block_eq m c t) y).2.1

theorem final8 : (dats m 0 c).arrAt 8 cfg0.N = (whole m c).newFirst := by
  refine (dats m 0 c).arrAt_eq_of_covers 8 _ (by decide +kernel) fun t hf y => ?_
  obtain ⟨-, -, -, -, -, -, -, -, h, -⟩ := idx t
  rw [after0_8]
  refine Eq.trans ?_ (congrArg (whole m c).newFirst (by blk_ext [h] : (win0_8.blk t).view.emb y = ix2 (row t (y 0)) (y 1))).symm
  frame_out
  exact (first_at (iblk m c 0 t) (iblk m c 1 t) (iblk m c 2 t) (iblk m c 3 t) (iblk m c 4 t) (iblk m c 5 t) y).trans (Step.of_rows (block_eq m c t) y).2.2.1

theorem final9 : (dats m 0 c).arrAt 9 cfg0.N = (whole m c).newSecond := by
  refine (dats m 0 c).arrAt_eq_of_covers 9 _ (by decide +kernel) fun t hf y => ?_
  obtain ⟨-, -, -, -, -, -, -, -, -, h⟩ := idx t
  rw [after0_9]
  refine Eq.trans ?_ (congrArg (whole m c).newSecond (by blk_ext [h] : (win0_9.blk t).view.emb y = ix2 (row t (y 0)) (y 1))).symm
  frame_out
  exact (second_at (iblk m c 0 t) (iblk m c 1 t) (iblk m c 2 t) (iblk m c 3 t) (iblk m c 4 t) (iblk m c 5 t) y).trans (Step.of_rows (block_eq m c t) y).2.2.2

section reference

open Cert.Reference16Ideal.Read

variable (w : Mat 64 512) (b : Box 8 64 512) (u v o : Mat 64 512) (n : IVec S1x1 32)

theorem ref_grad : val_main_v7 (F := Ideal) b o n = (fromShares w b u v o n).grad := by
  funext i
  pointwise [val_main_v7, val_main_v6, val_main_v5, val_main_v3, val_main_v2, val_main_v1, val_main_v0, val_main_v4,
    val_main_call0_v0, val_main_cst]
  exact Finset.sum_congr rfl fun k _ => share_swap _ _ _ _

theorem ref_first : val_main_v12 (F := Ideal) b u o n = (fromShares w b u v o n).newFirst := by
  funext i
  pointwise [val_main_v12, val_main_v9, val_main_v8, val_main_cst_0, val_main_v11, val_main_v10, val_main_cst_1]
  rw [ref_grad w b u v o n]
  rfl

theorem ref_second : val_main_v18 (F := Ideal) b v o n = (fromShares w b u v o n).newSecond := by
  funext i
  pointwise [val_main_v18, val_main_v14, val_main_v13, val_main_cst_2, val_main_v17, val_main_v16, val_main_cst_3,
    val_main_v15]
  rw [ref_grad w b u v o n]
  rfl

theorem ref_delta : val_main_v31 (F := Ideal) w b u v o n = (fromShares w b u v o n).delta := by
  funext i
  pointwise [val_main_v31, val_main_v30, val_main_cst_8, val_main_v29, val_main_v28, val_main_v27, val_main_cst_7,
    val_main_v26, val_main_v25, val_main_v24, val_main_cst_6, val_main_v23, val_main_v22, val_main_v21,
    val_main_cst_5, val_main_v20, val_main_v19, val_main_cst_4]
  rw [ref_first w b u v o n, ref_second w b u v o n]
  rfl

end reference

/-- Kernel and reference leave the same four results. -/
theorem agree : Cert.algebraic_Kernel16Ideal_Reference16Ideal := by
  intro m g m' g' _ hagree
  refine ⟨_, _, _, _, Cert.Kernel16Ideal.Value.run_blocks m g, ?_⟩
  refine (θ_run Cert.Reference16Ideal.defs _ _).mono (fun r h c => ?_) (Cert.Reference16Ideal.Value.run (F := Ideal) m' g')
  obtain ⟨h0, h1, h2, h3, hargs⟩ := h c
  obtain ⟨a0, a1, a2, a3, a4, a5⟩ := hagree c
  rw [final6, final7, final8, final9]
  unfold whole
  rw [← a0, ← a1, ← a2, ← a3, ← a4, ← a5]
  exact ⟨h0.trans ((Cert.Reference16Ideal.Read.val_main_v7_eq (F := Ideal) _ _ _).trans (ref_grad _ _ _ _ _ _)),
    h1.trans ((Cert.Reference16Ideal.Read.val_main_v31_eq (F := Ideal) _ _ _ _ _ _).trans (ref_delta _ _ _ _ _ _)),
    h2.trans ((Cert.Reference16Ideal.Read.val_main_v12_eq (F := Ideal) _ _ _ _).trans (ref_first _ _ _ _ _ _)),
    h3.trans ((Cert.Reference16Ideal.Read.val_main_v18_eq (F := Ideal) _ _ _ _).trans (ref_second _ _ _ _ _ _)), hargs⟩

/-- The reference leaves its arguments and counters alone. -/
theorem kept : Cert.quiescent_Reference16Ideal := fun m ρ _ =>
  (θ_run Cert.Reference16Ideal.defs _ _).mono (fun r h => ⟨fun c => (h c).2.2.2.2, sem_eq_zero_of_no_sems (by decide) r.2⟩)
    (Cert.Reference16Ideal.Value.run (F := Ideal) m ρ)

end Cert.Optimiser.WGlu

end
-- ==== Proof.Optimiser.WProj.lean ====
/-
  The optimiser's step for the weights of a branch projection.
-/
module

public import proofs.«01_k».proof.Defs
public import proofs.«01_k».proof.Proof.Gen.Kernel17Ideal.Value
public import proofs.«01_k».proof.Proof.Gen.Reference17Ideal.Run
public import proofs.«01_k».proof.Proof.Gen.Reference17Ideal.Read
public import proofs.«01_k».proof.Proof.Optimiser.Step

@[expose] public section

set_option maxRecDepth 16384

noncomputable section

namespace Cert.Optimiser.WProj

open Cert.Kernel17Ideal Cert.Kernel17Ideal.Gen Cert.Products
open Idealize.ShloMosaic Idealize.ShloMosaic.TcCoe Idealize.SL.Sem
open Idealize.ShloMosaic.Pipeline (Dat)

theorem idx : ∀ t : Fin cfg0.N, win0_0.index t = ![t.val, 0] ∧ win0_1.index t = ![0, t.val, 0] ∧ win0_2.index t = ![t.val, 0]
    ∧ win0_3.index t = ![t.val, 0] ∧ win0_4.index t = ![t.val, 0] ∧ win0_5.index t = ![0, 0] ∧ win0_6.index t = ![t.val, 0]
    ∧ win0_7.index t = ![t.val, 0] ∧ win0_8.index t = ![t.val, 0] ∧ win0_9.index t = ![t.val, 0] :=
  (by decide +kernel : ∀ t : Fin grid0.N, _)

open Step

section payloads

variable (w : Mat 256 128) (b : Box 8 256 128) (u v o : Mat 256 128) (n : IVec S1x1 32) (y : S256x128.Idx)

theorem grad_at :
    k0_pay5 (F := Ideal) (k0_pay10 w b u v o n) (k0_pay11 (F := Ideal) w b u v o n) o (View.ld b r0_8) n o (View.ld b r0_9) y
      = (fromShares w b u v o n).grad y := by
  obtain ⟨r, s, rfl⟩ : ∃ r s, y = ix2 r s := ⟨y 0, y 1, by idx_ext⟩
  unfold k0_pay10 k0_pay11
  pointwise [k0_pay5, k0_pay3, k0_pay2, k0_pay4]
  exact add_shares b o (n (ix2 0 0)) r s

theorem first_at :
    k0_pay6 (F := Ideal) (k0_pay10 w b u v o n) (k0_pay11 (F := Ideal) w b u v o n) o (View.ld b r0_8) n o (View.ld b r0_9) u y
      = (fromShares w b u v o n).newFirst y := by
  pointwise [k0_pay6]
  exact congrArg (moment · (u y)) (grad_at w b u v o n y)

theorem second_at :
    k0_pay7 (F := Ideal) (k0_pay10 w b u v o n) (k0_pay11 (F := Ideal) w b u v o n) o (View.ld b r0_8) n o (View.ld b r0_9) v y
      = (fromShares w b u v o n).newSecond y := by
  pointwise [k0_pay7]
  exact congrArg (square · (v y)) (grad_at w b u v o n y)

theorem delta_at :
    k0_pay1 (F := Ideal)
        (k0_pay8 (k0_pay10 w b u v o n) (k0_pay11 (F := Ideal) w b u v o n) o (View.ld b r0_8) n o (View.ld b r0_9) u)
        (k0_pay9 (k0_pay10 w b u v o n) (k0_pay11 (F := Ideal) w b u v o n) o (View.ld b r0_8) n o (View.ld b r0_9) v) w y
      = (fromShares w b u v o n).delta y := by
  pointwise [k0_pay1, k0_pay8, k0_pay9]
  exact congrArg₂ (change (w y)) (first_at w b u v o n y) (second_at w b u v o n y)

end payloads

variable (m : (ℓ : Loc nD τ sig) → Buf (Elt Ideal) ℓ) (c : Dev nD)

/-- The step of the whole array, and of a point's block. -/
def whole : Step 512 128 :=
  fromShares (m (c.tc.loc main_arg0)) (m (c.tc.loc main_arg1)) (m (c.tc.loc main_arg2)) (m (c.tc.loc main_arg3)) (m (c.tc.loc main_arg4))
    (m (c.tc.loc main_arg5))
def block (t : Fin cfg0.N) : Step 256 128 :=
  fromShares (iblk m c 0 t) (iblk m c 1 t) (iblk m c 2 t) (iblk m c 3 t) (iblk m c 4 t) (iblk m c 5 t)

/-- The row at place `r` of a point's block. -/
abbrev row (t : Fin cfg0.N) (r : Fin 256) : Fin 512 :=
  ⟨t.val * 256 + r.val, by have := t.isLt; have h : cfg0.N = 2 := rfl; omega⟩

/-- A point's block holds the point's rows. -/
theorem block_eq (t : Fin cfg0.N) : block m c t = (whole m c).rows (row t) := by
  obtain ⟨h0, h1, h2, h3, h4, h5, -⟩ := idx t
  refine Step.eq_rows (fun y => ?_) (fun y => gradient_rows y (fun k => ?_) ?_ ?_) (fun y => ?_) fun y => ?_
  · show V m c main_arg0 ((win0_0.blk t).view.emb y) = _
    rw [V_main_arg0]
    exact congrArg (m (c.tc.loc main_arg0)) (by blk_ext [h0])
  · show V m c main_arg1 ((win0_1.blk t).view.emb (ix3 k (y 0) (y 1))) = _
    rw [V_main_arg1]
    exact congrArg (m (c.tc.loc main_arg1)) (by blk_ext [h1])
  · show V m c main_arg4 ((win0_4.blk t).view.emb y) = _
    rw [V_main_arg4]
    exact congrArg (m (c.tc.loc main_arg4)) (by blk_ext [h4])
  · show V m c main_arg5 ((win0_5.blk t).view.emb (ix2 0 0)) = _
    rw [V_main_arg5]
    exact congrArg (m (c.tc.loc main_arg5)) (by blk_ext [h5])
  · show V m c main_arg2 ((win0_2.blk t).view.emb y) = _
    rw [V_main_arg2]
    exact congrArg (m (c.tc.loc main_arg2)) (by blk_ext [h2])
  · show V m c main_arg3 ((win0_3.blk t).view.emb y) = _
    rw [V_main_arg3]
    exact congrArg (m (c.tc.loc main_arg3)) (by blk_ext [h3])

/-- What the points leave in the four results: the gradient, the change of the weights, and the new moments. -/
theorem final6 : (dats m 0 c).arrAt 6 cfg0.N = (whole m c).grad := by
  refine (dats m 0 c).arrAt_eq_of_covers 6 _ (by decide +kernel) fun t hf y => ?_
  obtain ⟨-, -, -, -, -, -, h, -⟩ := idx t
  rw [after0_6]
  refine Eq.trans ?_ (congrArg (whole m c).grad (by blk_ext [h] : (win0_6.blk t).view.emb y = ix2 (row t (y 0)) (y 1))).symm
  frame_out
  exact (grad_at (iblk m c 0 t) (iblk m c 1 t) (iblk m c 2 t) (iblk m c 3 t) (iblk m c 4 t) (iblk m c 5 t) y).trans (Step.of_rows (block_eq m c t) y).1

theorem final7 : (dats m 0 c).arrAt 7 cfg0.N = (whole m c).delta := by
  refine (dats m 0 c).arrAt_eq_of_covers 7 _ (by decide +kernel) fun t hf y => ?_
  obtain ⟨-, -, -, -, -, -, -, h, -⟩ := idx t
  rw [after0_7]
  refine Eq.trans ?_ (congrArg (whole m c).delta (by blk_ext [h] : (win0_7.blk t).view.emb y = ix2 (row t (y 0)) (y 1))).symm
  frame_out
  exact (delta_at (iblk m c 0 t) (iblk m c 1 t) (iblk m c 2 t) (iblk m c 3 t) (iblk m c 4 t) (iblk m c 5 t) y).trans (Step.of_rows (block_eq m c t) y).2.1

theorem final8 : (dats m 0 c).arrAt 8 cfg0.N = (whole m c).newFirst := by
  refine (dats m 0 c).arrAt_eq_of_covers 8 _ (by decide +kernel) fun t hf y => ?_
  obtain ⟨-, -, -, -, -, -, -, -, h, -⟩ := idx t
  rw [after0_8]
  refine Eq.trans ?_ (congrArg (whole m c).newFirst (by blk_ext [h] : (win0_8.blk t).view.emb y = ix2 (row t (y 0)) (y 1))).symm
  frame_out
  exact (first_at (iblk m c 0 t) (iblk m c 1 t) (iblk m c 2 t) (iblk m c 3 t) (iblk m c 4 t) (iblk m c 5 t) y).trans (Step.of_rows (block_eq m c t) y).2.2.1

theorem final9 : (dats m 0 c).arrAt 9 cfg0.N = (whole m c).newSecond := by
  refine (dats m 0 c).arrAt_eq_of_covers 9 _ (by decide +kernel) fun t hf y => ?_
  obtain ⟨-, -, -, -, -, -, -, -, -, h⟩ := idx t
  rw [after0_9]
  refine Eq.trans ?_ (congrArg (whole m c).newSecond (by blk_ext [h] : (win0_9.blk t).view.emb y = ix2 (row t (y 0)) (y 1))).symm
  frame_out
  exact (second_at (iblk m c 0 t) (iblk m c 1 t) (iblk m c 2 t) (iblk m c 3 t) (iblk m c 4 t) (iblk m c 5 t) y).trans (Step.of_rows (block_eq m c t) y).2.2.2

section reference

open Cert.Reference17Ideal.Read

variable (w : Mat 512 128) (b : Box 8 512 128) (u v o : Mat 512 128) (n : IVec S1x1 32)

theorem ref_grad : val_main_v7 (F := Ideal) b o n = (fromShares w b u v o n).grad := by
  funext i
  pointwise [val_main_v7, val_main_v6, val_main_v5, val_main_v3, val_main_v2, val_main_v1, val_main_v0, val_main_v4,
    val_main_call0_v0, val_main_cst]
  exact Finset.sum_congr rfl fun k _ => share_swap _ _ _ _

theorem ref_first : val_main_v12 (F := Ideal) b u o n = (fromShares w b u v o n).newFirst := by
  funext i
  pointwise [val_main_v12, val_main_v9, val_main_v8, val_main_cst_0, val_main_v11, val_main_v10, val_main_cst_1]
  rw [ref_grad w b u v o n]
  rfl

theorem ref_second : val_main_v18 (F := Ideal) b v o n = (fromShares w b u v o n).newSecond := by
  funext i
  pointwise [val_main_v18, val_main_v14, val_main_v13, val_main_cst_2, val_main_v17, val_main_v16, val_main_cst_3,
    val_main_v15]
  rw [ref_grad w b u v o n]
  rfl

theorem ref_delta : val_main_v31 (F := Ideal) w b u v o n = (fromShares w b u v o n).delta := by
  funext i
  pointwise [val_main_v31, val_main_v30, val_main_cst_8, val_main_v29, val_main_v28, val_main_v27, val_main_cst_7,
    val_main_v26, val_main_v25, val_main_v24, val_main_cst_6, val_main_v23, val_main_v22, val_main_v21,
    val_main_cst_5, val_main_v20, val_main_v19, val_main_cst_4]
  rw [ref_first w b u v o n, ref_second w b u v o n]
  rfl

end reference

/-- Kernel and reference leave the same four results. -/
theorem agree : Cert.algebraic_Kernel17Ideal_Reference17Ideal := by
  intro m g m' g' _ hagree
  refine ⟨_, _, _, _, Cert.Kernel17Ideal.Value.run_blocks m g, ?_⟩
  refine (θ_run Cert.Reference17Ideal.defs _ _).mono (fun r h c => ?_) (Cert.Reference17Ideal.Value.run (F := Ideal) m' g')
  obtain ⟨h0, h1, h2, h3, hargs⟩ := h c
  obtain ⟨a0, a1, a2, a3, a4, a5⟩ := hagree c
  rw [final6, final7, final8, final9]
  unfold whole
  rw [← a0, ← a1, ← a2, ← a3, ← a4, ← a5]
  exact ⟨h0.trans ((Cert.Reference17Ideal.Read.val_main_v7_eq (F := Ideal) _ _ _).trans (ref_grad _ _ _ _ _ _)),
    h1.trans ((Cert.Reference17Ideal.Read.val_main_v31_eq (F := Ideal) _ _ _ _ _ _).trans (ref_delta _ _ _ _ _ _)),
    h2.trans ((Cert.Reference17Ideal.Read.val_main_v12_eq (F := Ideal) _ _ _ _).trans (ref_first _ _ _ _ _ _)),
    h3.trans ((Cert.Reference17Ideal.Read.val_main_v18_eq (F := Ideal) _ _ _ _).trans (ref_second _ _ _ _ _ _)), hargs⟩

/-- The reference leaves its arguments and counters alone. -/
theorem kept : Cert.quiescent_Reference17Ideal := fun m ρ _ =>
  (θ_run Cert.Reference17Ideal.defs _ _).mono (fun r h => ⟨fun c => (h c).2.2.2.2, sem_eq_zero_of_no_sems (by decide) r.2⟩)
    (Cert.Reference17Ideal.Value.run (F := Ideal) m ρ)

end Cert.Optimiser.WProj

end
-- ==== Proof.Optimiser.WIn.lean ====
/-
  The optimiser's step for the weights of the input projection.
-/
module

public import proofs.«01_k».proof.Defs
public import proofs.«01_k».proof.Proof.Gen.Kernel18Ideal.Value
public import proofs.«01_k».proof.Proof.Gen.Reference18Ideal.Run
public import proofs.«01_k».proof.Proof.Gen.Reference18Ideal.Read
public import proofs.«01_k».proof.Proof.Optimiser.Step

@[expose] public section

set_option maxRecDepth 16384

noncomputable section

namespace Cert.Optimiser.WIn

open Cert.Kernel18Ideal Cert.Kernel18Ideal.Gen Cert.Products
open Idealize.ShloMosaic Idealize.ShloMosaic.TcCoe Idealize.SL.Sem
open Idealize.ShloMosaic.Pipeline (Dat)

theorem idx : ∀ t : Fin cfg0.N, win0_0.index t = ![t.val, 0] ∧ win0_1.index t = ![0, t.val, 0] ∧ win0_2.index t = ![t.val, 0]
    ∧ win0_3.index t = ![t.val, 0] ∧ win0_4.index t = ![t.val, 0] ∧ win0_5.index t = ![0, 0] ∧ win0_6.index t = ![t.val, 0]
    ∧ win0_7.index t = ![t.val, 0] ∧ win0_8.index t = ![t.val, 0] ∧ win0_9.index t = ![t.val, 0] :=
  (by decide +kernel : ∀ t : Fin grid0.N, _)

open Step

section payloads

variable (w : Mat 256 448) (b : Box 8 256 448) (u v o : Mat 256 448) (n : IVec S1x1 32) (y : S256x448.Idx)

theorem grad_at :
    k0_pay5 (F := Ideal) (k0_pay10 w b u v o n) (k0_pay11 (F := Ideal) w b u v o n) o (View.ld b r0_8) n o (View.ld b r0_9) y
      = (fromShares w b u v o n).grad y := by
  obtain ⟨r, s, rfl⟩ : ∃ r s, y = ix2 r s := ⟨y 0, y 1, by idx_ext⟩
  unfold k0_pay10 k0_pay11
  pointwise [k0_pay5, k0_pay3, k0_pay2, k0_pay4]
  exact add_shares b o (n (ix2 0 0)) r s

theorem first_at :
    k0_pay6 (F := Ideal) (k0_pay10 w b u v o n) (k0_pay11 (F := Ideal) w b u v o n) o (View.ld b r0_8) n o (View.ld b r0_9) u y
      = (fromShares w b u v o n).newFirst y := by
  pointwise [k0_pay6]
  exact congrArg (moment · (u y)) (grad_at w b u v o n y)

theorem second_at :
    k0_pay7 (F := Ideal) (k0_pay10 w b u v o n) (k0_pay11 (F := Ideal) w b u v o n) o (View.ld b r0_8) n o (View.ld b r0_9) v y
      = (fromShares w b u v o n).newSecond y := by
  pointwise [k0_pay7]
  exact congrArg (square · (v y)) (grad_at w b u v o n y)

theorem delta_at :
    k0_pay1 (F := Ideal)
        (k0_pay8 (k0_pay10 w b u v o n) (k0_pay11 (F := Ideal) w b u v o n) o (View.ld b r0_8) n o (View.ld b r0_9) u)
        (k0_pay9 (k0_pay10 w b u v o n) (k0_pay11 (F := Ideal) w b u v o n) o (View.ld b r0_8) n o (View.ld b r0_9) v) w y
      = (fromShares w b u v o n).delta y := by
  pointwise [k0_pay1, k0_pay8, k0_pay9]
  exact congrArg₂ (change (w y)) (first_at w b u v o n y) (second_at w b u v o n y)

end payloads

variable (m : (ℓ : Loc nD τ sig) → Buf (Elt Ideal) ℓ) (c : Dev nD)

/-- The step of the whole array, and of a point's block. -/
def whole : Step 1024 448 :=
  fromShares (m (c.tc.loc main_arg0)) (m (c.tc.loc main_arg1)) (m (c.tc.loc main_arg2)) (m (c.tc.loc main_arg3)) (m (c.tc.loc main_arg4))
    (m (c.tc.loc main_arg5))
def block (t : Fin cfg0.N) : Step 256 448 :=
  fromShares (iblk m c 0 t) (iblk m c 1 t) (iblk m c 2 t) (iblk m c 3 t) (iblk m c 4 t) (iblk m c 5 t)

/-- The row at place `r` of a point's block. -/
abbrev row (t : Fin cfg0.N) (r : Fin 256) : Fin 1024 :=
  ⟨t.val * 256 + r.val, by have := t.isLt; have h : cfg0.N = 4 := rfl; omega⟩

/-- A point's block holds the point's rows. -/
theorem block_eq (t : Fin cfg0.N) : block m c t = (whole m c).rows (row t) := by
  obtain ⟨h0, h1, h2, h3, h4, h5, -⟩ := idx t
  refine Step.eq_rows (fun y => ?_) (fun y => gradient_rows y (fun k => ?_) ?_ ?_) (fun y => ?_) fun y => ?_
  · show V m c main_arg0 ((win0_0.blk t).view.emb y) = _
    rw [V_main_arg0]
    exact congrArg (m (c.tc.loc main_arg0)) (by blk_ext [h0])
  · show V m c main_arg1 ((win0_1.blk t).view.emb (ix3 k (y 0) (y 1))) = _
    rw [V_main_arg1]
    exact congrArg (m (c.tc.loc main_arg1)) (by blk_ext [h1])
  · show V m c main_arg4 ((win0_4.blk t).view.emb y) = _
    rw [V_main_arg4]
    exact congrArg (m (c.tc.loc main_arg4)) (by blk_ext [h4])
  · show V m c main_arg5 ((win0_5.blk t).view.emb (ix2 0 0)) = _
    rw [V_main_arg5]
    exact congrArg (m (c.tc.loc main_arg5)) (by blk_ext [h5])
  · show V m c main_arg2 ((win0_2.blk t).view.emb y) = _
    rw [V_main_arg2]
    exact congrArg (m (c.tc.loc main_arg2)) (by blk_ext [h2])
  · show V m c main_arg3 ((win0_3.blk t).view.emb y) = _
    rw [V_main_arg3]
    exact congrArg (m (c.tc.loc main_arg3)) (by blk_ext [h3])

/-- What the points leave in the four results: the gradient, the change of the weights, and the new moments. -/
theorem final6 : (dats m 0 c).arrAt 6 cfg0.N = (whole m c).grad := by
  refine (dats m 0 c).arrAt_eq_of_covers 6 _ (by decide +kernel) fun t hf y => ?_
  obtain ⟨-, -, -, -, -, -, h, -⟩ := idx t
  rw [after0_6]
  refine Eq.trans ?_ (congrArg (whole m c).grad (by blk_ext [h] : (win0_6.blk t).view.emb y = ix2 (row t (y 0)) (y 1))).symm
  frame_out
  exact (grad_at (iblk m c 0 t) (iblk m c 1 t) (iblk m c 2 t) (iblk m c 3 t) (iblk m c 4 t) (iblk m c 5 t) y).trans (Step.of_rows (block_eq m c t) y).1

theorem final7 : (dats m 0 c).arrAt 7 cfg0.N = (whole m c).delta := by
  refine (dats m 0 c).arrAt_eq_of_covers 7 _ (by decide +kernel) fun t hf y => ?_
  obtain ⟨-, -, -, -, -, -, -, h, -⟩ := idx t
  rw [after0_7]
  refine Eq.trans ?_ (congrArg (whole m c).delta (by blk_ext [h] : (win0_7.blk t).view.emb y = ix2 (row t (y 0)) (y 1))).symm
  frame_out
  exact (delta_at (iblk m c 0 t) (iblk m c 1 t) (iblk m c 2 t) (iblk m c 3 t) (iblk m c 4 t) (iblk m c 5 t) y).trans (Step.of_rows (block_eq m c t) y).2.1

theorem final8 : (dats m 0 c).arrAt 8 cfg0.N = (whole m c).newFirst := by
  refine (dats m 0 c).arrAt_eq_of_covers 8 _ (by decide +kernel) fun t hf y => ?_
  obtain ⟨-, -, -, -, -, -, -, -, h, -⟩ := idx t
  rw [after0_8]
  refine Eq.trans ?_ (congrArg (whole m c).newFirst (by blk_ext [h] : (win0_8.blk t).view.emb y = ix2 (row t (y 0)) (y 1))).symm
  frame_out
  exact (first_at (iblk m c 0 t) (iblk m c 1 t) (iblk m c 2 t) (iblk m c 3 t) (iblk m c 4 t) (iblk m c 5 t) y).trans (Step.of_rows (block_eq m c t) y).2.2.1

theorem final9 : (dats m 0 c).arrAt 9 cfg0.N = (whole m c).newSecond := by
  refine (dats m 0 c).arrAt_eq_of_covers 9 _ (by decide +kernel) fun t hf y => ?_
  obtain ⟨-, -, -, -, -, -, -, -, -, h⟩ := idx t
  rw [after0_9]
  refine Eq.trans ?_ (congrArg (whole m c).newSecond (by blk_ext [h] : (win0_9.blk t).view.emb y = ix2 (row t (y 0)) (y 1))).symm
  frame_out
  exact (second_at (iblk m c 0 t) (iblk m c 1 t) (iblk m c 2 t) (iblk m c 3 t) (iblk m c 4 t) (iblk m c 5 t) y).trans (Step.of_rows (block_eq m c t) y).2.2.2

section reference

open Cert.Reference18Ideal.Read

variable (w : Mat 1024 448) (b : Box 8 1024 448) (u v o : Mat 1024 448) (n : IVec S1x1 32)

theorem ref_grad : val_main_v7 (F := Ideal) b o n = (fromShares w b u v o n).grad := by
  funext i
  pointwise [val_main_v7, val_main_v6, val_main_v5, val_main_v3, val_main_v2, val_main_v1, val_main_v0, val_main_v4,
    val_main_call0_v0, val_main_cst]
  exact Finset.sum_congr rfl fun k _ => share_swap _ _ _ _

theorem ref_first : val_main_v12 (F := Ideal) b u o n = (fromShares w b u v o n).newFirst := by
  funext i
  pointwise [val_main_v12, val_main_v9, val_main_v8, val_main_cst_0, val_main_v11, val_main_v10, val_main_cst_1]
  rw [ref_grad w b u v o n]
  rfl

theorem ref_second : val_main_v18 (F := Ideal) b v o n = (fromShares w b u v o n).newSecond := by
  funext i
  pointwise [val_main_v18, val_main_v14, val_main_v13, val_main_cst_2, val_main_v17, val_main_v16, val_main_cst_3,
    val_main_v15]
  rw [ref_grad w b u v o n]
  rfl

theorem ref_delta : val_main_v31 (F := Ideal) w b u v o n = (fromShares w b u v o n).delta := by
  funext i
  pointwise [val_main_v31, val_main_v30, val_main_cst_8, val_main_v29, val_main_v28, val_main_v27, val_main_cst_7,
    val_main_v26, val_main_v25, val_main_v24, val_main_cst_6, val_main_v23, val_main_v22, val_main_v21,
    val_main_cst_5, val_main_v20, val_main_v19, val_main_cst_4]
  rw [ref_first w b u v o n, ref_second w b u v o n]
  rfl

end reference

/-- Kernel and reference leave the same four results. -/
theorem agree : Cert.algebraic_Kernel18Ideal_Reference18Ideal := by
  intro m g m' g' _ hagree
  refine ⟨_, _, _, _, Cert.Kernel18Ideal.Value.run_blocks m g, ?_⟩
  refine (θ_run Cert.Reference18Ideal.defs _ _).mono (fun r h c => ?_) (Cert.Reference18Ideal.Value.run (F := Ideal) m' g')
  obtain ⟨h0, h1, h2, h3, hargs⟩ := h c
  obtain ⟨a0, a1, a2, a3, a4, a5⟩ := hagree c
  rw [final6, final7, final8, final9]
  unfold whole
  rw [← a0, ← a1, ← a2, ← a3, ← a4, ← a5]
  exact ⟨h0.trans ((Cert.Reference18Ideal.Read.val_main_v7_eq (F := Ideal) _ _ _).trans (ref_grad _ _ _ _ _ _)),
    h1.trans ((Cert.Reference18Ideal.Read.val_main_v31_eq (F := Ideal) _ _ _ _ _ _).trans (ref_delta _ _ _ _ _ _)),
    h2.trans ((Cert.Reference18Ideal.Read.val_main_v12_eq (F := Ideal) _ _ _ _).trans (ref_first _ _ _ _ _ _)),
    h3.trans ((Cert.Reference18Ideal.Read.val_main_v18_eq (F := Ideal) _ _ _ _).trans (ref_second _ _ _ _ _ _)), hargs⟩

/-- The reference leaves its arguments and counters alone. -/
theorem kept : Cert.quiescent_Reference18Ideal := fun m ρ _ =>
  (θ_run Cert.Reference18Ideal.defs _ _).mono (fun r h => ⟨fun c => (h c).2.2.2.2, sem_eq_zero_of_no_sems (by decide) r.2⟩)
    (Cert.Reference18Ideal.Value.run (F := Ideal) m ρ)

end Cert.Optimiser.WIn

end
-- ==== Proof.Optimiser.SguW.lean ====
/-
  The optimiser's step for the spatial gating's weights.
-/
module

public import proofs.«01_k».proof.Defs
public import proofs.«01_k».proof.Proof.Gen.Kernel19Ideal.Value
public import proofs.«01_k».proof.Proof.Gen.Reference19Ideal.Run
public import proofs.«01_k».proof.Proof.Gen.Reference19Ideal.Read
public import proofs.«01_k».proof.Proof.Optimiser.Step

@[expose] public section

set_option maxRecDepth 16384

noncomputable section

namespace Cert.Optimiser.SguW

open Cert.Kernel19Ideal Cert.Kernel19Ideal.Gen Cert.Products
open Idealize.ShloMosaic Idealize.ShloMosaic.TcCoe Idealize.SL.Sem
open Idealize.ShloMosaic.Pipeline (Dat)

theorem idx : ∀ t : Fin cfg0.N, win0_0.index t = ![t.val, 0] ∧ win0_1.index t = ![0, t.val, 0] ∧ win0_2.index t = ![t.val, 0]
    ∧ win0_3.index t = ![t.val, 0] ∧ win0_4.index t = ![t.val, 0] ∧ win0_5.index t = ![0, 0] ∧ win0_6.index t = ![t.val, 0]
    ∧ win0_7.index t = ![t.val, 0] ∧ win0_8.index t = ![t.val, 0] ∧ win0_9.index t = ![t.val, 0] :=
  (by decide +kernel : ∀ t : Fin grid0.N, _)

open Step

section payloads

variable (w : Mat 256 128) (b : Box 8 256 128) (u v o : Mat 256 128) (n : IVec S1x1 32) (y : S256x128.Idx)

theorem grad_at :
    k0_pay6 (F := Ideal) (k0_pay10 w b u v o n) (k0_pay11 (F := Ideal) w b u v o n) o (View.ld b r0_8) n o (View.ld b r0_9) y
      = (fromShares w b u v o n).grad y := by
  obtain ⟨r, s, rfl⟩ : ∃ r s, y = ix2 r s := ⟨y 0, y 1, by idx_ext⟩
  unfold k0_pay10 k0_pay11
  pointwise [k0_pay6, k0_pay4, k0_pay2, k0_pay3, k0_pay5]
  exact add_shares b o (n (ix2 0 0)) r s

theorem first_at :
    k0_pay7 (F := Ideal) (k0_pay10 w b u v o n) (k0_pay11 (F := Ideal) w b u v o n) o (View.ld b r0_8) n o (View.ld b r0_9) u y
      = (fromShares w b u v o n).newFirst y := by
  pointwise [k0_pay7]
  exact congrArg (moment · (u y)) (grad_at w b u v o n y)

theorem second_at :
    k0_pay8 (F := Ideal) (k0_pay10 w b u v o n) (k0_pay11 (F := Ideal) w b u v o n) o (View.ld b r0_8) n o (View.ld b r0_9) v y
      = (fromShares w b u v o n).newSecond y := by
  pointwise [k0_pay8]
  exact congrArg (square · (v y)) (grad_at w b u v o n y)

theorem delta_at :
    k0_pay1 (F := Ideal)
        (k0_pay9 (k0_pay10 w b u v o n) (k0_pay11 (F := Ideal) w b u v o n) o (View.ld b r0_8) n o (View.ld b r0_9) u v) w y
      = (fromShares w b u v o n).delta y := by
  pointwise [k0_pay1, k0_pay9]
  exact congrArg₂ (change (w y)) (first_at w b u v o n y) (second_at w b u v o n y)

end payloads

variable (m : (ℓ : Loc nD τ sig) → Buf (Elt Ideal) ℓ) (c : Dev nD)

/-- The step of the whole array, and of a point's block. -/
def whole : Step 1024 128 :=
  fromShares (m (c.tc.loc main_arg0)) (m (c.tc.loc main_arg1)) (m (c.tc.loc main_arg2)) (m (c.tc.loc main_arg3)) (m (c.tc.loc main_arg4))
    (m (c.tc.loc main_arg5))
def block (t : Fin cfg0.N) : Step 256 128 :=
  fromShares (iblk m c 0 t) (iblk m c 1 t) (iblk m c 2 t) (iblk m c 3 t) (iblk m c 4 t) (iblk m c 5 t)

/-- The row at place `r` of a point's block. -/
abbrev row (t : Fin cfg0.N) (r : Fin 256) : Fin 1024 :=
  ⟨t.val * 256 + r.val, by have := t.isLt; have h : cfg0.N = 4 := rfl; omega⟩

/-- A point's block holds the point's rows. -/
theorem block_eq (t : Fin cfg0.N) : block m c t = (whole m c).rows (row t) := by
  obtain ⟨h0, h1, h2, h3, h4, h5, -⟩ := idx t
  refine Step.eq_rows (fun y => ?_) (fun y => gradient_rows y (fun k => ?_) ?_ ?_) (fun y => ?_) fun y => ?_
  · show V m c main_arg0 ((win0_0.blk t).view.emb y) = _
    rw [V_main_arg0]
    exact congrArg (m (c.tc.loc main_arg0)) (by blk_ext [h0])
  · show V m c main_arg1 ((win0_1.blk t).view.emb (ix3 k (y 0) (y 1))) = _
    rw [V_main_arg1]
    exact congrArg (m (c.tc.loc main_arg1)) (by blk_ext [h1])
  · show V m c main_arg4 ((win0_4.blk t).view.emb y) = _
    rw [V_main_arg4]
    exact congrArg (m (c.tc.loc main_arg4)) (by blk_ext [h4])
  · show V m c main_arg5 ((win0_5.blk t).view.emb (ix2 0 0)) = _
    rw [V_main_arg5]
    exact congrArg (m (c.tc.loc main_arg5)) (by blk_ext [h5])
  · show V m c main_arg2 ((win0_2.blk t).view.emb y) = _
    rw [V_main_arg2]
    exact congrArg (m (c.tc.loc main_arg2)) (by blk_ext [h2])
  · show V m c main_arg3 ((win0_3.blk t).view.emb y) = _
    rw [V_main_arg3]
    exact congrArg (m (c.tc.loc main_arg3)) (by blk_ext [h3])

/-- What the points leave in the four results: the gradient, the change of the weights, and the new moments. -/
theorem final6 : (dats m 0 c).arrAt 6 cfg0.N = (whole m c).grad := by
  refine (dats m 0 c).arrAt_eq_of_covers 6 _ (by decide +kernel) fun t hf y => ?_
  obtain ⟨-, -, -, -, -, -, h, -⟩ := idx t
  rw [after0_6]
  refine Eq.trans ?_ (congrArg (whole m c).grad (by blk_ext [h] : (win0_6.blk t).view.emb y = ix2 (row t (y 0)) (y 1))).symm
  frame_out
  exact (grad_at (iblk m c 0 t) (iblk m c 1 t) (iblk m c 2 t) (iblk m c 3 t) (iblk m c 4 t) (iblk m c 5 t) y).trans (Step.of_rows (block_eq m c t) y).1

theorem final7 : (dats m 0 c).arrAt 7 cfg0.N = (whole m c).delta := by
  refine (dats m 0 c).arrAt_eq_of_covers 7 _ (by decide +kernel) fun t hf y => ?_
  obtain ⟨-, -, -, -, -, -, -, h, -⟩ := idx t
  rw [after0_7]
  refine Eq.trans ?_ (congrArg (whole m c).delta (by blk_ext [h] : (win0_7.blk t).view.emb y = ix2 (row t (y 0)) (y 1))).symm
  frame_out
  exact (delta_at (iblk m c 0 t) (iblk m c 1 t) (iblk m c 2 t) (iblk m c 3 t) (iblk m c 4 t) (iblk m c 5 t) y).trans (Step.of_rows (block_eq m c t) y).2.1

theorem final8 : (dats m 0 c).arrAt 8 cfg0.N = (whole m c).newFirst := by
  refine (dats m 0 c).arrAt_eq_of_covers 8 _ (by decide +kernel) fun t hf y => ?_
  obtain ⟨-, -, -, -, -, -, -, -, h, -⟩ := idx t
  rw [after0_8]
  refine Eq.trans ?_ (congrArg (whole m c).newFirst (by blk_ext [h] : (win0_8.blk t).view.emb y = ix2 (row t (y 0)) (y 1))).symm
  frame_out
  exact (first_at (iblk m c 0 t) (iblk m c 1 t) (iblk m c 2 t) (iblk m c 3 t) (iblk m c 4 t) (iblk m c 5 t) y).trans (Step.of_rows (block_eq m c t) y).2.2.1

theorem final9 : (dats m 0 c).arrAt 9 cfg0.N = (whole m c).newSecond := by
  refine (dats m 0 c).arrAt_eq_of_covers 9 _ (by decide +kernel) fun t hf y => ?_
  obtain ⟨-, -, -, -, -, -, -, -, -, h⟩ := idx t
  rw [after0_9]
  refine Eq.trans ?_ (congrArg (whole m c).newSecond (by blk_ext [h] : (win0_9.blk t).view.emb y = ix2 (row t (y 0)) (y 1))).symm
  frame_out
  exact (second_at (iblk m c 0 t) (iblk m c 1 t) (iblk m c 2 t) (iblk m c 3 t) (iblk m c 4 t) (iblk m c 5 t) y).trans (Step.of_rows (block_eq m c t) y).2.2.2

section reference

open Cert.Reference19Ideal.Read

variable (w : Mat 1024 128) (b : Box 8 1024 128) (u v o : Mat 1024 128) (n : IVec S1x1 32)

theorem ref_grad : val_main_v6 (F := Ideal) b o n = (fromShares w b u v o n).grad := by
  funext i
  pointwise [val_main_v6, val_main_v5, val_main_v3, val_main_v2, val_main_v1, val_main_v0, val_main_v4,
    val_main_call0_v0, val_main_cst]
  exact Finset.sum_congr rfl fun k _ => share_swap _ _ _ _

theorem ref_first : val_main_v11 (F := Ideal) b u o n = (fromShares w b u v o n).newFirst := by
  funext i
  pointwise [val_main_v11, val_main_v8, val_main_v7, val_main_cst_0, val_main_v10, val_main_v9, val_main_cst_1]
  rw [ref_grad w b u v o n]
  rfl

theorem ref_second : val_main_v17 (F := Ideal) b v o n = (fromShares w b u v o n).newSecond := by
  funext i
  pointwise [val_main_v17, val_main_v13, val_main_v12, val_main_cst_2, val_main_v16, val_main_v15, val_main_cst_3,
    val_main_v14]
  rw [ref_grad w b u v o n]
  rfl

theorem ref_delta : val_main_v30 (F := Ideal) w b u v o n = (fromShares w b u v o n).delta := by
  funext i
  pointwise [val_main_v30, val_main_v29, val_main_cst_8, val_main_v28, val_main_v27, val_main_v26, val_main_cst_7,
    val_main_v25, val_main_v24, val_main_v23, val_main_cst_6, val_main_v22, val_main_v21, val_main_v20,
    val_main_cst_5, val_main_v19, val_main_v18, val_main_cst_4]
  rw [ref_first w b u v o n, ref_second w b u v o n]
  rfl

end reference

/-- Kernel and reference leave the same four results. -/
theorem agree : Cert.algebraic_Kernel19Ideal_Reference19Ideal := by
  intro m g m' g' _ hagree
  refine ⟨_, _, _, _, Cert.Kernel19Ideal.Value.run_blocks m g, ?_⟩
  refine (θ_run Cert.Reference19Ideal.defs _ _).mono (fun r h c => ?_) (Cert.Reference19Ideal.Value.run (F := Ideal) m' g')
  obtain ⟨h0, h1, h2, h3, hargs⟩ := h c
  obtain ⟨a0, a1, a2, a3, a4, a5⟩ := hagree c
  rw [final6, final7, final8, final9]
  unfold whole
  rw [← a0, ← a1, ← a2, ← a3, ← a4, ← a5]
  exact ⟨h0.trans ((Cert.Reference19Ideal.Read.val_main_v6_eq (F := Ideal) _ _ _).trans (ref_grad _ _ _ _ _ _)),
    h1.trans ((Cert.Reference19Ideal.Read.val_main_v30_eq (F := Ideal) _ _ _ _ _ _).trans (ref_delta _ _ _ _ _ _)),
    h2.trans ((Cert.Reference19Ideal.Read.val_main_v11_eq (F := Ideal) _ _ _ _).trans (ref_first _ _ _ _ _ _)),
    h3.trans ((Cert.Reference19Ideal.Read.val_main_v17_eq (F := Ideal) _ _ _ _).trans (ref_second _ _ _ _ _ _)), hargs⟩

/-- The reference leaves its arguments and counters alone. -/
theorem kept : Cert.quiescent_Reference19Ideal := fun m ρ _ =>
  (θ_run Cert.Reference19Ideal.defs _ _).mono (fun r h => ⟨fun c => (h c).2.2.2.2, sem_eq_zero_of_no_sems (by decide) r.2⟩)
    (Cert.Reference19Ideal.Value.run (F := Ideal) m ρ)

end Cert.Optimiser.SguW

end
-- ==== Proof.Optimiser.S5C.lean ====
/-
  The optimiser's step for a part of the output matrix of the state space.
-/
module

public import proofs.«01_k».proof.Defs
public import proofs.«01_k».proof.Proof.Gen.Kernel20Ideal.Value
public import proofs.«01_k».proof.Proof.Gen.Reference20Ideal.Run
public import proofs.«01_k».proof.Proof.Gen.Reference20Ideal.Read
public import proofs.«01_k».proof.Proof.Optimiser.Step

@[expose] public section

set_option maxRecDepth 16384

noncomputable section

namespace Cert.Optimiser.S5C

open Cert.Kernel20Ideal Cert.Kernel20Ideal.Gen Cert.Products
open Idealize.ShloMosaic Idealize.ShloMosaic.TcCoe Idealize.SL.Sem
open Idealize.ShloMosaic.Pipeline (Dat)

theorem idx : ∀ t : Fin cfg0.N, win0_0.index t = ![t.val, 0] ∧ win0_1.index t = ![0, t.val, 0] ∧ win0_2.index t = ![t.val, 0]
    ∧ win0_3.index t = ![t.val, 0] ∧ win0_4.index t = ![t.val, 0] ∧ win0_5.index t = ![0, 0] ∧ win0_6.index t = ![t.val, 0]
    ∧ win0_7.index t = ![t.val, 0] ∧ win0_8.index t = ![t.val, 0] ∧ win0_9.index t = ![t.val, 0] :=
  (by decide +kernel : ∀ t : Fin grid0.N, _)

open Step

section payloads

variable (w : Mat 256 64) (b : Box 8 256 64) (u v o : Mat 256 64) (n : IVec S1x1 32) (y : S256x64.Idx)

theorem grad_at :
    k0_pay6 (F := Ideal) (k0_pay10 w b u v o n) (k0_pay11 (F := Ideal) w b u v o n) o (View.ld b r0_8) n o (View.ld b r0_9) y
      = (fromShares w b u v o n).grad y := by
  obtain ⟨r, s, rfl⟩ : ∃ r s, y = ix2 r s := ⟨y 0, y 1, by idx_ext⟩
  unfold k0_pay10 k0_pay11
  pointwise [k0_pay6, k0_pay4, k0_pay2, k0_pay3, k0_pay5]
  exact add_shares b o (n (ix2 0 0)) r s

theorem first_at :
    k0_pay7 (F := Ideal) (k0_pay10 w b u v o n) (k0_pay11 (F := Ideal) w b u v o n) o (View.ld b r0_8) n o (View.ld b r0_9) u y
      = (fromShares w b u v o n).newFirst y := by
  pointwise [k0_pay7]
  exact congrArg (moment · (u y)) (grad_at w b u v o n y)

theorem second_at :
    k0_pay8 (F := Ideal) (k0_pay10 w b u v o n) (k0_pay11 (F := Ideal) w b u v o n) o (View.ld b r0_8) n o (View.ld b r0_9) v y
      = (fromShares w b u v o n).newSecond y := by
  pointwise [k0_pay8]
  exact congrArg (square · (v y)) (grad_at w b u v o n y)

theorem delta_at :
    k0_pay1 (F := Ideal)
        (k0_pay9 (k0_pay10 w b u v o n) (k0_pay11 (F := Ideal) w b u v o n) o (View.ld b r0_8) n o (View.ld b r0_9) u v) w y
      = (fromShares w b u v o n).delta y := by
  pointwise [k0_pay1, k0_pay9]
  exact congrArg₂ (change (w y)) (first_at w b u v o n y) (second_at w b u v o n y)

end payloads

variable (m : (ℓ : Loc nD τ sig) → Buf (Elt Ideal) ℓ) (c : Dev nD)

/-- The step of the whole array, and of a point's block. -/
def whole : Step 1024 64 :=
  fromShares (m (c.tc.loc main_arg0)) (m (c.tc.loc main_arg1)) (m (c.tc.loc main_arg2)) (m (c.tc.loc main_arg3)) (m (c.tc.loc main_arg4))
    (m (c.tc.loc main_arg5))
def block (t : Fin cfg0.N) : Step 256 64 :=
  fromShares (iblk m c 0 t) (iblk m c 1 t) (iblk m c 2 t) (iblk m c 3 t) (iblk m c 4 t) (iblk m c 5 t)

/-- The row at place `r` of a point's block. -/
abbrev row (t : Fin cfg0.N) (r : Fin 256) : Fin 1024 :=
  ⟨t.val * 256 + r.val, by have := t.isLt; have h : cfg0.N = 4 := rfl; omega⟩

/-- A point's block holds the point's rows. -/
theorem block_eq (t : Fin cfg0.N) : block m c t = (whole m c).rows (row t) := by
  obtain ⟨h0, h1, h2, h3, h4, h5, -⟩ := idx t
  refine Step.eq_rows (fun y => ?_) (fun y => gradient_rows y (fun k => ?_) ?_ ?_) (fun y => ?_) fun y => ?_
  · show V m c main_arg0 ((win0_0.blk t).view.emb y) = _
    rw [V_main_arg0]
    exact congrArg (m (c.tc.loc main_arg0)) (by blk_ext [h0])
  · show V m c main_arg1 ((win0_1.blk t).view.emb (ix3 k (y 0) (y 1))) = _
    rw [V_main_arg1]
    exact congrArg (m (c.tc.loc main_arg1)) (by blk_ext [h1])
  · show V m c main_arg4 ((win0_4.blk t).view.emb y) = _
    rw [V_main_arg4]
    exact congrArg (m (c.tc.loc main_arg4)) (by blk_ext [h4])
  · show V m c main_arg5 ((win0_5.blk t).view.emb (ix2 0 0)) = _
    rw [V_main_arg5]
    exact congrArg (m (c.tc.loc main_arg5)) (by blk_ext [h5])
  · show V m c main_arg2 ((win0_2.blk t).view.emb y) = _
    rw [V_main_arg2]
    exact congrArg (m (c.tc.loc main_arg2)) (by blk_ext [h2])
  · show V m c main_arg3 ((win0_3.blk t).view.emb y) = _
    rw [V_main_arg3]
    exact congrArg (m (c.tc.loc main_arg3)) (by blk_ext [h3])

/-- What the points leave in the four results: the gradient, the change of the weights, and the new moments. -/
theorem final6 : (dats m 0 c).arrAt 6 cfg0.N = (whole m c).grad := by
  refine (dats m 0 c).arrAt_eq_of_covers 6 _ (by decide +kernel) fun t hf y => ?_
  obtain ⟨-, -, -, -, -, -, h, -⟩ := idx t
  rw [after0_6]
  refine Eq.trans ?_ (congrArg (whole m c).grad (by blk_ext [h] : (win0_6.blk t).view.emb y = ix2 (row t (y 0)) (y 1))).symm
  frame_out
  exact (grad_at (iblk m c 0 t) (iblk m c 1 t) (iblk m c 2 t) (iblk m c 3 t) (iblk m c 4 t) (iblk m c 5 t) y).trans (Step.of_rows (block_eq m c t) y).1

theorem final7 : (dats m 0 c).arrAt 7 cfg0.N = (whole m c).delta := by
  refine (dats m 0 c).arrAt_eq_of_covers 7 _ (by decide +kernel) fun t hf y => ?_
  obtain ⟨-, -, -, -, -, -, -, h, -⟩ := idx t
  rw [after0_7]
  refine Eq.trans ?_ (congrArg (whole m c).delta (by blk_ext [h] : (win0_7.blk t).view.emb y = ix2 (row t (y 0)) (y 1))).symm
  frame_out
  exact (delta_at (iblk m c 0 t) (iblk m c 1 t) (iblk m c 2 t) (iblk m c 3 t) (iblk m c 4 t) (iblk m c 5 t) y).trans (Step.of_rows (block_eq m c t) y).2.1

theorem final8 : (dats m 0 c).arrAt 8 cfg0.N = (whole m c).newFirst := by
  refine (dats m 0 c).arrAt_eq_of_covers 8 _ (by decide +kernel) fun t hf y => ?_
  obtain ⟨-, -, -, -, -, -, -, -, h, -⟩ := idx t
  rw [after0_8]
  refine Eq.trans ?_ (congrArg (whole m c).newFirst (by blk_ext [h] : (win0_8.blk t).view.emb y = ix2 (row t (y 0)) (y 1))).symm
  frame_out
  exact (first_at (iblk m c 0 t) (iblk m c 1 t) (iblk m c 2 t) (iblk m c 3 t) (iblk m c 4 t) (iblk m c 5 t) y).trans (Step.of_rows (block_eq m c t) y).2.2.1

theorem final9 : (dats m 0 c).arrAt 9 cfg0.N = (whole m c).newSecond := by
  refine (dats m 0 c).arrAt_eq_of_covers 9 _ (by decide +kernel) fun t hf y => ?_
  obtain ⟨-, -, -, -, -, -, -, -, -, h⟩ := idx t
  rw [after0_9]
  refine Eq.trans ?_ (congrArg (whole m c).newSecond (by blk_ext [h] : (win0_9.blk t).view.emb y = ix2 (row t (y 0)) (y 1))).symm
  frame_out
  exact (second_at (iblk m c 0 t) (iblk m c 1 t) (iblk m c 2 t) (iblk m c 3 t) (iblk m c 4 t) (iblk m c 5 t) y).trans (Step.of_rows (block_eq m c t) y).2.2.2

section reference

open Cert.Reference20Ideal.Read

variable (w : Mat 1024 64) (b : Box 8 1024 64) (u v o : Mat 1024 64) (n : IVec S1x1 32)

theorem ref_grad : val_main_v6 (F := Ideal) b o n = (fromShares w b u v o n).grad := by
  funext i
  pointwise [val_main_v6, val_main_v5, val_main_v3, val_main_v2, val_main_v1, val_main_v0, val_main_v4,
    val_main_call0_v0, val_main_cst]
  exact Finset.sum_congr rfl fun k _ => share_swap _ _ _ _

theorem ref_first : val_main_v11 (F := Ideal) b u o n = (fromShares w b u v o n).newFirst := by
  funext i
  pointwise [val_main_v11, val_main_v8, val_main_v7, val_main_cst_0, val_main_v10, val_main_v9, val_main_cst_1]
  rw [ref_grad w b u v o n]
  rfl

theorem ref_second : val_main_v17 (F := Ideal) b v o n = (fromShares w b u v o n).newSecond := by
  funext i
  pointwise [val_main_v17, val_main_v13, val_main_v12, val_main_cst_2, val_main_v16, val_main_v15, val_main_cst_3,
    val_main_v14]
  rw [ref_grad w b u v o n]
  rfl

theorem ref_delta : val_main_v30 (F := Ideal) w b u v o n = (fromShares w b u v o n).delta := by
  funext i
  pointwise [val_main_v30, val_main_v29, val_main_cst_8, val_main_v28, val_main_v27, val_main_v26, val_main_cst_7,
    val_main_v25, val_main_v24, val_main_v23, val_main_cst_6, val_main_v22, val_main_v21, val_main_v20,
    val_main_cst_5, val_main_v19, val_main_v18, val_main_cst_4]
  rw [ref_first w b u v o n, ref_second w b u v o n]
  rfl

end reference

/-- Kernel and reference leave the same four results. -/
theorem agree : Cert.algebraic_Kernel20Ideal_Reference20Ideal := by
  intro m g m' g' _ hagree
  refine ⟨_, _, _, _, Cert.Kernel20Ideal.Value.run_blocks m g, ?_⟩
  refine (θ_run Cert.Reference20Ideal.defs _ _).mono (fun r h c => ?_) (Cert.Reference20Ideal.Value.run (F := Ideal) m' g')
  obtain ⟨h0, h1, h2, h3, hargs⟩ := h c
  obtain ⟨a0, a1, a2, a3, a4, a5⟩ := hagree c
  rw [final6, final7, final8, final9]
  unfold whole
  rw [← a0, ← a1, ← a2, ← a3, ← a4, ← a5]
  exact ⟨h0.trans ((Cert.Reference20Ideal.Read.val_main_v6_eq (F := Ideal) _ _ _).trans (ref_grad _ _ _ _ _ _)),
    h1.trans ((Cert.Reference20Ideal.Read.val_main_v30_eq (F := Ideal) _ _ _ _ _ _).trans (ref_delta _ _ _ _ _ _)),
    h2.trans ((Cert.Reference20Ideal.Read.val_main_v11_eq (F := Ideal) _ _ _ _).trans (ref_first _ _ _ _ _ _)),
    h3.trans ((Cert.Reference20Ideal.Read.val_main_v17_eq (F := Ideal) _ _ _ _).trans (ref_second _ _ _ _ _ _)), hargs⟩

/-- The reference leaves its arguments and counters alone. -/
theorem kept : Cert.quiescent_Reference20Ideal := fun m ρ _ =>
  (θ_run Cert.Reference20Ideal.defs _ _).mono (fun r h => ⟨fun c => (h c).2.2.2.2, sem_eq_zero_of_no_sems (by decide) r.2⟩)
    (Cert.Reference20Ideal.Value.run (F := Ideal) m ρ)

end Cert.Optimiser.S5C

end
-- ==== Proof.Optimiser.Early.lean ====
/-
  The optimiser's step for the weights that every device holds whole, packed into one array.
-/
module

public import proofs.«01_k».proof.Defs
public import proofs.«01_k».proof.Proof.Gen.Kernel21Ideal.Value
public import proofs.«01_k».proof.Proof.Gen.Reference21Ideal.Run
public import proofs.«01_k».proof.Proof.Gen.Reference21Ideal.Read
public import proofs.«01_k».proof.Proof.Optimiser.Step

@[expose] public section

set_option maxRecDepth 16384

noncomputable section

namespace Cert.Optimiser.Early

open Cert.Kernel21Ideal Cert.Kernel21Ideal.Gen Cert.Products
open Idealize.ShloMosaic Idealize.ShloMosaic.TcCoe Idealize.SL.Sem
open Idealize.ShloMosaic.Pipeline (Dat)

theorem idx : ∀ t : Fin cfg0.N, win0_0.index t = ![t.val, 0] ∧ win0_1.index t = ![0, t.val, 0] ∧ win0_2.index t = ![t.val, 0]
    ∧ win0_3.index t = ![t.val, 0] ∧ win0_4.index t = ![t.val, 0] ∧ win0_5.index t = ![0, 0] ∧ win0_6.index t = ![t.val, 0]
    ∧ win0_7.index t = ![t.val, 0] ∧ win0_8.index t = ![t.val, 0] ∧ win0_9.index t = ![t.val, 0] :=
  (by decide +kernel : ∀ t : Fin grid0.N, _)

open Step

section payloads

variable (w : Mat 256 128) (b : Box 8 256 128) (u v o : Mat 256 128) (n : IVec S1x1 32) (y : S256x128.Idx)

theorem grad_at :
    k0_pay6 (F := Ideal) (k0_pay10 w b u v o n) (k0_pay11 (F := Ideal) w b u v o n) o (View.ld b r0_8) n o (View.ld b r0_9) y
      = (fromShares w b u v o n).grad y := by
  obtain ⟨r, s, rfl⟩ : ∃ r s, y = ix2 r s := ⟨y 0, y 1, by idx_ext⟩
  unfold k0_pay10 k0_pay11
  pointwise [k0_pay6, k0_pay4, k0_pay2, k0_pay3, k0_pay5]
  exact add_shares b o (n (ix2 0 0)) r s

theorem first_at :
    k0_pay7 (F := Ideal) (k0_pay10 w b u v o n) (k0_pay11 (F := Ideal) w b u v o n) o (View.ld b r0_8) n o (View.ld b r0_9) u y
      = (fromShares w b u v o n).newFirst y := by
  pointwise [k0_pay7]
  exact congrArg (moment · (u y)) (grad_at w b u v o n y)

theorem second_at :
    k0_pay8 (F := Ideal) (k0_pay10 w b u v o n) (k0_pay11 (F := Ideal) w b u v o n) o (View.ld b r0_8) n o (View.ld b r0_9) v y
      = (fromShares w b u v o n).newSecond y := by
  pointwise [k0_pay8]
  exact congrArg (square · (v y)) (grad_at w b u v o n y)

theorem delta_at :
    k0_pay1 (F := Ideal)
        (k0_pay9 (k0_pay10 w b u v o n) (k0_pay11 (F := Ideal) w b u v o n) o (View.ld b r0_8) n o (View.ld b r0_9) u v) w y
      = (fromShares w b u v o n).delta y := by
  pointwise [k0_pay1, k0_pay9]
  exact congrArg₂ (change (w y)) (first_at w b u v o n y) (second_at w b u v o n y)

end payloads

variable (m : (ℓ : Loc nD τ sig) → Buf (Elt Ideal) ℓ) (c : Dev nD)

/-- The step of the whole array, and of a point's block. -/
def whole : Step 1280 128 :=
  fromShares (m (c.tc.loc main_arg0)) (m (c.tc.loc main_arg1)) (m (c.tc.loc main_arg2)) (m (c.tc.loc main_arg3)) (m (c.tc.loc main_arg4))
    (m (c.tc.loc main_arg5))
def block (t : Fin cfg0.N) : Step 256 128 :=
  fromShares (iblk m c 0 t) (iblk m c 1 t) (iblk m c 2 t) (iblk m c 3 t) (iblk m c 4 t) (iblk m c 5 t)

/-- The row at place `r` of a point's block. -/
abbrev row (t : Fin cfg0.N) (r : Fin 256) : Fin 1280 :=
  ⟨t.val * 256 + r.val, by have := t.isLt; have h : cfg0.N = 5 := rfl; omega⟩

/-- A point's block holds the point's rows. -/
theorem block_eq (t : Fin cfg0.N) : block m c t = (whole m c).rows (row t) := by
  obtain ⟨h0, h1, h2, h3, h4, h5, -⟩ := idx t
  refine Step.eq_rows (fun y => ?_) (fun y => gradient_rows y (fun k => ?_) ?_ ?_) (fun y => ?_) fun y => ?_
  · show V m c main_arg0 ((win0_0.blk t).view.emb y) = _
    rw [V_main_arg0]
    exact congrArg (m (c.tc.loc main_arg0)) (by blk_ext [h0])
  · show V m c main_arg1 ((win0_1.blk t).view.emb (ix3 k (y 0) (y 1))) = _
    rw [V_main_arg1]
    exact congrArg (m (c.tc.loc main_arg1)) (by blk_ext [h1])
  · show V m c main_arg4 ((win0_4.blk t).view.emb y) = _
    rw [V_main_arg4]
    exact congrArg (m (c.tc.loc main_arg4)) (by blk_ext [h4])
  · show V m c main_arg5 ((win0_5.blk t).view.emb (ix2 0 0)) = _
    rw [V_main_arg5]
    exact congrArg (m (c.tc.loc main_arg5)) (by blk_ext [h5])
  · show V m c main_arg2 ((win0_2.blk t).view.emb y) = _
    rw [V_main_arg2]
    exact congrArg (m (c.tc.loc main_arg2)) (by blk_ext [h2])
  · show V m c main_arg3 ((win0_3.blk t).view.emb y) = _
    rw [V_main_arg3]
    exact congrArg (m (c.tc.loc main_arg3)) (by blk_ext [h3])

/-- What the points leave in the four results: the gradient, the change of the weights, and the new moments. -/
theorem final6 : (dats m 0 c).arrAt 6 cfg0.N = (whole m c).grad := by
  refine (dats m 0 c).arrAt_eq_of_covers 6 _ (by decide +kernel) fun t hf y => ?_
  obtain ⟨-, -, -, -, -, -, h, -⟩ := idx t
  rw [after0_6]
  refine Eq.trans ?_ (congrArg (whole m c).grad (by blk_ext [h] : (win0_6.blk t).view.emb y = ix2 (row t (y 0)) (y 1))).symm
  frame_out
  exact (grad_at (iblk m c 0 t) (iblk m c 1 t) (iblk m c 2 t) (iblk m c 3 t) (iblk m c 4 t) (iblk m c 5 t) y).trans (Step.of_rows (block_eq m c t) y).1

theorem final7 : (dats m 0 c).arrAt 7 cfg0.N = (whole m c).delta := by
  refine (dats m 0 c).arrAt_eq_of_covers 7 _ (by decide +kernel) fun t hf y => ?_
  obtain ⟨-, -, -, -, -, -, -, h, -⟩ := idx t
  rw [after0_7]
  refine Eq.trans ?_ (congrArg (whole m c).delta (by blk_ext [h] : (win0_7.blk t).view.emb y = ix2 (row t (y 0)) (y 1))).symm
  frame_out
  exact (delta_at (iblk m c 0 t) (iblk m c 1 t) (iblk m c 2 t) (iblk m c 3 t) (iblk m c 4 t) (iblk m c 5 t) y).trans (Step.of_rows (block_eq m c t) y).2.1

theorem final8 : (dats m 0 c).arrAt 8 cfg0.N = (whole m c).newFirst := by
  refine (dats m 0 c).arrAt_eq_of_covers 8 _ (by decide +kernel) fun t hf y => ?_
  obtain ⟨-, -, -, -, -, -, -, -, h, -⟩ := idx t
  rw [after0_8]
  refine Eq.trans ?_ (congrArg (whole m c).newFirst (by blk_ext [h] : (win0_8.blk t).view.emb y = ix2 (row t (y 0)) (y 1))).symm
  frame_out
  exact (first_at (iblk m c 0 t) (iblk m c 1 t) (iblk m c 2 t) (iblk m c 3 t) (iblk m c 4 t) (iblk m c 5 t) y).trans (Step.of_rows (block_eq m c t) y).2.2.1

theorem final9 : (dats m 0 c).arrAt 9 cfg0.N = (whole m c).newSecond := by
  refine (dats m 0 c).arrAt_eq_of_covers 9 _ (by decide +kernel) fun t hf y => ?_
  obtain ⟨-, -, -, -, -, -, -, -, -, h⟩ := idx t
  rw [after0_9]
  refine Eq.trans ?_ (congrArg (whole m c).newSecond (by blk_ext [h] : (win0_9.blk t).view.emb y = ix2 (row t (y 0)) (y 1))).symm
  frame_out
  exact (second_at (iblk m c 0 t) (iblk m c 1 t) (iblk m c 2 t) (iblk m c 3 t) (iblk m c 4 t) (iblk m c 5 t) y).trans (Step.of_rows (block_eq m c t) y).2.2.2

section reference

open Cert.Reference21Ideal.Read

variable (w : Mat 1280 128) (b : Box 8 1280 128) (u v o : Mat 1280 128) (n : IVec S1x1 32)

theorem ref_grad : val_main_v6 (F := Ideal) b o n = (fromShares w b u v o n).grad := by
  funext i
  pointwise [val_main_v6, val_main_v5, val_main_v3, val_main_v2, val_main_v1, val_main_v0, val_main_v4,
    val_main_call0_v0, val_main_cst]
  exact Finset.sum_congr rfl fun k _ => share_swap _ _ _ _

theorem ref_first : val_main_v11 (F := Ideal) b u o n = (fromShares w b u v o n).newFirst := by
  funext i
  pointwise [val_main_v11, val_main_v8, val_main_v7, val_main_cst_0, val_main_v10, val_main_v9, val_main_cst_1]
  rw [ref_grad w b u v o n]
  rfl

theorem ref_second : val_main_v17 (F := Ideal) b v o n = (fromShares w b u v o n).newSecond := by
  funext i
  pointwise [val_main_v17, val_main_v13, val_main_v12, val_main_cst_2, val_main_v16, val_main_v15, val_main_cst_3,
    val_main_v14]
  rw [ref_grad w b u v o n]
  rfl

theorem ref_delta : val_main_v30 (F := Ideal) w b u v o n = (fromShares w b u v o n).delta := by
  funext i
  pointwise [val_main_v30, val_main_v29, val_main_cst_8, val_main_v28, val_main_v27, val_main_v26, val_main_cst_7,
    val_main_v25, val_main_v24, val_main_v23, val_main_cst_6, val_main_v22, val_main_v21, val_main_v20,
    val_main_cst_5, val_main_v19, val_main_v18, val_main_cst_4]
  rw [ref_first w b u v o n, ref_second w b u v o n]
  rfl

end reference

/-- Kernel and reference leave the same four results. -/
theorem agree : Cert.algebraic_Kernel21Ideal_Reference21Ideal := by
  intro m g m' g' _ hagree
  refine ⟨_, _, _, _, Cert.Kernel21Ideal.Value.run_blocks m g, ?_⟩
  refine (θ_run Cert.Reference21Ideal.defs _ _).mono (fun r h c => ?_) (Cert.Reference21Ideal.Value.run (F := Ideal) m' g')
  obtain ⟨h0, h1, h2, h3, hargs⟩ := h c
  obtain ⟨a0, a1, a2, a3, a4, a5⟩ := hagree c
  rw [final6, final7, final8, final9]
  unfold whole
  rw [← a0, ← a1, ← a2, ← a3, ← a4, ← a5]
  exact ⟨h0.trans ((Cert.Reference21Ideal.Read.val_main_v6_eq (F := Ideal) _ _ _).trans (ref_grad _ _ _ _ _ _)),
    h1.trans ((Cert.Reference21Ideal.Read.val_main_v30_eq (F := Ideal) _ _ _ _ _ _).trans (ref_delta _ _ _ _ _ _)),
    h2.trans ((Cert.Reference21Ideal.Read.val_main_v11_eq (F := Ideal) _ _ _ _).trans (ref_first _ _ _ _ _ _)),
    h3.trans ((Cert.Reference21Ideal.Read.val_main_v17_eq (F := Ideal) _ _ _ _).trans (ref_second _ _ _ _ _ _)), hargs⟩

/-- The reference leaves its arguments and counters alone. -/
theorem kept : Cert.quiescent_Reference21Ideal := fun m ρ _ =>
  (θ_run Cert.Reference21Ideal.defs _ _).mono (fun r h => ⟨fun c => (h c).2.2.2.2, sem_eq_zero_of_no_sems (by decide) r.2⟩)
    (Cert.Reference21Ideal.Value.run (F := Ideal) m ρ)

end Cert.Optimiser.Early

end
-- ==== Proof.Optimiser.Late.lean ====
/-
  The optimiser's step for the weights that every device holds whole and whose gradients come last, packed into one array.
-/
module

public import proofs.«01_k».proof.Defs
public import proofs.«01_k».proof.Proof.Gen.Kernel22Ideal.Value
public import proofs.«01_k».proof.Proof.Gen.Reference22Ideal.Run
public import proofs.«01_k».proof.Proof.Gen.Reference22Ideal.Read
public import proofs.«01_k».proof.Proof.Optimiser.Step

@[expose] public section

set_option maxRecDepth 16384

noncomputable section

namespace Cert.Optimiser.Late

open Cert.Kernel22Ideal Cert.Kernel22Ideal.Gen Cert.Products
open Idealize.ShloMosaic Idealize.ShloMosaic.TcCoe Idealize.SL.Sem
open Idealize.ShloMosaic.Pipeline (Dat)

theorem idx : ∀ t : Fin cfg0.N, win0_0.index t = ![t.val, 0] ∧ win0_1.index t = ![0, t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

open Step

section payloads

variable (w : Mat 64 128) (b : Box 8 64 128) (u v : Mat 64 128) (y : S64x128.Idx)

theorem grad_at : k0_pay5 (F := Ideal) w b u v y = (fromParts w b u v).grad y := by
  obtain ⟨r, s, rfl⟩ : ∃ r s, y = ix2 r s := ⟨y 0, y 1, by idx_ext⟩
  unfold k0_pay5
  pointwise [k0_pay3]
  exact add_parts b r s

theorem first_at : k0_pay6 (F := Ideal) w b u v y = (fromParts w b u v).newFirst y := by
  unfold k0_pay6
  pointwise [k0_pay4]
  exact congrArg (moment · (u y)) (grad_at w b u v y)

theorem second_at : k0_pay1 (F := Ideal) (k0_pay5 w b u v) v y = (fromParts w b u v).newSecond y := by
  pointwise [k0_pay1]
  exact congrArg (square · (v y)) (grad_at w b u v y)

theorem delta_at : k0_pay2 (F := Ideal) (k0_pay5 w b u v) (k0_pay6 w b u v) v w y = (fromParts w b u v).delta y := by
  pointwise [k0_pay2]
  exact congrArg₂ (change (w y)) (first_at w b u v y) (second_at w b u v y)

end payloads

variable (m : (ℓ : Loc nD τ sig) → Buf (Elt Ideal) ℓ) (c : Dev nD)

/-- The step of the whole array, and of a point's block. -/
def whole : Step 64 128 :=
  fromParts (n := 8) (m (c.tc.loc main_arg0)) (m (c.tc.loc main_arg1)) (m (c.tc.loc main_arg2)) (m (c.tc.loc main_arg3))
def block (t : Fin cfg0.N) : Step 64 128 := fromParts (n := 8) (iblk m c 0 t) (iblk m c 1 t) (iblk m c 2 t) (iblk m c 3 t)

/-- The row at place `r` of a point's block. -/
abbrev row (t : Fin cfg0.N) (r : Fin 64) : Fin 64 :=
  ⟨t.val * 64 + r.val, by have := t.isLt; have h : cfg0.N = 1 := rfl; omega⟩

/-- A point's block holds the point's rows. -/
theorem block_eq (t : Fin cfg0.N) : block m c t = (whole m c).rows (row t) := by
  obtain ⟨h0, h1, h2, h3, -⟩ := idx t
  refine Step.eq_rows (fun y => ?_) (fun y => total_rows y fun k => ?_) (fun y => ?_) fun y => ?_
  · show V m c main_arg0 ((win0_0.blk t).view.emb y) = _
    rw [V_main_arg0]
    exact congrArg (m (c.tc.loc main_arg0)) (by blk_ext [h0])
  · show V m c main_arg1 ((win0_1.blk t).view.emb (ix3 k (y 0) (y 1))) = _
    rw [V_main_arg1]
    exact congrArg (m (c.tc.loc main_arg1)) (by blk_ext [h1])
  · show V m c main_arg2 ((win0_2.blk t).view.emb y) = _
    rw [V_main_arg2]
    exact congrArg (m (c.tc.loc main_arg2)) (by blk_ext [h2])
  · show V m c main_arg3 ((win0_3.blk t).view.emb y) = _
    rw [V_main_arg3]
    exact congrArg (m (c.tc.loc main_arg3)) (by blk_ext [h3])

/-- What the points leave in the four results: the gradient, the change of the weights, and the new moments. -/
theorem final4 : (dats m 0 c).arrAt 4 cfg0.N = (whole m c).grad := by
  refine (dats m 0 c).arrAt_eq_of_covers 4 _ (by decide +kernel) fun t hf y => ?_
  obtain ⟨-, -, -, -, h, -⟩ := idx t
  rw [after0_4]
  refine Eq.trans ?_ (congrArg (whole m c).grad (by blk_ext [h] : (win0_4.blk t).view.emb y = ix2 (row t (y 0)) (y 1))).symm
  frame_out
  exact (grad_at (iblk m c 0 t) (iblk m c 1 t) (iblk m c 2 t) (iblk m c 3 t) y).trans (Step.of_rows (block_eq m c t) y).1

theorem final5 : (dats m 0 c).arrAt 5 cfg0.N = (whole m c).delta := by
  refine (dats m 0 c).arrAt_eq_of_covers 5 _ (by decide +kernel) fun t hf y => ?_
  obtain ⟨-, -, -, -, -, h, -⟩ := idx t
  rw [after0_5]
  refine Eq.trans ?_ (congrArg (whole m c).delta (by blk_ext [h] : (win0_5.blk t).view.emb y = ix2 (row t (y 0)) (y 1))).symm
  frame_out
  exact (delta_at (iblk m c 0 t) (iblk m c 1 t) (iblk m c 2 t) (iblk m c 3 t) y).trans (Step.of_rows (block_eq m c t) y).2.1

theorem final6 : (dats m 0 c).arrAt 6 cfg0.N = (whole m c).newFirst := by
  refine (dats m 0 c).arrAt_eq_of_covers 6 _ (by decide +kernel) fun t hf y => ?_
  obtain ⟨-, -, -, -, -, -, h, -⟩ := idx t
  rw [after0_6]
  refine Eq.trans ?_ (congrArg (whole m c).newFirst (by blk_ext [h] : (win0_6.blk t).view.emb y = ix2 (row t (y 0)) (y 1))).symm
  frame_out
  exact (first_at (iblk m c 0 t) (iblk m c 1 t) (iblk m c 2 t) (iblk m c 3 t) y).trans (Step.of_rows (block_eq m c t) y).2.2.1

theorem final7 : (dats m 0 c).arrAt 7 cfg0.N = (whole m c).newSecond := by
  refine (dats m 0 c).arrAt_eq_of_covers 7 _ (by decide +kernel) fun t hf y => ?_
  obtain ⟨-, -, -, -, -, -, -, h⟩ := idx t
  rw [after0_7]
  refine Eq.trans ?_ (congrArg (whole m c).newSecond (by blk_ext [h] : (win0_7.blk t).view.emb y = ix2 (row t (y 0)) (y 1))).symm
  frame_out
  exact (second_at (iblk m c 0 t) (iblk m c 1 t) (iblk m c 2 t) (iblk m c 3 t) y).trans (Step.of_rows (block_eq m c t) y).2.2.2

section reference

open Cert.Reference22Ideal.Read

variable (w : Mat 64 128) (b : Box 8 64 128) (u v : Mat 64 128)

theorem ref_grad : val_main_v0 (F := Ideal) b = (fromParts w b u v).grad := by
  funext i
  pointwise [val_main_v0, val_main_cst]
  rfl

theorem ref_first : val_main_v5 (F := Ideal) b u = (fromParts w b u v).newFirst := by
  funext i
  pointwise [val_main_v5, val_main_v2, val_main_v1, val_main_cst_0, val_main_v4, val_main_v3, val_main_cst_1]
  rw [ref_grad w b u v]
  rfl

theorem ref_second : val_main_v11 (F := Ideal) b v = (fromParts w b u v).newSecond := by
  funext i
  pointwise [val_main_v11, val_main_v7, val_main_v6, val_main_cst_2, val_main_v10, val_main_v9, val_main_cst_3,
    val_main_v8]
  rw [ref_grad w b u v]
  rfl

theorem ref_delta : val_main_v24 (F := Ideal) w b u v = (fromParts w b u v).delta := by
  funext i
  pointwise [val_main_v24, val_main_v23, val_main_cst_8, val_main_v22, val_main_v21, val_main_v20, val_main_cst_7,
    val_main_v19, val_main_v18, val_main_v17, val_main_cst_6, val_main_v16, val_main_v15, val_main_v14,
    val_main_cst_5, val_main_v13, val_main_v12, val_main_cst_4]
  rw [ref_first w b u v, ref_second w b u v]
  rfl

end reference

/-- Kernel and reference leave the same four results. -/
theorem agree : Cert.algebraic_Kernel22Ideal_Reference22Ideal := by
  intro m g m' g' _ hagree
  refine ⟨_, _, _, _, Cert.Kernel22Ideal.Value.run_blocks m g, ?_⟩
  refine (θ_run Cert.Reference22Ideal.defs _ _).mono (fun r h c => ?_) (Cert.Reference22Ideal.Value.run (F := Ideal) m' g')
  obtain ⟨h0, h1, h2, h3, hargs⟩ := h c
  obtain ⟨a0, a1, a2, a3⟩ := hagree c
  rw [final4, final5, final6, final7]
  unfold whole
  rw [← a0, ← a1, ← a2, ← a3]
  exact ⟨h0.trans ((Cert.Reference22Ideal.Read.val_main_v0_eq (F := Ideal) _).trans (ref_grad _ _ _ _)),
    h1.trans ((Cert.Reference22Ideal.Read.val_main_v24_eq (F := Ideal) _ _ _ _).trans (ref_delta _ _ _ _)),
    h2.trans ((Cert.Reference22Ideal.Read.val_main_v5_eq (F := Ideal) _ _).trans (ref_first _ _ _ _)),
    h3.trans ((Cert.Reference22Ideal.Read.val_main_v11_eq (F := Ideal) _ _).trans (ref_second _ _ _ _)), hargs⟩

/-- The reference leaves its arguments and counters alone. -/
theorem kept : Cert.quiescent_Reference22Ideal := fun m ρ _ =>
  (θ_run Cert.Reference22Ideal.defs _ _).mono (fun r h => ⟨fun c => (h c).2.2.2.2, sem_eq_zero_of_no_sems (by decide) r.2⟩)
    (Cert.Reference22Ideal.Value.run (F := Ideal) m ρ)

end Cert.Optimiser.Late

end
-- ==== Proof.Optimiser.WAda.lean ====
/-
  The optimiser's step for the modulation's weights.
-/
module

public import proofs.«01_k».proof.Defs
public import proofs.«01_k».proof.Proof.Gen.Kernel23Ideal.Value
public import proofs.«01_k».proof.Proof.Gen.Reference23Ideal.Run
public import proofs.«01_k».proof.Proof.Gen.Reference23Ideal.Read
public import proofs.«01_k».proof.Proof.Optimiser.Step

@[expose] public section

set_option maxRecDepth 16384

noncomputable section

namespace Cert.Optimiser.WAda

open Cert.Kernel23Ideal Cert.Kernel23Ideal.Gen Cert.Products
open Idealize.ShloMosaic Idealize.ShloMosaic.TcCoe Idealize.SL.Sem
open Idealize.ShloMosaic.Pipeline (Dat)

theorem idx : ∀ t : Fin cfg0.N, win0_0.index t = ![t.val, 0] ∧ win0_1.index t = ![0, t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

open Step

section payloads

variable (w : Mat 256 768) (b : Box 1 256 768) (u v : Mat 256 768) (y : S256x768.Idx)

theorem grad_at : k0_pay1 (F := Ideal) b y = (fromParts w b u v).grad y := by
  obtain ⟨r, s, rfl⟩ : ∃ r s, y = ix2 r s := ⟨y 0, y 1, by idx_ext⟩
  pointwise [k0_pay1]
  exact (Fin.sum_univ_one fun k : Fin 1 => b (ix3 k r s)).symm

theorem first_at : k0_pay2 (F := Ideal) b u y = (fromParts w b u v).newFirst y := by
  pointwise [k0_pay2]
  exact congrArg (moment · (u y)) (grad_at w b u v y)

theorem second_at : k0_pay3 (F := Ideal) b v y = (fromParts w b u v).newSecond y := by
  pointwise [k0_pay3]
  exact congrArg (square · (v y)) (grad_at w b u v y)

theorem delta_at : k0_pay4 (F := Ideal) b u v w y = (fromParts w b u v).delta y := by
  pointwise [k0_pay4]
  exact congrArg₂ (change (w y)) (first_at w b u v y) (second_at w b u v y)

end payloads

variable (m : (ℓ : Loc nD τ sig) → Buf (Elt Ideal) ℓ) (c : Dev nD)

/-- The step of the whole array, and of a point's block. -/
def whole : Step 1024 768 :=
  fromParts (n := 1) (m (c.tc.loc main_arg0)) (m (c.tc.loc main_arg1)) (m (c.tc.loc main_arg2)) (m (c.tc.loc main_arg3))
def block (t : Fin cfg0.N) : Step 256 768 := fromParts (n := 1) (iblk m c 0 t) (iblk m c 1 t) (iblk m c 2 t) (iblk m c 3 t)

/-- The row at place `r` of a point's block. -/
abbrev row (t : Fin cfg0.N) (r : Fin 256) : Fin 1024 :=
  ⟨t.val * 256 + r.val, by have := t.isLt; have h : cfg0.N = 4 := rfl; omega⟩

/-- A point's block holds the point's rows. -/
theorem block_eq (t : Fin cfg0.N) : block m c t = (whole m c).rows (row t) := by
  obtain ⟨h0, h1, h2, h3, -⟩ := idx t
  refine Step.eq_rows (fun y => ?_) (fun y => total_rows y fun k => ?_) (fun y => ?_) fun y => ?_
  · show V m c main_arg0 ((win0_0.blk t).view.emb y) = _
    rw [V_main_arg0]
    exact congrArg (m (c.tc.loc main_arg0)) (by blk_ext [h0])
  · show V m c main_arg1 ((win0_1.blk t).view.emb (ix3 k (y 0) (y 1))) = _
    rw [V_main_arg1]
    exact congrArg (m (c.tc.loc main_arg1)) (by blk_ext [h1])
  · show V m c main_arg2 ((win0_2.blk t).view.emb y) = _
    rw [V_main_arg2]
    exact congrArg (m (c.tc.loc main_arg2)) (by blk_ext [h2])
  · show V m c main_arg3 ((win0_3.blk t).view.emb y) = _
    rw [V_main_arg3]
    exact congrArg (m (c.tc.loc main_arg3)) (by blk_ext [h3])

/-- What the points leave in the four results: the gradient, the change of the weights, and the new moments. -/
theorem final4 : (dats m 0 c).arrAt 4 cfg0.N = (whole m c).grad := by
  refine (dats m 0 c).arrAt_eq_of_covers 4 _ (by decide +kernel) fun t hf y => ?_
  obtain ⟨-, -, -, -, h, -⟩ := idx t
  rw [after0_4]
  refine Eq.trans ?_ (congrArg (whole m c).grad (by blk_ext [h] : (win0_4.blk t).view.emb y = ix2 (row t (y 0)) (y 1))).symm
  frame_out
  exact (grad_at (iblk m c 0 t) (iblk m c 1 t) (iblk m c 2 t) (iblk m c 3 t) y).trans (Step.of_rows (block_eq m c t) y).1

theorem final5 : (dats m 0 c).arrAt 5 cfg0.N = (whole m c).delta := by
  refine (dats m 0 c).arrAt_eq_of_covers 5 _ (by decide +kernel) fun t hf y => ?_
  obtain ⟨-, -, -, -, -, h, -⟩ := idx t
  rw [after0_5]
  refine Eq.trans ?_ (congrArg (whole m c).delta (by blk_ext [h] : (win0_5.blk t).view.emb y = ix2 (row t (y 0)) (y 1))).symm
  frame_out
  exact (delta_at (iblk m c 0 t) (iblk m c 1 t) (iblk m c 2 t) (iblk m c 3 t) y).trans (Step.of_rows (block_eq m c t) y).2.1

theorem final6 : (dats m 0 c).arrAt 6 cfg0.N = (whole m c).newFirst := by
  refine (dats m 0 c).arrAt_eq_of_covers 6 _ (by decide +kernel) fun t hf y => ?_
  obtain ⟨-, -, -, -, -, -, h, -⟩ := idx t
  rw [after0_6]
  refine Eq.trans ?_ (congrArg (whole m c).newFirst (by blk_ext [h] : (win0_6.blk t).view.emb y = ix2 (row t (y 0)) (y 1))).symm
  frame_out
  exact (first_at (iblk m c 0 t) (iblk m c 1 t) (iblk m c 2 t) (iblk m c 3 t) y).trans (Step.of_rows (block_eq m c t) y).2.2.1

theorem final7 : (dats m 0 c).arrAt 7 cfg0.N = (whole m c).newSecond := by
  refine (dats m 0 c).arrAt_eq_of_covers 7 _ (by decide +kernel) fun t hf y => ?_
  obtain ⟨-, -, -, -, -, -, -, h⟩ := idx t
  rw [after0_7]
  refine Eq.trans ?_ (congrArg (whole m c).newSecond (by blk_ext [h] : (win0_7.blk t).view.emb y = ix2 (row t (y 0)) (y 1))).symm
  frame_out
  exact (second_at (iblk m c 0 t) (iblk m c 1 t) (iblk m c 2 t) (iblk m c 3 t) y).trans (Step.of_rows (block_eq m c t) y).2.2.2

section reference

open Cert.Reference23Ideal.Read

variable (w : Mat 1024 768) (b : Box 1 1024 768) (u v : Mat 1024 768)

theorem ref_grad : val_main_v0 (F := Ideal) b = (fromParts w b u v).grad := by
  funext i
  pointwise [val_main_v0, val_main_cst]
  rfl

theorem ref_first : val_main_v5 (F := Ideal) b u = (fromParts w b u v).newFirst := by
  funext i
  pointwise [val_main_v5, val_main_v2, val_main_v1, val_main_cst_0, val_main_v4, val_main_v3, val_main_cst_1]
  rw [ref_grad w b u v]
  rfl

theorem ref_second : val_main_v11 (F := Ideal) b v = (fromParts w b u v).newSecond := by
  funext i
  pointwise [val_main_v11, val_main_v7, val_main_v6, val_main_cst_2, val_main_v10, val_main_v9, val_main_cst_3,
    val_main_v8]
  rw [ref_grad w b u v]
  rfl

theorem ref_delta : val_main_v24 (F := Ideal) w b u v = (fromParts w b u v).delta := by
  funext i
  pointwise [val_main_v24, val_main_v23, val_main_cst_8, val_main_v22, val_main_v21, val_main_v20, val_main_cst_7,
    val_main_v19, val_main_v18, val_main_v17, val_main_cst_6, val_main_v16, val_main_v15, val_main_v14,
    val_main_cst_5, val_main_v13, val_main_v12, val_main_cst_4]
  rw [ref_first w b u v, ref_second w b u v]
  rfl

end reference

/-- Kernel and reference leave the same four results. -/
theorem agree : Cert.algebraic_Kernel23Ideal_Reference23Ideal := by
  intro m g m' g' _ hagree
  refine ⟨_, _, _, _, Cert.Kernel23Ideal.Value.run_blocks m g, ?_⟩
  refine (θ_run Cert.Reference23Ideal.defs _ _).mono (fun r h c => ?_) (Cert.Reference23Ideal.Value.run (F := Ideal) m' g')
  obtain ⟨h0, h1, h2, h3, hargs⟩ := h c
  obtain ⟨a0, a1, a2, a3⟩ := hagree c
  rw [final4, final5, final6, final7]
  unfold whole
  rw [← a0, ← a1, ← a2, ← a3]
  exact ⟨h0.trans ((Cert.Reference23Ideal.Read.val_main_v0_eq (F := Ideal) _).trans (ref_grad _ _ _ _)),
    h1.trans ((Cert.Reference23Ideal.Read.val_main_v24_eq (F := Ideal) _ _ _ _).trans (ref_delta _ _ _ _)),
    h2.trans ((Cert.Reference23Ideal.Read.val_main_v5_eq (F := Ideal) _ _).trans (ref_first _ _ _ _)),
    h3.trans ((Cert.Reference23Ideal.Read.val_main_v11_eq (F := Ideal) _ _).trans (ref_second _ _ _ _)), hargs⟩

/-- The reference leaves its arguments and counters alone. -/
theorem kept : Cert.quiescent_Reference23Ideal := fun m ρ _ =>
  (θ_run Cert.Reference23Ideal.defs _ _).mono (fun r h => ⟨fun c => (h c).2.2.2.2, sem_eq_zero_of_no_sems (by decide) r.2⟩)
    (Cert.Reference23Ideal.Value.run (F := Ideal) m ρ)

end Cert.Optimiser.WAda

end
-- ==== Proof.Rows.Norm.lean ====
/-
  One token's channels scaled to unit mean square, and what the derivative of that scaling needs.
-/
module

public import Idealize.ShloMosaic.Lib.Pipeline.ReadBack
public import Idealize.ShloMosaic.Lib.Pipeline.ValueKit
public import Idealize.ShloMosaic.Lib.Pointwise
public import Idealize.ShloMosaic.Lib.KernelVsHost

@[expose] public section

noncomputable section

namespace Cert.Rows

open Idealize.ShloMosaic

/-- A matrix of extended reals. -/
abbrev Mat (p q : ℕ) : Type := (⟨2, ![p, q]⟩ : Shape).Idx → EReal

/-- The channels of one token. -/
abbrev Row : Type := Fin 1024 → EReal

/-- Row `n` of a matrix. -/
abbrev rowOf {p : ℕ} (a : Mat p 1024) (n : Fin p) : Row := fun l => a (ix2 n l)

/-- The mean square, shifted away from zero. -/
def energy (x : Row) : EReal :=
  Ideal.div (∑ k : Fin 1024, x k * x k) (Ideal.ofBits .f32 0x44800000#32) + Ideal.ofBits .f32 0x358637BD#32

/-- The factor that scales the token. -/
def factor (x : Row) : EReal := Ideal.rsqrt (energy x)

/-- The factor's derivative by the shifted mean square. -/
def bend (x : Row) : EReal := Ideal.ofBits .f32 0xBF000000#32 * Ideal.div (factor x) (energy x)

/-- The scaled token. -/
def scaled (x : Row) : Row := fun l => x l * factor x

/-- How a cotangent `w` of the scaled token moves the mean of the squares. -/
def pull (x w : Row) : EReal :=
  ∑ _k : Fin 1, Ideal.div ((∑ k : Fin 1024, x k * w k) * bend x) (Ideal.ofBits .f32 0x44800000#32)

/-- The token: what came past the last branch plus what the branch gave, through the gate. -/
def joined (x d g : Row) : Row := fun l => x l + g l * d l

/-- The token of row `r`. -/
abbrev tok {p : ℕ} (x d : Mat p 1024) (g : Mat 1 1024) (r : Fin p) : Row := joined (rowOf x r) (rowOf d r) (rowOf g 0)

/-- A token scaled, times the gain and the modulation's scale, and shifted. -/
def modulated (x g h s : Row) : Row := fun l => scaled x l * g l * (1 + s l) + h l

/-- The cotangent of the scaled token times the gain, `d` the cotangent of the modulated token. -/
def shiftless (s d : Row) : Row := fun l => d l * (1 + s l)

/-- The cotangent of the scaled token. -/
def inner (g s d : Row) : Row := fun l => shiftless s d l * g l

/-- The cotangent of the token, `e` what reaches it past the modulation. -/
def back (x g s d e : Row) : Row := fun l =>
  e l + inner g s d l * factor x + x l * pull x (inner g s d) + pull x (inner g s d) * x l

/-- One token's share of the gain's gradient. -/
def gain (x s d : Row) : Row := fun l => scaled x l * shiftless s d l

/-- One token's share of the gradient of the modulation's scale. -/
def scale (x g d : Row) : Row := fun l => scaled x l * g l * d l

/-- One token's share of the gradient of a gate, `d` what came through the gate. -/
def gated (x g s d e b : Row) : Row := fun l => back x g s d e l * b l

/-- Sixteen blocks of 512 tokens are all tokens. -/
theorem gather (f : Fin 8192 → EReal) (q : ℕ) (hq : q = 0) (token : Fin 16 → Fin 512 → Fin 8192)
    (h : ∀ s r, (token s r).val = (16 * q + s.val) * 512 + r.val) :
    ∑ s : Fin 16, ∑ r : Fin 512, f (token s r) = ∑ n : Fin 8192, f n := by
  subst hq
  refine Fin.sum_mul_add_congr fun s r hl => congrArg f (Fin.ext ?_)
  refine (h s r).trans ?_
  show (16 * 0 + s.val) * 512 + r.val = s.val * 512 + r.val
  omega

end Cert.Rows

end
-- ==== Proof.Rows.Head.lean ====
/-
  The loss and its backward pass: each device's share of the loss as a sum over its tokens, the cotangents of the two
  arrays that make up a token, and the gradients of the gate and of the last gain as sums over all tokens.
-/
module

public import proofs.«01_k».proof.Defs
public import proofs.«01_k».proof.Proof.Gen.Kernel24Ideal.Value
public import proofs.«01_k».proof.Proof.Gen.Reference24Ideal.Run
public import proofs.«01_k».proof.Proof.Gen.Reference24Ideal.Read
public import proofs.«01_k».proof.Proof.Rows.Norm

@[expose] public section

set_option maxRecDepth 16384

noncomputable section

namespace Cert.Rows.Head

open Cert.Kernel24Ideal Cert.Kernel24Ideal.Gen
open Idealize.ShloMosaic Idealize.ShloMosaic.TcCoe Idealize.SL.Sem
open Idealize.ShloMosaic.Pipeline (Dat)

/-- One half, as the programs write it. -/
abbrev half : EReal := Ideal.ofBits .f32 0x3F000000#32

theorem half_eq : half = ((1 / 2 : ℝ) : EReal) := by
  simp [half, Ideal.ofBits, Ideal.ieee, -EReal.coe_mul]
  norm_num

/-- A half of a sum is the sum of the halves. -/
theorem half_sum {ι : Type} (s : Finset ι) (f : ι → EReal) : half * ∑ i ∈ s, f i = ∑ i ∈ s, half * f i := by
  classical
  have h0 : 0 ≤ half := by rw [half_eq]; exact EReal.coe_nonneg.mpr (by norm_num)
  have h1 : half ≠ ⊤ := by rw [half_eq]; exact EReal.coe_ne_top _
  induction s using Finset.induction_on with
  | empty => simp
  | insert a s ha ih => rw [Finset.sum_insert ha, Finset.sum_insert ha, EReal.left_distrib_of_nonneg_of_ne_top h0 h1, ih]

/-- How far the scaled token is from its target. -/
def off (x t w : Row) : Row := fun l => scaled x l * w l - t l

/-- The mean squared distance from the target. -/
def miss (x t w : Row) : EReal :=
  Ideal.div (∑ k : Fin 1024, off x t w k * off x t w k) (Ideal.ofBits .f32 0x44800000#32)

/-- The cotangent of the scaled token times the gain. -/
def cot (x t w : Row) : Row := fun l =>
  Ideal.div half (Ideal.ofBits .f32 0x44800000#32) * (Ideal.ofBits .f32 0x40000000#32 * off x t w l)

/-- The cotangent of the scaled token. -/
def inner (x t w : Row) : Row := fun l => cot x t w l * w l

/-- The cotangent of the token. -/
def back (x t w : Row) : Row := fun l =>
  inner x t w l * factor x + x l * pull x (inner x t w) + pull x (inner x t w) * x l

/-- One token's share of the last gain's gradient. -/
def gain (x t w : Row) : Row := fun l => scaled x l * cot x t w l

/-- One token's share of the gate's gradient. -/
def gate (x t w d : Row) : Row := fun l => back x t w l * d l

section payloads

variable (x d t : Mat 512 1024) (g w : Mat 1 1024) (r : Fin 512) (l : Fin 1024)

theorem joined_at : k0_pay7 (F := Ideal) x d g (ix2 r l) = tok x d g r l := by
  pointwise [k0_pay7]
  rfl

theorem energy_at : k0_pay8 (F := Ideal) x d g (ix2 r 0) = energy (tok x d g r) := by
  pointwise [k0_pay8]
  simp only [joined_at]
  rfl

theorem factor_at : k0_pay9 (F := Ideal) x d g (ix2 r 0) = factor (tok x d g r) := by
  pointwise [k0_pay9]
  exact congrArg Ideal.rsqrt (energy_at x d g r)

theorem bend_at (z : Fin 1) : k0_pay10 (F := Ideal) x d g (ix2 r z) = bend (tok x d g r) := by
  obtain rfl : z = 0 := Subsingleton.elim _ _
  pointwise [k0_pay10]
  exact congrArg₂ (fun a b => Ideal.ofBits .f32 0xBF000000#32 * Ideal.div a b) (factor_at x d g r) (energy_at x d g r)

theorem scaled_at : k0_pay11 (F := Ideal) x d g (ix2 r l) = scaled (tok x d g r) l := by
  pointwise [k0_pay11]
  exact congrArg₂ (· * ·) (joined_at x d g r l) (factor_at x d g r)

theorem off_at : k0_pay12 (F := Ideal) x d t g w (ix2 r l) = off (tok x d g r) (rowOf t r) (rowOf w 0) l := by
  pointwise [k0_pay12]
  exact congrArg (· * w (ix2 0 l) - t (ix2 r l)) (scaled_at x d g r l)

theorem miss_at : k0_pay14 (F := Ideal) x d t g w (ix2 0 0)
    = half * ∑ r : Fin 512, miss (tok x d g r) (rowOf t r) (rowOf w 0) := by
  pointwise [k0_pay14]
  simp only [off_at]
  rfl

theorem cot_at : k0_pay16 (F := Ideal) (k0_pay13 x d t g w) k0_pay15 (ix2 r l)
    = cot (tok x d g r) (rowOf t r) (rowOf w 0) l := by
  pointwise [k0_pay16, k0_pay15, k0_pay13]
  simp only [off_at, Fin.sum_univ_one]
  rfl

theorem gain_at : k0_pay17 (F := Ideal) (k0_pay11 x d g) (k0_pay13 x d t g w) k0_pay15 (ix2 0 l)
    = ∑ r : Fin 512, gain (tok x d g r) (rowOf t r) (rowOf w 0) l := by
  pointwise [k0_pay17]
  simp only [scaled_at, cot_at]
  rfl

theorem back_at :
    k0_pay18 (F := Ideal) w (k0_pay7 x d g) (k0_pay9 x d g) (k0_pay10 x d g) (k0_pay13 x d t g w) k0_pay15 (ix2 r l)
      = back (tok x d g r) (rowOf t r) (rowOf w 0) l := by
  pointwise [k0_pay18]
  simp only [joined_at, cot_at, factor_at, bend_at]
  rfl

theorem gate_at :
    k0_pay19 (F := Ideal) d w (k0_pay7 x d g) (k0_pay9 x d g) (k0_pay10 x d g) (k0_pay13 x d t g w) k0_pay15 (ix2 0 l)
      = ∑ r : Fin 512, gate (tok x d g r) (rowOf t r) (rowOf w 0) (rowOf d r) l := by
  pointwise [k0_pay19]
  simp only [back_at]
  rfl

theorem branch_at :
    k0_pay20 (F := Ideal) g w (k0_pay7 x d g) (k0_pay9 x d g) (k0_pay10 x d g) (k0_pay13 x d t g w) k0_pay15 (ix2 r l)
      = g (ix2 0 l) * back (tok x d g r) (rowOf t r) (rowOf w 0) l := by
  pointwise [k0_pay20]
  simp only [back_at]

end payloads

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0]
    ∧ win0_7.index t = ![t.val, 0] ∧ win0_8.index t = ![0, 0] ∧ win0_9.index t = ![0, 0] :=
  (by decide +kernel : ∀ t : Fin grid0.N, _)

variable (m : (ℓ : Loc nD τ sig) → Buf (Elt Ideal) ℓ) (c : Dev nD)

/-- What came past the last branch. -/
def past : Mat 8192 1024 := m (c.tc.loc main_arg0)
/-- What the branch gave. -/
def given : Mat 8192 1024 := m (c.tc.loc main_arg1)
/-- The targets. -/
def targets : Mat 8192 1024 := m (c.tc.loc main_arg2)
/-- The gate. -/
def gates : Mat 1 1024 := m (c.tc.loc main_arg3)
/-- The last gain. -/
def gains : Mat 1 1024 := m (c.tc.loc main_arg4)

/-- The token at place `r` of a point's block. -/
abbrev token (t : Fin cfg0.N) (r : Fin 512) : Fin 8192 :=
  ⟨t.val * 512 + r.val, by have := t.isLt; have h : cfg0.N = 16 := rfl; omega⟩

theorem read_past (t : Fin cfg0.N) (r : Fin 512) : rowOf (iblk m c 0 t : Mat 512 1024) r = rowOf (past m c) (token t r) := by
  have h := (idx t).1
  funext l
  show V m c main_arg0 ((win0_0.blk t).view.emb (ix2 r l)) = _
  rw [V_main_arg0]
  refine congrArg (past m c) ?_
  blk_ext [h]

theorem read_given (t : Fin cfg0.N) (r : Fin 512) : rowOf (iblk m c 1 t : Mat 512 1024) r = rowOf (given m c) (token t r) := by
  have h := (idx t).2.1
  funext l
  show V m c main_arg1 ((win0_1.blk t).view.emb (ix2 r l)) = _
  rw [V_main_arg1]
  refine congrArg (given m c) ?_
  blk_ext [h]

theorem read_targets (t : Fin cfg0.N) (r : Fin 512) : rowOf (iblk m c 2 t : Mat 512 1024) r = rowOf (targets m c) (token t r) := by
  have h := (idx t).2.2.1
  funext l
  show V m c main_arg2 ((win0_2.blk t).view.emb (ix2 r l)) = _
  rw [V_main_arg2]
  refine congrArg (targets m c) ?_
  blk_ext [h]

theorem read_gates (t : Fin cfg0.N) : rowOf (iblk m c 3 t : Mat 1 1024) 0 = rowOf (gates m c) 0 := by
  have h := (idx t).2.2.2.1
  funext l
  show V m c main_arg3 ((win0_3.blk t).view.emb (ix2 0 l)) = _
  rw [V_main_arg3]
  refine congrArg (gates m c) ?_
  blk_ext [h]

theorem read_gains (t : Fin cfg0.N) : rowOf (iblk m c 4 t : Mat 1 1024) 0 = rowOf (gains m c) 0 := by
  have h := (idx t).2.2.2.2.1
  funext l
  show V m c main_arg4 ((win0_4.blk t).view.emb (ix2 0 l)) = _
  rw [V_main_arg4]
  refine congrArg (gains m c) ?_
  blk_ext [h]

/-- Token `n` of the whole batch. -/
abbrev whole (n : Fin 8192) : Row := tok (past m c) (given m c) (gates m c) n

/-- The cotangent of the token, token by token. -/
def backRow (n : Fin 8192) : Row := back (whole m c n) (rowOf (targets m c) n) (rowOf (gains m c) 0)

/-- The cotangent of the token. -/
def backs : Mat 8192 1024 := fun i => backRow m c (i 0) (i 1)

/-- The cotangent of what the branch gave. -/
def branches : Mat 8192 1024 := fun i => gates m c (ix2 0 (i 1)) * backRow m c (i 0) (i 1)

/-- The shares of the loss and of the two summed gradients, token by token. -/
def lossShare (n : Fin 8192) : EReal := half * miss (whole m c n) (rowOf (targets m c) n) (rowOf (gains m c) 0)
def gateShare (n : Fin 8192) : Row := gate (whole m c n) (rowOf (targets m c) n) (rowOf (gains m c) 0) (rowOf (given m c) n)
def gainShare (n : Fin 8192) : Row := gain (whole m c n) (rowOf (targets m c) n) (rowOf (gains m c) 0)

/-- The loss. -/
def loss : Mat 1 1 := fun _ => ∑ n : Fin 8192, lossShare m c n

/-- The sum of the shares over all tokens. -/
def summed (f : Fin 8192 → Row) : Mat 1 1024 := fun i => ∑ n : Fin 8192, f n (i 1)

/-- The sum of the shares over a point's tokens. -/
def part (f : Fin 8192 → Row) (t : Fin cfg0.N) (y : S1x1024.Idx) : EReal := ∑ r : Fin 512, f (token t r) (y 1)

/-- The loss of a point's tokens. -/
def lossPart (t : Fin cfg0.N) (y : S1x1.Idx) : EReal := ∑ r : Fin 512, lossShare m c (token t r)

/-- A point's block holds its tokens, their targets and the last gain. -/
theorem read_tok (t : Fin cfg0.N) (r : Fin 512) :
    tok (iblk m c 0 t : Mat 512 1024) (iblk m c 1 t : Mat 512 1024) (iblk m c 3 t : Mat 1 1024) r = whole m c (token t r) := by
  show joined _ _ _ = joined _ _ _
  rw [read_past, read_given, read_gates]

theorem loss_point (t : Fin cfg0.N) (y : S1x1.Idx) :
    k0_pay14 (F := Ideal) (iblk m c 0 t) (iblk m c 1 t) (iblk m c 2 t) (iblk m c 3 t) (iblk m c 4 t) y = lossPart m c t y := by
  have hy : y = ix2 0 0 := by idx_ext
  refine (congrArg _ hy).trans ((miss_at _ _ _ _ _).trans ((half_sum _ _).trans (Finset.sum_congr rfl fun r _ => ?_)))
  rw [read_tok, read_targets, read_gains]
  rfl

theorem back_point (t : Fin cfg0.N) (y : S512x1024.Idx) :
    k0_pay18 (F := Ideal) (iblk m c 4 t) (k0_pay7 (iblk m c 0 t) (iblk m c 1 t) (iblk m c 3 t))
        (k0_pay9 (iblk m c 0 t) (iblk m c 1 t) (iblk m c 3 t)) (k0_pay10 (iblk m c 0 t) (iblk m c 1 t) (iblk m c 3 t))
        (k0_pay13 (iblk m c 0 t) (iblk m c 1 t) (iblk m c 2 t) (iblk m c 3 t) (iblk m c 4 t)) k0_pay15 y
      = backs m c (ix2 (token t (y 0)) (y 1)) := by
  obtain ⟨r, l, rfl⟩ : ∃ r l, y = ix2 r l := ⟨y 0, y 1, by idx_ext⟩
  refine (back_at _ _ _ _ _ r l).trans ?_
  rw [read_tok, read_targets, read_gains]
  rfl

theorem branch_point (t : Fin cfg0.N) (y : S512x1024.Idx) :
    k0_pay20 (F := Ideal) (iblk m c 3 t) (iblk m c 4 t) (k0_pay7 (iblk m c 0 t) (iblk m c 1 t) (iblk m c 3 t))
        (k0_pay9 (iblk m c 0 t) (iblk m c 1 t) (iblk m c 3 t)) (k0_pay10 (iblk m c 0 t) (iblk m c 1 t) (iblk m c 3 t))
        (k0_pay13 (iblk m c 0 t) (iblk m c 1 t) (iblk m c 2 t) (iblk m c 3 t) (iblk m c 4 t)) k0_pay15 y
      = branches m c (ix2 (token t (y 0)) (y 1)) := by
  obtain ⟨r, l, rfl⟩ : ∃ r l, y = ix2 r l := ⟨y 0, y 1, by idx_ext⟩
  refine (branch_at _ _ _ _ _ r l).trans ?_
  rw [read_tok, read_targets, read_gains]
  exact congrArg (· * _) (congrFun (read_gates m c t) l)

theorem gate_point (t : Fin cfg0.N) (y : S1x1024.Idx) :
    k0_pay19 (F := Ideal) (iblk m c 1 t) (iblk m c 4 t) (k0_pay7 (iblk m c 0 t) (iblk m c 1 t) (iblk m c 3 t))
        (k0_pay9 (iblk m c 0 t) (iblk m c 1 t) (iblk m c 3 t)) (k0_pay10 (iblk m c 0 t) (iblk m c 1 t) (iblk m c 3 t))
        (k0_pay13 (iblk m c 0 t) (iblk m c 1 t) (iblk m c 2 t) (iblk m c 3 t) (iblk m c 4 t)) k0_pay15 y
      = part (gateShare m c) t y := by
  have hy : y = ix2 0 (y 1) := by idx_ext
  refine (congrArg _ hy).trans ((gate_at _ _ _ _ _ (y 1)).trans (Finset.sum_congr rfl fun r _ => ?_))
  rw [read_tok, read_targets, read_gains, read_given]
  rfl

theorem gain_point (t : Fin cfg0.N) (y : S1x1024.Idx) :
    k0_pay17 (F := Ideal) (k0_pay11 (iblk m c 0 t) (iblk m c 1 t) (iblk m c 3 t)) (k0_pay13 (iblk m c 0 t) (iblk m c 1 t) (iblk m c 2 t) (iblk m c 3 t) (iblk m c 4 t)) k0_pay15 y
      = part (gainShare m c) t y := by
  have hy : y = ix2 0 (y 1) := by idx_ext
  refine (congrArg _ hy).trans ((gain_at _ _ _ _ _ (y 1)).trans (Finset.sum_congr rfl fun r _ => ?_))
  rw [read_tok, read_targets, read_gains]
  rfl

/-- The second result is the cotangent of the token. -/
theorem final6 : (dats m 0 c).arrAt 6 cfg0.N = backs m c := by
  refine (dats m 0 c).arrAt_eq_of_covers 6 _ (by decide +kernel) fun t hf y => ?_
  have h := (idx t).2.2.2.2.2.2.1
  have hy : (win0_6.blk t).view.emb y = ix2 (token t (y 0)) (y 1) := by blk_ext [h]
  rw [after0_6]
  refine Eq.trans ?_ (congrArg (backs m c) hy).symm
  by_cases h0 : t.val % 16 = 0
  · rw [outsAt0_A m c t h0]
    frame_out
    exact back_point m c t y
  · rw [outsAt0_B m c t h0]
    frame_out
    exact back_point m c t y

/-- The third result is the cotangent of what the branch gave. -/
theorem final7 : (dats m 0 c).arrAt 7 cfg0.N = branches m c := by
  refine (dats m 0 c).arrAt_eq_of_covers 7 _ (by decide +kernel) fun t hf y => ?_
  have h := (idx t).2.2.2.2.2.2.2.1
  have hy : (win0_7.blk t).view.emb y = ix2 (token t (y 0)) (y 1) := by blk_ext [h]
  rw [after0_7]
  refine Eq.trans ?_ (congrArg (branches m c) hy).symm
  by_cases h0 : t.val % 16 = 0
  · rw [outsAt0_A m c t h0]
    frame_out
    exact branch_point m c t y
  · rw [outsAt0_B m c t h0]
    frame_out
    exact branch_point m c t y

theorem start5 (t : Fin cfg0.N) (h : t.val % 16 = 0) (y : S1x1.Idx) :
    (outsAt0 m c t.val t.isLt).1 y = 0 + lossPart m c t y := by
  rw [outsAt0_A m c t h, zero_add]
  frame_out
  pointwise [k0_pay4, k0_pay1]
  exact loss_point m c t y

theorem step5 (t : Fin cfg0.N) (h : ¬t.val % 16 = 0) (y : S1x1.Idx) :
    (outsAt0 m c t.val t.isLt).1 y
      = (outsAt0 m c (t.val - 1) (Nat.lt_of_le_of_lt (Nat.sub_le _ _) t.isLt)).1 y + lossPart m c t y := by
  rw [outsAt0_B m c t h]
  frame_out
  pointwise [k0_pay4]
  exact congrArg (_ + ·) (loss_point m c t y)

theorem start8 (t : Fin cfg0.N) (h : t.val % 16 = 0) (y : S1x1024.Idx) :
    (outsAt0 m c t.val t.isLt).2.2.2.1 y = 0 + part (gateShare m c) t y := by
  rw [outsAt0_A m c t h, zero_add]
  frame_out
  pointwise [k0_pay5, k0_pay2]
  exact gate_point m c t y

theorem step8 (t : Fin cfg0.N) (h : ¬t.val % 16 = 0) (y : S1x1024.Idx) :
    (outsAt0 m c t.val t.isLt).2.2.2.1 y
      = (outsAt0 m c (t.val - 1) (Nat.lt_of_le_of_lt (Nat.sub_le _ _) t.isLt)).2.2.2.1 y + part (gateShare m c) t y := by
  rw [outsAt0_B m c t h]
  frame_out
  pointwise [k0_pay5]
  exact congrArg (_ + ·) (gate_point m c t y)

theorem start9 (t : Fin cfg0.N) (h : t.val % 16 = 0) (y : S1x1024.Idx) :
    (outsAt0 m c t.val t.isLt).2.2.2.2 y = 0 + part (gainShare m c) t y := by
  rw [outsAt0_A m c t h, zero_add]
  frame_out
  pointwise [k0_pay6, k0_pay3]
  exact gain_point m c t y

theorem step9 (t : Fin cfg0.N) (h : ¬t.val % 16 = 0) (y : S1x1024.Idx) :
    (outsAt0 m c t.val t.isLt).2.2.2.2 y
      = (outsAt0 m c (t.val - 1) (Nat.lt_of_le_of_lt (Nat.sub_le _ _) t.isLt)).2.2.2.2 y + part (gainShare m c) t y := by
  rw [outsAt0_B m c t h]
  frame_out
  pointwise [k0_pay6]
  exact congrArg (_ + ·) (gain_point m c t y)

/-- All points together add over all tokens. -/
theorem run_tokens (f : Fin 8192 → EReal) (t : Fin cfg0.N) (ht : t.val % 16 = 16 - 1) :
    ∑ s : Fin 16, ∑ r : Fin 512, f (token ⟨16 * (t.val / 16) + s.val, Pipeline.run_point_lt_of_flush t ht s⟩ r)
      = ∑ n : Fin 8192, f n :=
  gather f (t.val / 16) (by have := t.isLt; have h : cfg0.N = 16 := rfl; omega)
    (fun s r => token ⟨16 * (t.val / 16) + s.val, Pipeline.run_point_lt_of_flush t ht s⟩ r) fun _ _ => rfl

/-- The first result is the loss. -/
theorem final5 : (dats m 0 c).arrAt 5 cfg0.N = loss m c := by
  refine (dats m 0 c).arrAt_eq_of_covers 5 _ (by decide +kernel) fun t hf y => ?_
  have ht := (flush0_5 t).mp hf
  have h := (idx t).2.2.2.2.2.1
  have hy : (win0_5.blk t).view.emb y = y := by blk_ext [h]
  rw [after0_5]
  refine Eq.trans ?_ (congrArg (loss m c) hy).symm
  exact (Pipeline.eq_sum_fin_of_reset_step_apply_of_flush (fun n h => (outsAt0 m c n h).1) 16 (fun _ => 0)
    (lossPart m c) (start5 m c) (step5 m c) t ht y).trans ((zero_add _).trans (run_tokens (lossShare m c) t ht))

/-- The fourth result is the gradient of the gate. -/
theorem final8 : (dats m 0 c).arrAt 8 cfg0.N = summed (gateShare m c) := by
  refine (dats m 0 c).arrAt_eq_of_covers 8 _ (by decide +kernel) fun t hf y => ?_
  have ht := (flush0_8 t).mp hf
  have h := (idx t).2.2.2.2.2.2.2.2.1
  have hy : (win0_8.blk t).view.emb y = y := by blk_ext [h]
  rw [after0_8]
  refine Eq.trans ?_ (congrArg (summed (gateShare m c)) hy).symm
  exact (Pipeline.eq_sum_fin_of_reset_step_apply_of_flush (fun n h => (outsAt0 m c n h).2.2.2.1) 16 (fun _ => 0)
    (part (gateShare m c)) (start8 m c) (step8 m c) t ht y).trans ((zero_add _).trans (run_tokens (fun n => gateShare m c n (y 1)) t ht))

/-- The fifth result is the gradient of the last gain. -/
theorem final9 : (dats m 0 c).arrAt 9 cfg0.N = summed (gainShare m c) := by
  refine (dats m 0 c).arrAt_eq_of_covers 9 _ (by decide +kernel) fun t hf y => ?_
  have ht := (flush0_9 t).mp hf
  have h := (idx t).2.2.2.2.2.2.2.2.2
  have hy : (win0_9.blk t).view.emb y = y := by blk_ext [h]
  rw [after0_9]
  refine Eq.trans ?_ (congrArg (summed (gainShare m c)) hy).symm
  exact (Pipeline.eq_sum_fin_of_reset_step_apply_of_flush (fun n h => (outsAt0 m c n h).2.2.2.2) 16 (fun _ => 0)
    (part (gainShare m c)) (start9 m c) (step9 m c) t ht y).trans ((zero_add _).trans (run_tokens (fun n => gainShare m c n (y 1)) t ht))

section reference

open Cert.Reference24Ideal.Read

variable (x d t : Mat 8192 1024) (g w : Mat 1 1024) (n : Fin 8192) (l : Fin 1024)

theorem ref_joined : val_main_v2 (F := Ideal) x d g (ix2 n l) = tok x d g n l := by
  pointwise [val_main_v2, val_main_v1, val_main_v0]
  rfl

theorem ref_energy : val_main_v9 (F := Ideal) x d g (ix2 n 0) = energy (tok x d g n) := by
  pointwise [val_main_v9, val_main_v8, val_main_cst_1, val_main_v7, val_main_v6, val_main_cst_0, val_main_v5, val_main_v4,
    val_main_cst, val_main_v3]
  simp only [ref_joined]
  rfl

theorem ref_factor : val_main_v10 (F := Ideal) x d g (ix2 n 0) = factor (tok x d g n) := by
  pointwise [val_main_v10]
  exact congrArg Ideal.rsqrt (ref_energy x d g n)

theorem ref_bend (z : Fin 1) : val_main_v13 (F := Ideal) x d g (ix2 n z) = bend (tok x d g n) := by
  obtain rfl : z = 0 := Subsingleton.elim _ _
  pointwise [val_main_v13, val_main_v12, val_main_cst_2, val_main_v11]
  exact congrArg₂ (fun a b => Ideal.ofBits .f32 0xBF000000#32 * Ideal.div a b) (ref_factor x d g n) (ref_energy x d g n)

theorem ref_scaled : val_main_v15 (F := Ideal) x d g (ix2 n l) = scaled (tok x d g n) l := by
  pointwise [val_main_v15, val_main_v14]
  exact congrArg₂ (· * ·) (ref_joined x d g n l) (ref_factor x d g n)

theorem ref_off : val_main_v18 (F := Ideal) x d t g w (ix2 n l) = off (tok x d g n) (rowOf t n) (rowOf w 0) l := by
  pointwise [val_main_v18, val_main_v17, val_main_v16]
  exact congrArg (· * w (ix2 0 l) - t (ix2 n l)) (ref_scaled x d g n l)

theorem ref_miss (i : Cert.Reference24Ideal.S8192.Idx) : val_main_v24 (F := Ideal) x d t g w i
    = miss (tok x d g (i 0)) (rowOf t (i 0)) (rowOf w 0) := by
  obtain ⟨n, rfl⟩ : ∃ n, i = ix1 n := ⟨i 0, by idx_ext⟩
  pointwise [val_main_v24, val_main_v23, val_main_cst_5, val_main_v22, val_main_cst_4, val_main_v19]
  simp only [ref_off]
  rfl

theorem ref_loss : val_main_v57 (F := Ideal) x d t g w (ix2 0 0)
    = ∑ n : Fin 8192, half * miss (tok x d g n) (rowOf t n) (rowOf w 0) := by
  refine Eq.trans ?_ (half_sum _ _)
  pointwise [val_main_v57, val_main_v26, val_main_cst_7, val_main_v25, val_main_cst_6]
  simp only [ref_miss]
  rfl

theorem ref_cot : val_main_v32 (F := Ideal) x d t g w (ix2 n l) = cot (tok x d g n) (rowOf t n) (rowOf w 0) l := by
  pointwise [val_main_v32, val_main_v31, val_main_v30, val_main_v28, val_main_v27, val_main_cst_8, val_main_cst_9, val_main_v29,
    val_main_cst_10, val_main_v21, val_main_v20, val_main_cst_3]
  simp only [ref_off]
  rfl

theorem ref_gain : val_main_v35 (F := Ideal) x d t g w (ix2 0 l)
    = ∑ n : Fin 8192, gain (tok x d g n) (rowOf t n) (rowOf w 0) l := by
  pointwise [val_main_v35, val_main_v34, val_main_cst_11, val_main_v33]
  simp only [ref_scaled, ref_cot]
  rfl

theorem ref_back : val_main_v51 (F := Ideal) x d t g w (ix2 n l) = back (tok x d g n) (rowOf t n) (rowOf w 0) l := by
  pointwise [val_main_v51, val_main_v50, val_main_v49, val_main_v48, val_main_v47, val_main_v46, val_main_cst_14, val_main_v45,
    val_main_v44, val_main_cst_13, val_main_v43, val_main_v42, val_main_v41, val_main_v40, val_main_v39, val_main_cst_12,
    val_main_v38, val_main_v37, val_main_v36]
  simp only [ref_joined, ref_cot, ref_factor, ref_bend]
  rfl

theorem ref_gate : val_main_v56 (F := Ideal) x d t g w (ix2 0 l)
    = ∑ n : Fin 8192, gate (tok x d g n) (rowOf t n) (rowOf w 0) (rowOf d n) l := by
  pointwise [val_main_v56, val_main_v55, val_main_cst_15, val_main_v54]
  simp only [ref_back]
  rfl

theorem ref_branch : val_main_v58 (F := Ideal) x d t g w (ix2 n l)
    = g (ix2 0 l) * back (tok x d g n) (rowOf t n) (rowOf w 0) l := by
  pointwise [val_main_v58, val_main_v53, val_main_v52]
  simp only [ref_back]

end reference

/-- Kernel and reference leave the same five results. -/
theorem agree : Cert.algebraic_Kernel24Ideal_Reference24Ideal := by
  intro m g m' g' _ hagree
  refine ⟨_, _, _, _, _, Cert.Kernel24Ideal.Value.run_blocks m g, ?_⟩
  refine (θ_run Cert.Reference24Ideal.defs _ _).mono (fun r h c => ?_) (Cert.Reference24Ideal.Value.run (F := Ideal) m' g')
  obtain ⟨h0, h1, h2, h3, h4, hargs⟩ := h c
  obtain ⟨a0, a1, a2, a3, a4⟩ := hagree c
  refine ⟨h0.trans ?_, h1.trans ?_, h2.trans ?_, h3.trans ?_, h4.trans ?_, hargs⟩
  · refine (Cert.Reference24Ideal.Read.val_main_v57_eq (F := Ideal) _ _ _ _ _).trans ?_
    rw [a0, a1, a2, a3, a4]
    refine Eq.trans (funext fun i => ?_) (final5 m c).symm
    have hi : i = ix2 0 0 := by idx_ext
    exact (congrArg _ hi).trans (ref_loss _ _ _ _ _)
  · refine (Cert.Reference24Ideal.Read.val_main_v51_eq (F := Ideal) m' c).trans ?_
    rw [a0, a1, a2, a3, a4]
    refine Eq.trans (funext fun i => ?_) (final6 m c).symm
    have hi : i = ix2 (i 0) (i 1) := by idx_ext
    exact (congrArg _ hi).trans (ref_back _ _ _ _ _ (i 0) (i 1))
  · refine (Cert.Reference24Ideal.Read.val_main_v58_eq (F := Ideal) m' c).trans ?_
    rw [a0, a1, a2, a3, a4]
    refine Eq.trans (funext fun i => ?_) (final7 m c).symm
    have hi : i = ix2 (i 0) (i 1) := by idx_ext
    exact (congrArg _ hi).trans (ref_branch _ _ _ _ _ (i 0) (i 1))
  · refine (Cert.Reference24Ideal.Read.val_main_v56_eq (F := Ideal) m' c).trans ?_
    rw [a0, a1, a2, a3, a4]
    refine Eq.trans (funext fun i => ?_) (final8 m c).symm
    have hi : i = ix2 0 (i 1) := by idx_ext
    exact (congrArg _ hi).trans (ref_gate _ _ _ _ _ (i 1))
  · refine (Cert.Reference24Ideal.Read.val_main_v35_eq (F := Ideal) _ _ _ _ _).trans ?_
    rw [a0, a1, a2, a3, a4]
    refine Eq.trans (funext fun i => ?_) (final9 m c).symm
    have hi : i = ix2 0 (i 1) := by idx_ext
    exact (congrArg _ hi).trans (ref_gain _ _ _ _ _ (i 1))

/-- The reference leaves its arguments and counters alone. -/
theorem kept : Cert.quiescent_Reference24Ideal := fun m ρ _ =>
  (θ_run Cert.Reference24Ideal.defs _ _).mono (fun r h => ⟨fun c => (h c).2.2.2.2.2, sem_eq_zero_of_no_sems (by decide) r.2⟩)
    (Cert.Reference24Ideal.Value.run (F := Ideal) m ρ)

end Cert.Rows.Head

end
-- ==== Proof.Rows.Modulate.lean ====
/-
  The backward pass of the first modulation: the cotangent of the layer's input token by token, and the gradients of
  the scaling and of the modulation as sums over all tokens.
-/
module

public import proofs.«01_k».proof.Defs
public import proofs.«01_k».proof.Proof.Gen.Kernel25Ideal.Value
public import proofs.«01_k».proof.Proof.Gen.Reference25Ideal.Run
public import proofs.«01_k».proof.Proof.Gen.Reference25Ideal.Read
public import proofs.«01_k».proof.Proof.Rows.Norm

@[expose] public section

set_option maxRecDepth 16384

noncomputable section

namespace Cert.Rows.Modulate

open Cert.Kernel25Ideal Cert.Kernel25Ideal.Gen
open Idealize.ShloMosaic Idealize.ShloMosaic.TcCoe Idealize.SL.Sem
open Idealize.ShloMosaic.Pipeline (Dat)

section payloads

variable (x d e : Mat 512 1024) (g s : Mat 1 1024) (r : Fin 512) (l : Fin 1024)

theorem energy_at : k0_pay8 (F := Ideal) x (ix2 r 0) = energy (rowOf x r) := by
  pointwise [k0_pay8]
  rfl

theorem factor_at : k0_pay9 (F := Ideal) x (ix2 r 0) = factor (rowOf x r) := by
  pointwise [k0_pay9]
  exact congrArg Ideal.rsqrt (energy_at x r)

theorem bend_at (z : Fin 1) : k0_pay10 (F := Ideal) x (ix2 r z) = bend (rowOf x r) := by
  obtain rfl : z = 0 := Subsingleton.elim _ _
  pointwise [k0_pay10]
  exact congrArg₂ (fun a b => Ideal.ofBits .f32 0xBF000000#32 * Ideal.div a b) (factor_at x r) (energy_at x r)

theorem scaled_at : k0_pay11 (F := Ideal) x (ix2 r l) = scaled (rowOf x r) l := by
  pointwise [k0_pay11]
  exact congrArg (x (ix2 r l) * ·) (factor_at x r)

theorem shiftless_at : k0_pay15 (F := Ideal) s d (ix2 r l) = shiftless (rowOf s 0) (rowOf d r) l := by
  pointwise [k0_pay15, k0_pay12]
  rfl

theorem inner_at : k0_pay17 (F := Ideal) g s d (ix2 r l) = inner (rowOf g 0) (rowOf s 0) (rowOf d r) l := by
  pointwise [k0_pay17]
  exact congrArg (· * g (ix2 0 l)) (shiftless_at d s r l)

theorem back_at :
    k0_pay1 (F := Ideal) x e (k0_pay10 x) (k0_pay18 x g s d) (k0_pay19 x g s d) (ix2 r l)
      = back (rowOf x r) (rowOf g 0) (rowOf s 0) (rowOf d r) (rowOf e r) l := by
  pointwise [k0_pay1, k0_pay18, k0_pay19]
  simp only [inner_at, factor_at, bend_at]
  rfl

theorem gain_at : k0_pay16 (F := Ideal) x s d (ix2 0 l) = ∑ r : Fin 512, gain (rowOf x r) (rowOf s 0) (rowOf d r) l := by
  pointwise [k0_pay16]
  simp only [scaled_at, shiftless_at]
  rfl

theorem shift_at : k0_pay13 (F := Ideal) d (ix2 0 l) = ∑ r : Fin 512, d (ix2 r l) := by
  pointwise [k0_pay13, k0_pay12]

theorem scale_at : k0_pay14 (F := Ideal) x g d (ix2 0 l) = ∑ r : Fin 512, scale (rowOf x r) (rowOf g 0) (rowOf d r) l := by
  pointwise [k0_pay14, k0_pay12]
  simp only [scaled_at]
  rfl

end payloads

theorem idx : ∀ t : Fin cfg0.N, win0_0.index t = ![t.val, 0] ∧ win0_1.index t = ![0, 0] ∧ win0_3.index t = ![0, 0]
    ∧ win0_4.index t = ![t.val, 0] ∧ win0_5.index t = ![t.val, 0] ∧ win0_6.index t = ![t.val, 0] ∧ win0_7.index t = ![0, 0]
    ∧ win0_8.index t = ![0, 0] ∧ win0_9.index t = ![0, 0] :=
  (by decide +kernel : ∀ t : Fin grid0.N, _)

variable (m : (ℓ : Loc nD τ sig) → Buf (Elt Ideal) ℓ) (c : Dev nD)

/-- The tokens. -/
def tokens : Mat 8192 1024 := m (c.tc.loc main_arg0)
/-- The gain. -/
def gains : Mat 1 1024 := m (c.tc.loc main_arg1)
/-- The modulation's scale. -/
def scales : Mat 1 1024 := m (c.tc.loc main_arg3)
/-- The cotangent of the modulated tokens. -/
def cot : Mat 8192 1024 := m (c.tc.loc main_arg4)
/-- What reaches the tokens past the modulation. -/
def past : Mat 8192 1024 := m (c.tc.loc main_arg5)

/-- The token at place `r` of a point's block. -/
abbrev token (t : Fin cfg0.N) (r : Fin 512) : Fin 8192 :=
  ⟨t.val * 512 + r.val, by have := t.isLt; have h : cfg0.N = 16 := rfl; omega⟩

theorem read_tokens (t : Fin cfg0.N) (r : Fin 512) : rowOf (iblk m c 0 t : Mat 512 1024) r = rowOf (tokens m c) (token t r) := by
  have h := (idx t).1
  funext l
  show V m c main_arg0 ((win0_0.blk t).view.emb (ix2 r l)) = _
  rw [V_main_arg0]
  refine congrArg (tokens m c) ?_
  blk_ext [h]

theorem read_gains (t : Fin cfg0.N) : rowOf (iblk m c 1 t : Mat 1 1024) 0 = rowOf (gains m c) 0 := by
  have h := (idx t).2.1
  funext l
  show V m c main_arg1 ((win0_1.blk t).view.emb (ix2 0 l)) = _
  rw [V_main_arg1]
  refine congrArg (gains m c) ?_
  blk_ext [h]

theorem read_scales (t : Fin cfg0.N) : rowOf (iblk m c 3 t : Mat 1 1024) 0 = rowOf (scales m c) 0 := by
  have h := (idx t).2.2.1
  funext l
  show V m c main_arg3 ((win0_3.blk t).view.emb (ix2 0 l)) = _
  rw [V_main_arg3]
  refine congrArg (scales m c) ?_
  blk_ext [h]

theorem read_cot (t : Fin cfg0.N) (r : Fin 512) : rowOf (iblk m c 4 t : Mat 512 1024) r = rowOf (cot m c) (token t r) := by
  have h := (idx t).2.2.2.1
  funext l
  show V m c main_arg4 ((win0_4.blk t).view.emb (ix2 r l)) = _
  rw [V_main_arg4]
  refine congrArg (cot m c) ?_
  blk_ext [h]

theorem read_past (t : Fin cfg0.N) (r : Fin 512) : rowOf (iblk m c 5 t : Mat 512 1024) r = rowOf (past m c) (token t r) := by
  have h := (idx t).2.2.2.2.1
  funext l
  show V m c main_arg5 ((win0_5.blk t).view.emb (ix2 r l)) = _
  rw [V_main_arg5]
  refine congrArg (past m c) ?_
  blk_ext [h]

/-- The cotangent of the tokens. -/
def backs : Mat 8192 1024 := fun i =>
  back (rowOf (tokens m c) (i 0)) (rowOf (gains m c) 0) (rowOf (scales m c) 0) (rowOf (cot m c) (i 0)) (rowOf (past m c) (i 0)) (i 1)

/-- The shares of the three summed gradients, token by token. -/
def gainShare (n : Fin 8192) : Row := gain (rowOf (tokens m c) n) (rowOf (scales m c) 0) (rowOf (cot m c) n)
def shiftShare (n : Fin 8192) : Row := rowOf (cot m c) n
def scaleShare (n : Fin 8192) : Row := scale (rowOf (tokens m c) n) (rowOf (gains m c) 0) (rowOf (cot m c) n)

/-- The sum of the shares over all tokens. -/
def summed (f : Fin 8192 → Row) : Mat 1 1024 := fun i => ∑ n : Fin 8192, f n (i 1)

/-- The sum of the shares over a point's tokens. -/
def part (f : Fin 8192 → Row) (t : Fin cfg0.N) (y : S1x1024.Idx) : EReal := ∑ r : Fin 512, f (token t r) (y 1)

theorem back_point (t : Fin cfg0.N) (y : S512x1024.Idx) :
    k0_pay1 (F := Ideal) (iblk m c 0 t) (iblk m c 5 t) (k0_pay10 (iblk m c 0 t))
        (k0_pay18 (iblk m c 0 t) (iblk m c 1 t) (iblk m c 3 t) (iblk m c 4 t))
        (k0_pay19 (iblk m c 0 t) (iblk m c 1 t) (iblk m c 3 t) (iblk m c 4 t)) y
      = backs m c (ix2 (token t (y 0)) (y 1)) := by
  obtain ⟨r, l, rfl⟩ : ∃ r l, y = ix2 r l := ⟨y 0, y 1, by idx_ext⟩
  refine (back_at _ _ _ _ _ r l).trans ?_
  rw [read_tokens, read_gains, read_scales, read_cot, read_past]
  rfl

theorem gain_point (t : Fin cfg0.N) (y : S1x1024.Idx) :
    k0_pay16 (F := Ideal) (iblk m c 0 t) (iblk m c 3 t) (iblk m c 4 t) y = part (gainShare m c) t y := by
  have hy : y = ix2 0 (y 1) := by idx_ext
  refine (congrArg _ hy).trans ((gain_at _ _ _ (y 1)).trans (Finset.sum_congr rfl fun r _ => ?_))
  rw [read_tokens, read_scales, read_cot]
  rfl

theorem shift_point (t : Fin cfg0.N) (y : S1x1024.Idx) :
    k0_pay13 (F := Ideal) (iblk m c 4 t) y = part (shiftShare m c) t y := by
  have hy : y = ix2 0 (y 1) := by idx_ext
  refine (congrArg _ hy).trans ((shift_at _ (y 1)).trans (Finset.sum_congr rfl fun r _ => ?_))
  exact congrFun (read_cot m c t r) (y 1)

theorem scale_point (t : Fin cfg0.N) (y : S1x1024.Idx) :
    k0_pay14 (F := Ideal) (iblk m c 0 t) (iblk m c 1 t) (iblk m c 4 t) y = part (scaleShare m c) t y := by
  have hy : y = ix2 0 (y 1) := by idx_ext
  refine (congrArg _ hy).trans ((scale_at _ _ _ (y 1)).trans (Finset.sum_congr rfl fun r _ => ?_))
  rw [read_tokens, read_gains, read_cot]
  rfl

/-- The first result is the cotangent of the tokens. -/
theorem final6 : (dats m 0 c).arrAt 6 cfg0.N = backs m c := by
  refine (dats m 0 c).arrAt_eq_of_covers 6 _ (by decide +kernel) fun t hf y => ?_
  have h := (idx t).2.2.2.2.2.1
  have hy : (win0_6.blk t).view.emb y = ix2 (token t (y 0)) (y 1) := by blk_ext [h]
  rw [after0_6]
  refine Eq.trans ?_ (congrArg (backs m c) hy).symm
  by_cases h0 : t.val % 16 = 0
  · rw [outsAt0_A m c t h0]
    frame_out
    exact back_point m c t y
  · rw [outsAt0_B m c t h0]
    frame_out
    exact back_point m c t y

theorem start7 (t : Fin cfg0.N) (h : t.val % 16 = 0) (y : S1x1024.Idx) :
    (outsAt0 m c t.val t.isLt).2.1 y = 0 + part (gainShare m c) t y := by
  rw [outsAt0_A m c t h, zero_add]
  frame_out
  pointwise [k0_pay5, k0_pay2]
  exact gain_point m c t y

theorem step7 (t : Fin cfg0.N) (h : ¬t.val % 16 = 0) (y : S1x1024.Idx) :
    (outsAt0 m c t.val t.isLt).2.1 y
      = (outsAt0 m c (t.val - 1) (Nat.lt_of_le_of_lt (Nat.sub_le _ _) t.isLt)).2.1 y + part (gainShare m c) t y := by
  rw [outsAt0_B m c t h]
  frame_out
  pointwise [k0_pay5]
  exact congrArg (_ + ·) (gain_point m c t y)

theorem start8 (t : Fin cfg0.N) (h : t.val % 16 = 0) (y : S1x1024.Idx) :
    (outsAt0 m c t.val t.isLt).2.2.1 y = 0 + part (shiftShare m c) t y := by
  rw [outsAt0_A m c t h, zero_add]
  frame_out
  pointwise [k0_pay6, k0_pay3]
  exact shift_point m c t y

theorem step8 (t : Fin cfg0.N) (h : ¬t.val % 16 = 0) (y : S1x1024.Idx) :
    (outsAt0 m c t.val t.isLt).2.2.1 y
      = (outsAt0 m c (t.val - 1) (Nat.lt_of_le_of_lt (Nat.sub_le _ _) t.isLt)).2.2.1 y + part (shiftShare m c) t y := by
  rw [outsAt0_B m c t h]
  frame_out
  pointwise [k0_pay6]
  exact congrArg (_ + ·) (shift_point m c t y)

theorem start9 (t : Fin cfg0.N) (h : t.val % 16 = 0) (y : S1x1024.Idx) :
    (outsAt0 m c t.val t.isLt).2.2.2 y = 0 + part (scaleShare m c) t y := by
  rw [outsAt0_A m c t h, zero_add]
  frame_out
  pointwise [k0_pay7, k0_pay4]
  exact scale_point m c t y

theorem step9 (t : Fin cfg0.N) (h : ¬t.val % 16 = 0) (y : S1x1024.Idx) :
    (outsAt0 m c t.val t.isLt).2.2.2 y
      = (outsAt0 m c (t.val - 1) (Nat.lt_of_le_of_lt (Nat.sub_le _ _) t.isLt)).2.2.2 y + part (scaleShare m c) t y := by
  rw [outsAt0_B m c t h]
  frame_out
  pointwise [k0_pay7]
  exact congrArg (_ + ·) (scale_point m c t y)

/-- All points together add over all tokens. -/
theorem run_tokens (f : Fin 8192 → Row) (t : Fin cfg0.N) (ht : t.val % 16 = 16 - 1) (y : S1x1024.Idx) :
    ∑ s : Fin 16, part f ⟨16 * (t.val / 16) + s.val, Pipeline.run_point_lt_of_flush t ht s⟩ y = ∑ n : Fin 8192, f n (y 1) :=
  gather (fun n => f n (y 1)) (t.val / 16) (by have := t.isLt; have h : cfg0.N = 16 := rfl; omega) _ fun _ _ => rfl

/-- The second result is the gradient of the gain. -/
theorem final7 : (dats m 0 c).arrAt 7 cfg0.N = summed (gainShare m c) := by
  refine (dats m 0 c).arrAt_eq_of_covers 7 _ (by decide +kernel) fun t hf y => ?_
  have ht := (flush0_7 t).mp hf
  have h := (idx t).2.2.2.2.2.2.1
  have hy : (win0_7.blk t).view.emb y = y := by blk_ext [h]
  rw [after0_7]
  refine Eq.trans ?_ (congrArg (summed (gainShare m c)) hy).symm
  exact (Pipeline.eq_sum_fin_of_reset_step_apply_of_flush (fun n h => (outsAt0 m c n h).2.1) 16 (fun _ => 0)
    (part (gainShare m c)) (start7 m c) (step7 m c) t ht y).trans ((zero_add _).trans (run_tokens _ t ht y))

/-- The third result is the gradient of the modulation's shift. -/
theorem final8 : (dats m 0 c).arrAt 8 cfg0.N = summed (shiftShare m c) := by
  refine (dats m 0 c).arrAt_eq_of_covers 8 _ (by decide +kernel) fun t hf y => ?_
  have ht := (flush0_8 t).mp hf
  have h := (idx t).2.2.2.2.2.2.2.1
  have hy : (win0_8.blk t).view.emb y = y := by blk_ext [h]
  rw [after0_8]
  refine Eq.trans ?_ (congrArg (summed (shiftShare m c)) hy).symm
  exact (Pipeline.eq_sum_fin_of_reset_step_apply_of_flush (fun n h => (outsAt0 m c n h).2.2.1) 16 (fun _ => 0)
    (part (shiftShare m c)) (start8 m c) (step8 m c) t ht y).trans ((zero_add _).trans (run_tokens _ t ht y))

/-- The fourth result is the gradient of the modulation's scale. -/
theorem final9 : (dats m 0 c).arrAt 9 cfg0.N = summed (scaleShare m c) := by
  refine (dats m 0 c).arrAt_eq_of_covers 9 _ (by decide +kernel) fun t hf y => ?_
  have ht := (flush0_9 t).mp hf
  have h := (idx t).2.2.2.2.2.2.2.2
  have hy : (win0_9.blk t).view.emb y = y := by blk_ext [h]
  rw [after0_9]
  refine Eq.trans ?_ (congrArg (summed (scaleShare m c)) hy).symm
  exact (Pipeline.eq_sum_fin_of_reset_step_apply_of_flush (fun n h => (outsAt0 m c n h).2.2.2) 16 (fun _ => 0)
    (part (scaleShare m c)) (start9 m c) (step9 m c) t ht y).trans ((zero_add _).trans (run_tokens _ t ht y))

section reference

open Cert.Reference25Ideal.Read

variable (x d e : Mat 8192 1024) (g s : Mat 1 1024) (n : Fin 8192) (l : Fin 1024)

theorem ref_energy : val_main_v6 (F := Ideal) x (ix2 n 0) = energy (rowOf x n) := by
  pointwise [val_main_v6, val_main_v4, val_main_v2, val_main_v1, val_main_cst, val_main_v0, val_main_v3, val_main_cst_0,
    val_main_v5, val_main_cst_1]
  rfl

theorem ref_factor : val_main_v7 (F := Ideal) x (ix2 n 0) = factor (rowOf x n) := by
  pointwise [val_main_v7]
  exact congrArg Ideal.rsqrt (ref_energy x n)

theorem ref_bend (z : Fin 1) : val_main_v10 (F := Ideal) x (ix2 n z) = bend (rowOf x n) := by
  obtain rfl : z = 0 := Subsingleton.elim _ _
  pointwise [val_main_v10, val_main_v9, val_main_cst_2, val_main_v8]
  exact congrArg₂ (fun a b => Ideal.ofBits .f32 0xBF000000#32 * Ideal.div a b) (ref_factor x n) (ref_energy x n)

theorem ref_scaled : val_main_v12 (F := Ideal) x (ix2 n l) = scaled (rowOf x n) l := by
  pointwise [val_main_v12, val_main_v11]
  exact congrArg (x (ix2 n l) * ·) (ref_factor x n)

theorem ref_shiftless : val_main_v28 (F := Ideal) s d (ix2 n l) = shiftless (rowOf s 0) (rowOf d n) l := by
  pointwise [val_main_v28, val_main_v21, val_main_v27, val_main_v16, val_main_v15, val_main_cst_3]
  rfl

theorem ref_inner : val_main_v33 (F := Ideal) g s d (ix2 n l) = inner (rowOf g 0) (rowOf s 0) (rowOf d n) l := by
  pointwise [val_main_v33, val_main_v32]
  exact congrArg (· * g (ix2 0 l)) (ref_shiftless d s n l)

theorem ref_back : val_main_v48 (F := Ideal) x g s d e (ix2 n l)
    = back (rowOf x n) (rowOf g 0) (rowOf s 0) (rowOf d n) (rowOf e n) l := by
  pointwise [val_main_v48, val_main_v47, val_main_v46, val_main_v45, val_main_v44, val_main_v43, val_main_cst_9, val_main_v42,
    val_main_v41, val_main_cst_8, val_main_v40, val_main_v39, val_main_v38, val_main_v37, val_main_v36, val_main_v35,
    val_main_cst_7, val_main_v34]
  simp only [ref_inner, ref_factor, ref_bend]
  rfl

theorem ref_gain : val_main_v31 (F := Ideal) x s d (ix2 0 l) = ∑ n : Fin 8192, gain (rowOf x n) (rowOf s 0) (rowOf d n) l := by
  pointwise [val_main_v31, val_main_v30, val_main_cst_6, val_main_v29]
  simp only [ref_scaled, ref_shiftless]
  rfl

theorem ref_shift : val_main_v23 (F := Ideal) d (ix2 0 l) = ∑ n : Fin 8192, d (ix2 n l) := by
  pointwise [val_main_v23, val_main_v22, val_main_cst_4, val_main_v21]

theorem ref_scale : val_main_v26 (F := Ideal) x g d (ix2 0 l) = ∑ n : Fin 8192, scale (rowOf x n) (rowOf g 0) (rowOf d n) l := by
  pointwise [val_main_v26, val_main_v25, val_main_cst_5, val_main_v24, val_main_v14, val_main_v13, val_main_v21]
  simp only [ref_scaled]
  rfl

end reference

/-- Kernel and reference leave the same four results. -/
theorem agree : Cert.algebraic_Kernel25Ideal_Reference25Ideal := by
  intro m g m' g' _ hagree
  refine ⟨_, _, _, _, Cert.Kernel25Ideal.Value.run_blocks m g, ?_⟩
  refine (θ_run Cert.Reference25Ideal.defs _ _).mono (fun r h c => ?_) (Cert.Reference25Ideal.Value.run (F := Ideal) m' g')
  obtain ⟨h0, h1, h2, h3, hargs⟩ := h c
  obtain ⟨a0, a1, a2, a3, a4, a5⟩ := hagree c
  refine ⟨h0.trans ?_, h1.trans ?_, h2.trans ?_, h3.trans ?_, hargs⟩
  · refine (Cert.Reference25Ideal.Read.val_main_v48_eq (F := Ideal) m' c).trans ?_
    rw [a0, a1, a3, a4, a5]
    refine Eq.trans (funext fun i => ?_) (final6 m c).symm
    have hi : i = ix2 (i 0) (i 1) := by idx_ext
    exact (congrArg _ hi).trans (ref_back _ _ _ _ _ (i 0) (i 1))
  · refine (Cert.Reference25Ideal.Read.val_main_v31_eq (F := Ideal) _ _ _).trans ?_
    rw [a0, a3, a4]
    refine Eq.trans (funext fun i => ?_) (final7 m c).symm
    have hi : i = ix2 0 (i 1) := by idx_ext
    exact (congrArg _ hi).trans (ref_gain _ _ _ (i 1))
  · refine (Cert.Reference25Ideal.Read.val_main_v23_eq (F := Ideal) _).trans ?_
    rw [a4]
    refine Eq.trans (funext fun i => ?_) (final8 m c).symm
    have hi : i = ix2 0 (i 1) := by idx_ext
    exact (congrArg _ hi).trans (ref_shift _ (i 1))
  · refine (Cert.Reference25Ideal.Read.val_main_v26_eq (F := Ideal) _ _ _).trans ?_
    rw [a0, a1, a4]
    refine Eq.trans (funext fun i => ?_) (final9 m c).symm
    have hi : i = ix2 0 (i 1) := by idx_ext
    exact (congrArg _ hi).trans (ref_scale _ _ _ (i 1))

/-- The reference leaves its arguments and counters alone. -/
theorem kept : Cert.quiescent_Reference25Ideal := fun m ρ _ =>
  (θ_run Cert.Reference25Ideal.defs _ _).mono (fun r h => ⟨fun c => (h c).2.2.2.2, sem_eq_zero_of_no_sems (by decide) r.2⟩)
    (Cert.Reference25Ideal.Value.run (F := Ideal) m ρ)

end Cert.Rows.Modulate

end
-- ==== Proof.Rows.First.lean ====
/-
  The first modulation: each token scaled to unit mean square, times the gain, scaled and shifted.
-/
module

public import proofs.«01_k».proof.Defs
public import proofs.«01_k».proof.Proof.Gen.Kernel26Ideal.Value
public import proofs.«01_k».proof.Proof.Gen.Reference26Ideal.Run
public import proofs.«01_k».proof.Proof.Gen.Reference26Ideal.Read
public import proofs.«01_k».proof.Proof.Rows.Norm

@[expose] public section

set_option maxRecDepth 16384

noncomputable section

namespace Cert.Rows.First

open Cert.Kernel26Ideal Cert.Kernel26Ideal.Gen
open Idealize.ShloMosaic Idealize.ShloMosaic.TcCoe Idealize.SL.Sem
open Idealize.ShloMosaic.Pipeline (Dat)

theorem pay_at (x : Mat 512 1024) (g h s : Mat 1 1024) (r : Fin 512) (l : Fin 1024) :
    k0_pay1 (F := Ideal) x g h s (ix2 r l) = modulated (rowOf x r) (rowOf g 0) (rowOf h 0) (rowOf s 0) l := by
  pointwise [k0_pay1]
  rfl

theorem idx : ∀ t : Fin cfg0.N, win0_0.index t = ![t.val, 0] ∧ win0_1.index t = ![0, 0] ∧ win0_2.index t = ![0, 0]
    ∧ win0_3.index t = ![0, 0] ∧ win0_4.index t = ![t.val, 0] :=
  (by decide +kernel : ∀ t : Fin grid0.N, _)

variable (m : (ℓ : Loc nD τ sig) → Buf (Elt Ideal) ℓ) (c : Dev nD)

/-- The tokens. -/
def tokens : Mat 8192 1024 := m (c.tc.loc main_arg0)
/-- The gain. -/
def gains : Mat 1 1024 := m (c.tc.loc main_arg1)
/-- The modulation's shift. -/
def shifts : Mat 1 1024 := m (c.tc.loc main_arg2)
/-- The modulation's scale. -/
def scales : Mat 1 1024 := m (c.tc.loc main_arg3)

/-- The token at place `r` of a point's block. -/
abbrev token (t : Fin cfg0.N) (r : Fin 512) : Fin 8192 :=
  ⟨t.val * 512 + r.val, by have := t.isLt; have h : cfg0.N = 16 := rfl; omega⟩

theorem read_tokens (t : Fin cfg0.N) (r : Fin 512) : rowOf (iblk m c 0 t : Mat 512 1024) r = rowOf (tokens m c) (token t r) := by
  have h := (idx t).1
  funext l
  show V m c main_arg0 ((win0_0.blk t).view.emb (ix2 r l)) = _
  rw [V_main_arg0]
  refine congrArg (tokens m c) ?_
  blk_ext [h]

theorem read_gains (t : Fin cfg0.N) : rowOf (iblk m c 1 t : Mat 1 1024) 0 = rowOf (gains m c) 0 := by
  have h := (idx t).2.1
  funext l
  show V m c main_arg1 ((win0_1.blk t).view.emb (ix2 0 l)) = _
  rw [V_main_arg1]
  refine congrArg (gains m c) ?_
  blk_ext [h]

theorem read_shifts (t : Fin cfg0.N) : rowOf (iblk m c 2 t : Mat 1 1024) 0 = rowOf (shifts m c) 0 := by
  have h := (idx t).2.2.1
  funext l
  show V m c main_arg2 ((win0_2.blk t).view.emb (ix2 0 l)) = _
  rw [V_main_arg2]
  refine congrArg (shifts m c) ?_
  blk_ext [h]

theorem read_scales (t : Fin cfg0.N) : rowOf (iblk m c 3 t : Mat 1 1024) 0 = rowOf (scales m c) 0 := by
  have h := (idx t).2.2.2.1
  funext l
  show V m c main_arg3 ((win0_3.blk t).view.emb (ix2 0 l)) = _
  rw [V_main_arg3]
  refine congrArg (scales m c) ?_
  blk_ext [h]

/-- The modulated tokens. -/
def out : Mat 8192 1024 := fun i =>
  modulated (rowOf (tokens m c) (i 0)) (rowOf (gains m c) 0) (rowOf (shifts m c) 0) (rowOf (scales m c) 0) (i 1)

theorem point (t : Fin cfg0.N) (y : S512x1024.Idx) :
    k0_pay1 (F := Ideal) (iblk m c 0 t) (iblk m c 1 t) (iblk m c 2 t) (iblk m c 3 t) y = out m c (ix2 (token t (y 0)) (y 1)) := by
  obtain ⟨r, l, rfl⟩ : ∃ r l, y = ix2 r l := ⟨y 0, y 1, by idx_ext⟩
  refine (pay_at _ _ _ _ r l).trans ?_
  rw [read_tokens, read_gains, read_shifts, read_scales]
  rfl

/-- The result is the modulated tokens. -/
theorem final4 : (dats m 0 c).arrAt 4 cfg0.N = out m c := by
  refine (dats m 0 c).arrAt_eq_of_covers 4 _ (by decide +kernel) fun t hf y => ?_
  have h := (idx t).2.2.2.2
  have hy : (win0_4.blk t).view.emb y = ix2 (token t (y 0)) (y 1) := by blk_ext [h]
  rw [after0_4]
  refine Eq.trans ?_ (congrArg (out m c) hy).symm
  frame_out
  exact point m c t y

open Cert.Reference26Ideal.Read in
theorem ref_at (x : Mat 8192 1024) (g h s : Mat 1 1024) (n : Fin 8192) (l : Fin 1024) :
    val_main_v18 (F := Ideal) x g h s (ix2 n l) = modulated (rowOf x n) (rowOf g 0) (rowOf h 0) (rowOf s 0) l := by
  pointwise [val_main_v18, val_main_v17, val_main_v16, val_main_v15, val_main_v14, val_main_v13, val_main_v12, val_main_cst_2,
    val_main_v11, val_main_v10, val_main_v9, val_main_v8, val_main_v7, val_main_v6, val_main_v5, val_main_cst_1, val_main_v4,
    val_main_v3, val_main_cst_0, val_main_v2, val_main_v1, val_main_cst, val_main_v0]
  rfl

/-- Kernel and reference leave the same tokens. -/
theorem agree : Cert.algebraic_Kernel26Ideal_Reference26Ideal := by
  intro m g m' g' _ hagree
  refine ⟨_, Cert.Kernel26Ideal.Value.run_blocks m g, ?_⟩
  refine (θ_run Cert.Reference26Ideal.defs _ _).mono (fun r h c => ?_) (Cert.Reference26Ideal.Value.run (F := Ideal) m' g')
  obtain ⟨h0, hargs⟩ := h c
  obtain ⟨a0, a1, a2, a3⟩ := hagree c
  refine ⟨h0.trans ?_, hargs⟩
  refine (Cert.Reference26Ideal.Read.val_main_v18_eq (F := Ideal) _ _ _ _).trans ?_
  rw [a0, a1, a2, a3]
  refine Eq.trans (funext fun i => ?_) (final4 m c).symm
  have hi : i = ix2 (i 0) (i 1) := by idx_ext
  exact (congrArg _ hi).trans (ref_at _ _ _ _ (i 0) (i 1))

/-- The reference leaves its arguments and counters alone. -/
theorem kept : Cert.quiescent_Reference26Ideal := fun m ρ _ =>
  (θ_run Cert.Reference26Ideal.defs _ _).mono (fun r h => ⟨fun c => (h c).2, sem_eq_zero_of_no_sems (by decide) r.2⟩)
    (Cert.Reference26Ideal.Value.run (F := Ideal) m ρ)

end Cert.Rows.First

end
-- ==== Proof.Rows.Second.lean ====
/-
  The second modulation: the branch added through its gate, and the sum modulated.
-/
module

public import proofs.«01_k».proof.Defs
public import proofs.«01_k».proof.Proof.Gen.Kernel27Ideal.Value
public import proofs.«01_k».proof.Proof.Gen.Reference27Ideal.Run
public import proofs.«01_k».proof.Proof.Gen.Reference27Ideal.Read
public import proofs.«01_k».proof.Proof.Rows.Norm

@[expose] public section

set_option maxRecDepth 16384

noncomputable section

namespace Cert.Rows.Second

open Cert.Kernel27Ideal Cert.Kernel27Ideal.Gen
open Idealize.ShloMosaic Idealize.ShloMosaic.TcCoe Idealize.SL.Sem
open Idealize.ShloMosaic.Pipeline (Dat)

section payloads

variable (x d : Mat 512 1024) (a g h s : Mat 1 1024) (r : Fin 512) (l : Fin 1024)

theorem joined_at : k0_pay1 (F := Ideal) x d a (ix2 r l) = tok x d a r l := by
  pointwise [k0_pay1]
  rfl

theorem pay_at : k0_pay2 (F := Ideal) x d a g h s (ix2 r l)
    = modulated (tok x d a r) (rowOf g 0) (rowOf h 0) (rowOf s 0) l := by
  pointwise [k0_pay2]
  simp only [joined_at]
  rfl

end payloads

theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![t.val, 0]
    ∧ win0_7.index t = ![t.val, 0] :=
  (by decide +kernel : ∀ t : Fin grid0.N, _)

variable (m : (ℓ : Loc nD τ sig) → Buf (Elt Ideal) ℓ) (c : Dev nD)

/-- What came past the branch. -/
def past : Mat 8192 1024 := m (c.tc.loc main_arg0)
/-- What the branch gave. -/
def given : Mat 8192 1024 := m (c.tc.loc main_arg1)
/-- The gate. -/
def gates : Mat 1 1024 := m (c.tc.loc main_arg2)
/-- The gain. -/
def gains : Mat 1 1024 := m (c.tc.loc main_arg3)
/-- The modulation's shift. -/
def shifts : Mat 1 1024 := m (c.tc.loc main_arg4)
/-- The modulation's scale. -/
def scales : Mat 1 1024 := m (c.tc.loc main_arg5)

/-- The token at place `r` of a point's block. -/
abbrev token (t : Fin cfg0.N) (r : Fin 512) : Fin 8192 :=
  ⟨t.val * 512 + r.val, by have := t.isLt; have h : cfg0.N = 16 := rfl; omega⟩

theorem read_past (t : Fin cfg0.N) (r : Fin 512) : rowOf (iblk m c 0 t : Mat 512 1024) r = rowOf (past m c) (token t r) := by
  have h := (idx t).1
  funext l
  show V m c main_arg0 ((win0_0.blk t).view.emb (ix2 r l)) = _
  rw [V_main_arg0]
  refine congrArg (past m c) ?_
  blk_ext [h]

theorem read_given (t : Fin cfg0.N) (r : Fin 512) : rowOf (iblk m c 1 t : Mat 512 1024) r = rowOf (given m c) (token t r) := by
  have h := (idx t).2.1
  funext l
  show V m c main_arg1 ((win0_1.blk t).view.emb (ix2 r l)) = _
  rw [V_main_arg1]
  refine congrArg (given m c) ?_
  blk_ext [h]

theorem read_gates (t : Fin cfg0.N) : rowOf (iblk m c 2 t : Mat 1 1024) 0 = rowOf (gates m c) 0 := by
  have h := (idx t).2.2.1
  funext l
  show V m c main_arg2 ((win0_2.blk t).view.emb (ix2 0 l)) = _
  rw [V_main_arg2]
  refine congrArg (gates m c) ?_
  blk_ext [h]

theorem read_gains (t : Fin cfg0.N) : rowOf (iblk m c 3 t : Mat 1 1024) 0 = rowOf (gains m c) 0 := by
  have h := (idx t).2.2.2.1
  funext l
  show V m c main_arg3 ((win0_3.blk t).view.emb (ix2 0 l)) = _
  rw [V_main_arg3]
  refine congrArg (gains m c) ?_
  blk_ext [h]

theorem read_shifts (t : Fin cfg0.N) : rowOf (iblk m c 4 t : Mat 1 1024) 0 = rowOf (shifts m c) 0 := by
  have h := (idx t).2.2.2.2.1
  funext l
  show V m c main_arg4 ((win0_4.blk t).view.emb (ix2 0 l)) = _
  rw [V_main_arg4]
  refine congrArg (shifts m c) ?_
  blk_ext [h]

theorem read_scales (t : Fin cfg0.N) : rowOf (iblk m c 5 t : Mat 1 1024) 0 = rowOf (scales m c) 0 := by
  have h := (idx t).2.2.2.2.2.1
  funext l
  show V m c main_arg5 ((win0_5.blk t).view.emb (ix2 0 l)) = _
  rw [V_main_arg5]
  refine congrArg (scales m c) ?_
  blk_ext [h]

/-- Token `n` of the whole batch. -/
abbrev whole (n : Fin 8192) : Row := tok (past m c) (given m c) (gates m c) n

theorem read_tok (t : Fin cfg0.N) (r : Fin 512) :
    tok (iblk m c 0 t : Mat 512 1024) (iblk m c 1 t : Mat 512 1024) (iblk m c 2 t : Mat 1 1024) r = whole m c (token t r) := by
  show joined _ _ _ = joined _ _ _
  rw [read_past, read_given, read_gates]

/-- The tokens. -/
def sums : Mat 8192 1024 := fun i => whole m c (i 0) (i 1)

/-- The modulated tokens. -/
def out : Mat 8192 1024 := fun i =>
  modulated (whole m c (i 0)) (rowOf (gains m c) 0) (rowOf (shifts m c) 0) (rowOf (scales m c) 0) (i 1)

theorem sum_point (t : Fin cfg0.N) (y : S512x1024.Idx) :
    k0_pay1 (F := Ideal) (iblk m c 0 t) (iblk m c 1 t) (iblk m c 2 t) y = sums m c (ix2 (token t (y 0)) (y 1)) := by
  obtain ⟨r, l, rfl⟩ : ∃ r l, y = ix2 r l := ⟨y 0, y 1, by idx_ext⟩
  exact (joined_at _ _ _ r l).trans (congrFun (read_tok m c t r) l)

theorem point (t : Fin cfg0.N) (y : S512x1024.Idx) :
    k0_pay2 (F := Ideal) (iblk m c 0 t) (iblk m c 1 t) (iblk m c 2 t) (iblk m c 3 t) (iblk m c 4 t) (iblk m c 5 t) y
      = out m c (ix2 (token t (y 0)) (y 1)) := by
  obtain ⟨r, l, rfl⟩ : ∃ r l, y = ix2 r l := ⟨y 0, y 1, by idx_ext⟩
  refine (pay_at _ _ _ _ _ _ r l).trans ?_
  rw [read_tok, read_gains, read_shifts, read_scales]
  rfl

/-- The first result is the tokens. -/
theorem final6 : (dats m 0 c).arrAt 6 cfg0.N = sums m c := by
  refine (dats m 0 c).arrAt_eq_of_covers 6 _ (by decide +kernel) fun t hf y => ?_
  have h := (idx t).2.2.2.2.2.2.1
  have hy : (win0_6.blk t).view.emb y = ix2 (token t (y 0)) (y 1) := by blk_ext [h]
  rw [after0_6]
  refine Eq.trans ?_ (congrArg (sums m c) hy).symm
  frame_out
  exact sum_point m c t y

/-- The second result is the modulated tokens. -/
theorem final7 : (dats m 0 c).arrAt 7 cfg0.N = out m c := by
  refine (dats m 0 c).arrAt_eq_of_covers 7 _ (by decide +kernel) fun t hf y => ?_
  have h := (idx t).2.2.2.2.2.2.2
  have hy : (win0_7.blk t).view.emb y = ix2 (token t (y 0)) (y 1) := by blk_ext [h]
  rw [after0_7]
  refine Eq.trans ?_ (congrArg (out m c) hy).symm
  frame_out
  exact point m c t y

section reference

open Cert.Reference27Ideal.Read

variable (x d : Mat 8192 1024) (a g h s : Mat 1 1024) (n : Fin 8192) (l : Fin 1024)

theorem ref_joined : val_main_v2 (F := Ideal) x d a (ix2 n l) = tok x d a n l := by
  pointwise [val_main_v2, val_main_v1, val_main_v0]
  rfl

theorem ref_at : val_main_v21 (F := Ideal) x d a g h s (ix2 n l)
    = modulated (tok x d a n) (rowOf g 0) (rowOf h 0) (rowOf s 0) l := by
  pointwise [val_main_v21, val_main_v20, val_main_v19, val_main_v18, val_main_v17, val_main_v16, val_main_v15, val_main_cst_2,
    val_main_v14, val_main_v13, val_main_v12, val_main_v11, val_main_v10, val_main_v9, val_main_v8, val_main_cst_1, val_main_v7,
    val_main_v6, val_main_cst_0, val_main_v5, val_main_v4, val_main_cst, val_main_v3]
  simp only [ref_joined]
  rfl

end reference

/-- Kernel and reference leave the same tokens, plain and modulated. -/
theorem agree : Cert.algebraic_Kernel27Ideal_Reference27Ideal := by
  intro m g m' g' _ hagree
  refine ⟨_, _, Cert.Kernel27Ideal.Value.run_blocks m g, ?_⟩
  refine (θ_run Cert.Reference27Ideal.defs _ _).mono (fun r h c => ?_) (Cert.Reference27Ideal.Value.run (F := Ideal) m' g')
  obtain ⟨h0, h1, hargs⟩ := h c
  obtain ⟨a0, a1, a2, a3, a4, a5⟩ := hagree c
  refine ⟨h0.trans ?_, h1.trans ?_, hargs⟩
  · refine (Cert.Reference27Ideal.Read.val_main_v2_eq (F := Ideal) _ _ _).trans ?_
    rw [a0, a1, a2]
    refine Eq.trans (funext fun i => ?_) (final6 m c).symm
    have hi : i = ix2 (i 0) (i 1) := by idx_ext
    exact (congrArg _ hi).trans (ref_joined _ _ _ (i 0) (i 1))
  · refine (Cert.Reference27Ideal.Read.val_main_v21_eq (F := Ideal) _ _ _ _ _ _).trans ?_
    rw [a0, a1, a2, a3, a4, a5]
    refine Eq.trans (funext fun i => ?_) (final7 m c).symm
    have hi : i = ix2 (i 0) (i 1) := by idx_ext
    exact (congrArg _ hi).trans (ref_at _ _ _ _ _ _ (i 0) (i 1))

/-- The reference leaves its arguments and counters alone. -/
theorem kept : Cert.quiescent_Reference27Ideal := fun m ρ _ =>
  (θ_run Cert.Reference27Ideal.defs _ _).mono (fun r h => ⟨fun c => (h c).2.2, sem_eq_zero_of_no_sems (by decide) r.2⟩)
    (Cert.Reference27Ideal.Value.run (F := Ideal) m ρ)

end Cert.Rows.Second

end
-- ==== Proof.Rows.SecondBack.lean ====
/-
  The backward pass of the second modulation: the cotangents of what came past the branch and of what the branch gave,
  and the gradients of the gate, of the gain and of the modulation as sums over all tokens.
-/
module

public import proofs.«01_k».proof.Defs
public import proofs.«01_k».proof.Proof.Gen.Kernel28Ideal.Value
public import proofs.«01_k».proof.Proof.Gen.Reference28Ideal.Run
public import proofs.«01_k».proof.Proof.Gen.Reference28Ideal.Read
public import proofs.«01_k».proof.Proof.Rows.Norm

@[expose] public section

set_option maxRecDepth 16384

noncomputable section

namespace Cert.Rows.SecondBack

open Cert.Kernel28Ideal Cert.Kernel28Ideal.Gen
open Idealize.ShloMosaic Idealize.ShloMosaic.TcCoe Idealize.SL.Sem
open Idealize.ShloMosaic.Pipeline (Dat)

section payloads

variable (x b d e : Mat 512 1024) (a g s z : Mat 1 1024) (r : Fin 512) (l : Fin 1024)

theorem joined_at : k0_pay3 (F := Ideal) x b a (ix2 r l) = tok x b a r l := by
  pointwise [k0_pay3]
  rfl

theorem energy_at : k0_pay4 (F := Ideal) x b a (ix2 r 0) = energy (tok x b a r) := by
  pointwise [k0_pay4]
  simp only [joined_at]
  rfl

theorem factor_at : k0_pay5 (F := Ideal) x b a (ix2 r 0) = factor (tok x b a r) := by
  pointwise [k0_pay5]
  exact congrArg Ideal.rsqrt (energy_at x b a r)

theorem bend_at (z : Fin 1) : k0_pay6 (F := Ideal) x b a (ix2 r z) = bend (tok x b a r) := by
  obtain rfl : z = 0 := Subsingleton.elim _ _
  pointwise [k0_pay6]
  exact congrArg₂ (fun a b => Ideal.ofBits .f32 0xBF000000#32 * Ideal.div a b) (factor_at x b a r) (energy_at x b a r)

theorem scaled_at : k0_pay7 (F := Ideal) x b a (ix2 r l) = scaled (tok x b a r) l := by
  pointwise [k0_pay7]
  exact congrArg₂ (· * ·) (joined_at x b a r l) (factor_at x b a r)

theorem shiftless_at : k0_pay11 (F := Ideal) s d (ix2 r l) = shiftless (rowOf s 0) (rowOf d r) l := by
  pointwise [k0_pay11, k0_pay8]
  rfl

theorem back_at :
    k0_pay13 (F := Ideal) g e (k0_pay3 x b a) (k0_pay5 x b a) (k0_pay6 x b a) (k0_pay11 s d) (ix2 r l)
      = back (tok x b a r) (rowOf g 0) (rowOf s 0) (rowOf d r) (rowOf e r) l := by
  pointwise [k0_pay13]
  simp only [joined_at, shiftless_at, factor_at, bend_at]
  rfl

theorem copy_at :
    k0_pay14 (F := Ideal) g e (k0_pay3 x b a) (k0_pay5 x b a) (k0_pay6 x b a) (k0_pay11 s d) (ix2 r l)
      = back (tok x b a r) (rowOf g 0) (rowOf s 0) (rowOf d r) (rowOf e r) l := by
  pointwise [k0_pay14]
  exact back_at x b d e a g s r l

theorem branch_at :
    k0_pay15 (F := Ideal) a g e (k0_pay3 x b a) (k0_pay5 x b a) (k0_pay6 x b a) (k0_pay11 s d) (ix2 r l)
      = a (ix2 0 l) * back (tok x b a r) (rowOf g 0) (rowOf s 0) (rowOf d r) (rowOf e r) l := by
  pointwise [k0_pay15]
  simp only [copy_at]

theorem gate_at :
    k0_pay20 (F := Ideal) b g e (k0_pay3 x b a) (k0_pay5 x b a) (k0_pay6 x b a) (k0_pay11 s d) z (ix2 0 l)
      = z (ix2 0 l) + ∑ r : Fin 512, gated (tok x b a r) (rowOf g 0) (rowOf s 0) (rowOf d r) (rowOf e r) (rowOf b r) l := by
  pointwise [k0_pay20]
  simp only [copy_at]
  rfl

theorem gain_at : k0_pay21 (F := Ideal) (k0_pay12 x b a s d) z (ix2 0 l)
    = z (ix2 0 l) + ∑ r : Fin 512, gain (tok x b a r) (rowOf s 0) (rowOf d r) l := by
  pointwise [k0_pay21, k0_pay12]
  simp only [scaled_at, shiftless_at]
  rfl

theorem shift_at : k0_pay1 (F := Ideal) (k0_pay9 d) z (ix2 0 l) = z (ix2 0 l) + ∑ r : Fin 512, d (ix2 r l) := by
  pointwise [k0_pay1, k0_pay9, k0_pay8]

theorem scale_at : k0_pay2 (F := Ideal) (k0_pay10 x b a g d) z (ix2 0 l)
    = z (ix2 0 l) + ∑ r : Fin 512, scale (tok x b a r) (rowOf g 0) (rowOf d r) l := by
  pointwise [k0_pay2, k0_pay10, k0_pay8]
  simp only [scaled_at]
  rfl

end payloads

theorem idx : ∀ t : Fin cfg0.N, win0_0.index t = ![t.val, 0] ∧ win0_1.index t = ![t.val, 0] ∧ win0_2.index t = ![0, 0]
    ∧ win0_3.index t = ![0, 0] ∧ win0_5.index t = ![0, 0] ∧ win0_6.index t = ![t.val, 0]
    ∧ win0_7.index t = ![t.val, 0] ∧ win0_8.index t = ![t.val, 0] ∧ win0_9.index t = ![t.val, 0]
    ∧ win0_10.index t = ![0, 0] ∧ win0_11.index t = ![0, 0] ∧ win0_12.index t = ![0, 0] ∧ win0_13.index t = ![0, 0] :=
  (by decide +kernel : ∀ t : Fin grid0.N, _)

variable (m : (ℓ : Loc nD τ sig) → Buf (Elt Ideal) ℓ) (c : Dev nD)

/-- What came past the branch. -/
def past : Mat 8192 1024 := m (c.tc.loc main_arg0)
/-- What the branch gave. -/
def given : Mat 8192 1024 := m (c.tc.loc main_arg1)
/-- The gate. -/
def gates : Mat 1 1024 := m (c.tc.loc main_arg2)
/-- The gain. -/
def gains : Mat 1 1024 := m (c.tc.loc main_arg3)
/-- The modulation's scale. -/
def scales : Mat 1 1024 := m (c.tc.loc main_arg5)
/-- The cotangent that reaches the tokens past the modulation. -/
def plain : Mat 8192 1024 := m (c.tc.loc main_arg6)
/-- The cotangent of the modulated tokens. -/
def cot : Mat 8192 1024 := m (c.tc.loc main_arg7)

/-- The token at place `r` of a point's block. -/
abbrev token (t : Fin cfg0.N) (r : Fin 512) : Fin 8192 :=
  ⟨t.val * 512 + r.val, by have := t.isLt; have h : cfg0.N = 16 := rfl; omega⟩

theorem read_past (t : Fin cfg0.N) (r : Fin 512) : rowOf (iblk m c 0 t : Mat 512 1024) r = rowOf (past m c) (token t r) := by
  have h := (idx t).1
  funext l
  show V m c main_arg0 ((win0_0.blk t).view.emb (ix2 r l)) = _
  rw [V_main_arg0]
  refine congrArg (past m c) ?_
  blk_ext [h]

theorem read_given (t : Fin cfg0.N) (r : Fin 512) : rowOf (iblk m c 1 t : Mat 512 1024) r = rowOf (given m c) (token t r) := by
  have h := (idx t).2.1
  funext l
  show V m c main_arg1 ((win0_1.blk t).view.emb (ix2 r l)) = _
  rw [V_main_arg1]
  refine congrArg (given m c) ?_
  blk_ext [h]

theorem read_gates (t : Fin cfg0.N) : rowOf (iblk m c 2 t : Mat 1 1024) 0 = rowOf (gates m c) 0 := by
  have h := (idx t).2.2.1
  funext l
  show V m c main_arg2 ((win0_2.blk t).view.emb (ix2 0 l)) = _
  rw [V_main_arg2]
  refine congrArg (gates m c) ?_
  blk_ext [h]

theorem read_gains (t : Fin cfg0.N) : rowOf (iblk m c 3 t : Mat 1 1024) 0 = rowOf (gains m c) 0 := by
  have h := (idx t).2.2.2.1
  funext l
  show V m c main_arg3 ((win0_3.blk t).view.emb (ix2 0 l)) = _
  rw [V_main_arg3]
  refine congrArg (gains m c) ?_
  blk_ext [h]

theorem read_scales (t : Fin cfg0.N) : rowOf (iblk m c 5 t : Mat 1 1024) 0 = rowOf (scales m c) 0 := by
  have h := (idx t).2.2.2.2.1
  funext l
  show V m c main_arg5 ((win0_5.blk t).view.emb (ix2 0 l)) = _
  rw [V_main_arg5]
  refine congrArg (scales m c) ?_
  blk_ext [h]

theorem read_plain (t : Fin cfg0.N) (r : Fin 512) : rowOf (iblk m c 6 t : Mat 512 1024) r = rowOf (plain m c) (token t r) := by
  have h := (idx t).2.2.2.2.2.1
  funext l
  show V m c main_arg6 ((win0_6.blk t).view.emb (ix2 r l)) = _
  rw [V_main_arg6]
  refine congrArg (plain m c) ?_
  blk_ext [h]

theorem read_cot (t : Fin cfg0.N) (r : Fin 512) : rowOf (iblk m c 7 t : Mat 512 1024) r = rowOf (cot m c) (token t r) := by
  have h := (idx t).2.2.2.2.2.2.1
  funext l
  show V m c main_arg7 ((win0_7.blk t).view.emb (ix2 r l)) = _
  rw [V_main_arg7]
  refine congrArg (cot m c) ?_
  blk_ext [h]

/-- Token `n` of the whole batch. -/
abbrev whole (n : Fin 8192) : Row := tok (past m c) (given m c) (gates m c) n

theorem read_tok (t : Fin cfg0.N) (r : Fin 512) :
    tok (iblk m c 0 t : Mat 512 1024) (iblk m c 1 t : Mat 512 1024) (iblk m c 2 t : Mat 1 1024) r = whole m c (token t r) := by
  show joined _ _ _ = joined _ _ _
  rw [read_past, read_given, read_gates]

/-- The cotangent of the token, token by token. -/
def backRow (n : Fin 8192) : Row :=
  back (whole m c n) (rowOf (gains m c) 0) (rowOf (scales m c) 0) (rowOf (cot m c) n) (rowOf (plain m c) n)

/-- The cotangent of the tokens, which is also that of what came past the branch. -/
def backs : Mat 8192 1024 := fun i => backRow m c (i 0) (i 1)

/-- The cotangent of what the branch gave. -/
def branches : Mat 8192 1024 := fun i => gates m c (ix2 0 (i 1)) * backRow m c (i 0) (i 1)

/-- The shares of the four summed gradients, token by token. -/
def gateShare (n : Fin 8192) : Row := gated (whole m c n) (rowOf (gains m c) 0) (rowOf (scales m c) 0) (rowOf (cot m c) n)
  (rowOf (plain m c) n) (rowOf (given m c) n)
def gainShare (n : Fin 8192) : Row := gain (whole m c n) (rowOf (scales m c) 0) (rowOf (cot m c) n)
def shiftShare (n : Fin 8192) : Row := rowOf (cot m c) n
def scaleShare (n : Fin 8192) : Row := scale (whole m c n) (rowOf (gains m c) 0) (rowOf (cot m c) n)

/-- The sum of the shares over all tokens. -/
def summed (f : Fin 8192 → Row) : Mat 1 1024 := fun i => ∑ n : Fin 8192, f n (i 1)

/-- The sum of the shares over a point's tokens. -/
def part (f : Fin 8192 → Row) (t : Fin cfg0.N) (y : S1x1024.Idx) : EReal := ∑ r : Fin 512, f (token t r) (y 1)

theorem back_point (t : Fin cfg0.N) (y : S512x1024.Idx) :
    k0_pay13 (F := Ideal) (iblk m c 3 t) (iblk m c 6 t) (k0_pay3 (iblk m c 0 t) (iblk m c 1 t) (iblk m c 2 t)) (k0_pay5 (iblk m c 0 t) (iblk m c 1 t) (iblk m c 2 t))
        (k0_pay6 (iblk m c 0 t) (iblk m c 1 t) (iblk m c 2 t)) (k0_pay11 (iblk m c 5 t) (iblk m c 7 t)) y
      = backs m c (ix2 (token t (y 0)) (y 1)) := by
  obtain ⟨r, l, rfl⟩ : ∃ r l, y = ix2 r l := ⟨y 0, y 1, by idx_ext⟩
  refine (back_at _ _ _ _ _ _ _ r l).trans ?_
  rw [read_tok, read_gains, read_scales, read_cot, read_plain]
  rfl

theorem branch_point (t : Fin cfg0.N) (y : S512x1024.Idx) :
    k0_pay15 (F := Ideal) (iblk m c 2 t) (iblk m c 3 t) (iblk m c 6 t) (k0_pay3 (iblk m c 0 t) (iblk m c 1 t) (iblk m c 2 t)) (k0_pay5 (iblk m c 0 t) (iblk m c 1 t) (iblk m c 2 t))
        (k0_pay6 (iblk m c 0 t) (iblk m c 1 t) (iblk m c 2 t)) (k0_pay11 (iblk m c 5 t) (iblk m c 7 t)) y
      = branches m c (ix2 (token t (y 0)) (y 1)) := by
  obtain ⟨r, l, rfl⟩ : ∃ r l, y = ix2 r l := ⟨y 0, y 1, by idx_ext⟩
  refine (branch_at _ _ _ _ _ _ _ r l).trans ?_
  rw [read_tok, read_gains, read_scales, read_cot, read_plain]
  exact congrArg (· * _) (congrFun (read_gates m c t) l)

theorem gate_point (t : Fin cfg0.N) (z : Mat 1 1024) (y : S1x1024.Idx) :
    k0_pay20 (F := Ideal) (iblk m c 1 t) (iblk m c 3 t) (iblk m c 6 t) (k0_pay3 (iblk m c 0 t) (iblk m c 1 t) (iblk m c 2 t)) (k0_pay5 (iblk m c 0 t) (iblk m c 1 t) (iblk m c 2 t))
        (k0_pay6 (iblk m c 0 t) (iblk m c 1 t) (iblk m c 2 t)) (k0_pay11 (iblk m c 5 t) (iblk m c 7 t)) z y
      = z y + part (gateShare m c) t y := by
  obtain ⟨l, rfl⟩ : ∃ l, y = ix2 0 l := ⟨y 1, by idx_ext⟩
  refine (gate_at _ _ _ _ _ _ _ _ l).trans (congrArg (_ + ·) (Finset.sum_congr rfl fun r _ => ?_))
  rw [read_tok, read_gains, read_scales, read_cot, read_plain, read_given]
  rfl

theorem gain_point (t : Fin cfg0.N) (z : Mat 1 1024) (y : S1x1024.Idx) :
    k0_pay21 (F := Ideal) (k0_pay12 (iblk m c 0 t) (iblk m c 1 t) (iblk m c 2 t) (iblk m c 5 t) (iblk m c 7 t)) z y
      = z y + part (gainShare m c) t y := by
  obtain ⟨l, rfl⟩ : ∃ l, y = ix2 0 l := ⟨y 1, by idx_ext⟩
  refine (gain_at _ _ _ _ _ _ l).trans (congrArg (_ + ·) (Finset.sum_congr rfl fun r _ => ?_))
  rw [read_tok, read_scales, read_cot]
  rfl

theorem shift_point (t : Fin cfg0.N) (z : Mat 1 1024) (y : S1x1024.Idx) :
    k0_pay1 (F := Ideal) (k0_pay9 (iblk m c 7 t)) z y = z y + part (shiftShare m c) t y := by
  obtain ⟨l, rfl⟩ : ∃ l, y = ix2 0 l := ⟨y 1, by idx_ext⟩
  refine (shift_at _ _ l).trans (congrArg (_ + ·) (Finset.sum_congr rfl fun r _ => ?_))
  exact congrFun (read_cot m c t r) l

theorem scale_point (t : Fin cfg0.N) (z : Mat 1 1024) (y : S1x1024.Idx) :
    k0_pay2 (F := Ideal) (k0_pay10 (iblk m c 0 t) (iblk m c 1 t) (iblk m c 2 t) (iblk m c 3 t) (iblk m c 7 t)) z y
      = z y + part (scaleShare m c) t y := by
  obtain ⟨l, rfl⟩ : ∃ l, y = ix2 0 l := ⟨y 1, by idx_ext⟩
  refine (scale_at _ _ _ _ _ _ l).trans (congrArg (_ + ·) (Finset.sum_congr rfl fun r _ => ?_))
  rw [read_tok, read_gains, read_cot]
  rfl

/-- The first result is the cotangent of what came past the branch. -/
theorem final8 : (dats m 0 c).arrAt 8 cfg0.N = backs m c := by
  refine (dats m 0 c).arrAt_eq_of_covers 8 _ (by decide +kernel) fun t hf y => ?_
  have h := (idx t).2.2.2.2.2.2.2.1
  have hy : (win0_8.blk t).view.emb y = ix2 (token t (y 0)) (y 1) := by blk_ext [h]
  rw [after0_8]
  refine Eq.trans ?_ (congrArg (backs m c) hy).symm
  by_cases h0 : t.val % 16 = 0
  · rw [outsAt0_A m c t h0]
    frame_out
    exact back_point m c t y
  · rw [outsAt0_B m c t h0]
    frame_out
    exact back_point m c t y

/-- The second result is the cotangent of what the branch gave. -/
theorem final9 : (dats m 0 c).arrAt 9 cfg0.N = branches m c := by
  refine (dats m 0 c).arrAt_eq_of_covers 9 _ (by decide +kernel) fun t hf y => ?_
  have h := (idx t).2.2.2.2.2.2.2.2.1
  have hy : (win0_9.blk t).view.emb y = ix2 (token t (y 0)) (y 1) := by blk_ext [h]
  rw [after0_9]
  refine Eq.trans ?_ (congrArg (branches m c) hy).symm
  by_cases h0 : t.val % 16 = 0
  · rw [outsAt0_A m c t h0]
    frame_out
    exact branch_point m c t y
  · rw [outsAt0_B m c t h0]
    frame_out
    exact branch_point m c t y

theorem start10 (t : Fin cfg0.N) (h : t.val % 16 = 0) (y : S1x1024.Idx) :
    (outsAt0 m c t.val t.isLt).2.2.1 y = 0 + part (gateShare m c) t y := by
  rw [outsAt0_A m c t h]
  frame_out
  refine (gate_point m c t _ y).trans (congrArg (· + _) ?_)
  pointwise [k0_pay16]

theorem step10 (t : Fin cfg0.N) (h : ¬t.val % 16 = 0) (y : S1x1024.Idx) :
    (outsAt0 m c t.val t.isLt).2.2.1 y
      = (outsAt0 m c (t.val - 1) (Nat.lt_of_le_of_lt (Nat.sub_le _ _) t.isLt)).2.2.1 y + part (gateShare m c) t y := by
  rw [outsAt0_B m c t h]
  frame_out
  exact gate_point m c t _ y

theorem start11 (t : Fin cfg0.N) (h : t.val % 16 = 0) (y : S1x1024.Idx) :
    (outsAt0 m c t.val t.isLt).2.2.2.1 y = 0 + part (gainShare m c) t y := by
  rw [outsAt0_A m c t h]
  frame_out
  refine (gain_point m c t _ y).trans (congrArg (· + _) ?_)
  pointwise [k0_pay17]

theorem step11 (t : Fin cfg0.N) (h : ¬t.val % 16 = 0) (y : S1x1024.Idx) :
    (outsAt0 m c t.val t.isLt).2.2.2.1 y
      = (outsAt0 m c (t.val - 1) (Nat.lt_of_le_of_lt (Nat.sub_le _ _) t.isLt)).2.2.2.1 y + part (gainShare m c) t y := by
  rw [outsAt0_B m c t h]
  frame_out
  exact gain_point m c t _ y

theorem start12 (t : Fin cfg0.N) (h : t.val % 16 = 0) (y : S1x1024.Idx) :
    (outsAt0 m c t.val t.isLt).2.2.2.2.1 y = 0 + part (shiftShare m c) t y := by
  rw [outsAt0_A m c t h]
  frame_out
  refine (shift_point m c t _ y).trans (congrArg (· + _) ?_)
  pointwise [k0_pay18]

theorem step12 (t : Fin cfg0.N) (h : ¬t.val % 16 = 0) (y : S1x1024.Idx) :
    (outsAt0 m c t.val t.isLt).2.2.2.2.1 y
      = (outsAt0 m c (t.val - 1) (Nat.lt_of_le_of_lt (Nat.sub_le _ _) t.isLt)).2.2.2.2.1 y + part (shiftShare m c) t y := by
  rw [outsAt0_B m c t h]
  frame_out
  exact shift_point m c t _ y

theorem start13 (t : Fin cfg0.N) (h : t.val % 16 = 0) (y : S1x1024.Idx) :
    (outsAt0 m c t.val t.isLt).2.2.2.2.2 y = 0 + part (scaleShare m c) t y := by
  rw [outsAt0_A m c t h]
  frame_out
  refine (scale_point m c t _ y).trans (congrArg (· + _) ?_)
  pointwise [k0_pay19]

theorem step13 (t : Fin cfg0.N) (h : ¬t.val % 16 = 0) (y : S1x1024.Idx) :
    (outsAt0 m c t.val t.isLt).2.2.2.2.2 y
      = (outsAt0 m c (t.val - 1) (Nat.lt_of_le_of_lt (Nat.sub_le _ _) t.isLt)).2.2.2.2.2 y + part (scaleShare m c) t y := by
  rw [outsAt0_B m c t h]
  frame_out
  exact scale_point m c t _ y

/-- All points together add over all tokens. -/
theorem run_tokens (f : Fin 8192 → Row) (t : Fin cfg0.N) (ht : t.val % 16 = 16 - 1) (y : S1x1024.Idx) :
    ∑ s : Fin 16, part f ⟨16 * (t.val / 16) + s.val, Pipeline.run_point_lt_of_flush t ht s⟩ y = ∑ n : Fin 8192, f n (y 1) :=
  gather (fun n => f n (y 1)) (t.val / 16) (by have := t.isLt; have h : cfg0.N = 16 := rfl; omega) _ fun _ _ => rfl

/-- The third result is the gradient of the gate. -/
theorem final10 : (dats m 0 c).arrAt 10 cfg0.N = summed (gateShare m c) := by
  refine (dats m 0 c).arrAt_eq_of_covers 10 _ (by decide +kernel) fun t hf y => ?_
  have ht := (flush0_10 t).mp hf
  have h := (idx t).2.2.2.2.2.2.2.2.2.1
  have hy : (win0_10.blk t).view.emb y = y := by blk_ext [h]
  rw [after0_10]
  refine Eq.trans ?_ (congrArg (summed (gateShare m c)) hy).symm
  exact (Pipeline.eq_sum_fin_of_reset_step_apply_of_flush (fun n h => (outsAt0 m c n h).2.2.1) 16 (fun _ => 0)
    (part (gateShare m c)) (start10 m c) (step10 m c) t ht y).trans ((zero_add _).trans (run_tokens _ t ht y))

/-- The fourth result is the gradient of the gain. -/
theorem final11 : (dats m 0 c).arrAt 11 cfg0.N = summed (gainShare m c) := by
  refine (dats m 0 c).arrAt_eq_of_covers 11 _ (by decide +kernel) fun t hf y => ?_
  have ht := (flush0_11 t).mp hf
  have h := (idx t).2.2.2.2.2.2.2.2.2.2.1
  have hy : (win0_11.blk t).view.emb y = y := by blk_ext [h]
  rw [after0_11]
  refine Eq.trans ?_ (congrArg (summed (gainShare m c)) hy).symm
  exact (Pipeline.eq_sum_fin_of_reset_step_apply_of_flush (fun n h => (outsAt0 m c n h).2.2.2.1) 16 (fun _ => 0)
    (part (gainShare m c)) (start11 m c) (step11 m c) t ht y).trans ((zero_add _).trans (run_tokens _ t ht y))

/-- The fifth result is the gradient of the modulation's shift. -/
theorem final12 : (dats m 0 c).arrAt 12 cfg0.N = summed (shiftShare m c) := by
  refine (dats m 0 c).arrAt_eq_of_covers 12 _ (by decide +kernel) fun t hf y => ?_
  have ht := (flush0_12 t).mp hf
  have h := (idx t).2.2.2.2.2.2.2.2.2.2.2.1
  have hy : (win0_12.blk t).view.emb y = y := by blk_ext [h]
  rw [after0_12]
  refine Eq.trans ?_ (congrArg (summed (shiftShare m c)) hy).symm
  exact (Pipeline.eq_sum_fin_of_reset_step_apply_of_flush (fun n h => (outsAt0 m c n h).2.2.2.2.1) 16 (fun _ => 0)
    (part (shiftShare m c)) (start12 m c) (step12 m c) t ht y).trans ((zero_add _).trans (run_tokens _ t ht y))

/-- The sixth result is the gradient of the modulation's scale. -/
theorem final13 : (dats m 0 c).arrAt 13 cfg0.N = summed (scaleShare m c) := by
  refine (dats m 0 c).arrAt_eq_of_covers 13 _ (by decide +kernel) fun t hf y => ?_
  have ht := (flush0_13 t).mp hf
  have h := (idx t).2.2.2.2.2.2.2.2.2.2.2.2
  have hy : (win0_13.blk t).view.emb y = y := by blk_ext [h]
  rw [after0_13]
  refine Eq.trans ?_ (congrArg (summed (scaleShare m c)) hy).symm
  exact (Pipeline.eq_sum_fin_of_reset_step_apply_of_flush (fun n h => (outsAt0 m c n h).2.2.2.2.2) 16 (fun _ => 0)
    (part (scaleShare m c)) (start13 m c) (step13 m c) t ht y).trans ((zero_add _).trans (run_tokens _ t ht y))

section reference

open Cert.Reference28Ideal.Read

variable (x b d e : Mat 8192 1024) (a g s : Mat 1 1024) (n : Fin 8192) (l : Fin 1024)

theorem ref_joined : val_main_v2 (F := Ideal) x b a (ix2 n l) = tok x b a n l := by
  pointwise [val_main_v2, val_main_v1, val_main_v0]
  rfl

theorem ref_energy : val_main_v9 (F := Ideal) x b a (ix2 n 0) = energy (tok x b a n) := by
  pointwise [val_main_v9, val_main_v8, val_main_cst_1, val_main_v7, val_main_v6, val_main_cst_0, val_main_v5, val_main_v4,
    val_main_cst, val_main_v3]
  simp only [ref_joined]
  rfl

theorem ref_factor : val_main_v10 (F := Ideal) x b a (ix2 n 0) = factor (tok x b a n) := by
  pointwise [val_main_v10]
  exact congrArg Ideal.rsqrt (ref_energy x b a n)

theorem ref_bend (z : Fin 1) : val_main_v13 (F := Ideal) x b a (ix2 n z) = bend (tok x b a n) := by
  obtain rfl : z = 0 := Subsingleton.elim _ _
  pointwise [val_main_v13, val_main_v12, val_main_cst_2, val_main_v11]
  exact congrArg₂ (fun a b => Ideal.ofBits .f32 0xBF000000#32 * Ideal.div a b) (ref_factor x b a n) (ref_energy x b a n)

theorem ref_scaled : val_main_v15 (F := Ideal) x b a (ix2 n l) = scaled (tok x b a n) l := by
  pointwise [val_main_v15, val_main_v14]
  exact congrArg₂ (· * ·) (ref_joined x b a n l) (ref_factor x b a n)

theorem ref_shiftless : val_main_v31 (F := Ideal) s d (ix2 n l) = shiftless (rowOf s 0) (rowOf d n) l := by
  pointwise [val_main_v31, val_main_v30, val_main_v24, val_main_v19, val_main_v18, val_main_cst_3]
  rfl

theorem ref_inner : val_main_v36 (F := Ideal) g s d (ix2 n l) = inner (rowOf g 0) (rowOf s 0) (rowOf d n) l := by
  pointwise [val_main_v36, val_main_v35]
  exact congrArg (· * g (ix2 0 l)) (ref_shiftless d s n l)

theorem ref_back : val_main_v51 (F := Ideal) x b a g s e d (ix2 n l)
    = back (tok x b a n) (rowOf g 0) (rowOf s 0) (rowOf d n) (rowOf e n) l := by
  pointwise [val_main_v51, val_main_v50, val_main_v49, val_main_v48, val_main_v47, val_main_v46, val_main_cst_9, val_main_v45,
    val_main_v44, val_main_cst_8, val_main_v43, val_main_v42, val_main_v41, val_main_v40, val_main_v39, val_main_v38,
    val_main_cst_7, val_main_v37]
  simp only [ref_joined, ref_inner, ref_factor, ref_bend]
  rfl

theorem ref_copy : val_main_v52 (F := Ideal) x b a g s e d (ix2 n l)
    = back (tok x b a n) (rowOf g 0) (rowOf s 0) (rowOf d n) (rowOf e n) l := by
  pointwise [val_main_v52]
  exact ref_back x b d e a g s n l

theorem ref_branch : val_main_v58 (F := Ideal) x b a g s e d (ix2 n l)
    = a (ix2 0 l) * back (tok x b a n) (rowOf g 0) (rowOf s 0) (rowOf d n) (rowOf e n) l := by
  pointwise [val_main_v58, val_main_v54, val_main_v53]
  simp only [ref_copy]

theorem ref_gate : val_main_v57 (F := Ideal) x b a g s e d (ix2 0 l)
    = ∑ n : Fin 8192, gated (tok x b a n) (rowOf g 0) (rowOf s 0) (rowOf d n) (rowOf e n) (rowOf b n) l := by
  pointwise [val_main_v57, val_main_v56, val_main_cst_10, val_main_v55]
  simp only [ref_copy]
  rfl

theorem ref_gain : val_main_v34 (F := Ideal) x b a s d (ix2 0 l)
    = ∑ n : Fin 8192, gain (tok x b a n) (rowOf s 0) (rowOf d n) l := by
  pointwise [val_main_v34, val_main_v33, val_main_cst_6, val_main_v32]
  simp only [ref_scaled, ref_shiftless]
  rfl

theorem ref_shift : val_main_v26 (F := Ideal) d (ix2 0 l) = ∑ n : Fin 8192, d (ix2 n l) := by
  pointwise [val_main_v26, val_main_v25, val_main_cst_4, val_main_v24]

theorem ref_scale : val_main_v29 (F := Ideal) x b a g d (ix2 0 l)
    = ∑ n : Fin 8192, scale (tok x b a n) (rowOf g 0) (rowOf d n) l := by
  pointwise [val_main_v29, val_main_v28, val_main_cst_5, val_main_v27, val_main_v17, val_main_v16, val_main_v24]
  simp only [ref_scaled]
  rfl

end reference

/-- Kernel and reference leave the same six results. -/
theorem agree : Cert.algebraic_Kernel28Ideal_Reference28Ideal := by
  intro m g m' g' _ hagree
  refine ⟨_, _, _, _, _, _, Cert.Kernel28Ideal.Value.run_blocks m g, ?_⟩
  refine (θ_run Cert.Reference28Ideal.defs _ _).mono (fun r h c => ?_) (Cert.Reference28Ideal.Value.run (F := Ideal) m' g')
  obtain ⟨h0, h1, h2, h3, h4, h5, hargs⟩ := h c
  obtain ⟨a0, a1, a2, a3, a4, a5, a6, a7⟩ := hagree c
  refine ⟨h0.trans ?_, h1.trans ?_, h2.trans ?_, h3.trans ?_, h4.trans ?_, h5.trans ?_, hargs⟩
  · refine (Cert.Reference28Ideal.Read.val_main_v51_eq (F := Ideal) m' c).trans ?_
    rw [a0, a1, a2, a3, a5, a6, a7]
    refine Eq.trans (funext fun i => ?_) (final8 m c).symm
    have hi : i = ix2 (i 0) (i 1) := by idx_ext
    exact (congrArg _ hi).trans (ref_back _ _ _ _ _ _ _ (i 0) (i 1))
  · refine (Cert.Reference28Ideal.Read.val_main_v58_eq (F := Ideal) m' c).trans ?_
    rw [a0, a1, a2, a3, a5, a6, a7]
    refine Eq.trans (funext fun i => ?_) (final9 m c).symm
    have hi : i = ix2 (i 0) (i 1) := by idx_ext
    exact (congrArg _ hi).trans (ref_branch _ _ _ _ _ _ _ (i 0) (i 1))
  · refine (Cert.Reference28Ideal.Read.val_main_v57_eq (F := Ideal) m' c).trans ?_
    rw [a0, a1, a2, a3, a5, a6, a7]
    refine Eq.trans (funext fun i => ?_) (final10 m c).symm
    have hi : i = ix2 0 (i 1) := by idx_ext
    exact (congrArg _ hi).trans (ref_gate _ _ _ _ _ _ _ (i 1))
  · refine (Cert.Reference28Ideal.Read.val_main_v34_eq (F := Ideal) _ _ _ _ _).trans ?_
    rw [a0, a1, a2, a5, a7]
    refine Eq.trans (funext fun i => ?_) (final11 m c).symm
    have hi : i = ix2 0 (i 1) := by idx_ext
    exact (congrArg _ hi).trans (ref_gain _ _ _ _ _ (i 1))
  · refine (Cert.Reference28Ideal.Read.val_main_v26_eq (F := Ideal) _).trans ?_
    rw [a7]
    refine Eq.trans (funext fun i => ?_) (final12 m c).symm
    have hi : i = ix2 0 (i 1) := by idx_ext
    exact (congrArg _ hi).trans (ref_shift _ (i 1))
  · refine (Cert.Reference28Ideal.Read.val_main_v29_eq (F := Ideal) _ _ _ _ _).trans ?_
    rw [a0, a1, a2, a3, a7]
    refine Eq.trans (funext fun i => ?_) (final13 m c).symm
    have hi : i = ix2 0 (i 1) := by idx_ext
    exact (congrArg _ hi).trans (ref_scale _ _ _ _ _ (i 1))

/-- The reference leaves its arguments and counters alone. -/
theorem kept : Cert.quiescent_Reference28Ideal := fun m ρ _ =>
  (θ_run Cert.Reference28Ideal.defs _ _).mono (fun r h => ⟨fun c => (h c).2.2.2.2.2.2, sem_eq_zero_of_no_sems (by decide) r.2⟩)
    (Cert.Reference28Ideal.Value.run (F := Ideal) m ρ)

end Cert.Rows.SecondBack

end
-- ==== Proof.Products.Blocks.lean ====
/-
  A block of rows of a product, and a product summed over blocks of its inner dimension.
-/
module

public import proofs.«01_k».proof.Proof.Products.Sums

@[expose] public section

noncomputable section

namespace Cert.Products

open Idealize.ShloMosaic

/-- Rows of the left operand make the same rows of `a b`. -/
theorem mul_block {p P k q : ℕ} (f : Fin p → Fin P) {a : Mat p k} {b : Mat k q} {A : Mat P k} {B : Mat k q}
    (ha : ∀ r n, a (ix2 r n) = A (ix2 (f r) n)) (hb : ∀ n s, b (ix2 n s) = B (ix2 n s)) (r : Fin p) (s : Fin q) :
    mul a b (ix2 r s) = mul A B (ix2 (f r) s) :=
  Finset.sum_congr rfl fun n _ => congrArg₂ (· * ·) (ha r n) (hb n s)

/-- Rows of the left operand make the same rows of `a bᵀ`. -/
theorem mulTransposed_block {p P k q : ℕ} (f : Fin p → Fin P) {a : Mat p k} {b : Mat q k} {A : Mat P k} {B : Mat q k}
    (ha : ∀ r n, a (ix2 r n) = A (ix2 (f r) n)) (hb : ∀ s n, b (ix2 s n) = B (ix2 s n)) (r : Fin p) (s : Fin q) :
    mulTransposed a b (ix2 r s) = mulTransposed A B (ix2 (f r) s) :=
  Finset.sum_congr rfl fun n _ => congrArg₂ (· * ·) (ha r n) (hb s n)

/-- The rows `f` of both operands, as a part of `aᵀ b`. -/
def transposedPart {k K p q : ℕ} (f : Fin k → Fin K) (A : Mat K p) (B : Mat K q) : Mat p q := fun i =>
  ∑ n : Fin k, A (ix2 (f n) (i 0)) * B (ix2 (f n) (i 1))

/-- The product of the rows `f` of two matrices is that part. -/
theorem transposedMul_block {k K p q : ℕ} (f : Fin k → Fin K) {a : Mat k p} {b : Mat k q} {A : Mat K p} {B : Mat K q}
    (ha : ∀ n r, a (ix2 n r) = A (ix2 (f n) r)) (hb : ∀ n s, b (ix2 n s) = B (ix2 (f n) s)) (r : Fin p) (s : Fin q) :
    transposedMul a b (ix2 r s) = transposedPart f A B (ix2 r s) :=
  Finset.sum_congr rfl fun n _ => congrArg₂ (· * ·) (ha n r) (hb n s)

/-- The derivative by the right operand has its factors the other way round. -/
theorem transposedMul_swapped {k p q : ℕ} (a : Mat k p) (b : Mat k q) (i : (⟨2, ![p, q]⟩ : Shape).Idx) :
    ∑ n : Fin k, b (ix2 n (i 1)) * a (ix2 n (i 0)) = transposedMul a b i :=
  Finset.sum_congr rfl fun _ _ => mul_comm _ _

end Cert.Products

end
-- ==== Proof.Products.OutProj.lean ====
/-
  The output projection, 2048 tokens at once.
-/
module

public import proofs.«01_k».proof.Defs
public import proofs.«01_k».proof.Proof.Gen.Kernel29Ideal.Value
public import proofs.«01_k».proof.Proof.Gen.Reference29Ideal.Run
public import proofs.«01_k».proof.Proof.Gen.Reference29Ideal.Read
public import proofs.«01_k».proof.Proof.Products.Blocks

@[expose] public section

set_option maxRecDepth 16384

noncomputable section

namespace Cert.Products.OutProj

open Cert.Kernel29Ideal Cert.Kernel29Ideal.Gen
open Idealize.ShloMosaic Idealize.ShloMosaic.TcCoe Idealize.SL.Sem
open Idealize.ShloMosaic.Pipeline (Dat)

theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

/-- The mixed branches. -/
def left : Mat 8192 1024 := m (c.tc.loc main_arg0)

/-- The weights. -/
def right : Mat 1024 1024 := m (c.tc.loc main_arg1)

/-- The token at place `k` of a point's block. -/
abbrev token (t : Fin cfg0.N) (k : Fin 2048) : Fin 8192 :=
  ⟨t.val * 2048 + k.val, by have := t.isLt; have h : cfg0.N = 4 := rfl; omega⟩

theorem read_left (t : Fin cfg0.N) (r : Fin 2048) (k : Fin 1024) :
    (iblk m c 0 t : Mat 2048 1024) (ix2 r k) = left m c (ix2 (token t r) k) := by
  have h := (idx t).1
  show V m c main_arg0 ((win0_0.blk t).view.emb (ix2 r k)) = _
  rw [V_main_arg0]
  refine congrArg (left m c) ?_
  blk_ext [h]

theorem read_right (t : Fin cfg0.N) (k : Fin 1024) (s : Fin 1024) :
    (iblk m c 1 t : Mat 1024 1024) (ix2 k s) = right m c (ix2 k s) := by
  have h := (idx t).2.1
  show V m c main_arg1 ((win0_1.blk t).view.emb (ix2 k s)) = _
  rw [V_main_arg1]
  refine congrArg (right m c) ?_
  blk_ext [h]

/-- What a point stores is the product of its blocks. -/
theorem stored (a : Mat 2048 1024) (b : Mat 1024 1024) (y : S2048x1024.Idx) :
    k0_pay1 (F := Ideal) a b y = mul a b (ix2 (y 0) (y 1)) := by
  pointwise [k0_pay1]
  rfl

/-- The result is the product. -/
theorem final : (dats m 0 c).arrAt 2 cfg0.N = mul (left m c) (right m c) := by
  refine (dats m 0 c).arrAt_eq_of_covers 2 _ (by decide +kernel) fun t hf y => ?_
  have h2 := (idx t).2.2
  have hy : (win0_2.blk t).view.emb y = ix2 (token t (y 0)) (y 1) := by blk_ext [h2]
  rw [after0_2]
  refine Eq.trans ?_ (congrArg (mul (left m c) (right m c)) hy).symm
  frame_out
  exact (stored (iblk m c 0 t) (iblk m c 1 t) y).trans
    (mul_block (token t) (read_left m c t) (read_right m c t) (y 0) (y 1))

/-- The reference's product is the same sum. -/
theorem product (a : Mat 8192 1024) (b : Mat 1024 1024) :
    Cert.Reference29Ideal.Read.val_main_v2 (F := Ideal) a b = mul a b := by
  funext i
  pointwise [Cert.Reference29Ideal.Read.val_main_v2, Cert.Reference29Ideal.Read.val_main_v1, Cert.Reference29Ideal.Read.val_main_v0]
  rfl

/-- Kernel and reference leave the same result. -/
theorem agree : Cert.algebraic_Kernel29Ideal_Reference29Ideal := by
  intro m g m' g' _ hagree
  refine ⟨_, Cert.Kernel29Ideal.Value.run_blocks m g, ?_⟩
  refine (θ_run Cert.Reference29Ideal.defs _ _).mono (fun r h c => ?_) (Cert.Reference29Ideal.Value.run (F := Ideal) m' g')
  obtain ⟨h0, hargs⟩ := h c
  obtain ⟨a0, a1⟩ := hagree c
  refine ⟨h0.trans ?_, hargs⟩
  refine (Cert.Reference29Ideal.Read.val_main_v2_eq (F := Ideal) _ _).trans ?_
  rw [a0, a1]
  exact (product _ _).trans (final m c).symm

/-- The reference leaves its arguments and counters alone. -/
theorem kept : Cert.quiescent_Reference29Ideal := fun m ρ _ =>
  (θ_run Cert.Reference29Ideal.defs _ _).mono (fun r h => ⟨fun c => (h c).2, sem_eq_zero_of_no_sems (by decide) r.2⟩)
    (Cert.Reference29Ideal.Value.run (F := Ideal) m ρ)

end Cert.Products.OutProj

end
-- ==== Proof.Products.OutProjDx.lean ====
/-
  The gradient of the mixed branches through the output projection, 2048 tokens at once.
-/
module

public import proofs.«01_k».proof.Defs
public import proofs.«01_k».proof.Proof.Gen.Kernel30Ideal.Value
public import proofs.«01_k».proof.Proof.Gen.Reference30Ideal.Run
public import proofs.«01_k».proof.Proof.Gen.Reference30Ideal.Read
public import proofs.«01_k».proof.Proof.Products.Blocks

@[expose] public section

set_option maxRecDepth 16384

noncomputable section

namespace Cert.Products.OutProjDx

open Cert.Kernel30Ideal Cert.Kernel30Ideal.Gen
open Idealize.ShloMosaic Idealize.ShloMosaic.TcCoe Idealize.SL.Sem
open Idealize.ShloMosaic.Pipeline (Dat)

theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

/-- The cotangent. -/
def left : Mat 8192 1024 := m (c.tc.loc main_arg2)

/-- The weights. -/
def right : Mat 1024 1024 := m (c.tc.loc main_arg1)

/-- The token at place `k` of a point's block. -/
abbrev token (t : Fin cfg0.N) (k : Fin 2048) : Fin 8192 :=
  ⟨t.val * 2048 + k.val, by have := t.isLt; have h : cfg0.N = 4 := rfl; omega⟩

theorem read_left (t : Fin cfg0.N) (r : Fin 2048) (k : Fin 1024) :
    (iblk m c 0 t : Mat 2048 1024) (ix2 r k) = left m c (ix2 (token t r) k) := by
  have h := (idx t).1
  show V m c main_arg2 ((win0_0.blk t).view.emb (ix2 r k)) = _
  rw [V_main_arg2]
  refine congrArg (left m c) ?_
  blk_ext [h]

theorem read_right (t : Fin cfg0.N) (s : Fin 1024) (k : Fin 1024) :
    (iblk m c 1 t : Mat 1024 1024) (ix2 s k) = right m c (ix2 s k) := by
  have h := (idx t).2.1
  show V m c main_arg1 ((win0_1.blk t).view.emb (ix2 s k)) = _
  rw [V_main_arg1]
  refine congrArg (right m c) ?_
  blk_ext [h]

/-- What a point stores is the product of its blocks. -/
theorem stored (a : Mat 2048 1024) (b : Mat 1024 1024) (y : S2048x1024.Idx) :
    k0_pay1 (F := Ideal) a b y = mulTransposed a b (ix2 (y 0) (y 1)) := by
  pointwise [k0_pay1]
  rfl

/-- The result is the product. -/
theorem final : (dats m 0 c).arrAt 2 cfg0.N = mulTransposed (left m c) (right m c) := by
  refine (dats m 0 c).arrAt_eq_of_covers 2 _ (by decide +kernel) fun t hf y => ?_
  have h2 := (idx t).2.2
  have hy : (win0_2.blk t).view.emb y = ix2 (token t (y 0)) (y 1) := by blk_ext [h2]
  rw [after0_2]
  refine Eq.trans ?_ (congrArg (mulTransposed (left m c) (right m c)) hy).symm
  frame_out
  exact (stored (iblk m c 0 t) (iblk m c 1 t) y).trans
    (mulTransposed_block (token t) (read_left m c t) (read_right m c t) (y 0) (y 1))

/-- The derivative of the product by its input is the same sum. -/
theorem derivative (b : Mat 1024 1024) (a : Mat 8192 1024) :
    Cert.Reference30Ideal.Read.val_main_v7 (F := Ideal) b a = mulTransposed a b := by
  funext i
  pointwise [Cert.Reference30Ideal.Read.val_main_v7, Cert.Reference30Ideal.Read.val_main_v6, Cert.Reference30Ideal.Read.val_main_v3,
    Cert.Reference30Ideal.Read.val_main_v1]
  rfl

/-- Kernel and reference leave the same result. -/
theorem agree : Cert.algebraic_Kernel30Ideal_Reference30Ideal := by
  intro m g m' g' _ hagree
  refine ⟨_, Cert.Kernel30Ideal.Value.run_blocks m g, ?_⟩
  refine (θ_run Cert.Reference30Ideal.defs _ _).mono (fun r h c => ?_) (Cert.Reference30Ideal.Value.run (F := Ideal) m' g')
  obtain ⟨h0, hargs⟩ := h c
  obtain ⟨a0, a1, a2⟩ := hagree c
  refine ⟨h0.trans ?_, hargs⟩
  refine (Cert.Reference30Ideal.Read.val_main_v7_eq (F := Ideal) _ _).trans ?_
  rw [a1, a2]
  exact (derivative _ _).trans (final m c).symm

/-- The reference leaves its arguments and counters alone. -/
theorem kept : Cert.quiescent_Reference30Ideal := fun m ρ _ =>
  (θ_run Cert.Reference30Ideal.defs _ _).mono (fun r h => ⟨fun c => (h c).2, sem_eq_zero_of_no_sems (by decide) r.2⟩)
    (Cert.Reference30Ideal.Value.run (F := Ideal) m ρ)

end Cert.Products.OutProjDx

end
-- ==== Proof.Products.OutProjDw.lean ====
/-
  The gradient of the output projection's weights, accumulated over four blocks of tokens.
-/
module

public import proofs.«01_k».proof.Defs
public import proofs.«01_k».proof.Proof.Gen.Kernel31Ideal.Value
public import proofs.«01_k».proof.Proof.Gen.Reference31Ideal.Run
public import proofs.«01_k».proof.Proof.Gen.Reference31Ideal.Read
public import proofs.«01_k».proof.Proof.Products.Blocks

@[expose] public section

set_option maxRecDepth 16384

noncomputable section

namespace Cert.Products.OutProjDw

open Cert.Kernel31Ideal Cert.Kernel31Ideal.Gen
open Idealize.ShloMosaic Idealize.ShloMosaic.TcCoe Idealize.SL.Sem
open Idealize.ShloMosaic.Pipeline (Dat)

theorem idx : ∀ t : Fin cfg0.N, win0_0.index t = ![t.val % 4, 0] ∧ win0_1.index t = ![t.val % 4, 0]
    ∧ win0_2.index t = ![0, 0] :=
  (by decide +kernel : ∀ t : Fin grid0.N, _)

variable (m : (ℓ : Loc nD τ sig) → Buf (Elt Ideal) ℓ) (c : Dev nD)

/-- The mixed branches. -/
def left : Mat 8192 1024 := m (c.tc.loc main_arg0)

/-- The cotangent. -/
def right : Mat 8192 1024 := m (c.tc.loc main_arg2)

/-- The token at place `k` of a point's block. -/
abbrev token (t : Fin cfg0.N) (k : Fin 2048) : Fin 8192 := ⟨t.val % 4 * 2048 + k.val, by omega⟩

/-- What a point adds. -/
def part (t : Fin cfg0.N) (y : S1024x1024.Idx) : EReal :=
  transposedPart (token t) (left m c) (right m c) (ix2 (y 0) (y 1))

theorem read_left (t : Fin cfg0.N) (k : Fin 2048) (r : Fin 1024) :
    (iblk m c 0 t : Mat 2048 1024) (ix2 k r) = left m c (ix2 (token t k) r) := by
  have h := (idx t).1
  show V m c main_arg0 ((win0_0.blk t).view.emb (ix2 k r)) = _
  rw [V_main_arg0]
  refine congrArg (left m c) ?_
  blk_ext [h]

theorem read_right (t : Fin cfg0.N) (k : Fin 2048) (s : Fin 1024) :
    (iblk m c 1 t : Mat 2048 1024) (ix2 k s) = right m c (ix2 (token t k) s) := by
  have h := (idx t).2.1
  show V m c main_arg2 ((win0_1.blk t).view.emb (ix2 k s)) = _
  rw [V_main_arg2]
  refine congrArg (right m c) ?_
  blk_ext [h]

/-- A point's product is that of its blocks. -/
theorem formed (a b : Mat 2048 1024) (y : S1024x1024.Idx) :
    k0_pay1 (F := Ideal) a b y = transposedMul a b (ix2 (y 0) (y 1)) := by
  pointwise [k0_pay1]
  rfl

theorem point (t : Fin cfg0.N) (y : S1024x1024.Idx) :
    k0_pay1 (F := Ideal) (iblk m c 0 t) (iblk m c 1 t) y = part m c t y :=
  (formed (iblk m c 0 t) (iblk m c 1 t) y).trans
    (transposedMul_block (token t) (read_left m c t) (read_right m c t) (y 0) (y 1))

theorem start (t : Fin cfg0.N) (h : t.val % 4 = 0) (y : S1024x1024.Idx) :
    (outsAt0 m c t.val t.isLt).2 y = 0 + part m c t y := by
  have hN : t.val < 4 := t.isLt
  rw [outsAt0_A m c t h (by omega) (by omega), zero_add]
  frame_out
  pointwise [k0_pay2]
  exact point m c t y

theorem step (t : Fin cfg0.N) (h : ¬t.val % 4 = 0) (y : S1024x1024.Idx) :
    (outsAt0 m c t.val t.isLt).2 y
      = (outsAt0 m c (t.val - 1) (Nat.lt_of_le_of_lt (Nat.sub_le _ _) t.isLt)).2 y + part m c t y := by
  by_cases h3 : t.val % 4 = 3
  · rw [outsAt0_C m c t h (by omega) h3]
    frame_out
    simp only [read_unread_whole]
    pointwise [k0_pay3]
    exact congrArg (_ + ·) (point m c t y)
  · rw [outsAt0_B m c t h (by omega) h3]
    frame_out
    simp only [read_unread_whole]
    pointwise [k0_pay3]
    exact congrArg (_ + ·) (point m c t y)

/-- The result is the product over all tokens. -/
theorem final : (dats m 0 c).arrAt 2 cfg0.N = transposedMul (left m c) (right m c) := by
  refine (dats m 0 c).arrAt_eq_of_covers 2 _ (by decide +kernel) fun t hf y => ?_
  have ht := (flush0_2 t).mp hf
  have h2 := (idx t).2.2
  have hy : (win0_2.blk t).view.emb y = ix2 (y 0) (y 1) := by blk_ext [h2]
  have key : (outsAt0 m c t.val t.isLt).1 y = (outsAt0 m c t.val t.isLt).2 y := by
    rw [outsAt0_C m c t (by omega) (by omega) ht]
    frame_out
    pointwise [k0_pay4]
  have h := Pipeline.eq_sum_fin_of_reset_step_apply_of_flush (fun n h => (outsAt0 m c n h).2) 4 (fun _ => 0)
    (part m c) (start m c) (step m c) t ht y
  rw [after0_2]
  refine key.trans (h.trans ((zero_add _).trans ?_))
  refine Eq.trans ?_ (congrArg (transposedMul (left m c) (right m c)) hy).symm
  refine Fin.sum_mul_add_congr fun s r hl => congrArg₂ (· * ·) (congrArg _ ?_) (congrArg _ ?_)
  · blk_ext []
  · blk_ext []

/-- The derivative of the product by its weights is the same sum. -/
theorem derivative (a b : Mat 8192 1024) :
    Cert.Reference31Ideal.Read.val_main_v7 (F := Ideal) a b = transposedMul a b := by
  funext i
  pointwise [Cert.Reference31Ideal.Read.val_main_v7, Cert.Reference31Ideal.Read.val_main_v5, Cert.Reference31Ideal.Read.val_main_v4,
    Cert.Reference31Ideal.Read.val_main_v3, Cert.Reference31Ideal.Read.val_main_v0]
  exact transposedMul_swapped a b i

/-- Kernel and reference leave the same result. -/
theorem agree : Cert.algebraic_Kernel31Ideal_Reference31Ideal := by
  intro m g m' g' _ hagree
  refine ⟨_, Cert.Kernel31Ideal.Value.run_blocks m g, ?_⟩
  refine (θ_run Cert.Reference31Ideal.defs _ _).mono (fun r h c => ?_) (Cert.Reference31Ideal.Value.run (F := Ideal) m' g')
  obtain ⟨h0, hargs⟩ := h c
  obtain ⟨a0, a1, a2⟩ := hagree c
  refine ⟨h0.trans ?_, hargs⟩
  refine (Cert.Reference31Ideal.Read.val_main_v7_eq (F := Ideal) _ _).trans ?_
  rw [a0, a2]
  exact (derivative _ _).trans (final m c).symm

/-- The reference leaves its arguments and counters alone. -/
theorem kept : Cert.quiescent_Reference31Ideal := fun m ρ _ =>
  (θ_run Cert.Reference31Ideal.defs _ _).mono (fun r h => ⟨fun c => (h c).2, sem_eq_zero_of_no_sems (by decide) r.2⟩)
    (Cert.Reference31Ideal.Value.run (F := Ideal) m ρ)

end Cert.Products.OutProjDw

end
-- ==== Proof.Products.ProjU.lean ====
/-
  The scan's part of the input projection, 2048 tokens at once.
-/
module

public import proofs.«01_k».proof.Defs
public import proofs.«01_k».proof.Proof.Gen.Kernel32Ideal.Value
public import proofs.«01_k».proof.Proof.Gen.Reference32Ideal.Run
public import proofs.«01_k».proof.Proof.Gen.Reference32Ideal.Read
public import proofs.«01_k».proof.Proof.Products.Blocks

@[expose] public section

set_option maxRecDepth 16384

noncomputable section

namespace Cert.Products.ProjU

open Cert.Kernel32Ideal Cert.Kernel32Ideal.Gen
open Idealize.ShloMosaic Idealize.ShloMosaic.TcCoe Idealize.SL.Sem
open Idealize.ShloMosaic.Pipeline (Dat)

theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

/-- The normed input. -/
def left : Mat 8192 1024 := m (c.tc.loc main_arg0)

/-- The weights. -/
def right : Mat 1024 512 := m (c.tc.loc main_arg1)

/-- The token at place `k` of a point's block. -/
abbrev token (t : Fin cfg0.N) (k : Fin 2048) : Fin 8192 :=
  ⟨t.val * 2048 + k.val, by have := t.isLt; have h : cfg0.N = 4 := rfl; omega⟩

theorem read_left (t : Fin cfg0.N) (r : Fin 2048) (k : Fin 1024) :
    (iblk m c 0 t : Mat 2048 1024) (ix2 r k) = left m c (ix2 (token t r) k) := by
  have h := (idx t).1
  show V m c main_arg0 ((win0_0.blk t).view.emb (ix2 r k)) = _
  rw [V_main_arg0]
  refine congrArg (left m c) ?_
  blk_ext [h]

theorem read_right (t : Fin cfg0.N) (k : Fin 1024) (s : Fin 512) :
    (iblk m c 1 t : Mat 1024 512) (ix2 k s) = right m c (ix2 k s) := by
  have h := (idx t).2.1
  show V m c main_arg1 ((win0_1.blk t).view.emb (ix2 k s)) = _
  rw [V_main_arg1]
  refine congrArg (right m c) ?_
  blk_ext [h]

/-- What a point stores is the product of its blocks. -/
theorem stored (a : Mat 2048 1024) (b : Mat 1024 512) (y : S2048x512.Idx) :
    k0_pay1 (F := Ideal) a b y = mul a b (ix2 (y 0) (y 1)) := by
  pointwise [k0_pay1]
  rfl

/-- The result is the product. -/
theorem final : (dats m 0 c).arrAt 2 cfg0.N = mul (left m c) (right m c) := by
  refine (dats m 0 c).arrAt_eq_of_covers 2 _ (by decide +kernel) fun t hf y => ?_
  have h2 := (idx t).2.2
  have hy : (win0_2.blk t).view.emb y = ix2 (token t (y 0)) (y 1) := by blk_ext [h2]
  rw [after0_2]
  refine Eq.trans ?_ (congrArg (mul (left m c) (right m c)) hy).symm
  frame_out
  exact (stored (iblk m c 0 t) (iblk m c 1 t) y).trans
    (mul_block (token t) (read_left m c t) (read_right m c t) (y 0) (y 1))

/-- The reference's product is the same sum. -/
theorem product (a : Mat 8192 1024) (b : Mat 1024 512) :
    Cert.Reference32Ideal.Read.val_main_v2 (F := Ideal) a b = mul a b := by
  funext i
  pointwise [Cert.Reference32Ideal.Read.val_main_v2, Cert.Reference32Ideal.Read.val_main_v1, Cert.Reference32Ideal.Read.val_main_v0]
  rfl

/-- Kernel and reference leave the same result. -/
theorem agree : Cert.algebraic_Kernel32Ideal_Reference32Ideal := by
  intro m g m' g' _ hagree
  refine ⟨_, Cert.Kernel32Ideal.Value.run_blocks m g, ?_⟩
  refine (θ_run Cert.Reference32Ideal.defs _ _).mono (fun r h c => ?_) (Cert.Reference32Ideal.Value.run (F := Ideal) m' g')
  obtain ⟨h0, hargs⟩ := h c
  obtain ⟨a0, a1⟩ := hagree c
  refine ⟨h0.trans ?_, hargs⟩
  refine (Cert.Reference32Ideal.Read.val_main_v2_eq (F := Ideal) _ _).trans ?_
  rw [a0, a1]
  exact (product _ _).trans (final m c).symm

/-- The reference leaves its arguments and counters alone. -/
theorem kept : Cert.quiescent_Reference32Ideal := fun m ρ _ =>
  (θ_run Cert.Reference32Ideal.defs _ _).mono (fun r h => ⟨fun c => (h c).2, sem_eq_zero_of_no_sems (by decide) r.2⟩)
    (Cert.Reference32Ideal.Value.run (F := Ideal) m ρ)

end Cert.Products.ProjU

end
-- ==== Proof.Products.ProjUDx.lean ====
/-
  The gradient of the normed input through the scan's part of the input projection, 2048 tokens at once.
-/
module

public import proofs.«01_k».proof.Defs
public import proofs.«01_k».proof.Proof.Gen.Kernel33Ideal.Value
public import proofs.«01_k».proof.Proof.Gen.Reference33Ideal.Run
public import proofs.«01_k».proof.Proof.Gen.Reference33Ideal.Read
public import proofs.«01_k».proof.Proof.Products.Blocks

@[expose] public section

set_option maxRecDepth 16384

noncomputable section

namespace Cert.Products.ProjUDx

open Cert.Kernel33Ideal Cert.Kernel33Ideal.Gen
open Idealize.ShloMosaic Idealize.ShloMosaic.TcCoe Idealize.SL.Sem
open Idealize.ShloMosaic.Pipeline (Dat)

theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

/-- The cotangent. -/
def left : Mat 8192 512 := m (c.tc.loc main_arg2)

/-- The weights. -/
def right : Mat 1024 512 := m (c.tc.loc main_arg1)

/-- The token at place `k` of a point's block. -/
abbrev token (t : Fin cfg0.N) (k : Fin 2048) : Fin 8192 :=
  ⟨t.val * 2048 + k.val, by have := t.isLt; have h : cfg0.N = 4 := rfl; omega⟩

theorem read_left (t : Fin cfg0.N) (r : Fin 2048) (k : Fin 512) :
    (iblk m c 0 t : Mat 2048 512) (ix2 r k) = left m c (ix2 (token t r) k) := by
  have h := (idx t).1
  show V m c main_arg2 ((win0_0.blk t).view.emb (ix2 r k)) = _
  rw [V_main_arg2]
  refine congrArg (left m c) ?_
  blk_ext [h]

theorem read_right (t : Fin cfg0.N) (s : Fin 1024) (k : Fin 512) :
    (iblk m c 1 t : Mat 1024 512) (ix2 s k) = right m c (ix2 s k) := by
  have h := (idx t).2.1
  show V m c main_arg1 ((win0_1.blk t).view.emb (ix2 s k)) = _
  rw [V_main_arg1]
  refine congrArg (right m c) ?_
  blk_ext [h]

/-- What a point stores is the product of its blocks. -/
theorem stored (a : Mat 2048 512) (b : Mat 1024 512) (y : S2048x1024.Idx) :
    k0_pay1 (F := Ideal) a b y = mulTransposed a b (ix2 (y 0) (y 1)) := by
  pointwise [k0_pay1]
  rfl

/-- The result is the product. -/
theorem final : (dats m 0 c).arrAt 2 cfg0.N = mulTransposed (left m c) (right m c) := by
  refine (dats m 0 c).arrAt_eq_of_covers 2 _ (by decide +kernel) fun t hf y => ?_
  have h2 := (idx t).2.2
  have hy : (win0_2.blk t).view.emb y = ix2 (token t (y 0)) (y 1) := by blk_ext [h2]
  rw [after0_2]
  refine Eq.trans ?_ (congrArg (mulTransposed (left m c) (right m c)) hy).symm
  frame_out
  exact (stored (iblk m c 0 t) (iblk m c 1 t) y).trans
    (mulTransposed_block (token t) (read_left m c t) (read_right m c t) (y 0) (y 1))

/-- The derivative of the product by its input is the same sum. -/
theorem derivative (b : Mat 1024 512) (a : Mat 8192 512) :
    Cert.Reference33Ideal.Read.val_main_v6 (F := Ideal) b a = mulTransposed a b := by
  funext i
  pointwise [Cert.Reference33Ideal.Read.val_main_v6, Cert.Reference33Ideal.Read.val_main_v3, Cert.Reference33Ideal.Read.val_main_v1]
  rfl

/-- Kernel and reference leave the same result. -/
theorem agree : Cert.algebraic_Kernel33Ideal_Reference33Ideal := by
  intro m g m' g' _ hagree
  refine ⟨_, Cert.Kernel33Ideal.Value.run_blocks m g, ?_⟩
  refine (θ_run Cert.Reference33Ideal.defs _ _).mono (fun r h c => ?_) (Cert.Reference33Ideal.Value.run (F := Ideal) m' g')
  obtain ⟨h0, hargs⟩ := h c
  obtain ⟨a0, a1, a2⟩ := hagree c
  refine ⟨h0.trans ?_, hargs⟩
  refine (Cert.Reference33Ideal.Read.val_main_v6_eq (F := Ideal) _ _).trans ?_
  rw [a1, a2]
  exact (derivative _ _).trans (final m c).symm

/-- The reference leaves its arguments and counters alone. -/
theorem kept : Cert.quiescent_Reference33Ideal := fun m ρ _ =>
  (θ_run Cert.Reference33Ideal.defs _ _).mono (fun r h => ⟨fun c => (h c).2, sem_eq_zero_of_no_sems (by decide) r.2⟩)
    (Cert.Reference33Ideal.Value.run (F := Ideal) m ρ)

end Cert.Products.ProjUDx

end
-- ==== Proof.Products.ProjUDw.lean ====
/-
  The gradient of the scan's part of the input projection, accumulated over four blocks of tokens and added to the context's.
-/
module

public import proofs.«01_k».proof.Defs
public import proofs.«01_k».proof.Proof.Gen.Kernel34Ideal.Value
public import proofs.«01_k».proof.Proof.Gen.Reference34Ideal.Run
public import proofs.«01_k».proof.Proof.Gen.Reference34Ideal.Read
public import proofs.«01_k».proof.Proof.Products.Blocks

@[expose] public section

set_option maxRecDepth 16384

noncomputable section

namespace Cert.Products.ProjUDw

open Cert.Kernel34Ideal Cert.Kernel34Ideal.Gen
open Idealize.ShloMosaic Idealize.ShloMosaic.TcCoe Idealize.SL.Sem
open Idealize.ShloMosaic.Pipeline (Dat)

theorem idx : ∀ t : Fin cfg0.N, win0_0.index t = ![t.val % 4, 0] ∧ win0_1.index t = ![t.val % 4, 0]
    ∧ win0_2.index t = ![0, 0] ∧ win0_3.index t = ![0, 0] :=
  (by decide +kernel : ∀ t : Fin grid0.N, _)

variable (m : (ℓ : Loc nD τ sig) → Buf (Elt Ideal) ℓ) (c : Dev nD)

/-- The normed input. -/
def left : Mat 8192 1024 := m (c.tc.loc main_arg0)

/-- The cotangent. -/
def right : Mat 8192 512 := m (c.tc.loc main_arg2)

/-- The context's gradient. -/
def before : Mat 1024 512 := m (c.tc.loc main_arg3)

/-- The token at place `k` of a point's block. -/
abbrev token (t : Fin cfg0.N) (k : Fin 2048) : Fin 8192 := ⟨t.val % 4 * 2048 + k.val, by omega⟩

/-- What a point adds. -/
def part (t : Fin cfg0.N) (y : S1024x512.Idx) : EReal :=
  transposedPart (token t) (left m c) (right m c) (ix2 (y 0) (y 1))

theorem read_left (t : Fin cfg0.N) (k : Fin 2048) (r : Fin 1024) :
    (iblk m c 0 t : Mat 2048 1024) (ix2 k r) = left m c (ix2 (token t k) r) := by
  have h := (idx t).1
  show V m c main_arg0 ((win0_0.blk t).view.emb (ix2 k r)) = _
  rw [V_main_arg0]
  refine congrArg (left m c) ?_
  blk_ext [h]

theorem read_right (t : Fin cfg0.N) (k : Fin 2048) (s : Fin 512) :
    (iblk m c 1 t : Mat 2048 512) (ix2 k s) = right m c (ix2 (token t k) s) := by
  have h := (idx t).2.1
  show V m c main_arg2 ((win0_1.blk t).view.emb (ix2 k s)) = _
  rw [V_main_arg2]
  refine congrArg (right m c) ?_
  blk_ext [h]

theorem read_before (t : Fin cfg0.N) (y : S1024x512.Idx) :
    (iblk m c 2 t : Mat 1024 512) y = before m c (ix2 (y 0) (y 1)) := by
  have h := (idx t).2.2.1
  show V m c main_arg3 ((win0_2.blk t).view.emb y) = _
  rw [V_main_arg3]
  refine congrArg (before m c) ?_
  blk_ext [h]

/-- A point's product is that of its blocks. -/
theorem formed (a : Mat 2048 1024) (b : Mat 2048 512) (y : S1024x512.Idx) :
    k0_pay1 (F := Ideal) a b y = transposedMul a b (ix2 (y 0) (y 1)) := by
  pointwise [k0_pay1]
  rfl

theorem point (t : Fin cfg0.N) (y : S1024x512.Idx) :
    k0_pay1 (F := Ideal) (iblk m c 0 t) (iblk m c 1 t) y = part m c t y :=
  (formed (iblk m c 0 t) (iblk m c 1 t) y).trans
    (transposedMul_block (token t) (read_left m c t) (read_right m c t) (y 0) (y 1))

theorem start (t : Fin cfg0.N) (h : t.val % 4 = 0) (y : S1024x512.Idx) :
    (outsAt0 m c t.val t.isLt).2 y = 0 + part m c t y := by
  have hN : t.val < 4 := t.isLt
  rw [outsAt0_A m c t h (by omega) (by omega), zero_add]
  frame_out
  pointwise [k0_pay2]
  exact point m c t y

theorem step (t : Fin cfg0.N) (h : ¬t.val % 4 = 0) (y : S1024x512.Idx) :
    (outsAt0 m c t.val t.isLt).2 y
      = (outsAt0 m c (t.val - 1) (Nat.lt_of_le_of_lt (Nat.sub_le _ _) t.isLt)).2 y + part m c t y := by
  by_cases h3 : t.val % 4 = 3
  · rw [outsAt0_C m c t h (by omega) h3]
    frame_out
    simp only [read_unread_whole]
    pointwise [k0_pay3]
    exact congrArg (_ + ·) (point m c t y)
  · rw [outsAt0_B m c t h (by omega) h3]
    frame_out
    simp only [read_unread_whole]
    pointwise [k0_pay3]
    exact congrArg (_ + ·) (point m c t y)

/-- The result is the product over all tokens and the context's gradient. -/
theorem final : (dats m 0 c).arrAt 3 cfg0.N = fun i => transposedMul (left m c) (right m c) i + before m c i := by
  refine (dats m 0 c).arrAt_eq_of_covers 3 _ (by decide +kernel) fun t hf y => ?_
  have ht := (flush0_3 t).mp hf
  have h3 := (idx t).2.2.2
  have hy : (win0_3.blk t).view.emb y = ix2 (y 0) (y 1) := by blk_ext [h3]
  have key : (outsAt0 m c t.val t.isLt).1 y
      = (outsAt0 m c t.val t.isLt).2 y + (iblk m c 2 t : Mat 1024 512) y := by
    rw [outsAt0_C m c t (by omega) (by omega) ht]
    frame_out
    pointwise [k0_pay4]
  have h := Pipeline.eq_sum_fin_of_reset_step_apply_of_flush (fun n h => (outsAt0 m c n h).2) 4 (fun _ => 0)
    (part m c) (start m c) (step m c) t ht y
  rw [after0_3]
  refine key.trans ?_
  refine Eq.trans ?_ (congrArg (fun i => transposedMul (left m c) (right m c) i + before m c i) hy).symm
  refine congrArg₂ (· + ·) (h.trans ((zero_add _).trans ?_)) (read_before m c t y)
  refine Fin.sum_mul_add_congr fun s r hl => congrArg₂ (· * ·) (congrArg _ ?_) (congrArg _ ?_)
  · blk_ext []
  · blk_ext []

/-- The derivative of the product by its weights, added to the context's, is the same sum. -/
theorem derivative (a : Mat 8192 1024) (b : Mat 8192 512) (d : Mat 1024 512) :
    Cert.Reference34Ideal.Read.val_main_v8 (F := Ideal) a b d = fun i => transposedMul a b i + d i := by
  funext i
  pointwise [Cert.Reference34Ideal.Read.val_main_v8, Cert.Reference34Ideal.Read.val_main_v7, Cert.Reference34Ideal.Read.val_main_v6,
    Cert.Reference34Ideal.Read.val_main_v5, Cert.Reference34Ideal.Read.val_main_v4, Cert.Reference34Ideal.Read.val_main_v3,
    Cert.Reference34Ideal.Read.val_main_v0]
  exact (add_comm _ _).trans (congrArg (· + d i) (transposedMul_swapped a b i))

/-- Kernel and reference leave the same result. -/
theorem agree : Cert.algebraic_Kernel34Ideal_Reference34Ideal := by
  intro m g m' g' _ hagree
  refine ⟨_, Cert.Kernel34Ideal.Value.run_blocks m g, ?_⟩
  refine (θ_run Cert.Reference34Ideal.defs _ _).mono (fun r h c => ?_) (Cert.Reference34Ideal.Value.run (F := Ideal) m' g')
  obtain ⟨h0, hargs⟩ := h c
  obtain ⟨a0, a1, a2, a3⟩ := hagree c
  refine ⟨h0.trans ?_, hargs⟩
  refine (Cert.Reference34Ideal.Read.val_main_v8_eq (F := Ideal) _ _ _).trans ?_
  rw [a0, a2, a3]
  exact (derivative _ _ _).trans (final m c).symm

/-- The reference leaves its arguments and counters alone. -/
theorem kept : Cert.quiescent_Reference34Ideal := fun m ρ _ =>
  (θ_run Cert.Reference34Ideal.defs _ _).mono (fun r h => ⟨fun c => (h c).2, sem_eq_zero_of_no_sems (by decide) r.2⟩)
    (Cert.Reference34Ideal.Value.run (F := Ideal) m ρ)

end Cert.Products.ProjUDw

end
-- ==== Proof.lean ====
/-
  The claims about the calls of the training step, put together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.ConvBwd.Host
public import proofs.«01_k».proof.Proof.Gen.Kernel2.Frame
public import proofs.«01_k».proof.Proof.Products.DownDx
public import proofs.«01_k».proof.Proof.Gen.Kernel3.Frame
public import proofs.«01_k».proof.Proof.Products.DownDw
public import proofs.«01_k».proof.Proof.Gen.Kernel4.Frame
public import proofs.«01_k».proof.Proof.Products.UpGateDx
public import proofs.«01_k».proof.Proof.Gen.Kernel5.Frame
public import proofs.«01_k».proof.Proof.Products.UpValDx
public import proofs.«01_k».proof.Proof.Gen.Kernel6.Frame
public import proofs.«01_k».proof.Proof.Products.UpDw
public import proofs.«01_k».proof.Proof.Gen.Kernel7.Frame
public import proofs.«01_k».proof.Proof.Products.Up
public import proofs.«01_k».proof.Proof.Gen.Kernel8.Frame
public import proofs.«01_k».proof.Proof.Products.Down
public import proofs.«01_k».proof.Proof.Gen.Kernel9.Frame
public import proofs.«01_k».proof.Proof.Products.Rest
public import proofs.«01_k».proof.Proof.Gen.Kernel10.Frame
public import proofs.«01_k».proof.Proof.Products.RestDw
public import proofs.«01_k».proof.Proof.Gen.Kernel11.Frame
public import proofs.«01_k».proof.Proof.Products.RestDx
public import proofs.«01_k».proof.Proof.Gen.Kernel12.Frame
public import proofs.«01_k».proof.Proof.Optimiser.WDown
public import proofs.«01_k».proof.Proof.Gen.Kernel13.Frame
public import proofs.«01_k».proof.Proof.Optimiser.WUp
public import proofs.«01_k».proof.Proof.Gen.Kernel14.Frame
public import proofs.«01_k».proof.Proof.Optimiser.ConvW
public import proofs.«01_k».proof.Proof.Gen.Kernel15.Frame
public import proofs.«01_k».proof.Proof.Optimiser.WOut
public import proofs.«01_k».proof.Proof.Gen.Kernel16.Frame
public import proofs.«01_k».proof.Proof.Optimiser.WGlu
public import proofs.«01_k».proof.Proof.Gen.Kernel17.Frame
public import proofs.«01_k».proof.Proof.Optimiser.WProj
public import proofs.«01_k».proof.Proof.Gen.Kernel18.Frame
public import proofs.«01_k».proof.Proof.Optimiser.WIn
public import proofs.«01_k».proof.Proof.Gen.Kernel19.Frame
public import proofs.«01_k».proof.Proof.Optimiser.SguW
public import proofs.«01_k».proof.Proof.Gen.Kernel20.Frame
public import proofs.«01_k».proof.Proof.Optimiser.S5C
public import proofs.«01_k».proof.Proof.Gen.Kernel21.Frame
public import proofs.«01_k».proof.Proof.Optimiser.Early
public import proofs.«01_k».proof.Proof.Gen.Kernel22.Frame
public import proofs.«01_k».proof.Proof.Optimiser.Late
public import proofs.«01_k».proof.Proof.Gen.Kernel23.Frame
public import proofs.«01_k».proof.Proof.Optimiser.WAda
public import proofs.«01_k».proof.Proof.Gen.Kernel24.Frame
public import proofs.«01_k».proof.Proof.Rows.Head
public import proofs.«01_k».proof.Proof.Gen.Kernel25.Frame
public import proofs.«01_k».proof.Proof.Rows.Modulate
public import proofs.«01_k».proof.Proof.Gen.Kernel26.Frame
public import proofs.«01_k».proof.Proof.Rows.First
public import proofs.«01_k».proof.Proof.Gen.Kernel27.Frame
public import proofs.«01_k».proof.Proof.Rows.Second
public import proofs.«01_k».proof.Proof.Gen.Kernel28.Frame
public import proofs.«01_k».proof.Proof.Rows.SecondBack
public import proofs.«01_k».proof.Proof.Gen.Kernel29.Frame
public import proofs.«01_k».proof.Proof.Products.OutProj
public import proofs.«01_k».proof.Proof.Gen.Kernel30.Frame
public import proofs.«01_k».proof.Proof.Products.OutProjDx
public import proofs.«01_k».proof.Proof.Gen.Kernel31.Frame
public import proofs.«01_k».proof.Proof.Products.OutProjDw
public import proofs.«01_k».proof.Proof.Gen.Kernel32.Frame
public import proofs.«01_k».proof.Proof.Products.ProjU
public import proofs.«01_k».proof.Proof.Gen.Kernel33.Frame
public import proofs.«01_k».proof.Proof.Products.ProjUDx
public import proofs.«01_k».proof.Proof.Gen.Kernel34.Frame
public import proofs.«01_k».proof.Proof.Products.ProjUDw
public import Idealize.ShloMosaic.Adequacy
public import Idealize.ShloMosaic.Init

@[expose] public section

noncomputable section

namespace Cert.Proof

open Idealize.ShloMosaic Idealize.SL.Sem Cert.Kernel

/-- The reference leaves its arguments and counters alone. -/
theorem frame_ref (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ fun r =>
      (∀ c : Dev Cert.ReferenceIdeal.nD, r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)) ∧ r.2.sem = fun _ => 0 := by
  exact (θ_run Cert.ReferenceIdeal.defs _ _).mono (fun r h => ⟨fun c => (h c).2.2.2.2.2.2,
    Idealize.ShloMosaic.sem_eq_zero_of_no_sems (by decide) r.2⟩) (Cert.ReferenceIdeal.Value.run (F := Ideal) m ρ)

/-- The backward pass of the gated convolution: kernel and reference leave the same six gradients. -/
theorem conv_bwd : Cert.algebraic_KernelIdeal_ReferenceIdeal_pre_finite := by
  intro m g m' g' hpre hagree
  refine ⟨_, _, _, _, _, _, Cert.KernelIdeal.Value.run_blocks m g, ?_⟩
  refine (θ_run Cert.ReferenceIdeal.defs _ _).mono (fun r h c => ?_) (Cert.ReferenceIdeal.Value.run (F := Ideal) m' g')
  obtain ⟨h0, h1, h2, h3, h4, h5, hargs⟩ := h c
  obtain ⟨a0, a1, a2, a3, a4, a5, a6⟩ := hagree c
  refine ⟨h0.trans ?_, h1.trans ?_, h2.trans ?_, h3.trans ?_, h4.trans ?_, h5.trans ?_, hargs⟩
  · refine (Cert.ReferenceIdeal.Read.val_main_v258_eq (F := Ideal) _).trans ?_
    refine Eq.trans ?_ ((Cert.ConvBwd.gate_ref m c hpre).trans (Cert.ConvBwd.final9 m c).symm)
    rw [← a0, ← a1, ← a2, ← a3, ← a4, ← a5, ← a6]
    rfl
  · refine (Cert.ReferenceIdeal.Read.val_main_v259_eq (F := Ideal) _).trans ?_
    refine Eq.trans ?_ ((Cert.ConvBwd.val_ref m c).trans (Cert.ConvBwd.final10 m c).symm)
    rw [← a0, ← a2, ← a4, ← a6]
    rfl
  · refine (Cert.ReferenceIdeal.Read.val_main_v192_eq (F := Ideal) _).trans ?_
    refine Eq.trans ?_ ((Cert.ConvBwd.tapsGate_ref m c hpre).trans (Cert.ConvBwd.final11 m c).symm)
    rw [← a0, ← a1, ← a2, ← a3, ← a4, ← a5, ← a6]
  · refine (Cert.ReferenceIdeal.Read.val_main_v257_eq (F := Ideal) _).trans ?_
    refine Eq.trans ?_ ((Cert.ConvBwd.tapsVal_ref m c).trans (Cert.ConvBwd.final12 m c).symm)
    rw [← a0, ← a1, ← a2, ← a4, ← a6]
  · refine (Cert.ReferenceIdeal.Read.val_main_v129_eq (F := Ideal) _).trans ?_
    refine Eq.trans ?_ ((Cert.ConvBwd.offsetGate_ref m c hpre).trans (Cert.ConvBwd.final13 m c).symm)
    rw [← a0, ← a1, ← a2, ← a3, ← a4, ← a5, ← a6]
  · refine (Cert.ReferenceIdeal.Read.val_main_v194_eq (F := Ideal) _).trans ?_
    refine Eq.trans ?_ ((Cert.ConvBwd.offsetVal_ref m c).trans (Cert.ConvBwd.final14 m c).symm)
    rw [← a0, ← a2, ← a4, ← a6]

theorem claim : Cert.Claim := ⟨
  Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts,
  Cert.Kernel6Ideal.Gen.facts, Cert.Reference6Ideal.Gen.facts, Cert.Kernel7.Gen.facts, Cert.Kernel7Ideal.Gen.facts,
  Cert.Reference7Ideal.Gen.facts, Cert.Kernel8.Gen.facts, Cert.Kernel8Ideal.Gen.facts, Cert.Reference8Ideal.Gen.facts,
  Cert.Kernel9.Gen.facts, Cert.Kernel9Ideal.Gen.facts, Cert.Reference9Ideal.Gen.facts, Cert.Kernel10.Gen.facts,
  Cert.Kernel10Ideal.Gen.facts, Cert.Reference10Ideal.Gen.facts, Cert.Kernel11.Gen.facts,
  Cert.Kernel11Ideal.Gen.facts, Cert.Reference11Ideal.Gen.facts, Cert.Kernel12.Gen.facts,
  Cert.Kernel12Ideal.Gen.facts, Cert.Reference12Ideal.Gen.facts, Cert.Kernel13.Gen.facts,
  Cert.Kernel13Ideal.Gen.facts, Cert.Reference13Ideal.Gen.facts, Cert.Kernel14.Gen.facts,
  Cert.Kernel14Ideal.Gen.facts, Cert.Reference14Ideal.Gen.facts, Cert.Kernel15.Gen.facts,
  Cert.Kernel15Ideal.Gen.facts, Cert.Reference15Ideal.Gen.facts, Cert.Kernel16.Gen.facts,
  Cert.Kernel16Ideal.Gen.facts, Cert.Reference16Ideal.Gen.facts, Cert.Kernel17.Gen.facts,
  Cert.Kernel17Ideal.Gen.facts, Cert.Reference17Ideal.Gen.facts, Cert.Kernel18.Gen.facts,
  Cert.Kernel18Ideal.Gen.facts, Cert.Reference18Ideal.Gen.facts, Cert.Kernel19.Gen.facts,
  Cert.Kernel19Ideal.Gen.facts, Cert.Reference19Ideal.Gen.facts, Cert.Kernel20.Gen.facts,
  Cert.Kernel20Ideal.Gen.facts, Cert.Reference20Ideal.Gen.facts, Cert.Kernel21.Gen.facts,
  Cert.Kernel21Ideal.Gen.facts, Cert.Reference21Ideal.Gen.facts, Cert.Kernel22.Gen.facts,
  Cert.Kernel22Ideal.Gen.facts, Cert.Reference22Ideal.Gen.facts, Cert.Kernel23.Gen.facts,
  Cert.Kernel23Ideal.Gen.facts, Cert.Reference23Ideal.Gen.facts, Cert.Kernel24.Gen.facts,
  Cert.Kernel24Ideal.Gen.facts, Cert.Reference24Ideal.Gen.facts, Cert.Kernel25.Gen.facts,
  Cert.Kernel25Ideal.Gen.facts, Cert.Reference25Ideal.Gen.facts, Cert.Kernel26.Gen.facts,
  Cert.Kernel26Ideal.Gen.facts, Cert.Reference26Ideal.Gen.facts, Cert.Kernel27.Gen.facts,
  Cert.Kernel27Ideal.Gen.facts, Cert.Reference27Ideal.Gen.facts, Cert.Kernel28.Gen.facts,
  Cert.Kernel28Ideal.Gen.facts, Cert.Reference28Ideal.Gen.facts, Cert.Kernel29.Gen.facts,
  Cert.Kernel29Ideal.Gen.facts, Cert.Reference29Ideal.Gen.facts, Cert.Kernel30.Gen.facts,
  Cert.Kernel30Ideal.Gen.facts, Cert.Reference30Ideal.Gen.facts, Cert.Kernel31.Gen.facts,
  Cert.Kernel31Ideal.Gen.facts, Cert.Reference31Ideal.Gen.facts, Cert.Kernel32.Gen.facts,
  Cert.Kernel32Ideal.Gen.facts, Cert.Reference32Ideal.Gen.facts, Cert.Kernel33.Gen.facts,
  Cert.Kernel33Ideal.Gen.facts, Cert.Reference33Ideal.Gen.facts, Cert.Kernel34.Gen.facts,
  Cert.Kernel34Ideal.Gen.facts, Cert.Reference34Ideal.Gen.facts, Cert.Pre_finite.Gen.facts,
  fun m ρ _ => Cert.Kernel.Gen.frame m ρ, fun m ρ _ => Cert.KernelIdeal.Gen.frame m ρ, fun m ρ _ => Cert.KernelIdeal.Gen.frame m ρ,
  fun m ρ _ => frame_ref m ρ, fun m ρ _ => frame_ref m ρ,
  fun m ρ _ => Cert.Kernel2.Gen.frame m ρ, fun m ρ _ => Cert.Kernel2Ideal.Gen.frame m ρ, Cert.Products.DownDx.kept,
  fun m ρ _ => Cert.Kernel3.Gen.frame m ρ, fun m ρ _ => Cert.Kernel3Ideal.Gen.frame m ρ, Cert.Products.DownDw.kept,
  fun m ρ _ => Cert.Kernel4.Gen.frame m ρ, fun m ρ _ => Cert.Kernel4Ideal.Gen.frame m ρ, Cert.Products.UpGateDx.kept,
  fun m ρ _ => Cert.Kernel5.Gen.frame m ρ, fun m ρ _ => Cert.Kernel5Ideal.Gen.frame m ρ, Cert.Products.UpValDx.kept,
  fun m ρ _ => Cert.Kernel6.Gen.frame m ρ, fun m ρ _ => Cert.Kernel6Ideal.Gen.frame m ρ, Cert.Products.UpDw.kept,
  fun m ρ _ => Cert.Kernel7.Gen.frame m ρ, fun m ρ _ => Cert.Kernel7Ideal.Gen.frame m ρ, Cert.Products.Up.kept,
  fun m ρ _ => Cert.Kernel8.Gen.frame m ρ, fun m ρ _ => Cert.Kernel8Ideal.Gen.frame m ρ, Cert.Products.Down.kept,
  fun m ρ _ => Cert.Kernel9.Gen.frame m ρ, fun m ρ _ => Cert.Kernel9Ideal.Gen.frame m ρ, Cert.Products.Rest.kept,
  fun m ρ _ => Cert.Kernel10.Gen.frame m ρ, fun m ρ _ => Cert.Kernel10Ideal.Gen.frame m ρ, Cert.Products.RestDw.kept,
  fun m ρ _ => Cert.Kernel11.Gen.frame m ρ, fun m ρ _ => Cert.Kernel11Ideal.Gen.frame m ρ, Cert.Products.RestDx.kept,
  fun m ρ _ => Cert.Kernel12.Gen.frame m ρ, fun m ρ _ => Cert.Kernel12Ideal.Gen.frame m ρ, Cert.Optimiser.WDown.kept,
  fun m ρ _ => Cert.Kernel13.Gen.frame m ρ, fun m ρ _ => Cert.Kernel13Ideal.Gen.frame m ρ, Cert.Optimiser.WUp.kept,
  fun m ρ _ => Cert.Kernel14.Gen.frame m ρ, fun m ρ _ => Cert.Kernel14Ideal.Gen.frame m ρ, Cert.Optimiser.ConvW.kept,
  fun m ρ _ => Cert.Kernel15.Gen.frame m ρ, fun m ρ _ => Cert.Kernel15Ideal.Gen.frame m ρ, Cert.Optimiser.WOut.kept,
  fun m ρ _ => Cert.Kernel16.Gen.frame m ρ, fun m ρ _ => Cert.Kernel16Ideal.Gen.frame m ρ, Cert.Optimiser.WGlu.kept,
  fun m ρ _ => Cert.Kernel17.Gen.frame m ρ, fun m ρ _ => Cert.Kernel17Ideal.Gen.frame m ρ, Cert.Optimiser.WProj.kept,
  fun m ρ _ => Cert.Kernel18.Gen.frame m ρ, fun m ρ _ => Cert.Kernel18Ideal.Gen.frame m ρ, Cert.Optimiser.WIn.kept,
  fun m ρ _ => Cert.Kernel19.Gen.frame m ρ, fun m ρ _ => Cert.Kernel19Ideal.Gen.frame m ρ, Cert.Optimiser.SguW.kept,
  fun m ρ _ => Cert.Kernel20.Gen.frame m ρ, fun m ρ _ => Cert.Kernel20Ideal.Gen.frame m ρ, Cert.Optimiser.S5C.kept,
  fun m ρ _ => Cert.Kernel21.Gen.frame m ρ, fun m ρ _ => Cert.Kernel21Ideal.Gen.frame m ρ, Cert.Optimiser.Early.kept,
  fun m ρ _ => Cert.Kernel22.Gen.frame m ρ, fun m ρ _ => Cert.Kernel22Ideal.Gen.frame m ρ, Cert.Optimiser.Late.kept,
  fun m ρ _ => Cert.Kernel23.Gen.frame m ρ, fun m ρ _ => Cert.Kernel23Ideal.Gen.frame m ρ, Cert.Optimiser.WAda.kept,
  fun m ρ _ => Cert.Kernel24.Gen.frame m ρ, fun m ρ _ => Cert.Kernel24Ideal.Gen.frame m ρ, Cert.Rows.Head.kept,
  fun m ρ _ => Cert.Kernel25.Gen.frame m ρ, fun m ρ _ => Cert.Kernel25Ideal.Gen.frame m ρ, Cert.Rows.Modulate.kept,
  fun m ρ _ => Cert.Kernel26.Gen.frame m ρ, fun m ρ _ => Cert.Kernel26Ideal.Gen.frame m ρ, Cert.Rows.First.kept,
  fun m ρ _ => Cert.Kernel27.Gen.frame m ρ, fun m ρ _ => Cert.Kernel27Ideal.Gen.frame m ρ, Cert.Rows.Second.kept,
  fun m ρ _ => Cert.Kernel28.Gen.frame m ρ, fun m ρ _ => Cert.Kernel28Ideal.Gen.frame m ρ, Cert.Rows.SecondBack.kept,
  fun m ρ _ => Cert.Kernel29.Gen.frame m ρ, fun m ρ _ => Cert.Kernel29Ideal.Gen.frame m ρ, Cert.Products.OutProj.kept,
  fun m ρ _ => Cert.Kernel30.Gen.frame m ρ, fun m ρ _ => Cert.Kernel30Ideal.Gen.frame m ρ, Cert.Products.OutProjDx.kept,
  fun m ρ _ => Cert.Kernel31.Gen.frame m ρ, fun m ρ _ => Cert.Kernel31Ideal.Gen.frame m ρ, Cert.Products.OutProjDw.kept,
  fun m ρ _ => Cert.Kernel32.Gen.frame m ρ, fun m ρ _ => Cert.Kernel32Ideal.Gen.frame m ρ, Cert.Products.ProjU.kept,
  fun m ρ _ => Cert.Kernel33.Gen.frame m ρ, fun m ρ _ => Cert.Kernel33Ideal.Gen.frame m ρ, Cert.Products.ProjUDx.kept,
  fun m ρ _ => Cert.Kernel34.Gen.frame m ρ, fun m ρ _ => Cert.Kernel34Ideal.Gen.frame m ρ, Cert.Products.ProjUDw.kept,
  trivial, conv_bwd,
  trivial, Cert.Products.DownDx.agree,
  trivial, Cert.Products.DownDw.agree,
  trivial, Cert.Products.UpGateDx.agree,
  trivial, Cert.Products.UpValDx.agree,
  trivial, Cert.Products.UpDw.agree,
  trivial, Cert.Products.Up.agree,
  trivial, Cert.Products.Down.agree,
  trivial, Cert.Products.Rest.agree,
  trivial, Cert.Products.RestDw.agree,
  trivial, Cert.Products.RestDx.agree,
  trivial, Cert.Optimiser.WDown.agree,
  trivial, Cert.Optimiser.WUp.agree,
  trivial, Cert.Optimiser.ConvW.agree,
  trivial, Cert.Optimiser.WOut.agree,
  trivial, Cert.Optimiser.WGlu.agree,
  trivial, Cert.Optimiser.WProj.agree,
  trivial, Cert.Optimiser.WIn.agree,
  trivial, Cert.Optimiser.SguW.agree,
  trivial, Cert.Optimiser.S5C.agree,
  trivial, Cert.Optimiser.Early.agree,
  trivial, Cert.Optimiser.Late.agree,
  trivial, Cert.Optimiser.WAda.agree,
  trivial, Cert.Rows.Head.agree,
  trivial, Cert.Rows.Modulate.agree,
  trivial, Cert.Rows.First.agree,
  trivial, Cert.Rows.Second.agree,
  trivial, Cert.Rows.SecondBack.agree,
  trivial, Cert.Products.OutProj.agree,
  trivial, Cert.Products.OutProjDx.agree,
  trivial, Cert.Products.OutProjDw.agree,
  trivial, Cert.Products.ProjU.agree,
  trivial, Cert.Products.ProjUDx.agree,
  trivial, Cert.Products.ProjUDw.agree⟩

end Cert.Proof

end
